-- ==== Defs.lean ====
def Pre_Kernel [hPre_ids_in_table : Cert.Pre_ids_in_table.Facts] (m : (ℓ : Loc Cert.Kernel.nD Cert.Kernel.τ Cert.Kernel.sig) → Buf (Elt Bits) ℓ) : Prop :=
  ∀ c : Dev Cert.Kernel.nD,
    (Cert.Pre_ids_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_table : Cert.Pre_ids_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table [hPre_ids_in_table : Cert.Pre_ids_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_table : Cert.Pre_ids_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_in_table [hReferenceIdeal : Cert.ReferenceIdeal.Facts] [hPre_ids_in_table : Cert.Pre_ids_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S63488x2x128 Cert.KernelIdeal.S63488x1x128
  ∧ IdealRules.bf16_pair.PackStatement Cert.KernelIdeal.S256x128
  ∧ IdealRules.bf16_pair.Statement Cert.KernelIdeal.S256x2x128 Cert.KernelIdeal.S256x1x128
  ∧ IdealRules.bf16_pair.Statement Cert.KernelIdeal.S8x2x128 Cert.KernelIdeal.S8x1x128
  ∧ IdealRules.bf16_pair.Statement Cert.KernelIdeal.S16x128 Cert.KernelIdeal.S8x128
  ∧ IdealRules.bf16_pair.PackStatement Cert.KernelIdeal.S8x128
  ∧ IdealRules.bf16_pair.Statement Cert.KernelIdeal.S1x6x2x128 Cert.KernelIdeal.S1x6x1x128
  ∧ IdealRules.bf16_pair.Statement Cert.KernelIdeal.S1x5x2x128 Cert.KernelIdeal.S1x5x1x128

def algebraic_KernelIdeal_ReferenceIdeal [hKernelIdeal : Cert.KernelIdeal.Facts] [hReferenceIdeal : Cert.ReferenceIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_table : Cert.Pre_ids_in_table.Facts),
    quiescent_Kernel (hKernel := hKernel) (hPre_ids_in_table := hPre_ids_in_table)
    ∧ quiescent_KernelIdeal (hKernelIdeal := hKernelIdeal) (hPre_ids_in_table := hPre_ids_in_table)
    ∧ quiescent_ReferenceIdeal (hReferenceIdeal := hReferenceIdeal)
    ∧ quiescent_ReferenceIdeal_pre_ids_in_table (hReferenceIdeal := hReferenceIdeal) (hPre_ids_in_table := hPre_ids_in_table)
    ∧ preserves_Kernel_KernelIdeal
    ∧ algebraic_KernelIdeal_ReferenceIdeal (hKernelIdeal := hKernelIdeal) (hReferenceIdeal := hReferenceIdeal) (hPre_ids_in_table := hPre_ids_in_table)
-- ==== Pre_ids_in_table.lean ====
abbrev S1x8192 : Shape := ⟨2, ![1, 8192]⟩
abbrev S1408x7936 : Shape := ⟨2, ![1408, 7936]⟩
abbrev S7936 : Shape := ⟨1, ![7936]⟩
abbrev S1408 : Shape := ⟨1, ![1408]⟩
abbrev S_ : Shape := ⟨0, ![]⟩

class Facts : Prop where
  bcast_S_S1x8192 : S_.BroadcastsInDim S1x8192 (![] : Fin 0 → Fin S1x8192.rank)

variable [Facts]

def fn {F : FTy → Type} [FloatOps F] (main_arg0 : IVec S1x8192 32) (main_arg1 : IVec S1408x7936 8) (main_arg2 : FVec F S7936 .f32) (main_arg3 : FVec F S1408 .bf16) : IVec S1x8192 1 :=
  let main_c : IVec S_ 32 := constantI S_ 32 0#32
  let main_v0 : IVec S1x8192 32 := broadcastInDim S1x8192 ![] bcast_S_S1x8192 main_c
  let main_v1 : IVec S1x8192 1 := cmpi .sge main_arg0 main_v0
  let main_c_0 : IVec S_ 32 := constantI S_ 32 7936#32
  let main_v2 : IVec S1x8192 32 := broadcastInDim S1x8192 ![] bcast_S_S1x8192 main_c_0
  let main_v3 : IVec S1x8192 1 := cmpi .slt main_arg0 main_v2
  let main_v4 : IVec S1x8192 1 := andi main_v1 main_v3
  main_v4
-- ==== Kernel.lean ====
abbrev S1x8192 : Shape := ⟨2, ![1, 8192]⟩
abbrev S1408x7936 : Shape := ⟨2, ![1408, 7936]⟩
abbrev S7936 : Shape := ⟨1, ![7936]⟩
abbrev S1408 : Shape := ⟨1, ![1408]⟩
abbrev S8192x1408 : Shape := ⟨2, ![8192, 1408]⟩
abbrev S63488x128 : Shape := ⟨2, ![63488, 128]⟩
abbrev S7936x128 : Shape := ⟨2, ![7936, 128]⟩
abbrev S31x1408x256 : Shape := ⟨3, ![31, 1408, 256]⟩
abbrev S256x128 : Shape := ⟨2, ![256, 128]⟩
abbrev S2x8x128 : Shape := ⟨3, ![2, 8, 128]⟩
abbrev S2x11x272x128 : Shape := ⟨4, ![2, 11, 272, 128]⟩
abbrev S31 : Shape := ⟨1, ![31]⟩
abbrev S2 : Shape := ⟨1, ![2]⟩
abbrev S1 : Shape := ⟨1, ![1]⟩
abbrev S_ : Shape := ⟨0, ![]⟩
abbrev S1x1408x256 : Shape := ⟨3, ![1, 1408, 256]⟩
abbrev S1408x256 : Shape := ⟨2, ![1408, 256]⟩
abbrev S128 : Shape := ⟨1, ![128]⟩
abbrev S1x128 : Shape := ⟨2, ![1, 128]⟩
abbrev S1x1x128 : Shape := ⟨3, ![1, 1, 128]⟩
abbrev S256x256 : Shape := ⟨2, ![256, 256]⟩
abbrev S256 : Shape := ⟨1, ![256]⟩
abbrev S1x256 : Shape := ⟨2, ![1, 256]⟩
abbrev S1x256x256 : Shape := ⟨3, ![1, 256, 256]⟩
abbrev S1x128x256 : Shape := ⟨3, ![1, 128, 256]⟩
abbrev S128x256 : Shape := ⟨2, ![128, 256]⟩
abbrev S256x1 : Shape := ⟨2, ![256, 1]⟩
abbrev S1x8x128 : Shape := ⟨3, ![1, 8, 128]⟩
abbrev S8x128 : Shape := ⟨2, ![8, 128]⟩
abbrev S1x1x256x128 : Shape := ⟨4, ![1, 1, 256, 128]⟩
abbrev S1x1 : Shape := ⟨2, ![1, 1]⟩
abbrev S6x128 : Shape := ⟨2, ![6, 128]⟩
abbrev S2x11x136x128 : Shape := ⟨4, ![2, 11, 136, 128]⟩
abbrev S1x6x1x128 : Shape := ⟨4, ![1, 6, 1, 128]⟩
abbrev S1x6x2x128 : Shape := ⟨4, ![1, 6, 2, 128]⟩
abbrev S5x128 : Shape := ⟨2, ![5, 128]⟩
abbrev S1x5x1x128 : Shape := ⟨4, ![1, 5, 1, 128]⟩
abbrev S1x5x2x128 : Shape := ⟨4, ![1, 5, 2, 128]⟩
abbrev S1x8192x1408 : Shape := ⟨3, ![1, 8192, 1408]⟩

abbrev nBuf : Space → Nat
  | .hbm => 8
  | .vmem => 9
  | .smem => 1
  | _ => 0

abbrev bufTy : (tb : Table) → Fin (tcTables nBuf tb) → BufTy
  | .hbm, ⟨0, _⟩ => ⟨S1x8192, .i32⟩
  | .hbm, ⟨1, _⟩ => ⟨S1408x7936, .i8⟩
  | .hbm, ⟨2, _⟩ => ⟨S7936, .f32⟩
  | .hbm, ⟨3, _⟩ => ⟨S1408, .bf16⟩
  | .hbm, ⟨4, _⟩ => ⟨S8192x1408, .bf16⟩
  | .hbm, ⟨5, _⟩ => ⟨S8192x1408, .bf16⟩
  | .hbm, ⟨6, _⟩ => ⟨S1x8192x1408, .bf16⟩
  | .hbm, ⟨7, _⟩ => ⟨S1x8192x1408, .bf16⟩
  | .local _ .vmem, ⟨0, _⟩ => ⟨S7936, .f32⟩
  | .local _ .vmem, ⟨1, _⟩ => ⟨S1408, .bf16⟩
  | .local _ .vmem, ⟨2, _⟩ => ⟨S63488x128, .i32⟩
  | .local _ .vmem, ⟨3, _⟩ => ⟨S7936x128, .f32⟩
  | .local _ .vmem, ⟨4, _⟩ => ⟨S31x1408x256, .i8⟩
  | .local _ .vmem, ⟨5, _⟩ => ⟨S256x128, .f32⟩
  | .local _ .vmem, ⟨6, _⟩ => ⟨S2x8x128, .f32⟩
  | .local _ .vmem, ⟨7, _⟩ => ⟨S2x11x272x128, .bf16⟩
  | .local _ .vmem, ⟨8, _⟩ => ⟨S2x11x272x128, .bf16⟩
  | .local _ .smem, ⟨0, _⟩ => ⟨S1x8192, .i32⟩
  | _, _ => ⟨S1x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c31_i32 : BitVec 32 := 31#32
  let v0 : BitVec 32 := Scalar.addi c0_i32 c31_i32
  let c1_i32 : BitVec 32 := 1#32
  ⟨c0_i32, v0, c1_i32⟩
def k0_off1 (k0_t1 : Fin k0_t1_loop.trips) : Fin 1 → Nat :=
  let c0_i32_333 : BitVec 32 := 0#32
  let c0_i32 : BitVec 32 := 0#32
  let c1_i32 : BitVec 32 := 1#32
  let arg15 : BitVec 32 := Scf.iv c0_i32 c1_i32 k0_t1
  let c1_i32_332 : BitVec 32 := 1#32
  let v303 : BitVec 32 := Scalar.muli arg15 c1_i32_332
  let v304 : BitVec 32 := Scalar.addi c0_i32_333 v303
  ![v304.toNat]
def k0_off2 (k0_t1 : Fin k0_t1_loop.trips) : Fin 3 → Nat :=
  let c0_i32_333 : BitVec 32 := 0#32
  let c0_i32 : BitVec 32 := 0#32
  let c1_i32 : BitVec 32 := 1#32
  let arg15 : BitVec 32 := Scf.iv c0_i32 c1_i32 k0_t1
  let c1_i32_332 : BitVec 32 := 1#32
  let v303 : BitVec 32 := Scalar.muli arg15 c1_i32_332
  let v304 : BitVec 32 := Scalar.addi c0_i32_333 v303
  let c0_i32_335 : BitVec 32 := 0#32
  let c0_i32_336 : BitVec 32 := 0#32
  ![v304.toNat, 0, 0]
def k0_off3 (k0_t1 : Fin k0_t1_loop.trips) : Fin 2 → Nat :=
  let c0_i32_337 : BitVec 32 := 0#32
  let c0_i32_333 : BitVec 32 := 0#32
  let c0_i32 : BitVec 32 := 0#32
  let c1_i32 : BitVec 32 := 1#32
  let arg15 : BitVec 32 := Scf.iv c0_i32 c1_i32 k0_t1
  let c1_i32_332 : BitVec 32 := 1#32
  let v303 : BitVec 32 := Scalar.muli arg15 c1_i32_332
  let v304 : BitVec 32 := Scalar.addi c0_i32_333 v303
  let c256_i32_334 : BitVec 32 := 256#32
  let v305 : BitVec 32 := Scalar.muli v304 c256_i32_334
  ![0, v305.toNat]
@[reducible] def k0_t2_loop : Scf.Loop 32 :=
  let c0_i32_32 : BitVec 32 := 0#32
  let c31_i32_33 : BitVec 32 := 31#32
  let v77 : BitVec 32 := Scalar.addi c0_i32_32 c31_i32_33
  let c1_i32_34 : BitVec 32 := 1#32
  ⟨c0_i32_32, v77, c1_i32_34⟩
def k0_off4 (k0_t2 : Fin k0_t2_loop.trips) : Fin 1 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  ![v304.toNat]
def k0_off5 (k0_t2 : Fin k0_t2_loop.trips) : Fin 3 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let c0_i32_335 : BitVec 32 := 0#32
  let c0_i32_336 : BitVec 32 := 0#32
  ![v304.toNat, 0, 0]
def k0_off6 (k0_t2 : Fin k0_t2_loop.trips) : Fin 2 → Nat :=
  let c0_i32_337 : BitVec 32 := 0#32
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let c256_i32_334 : BitVec 32 := 256#32
  let v305 : BitVec 32 := Scalar.muli v304 c256_i32_334
  ![0, v305.toNat]
def k0_off7 (k0_t2 : Fin k0_t2_loop.trips) : Fin 1 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let c256_i32_338 : BitVec 32 := 256#32
  let v311 : BitVec 32 := Scalar.muli v304 c256_i32_338
  let v312 : Index := Scalar.indexCast v311
  ![v312.toNat]
def k0_mult1 (k0_t2 : Fin k0_t2_loop.trips) : BitVec 32 :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let c256_i32_339 : BitVec 32 := 256#32
  let v316 : BitVec 32 := Scalar.muli v304 c256_i32_339
  let c8_i32_340 : BitVec 32 := 8#32
  let v317 : BitVec 32 := Scalar.muli v316 c8_i32_340
  v317
def k0_off8 (k0_t2 : Fin k0_t2_loop.trips) : Fin 3 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let v319 : Index := Scalar.indexCast v304
  let c0_341 : Index := 0#32
  let c0_342 : Index := 0#32
  ![v319.toNat, 0, 0]
def k0_off9 (k0_t2 : Fin k0_t2_loop.trips) (c0_i32_344 : BitVec 32) : Fin 2 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let c256_i32_339 : BitVec 32 := 256#32
  let v316 : BitVec 32 := Scalar.muli v304 c256_i32_339
  let c8_i32_340 : BitVec 32 := 8#32
  let v317 : BitVec 32 := Scalar.muli v316 c8_i32_340
  let v318 : BitVec 32 := v317
  let v332 : BitVec 32 := Scalar.addi v318 c0_i32_344
  let v333 : Index := Scalar.indexCast v332
  let c0_345 : Index := 0#32
  ![v333.toNat, 0]
def k0_off10 (k0_t2 : Fin k0_t2_loop.trips) : Fin 3 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let v340 : Index := Scalar.indexCast v304
  let c256_348 : Index := 256#32
  let c0_349 : Index := 0#32
  ![v340.toNat, 256, 0]
def k0_off11 (k0_t2 : Fin k0_t2_loop.trips) : Fin 3 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let v363 : Index := Scalar.indexCast v304
  let c512_357 : Index := 512#32
  let c0_358 : Index := 0#32
  ![v363.toNat, 512, 0]
def k0_off12 (k0_t2 : Fin k0_t2_loop.trips) : Fin 3 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let v386 : Index := Scalar.indexCast v304
  let c768_366 : Index := 768#32
  let c0_367 : Index := 0#32
  ![v386.toNat, 768, 0]
def k0_off13 (k0_t2 : Fin k0_t2_loop.trips) : Fin 3 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let v409 : Index := Scalar.indexCast v304
  let c1024_375 : Index := 1024#32
  let c0_376 : Index := 0#32
  ![v409.toNat, 1024, 0]
def k0_off14 (k0_t2 : Fin k0_t2_loop.trips) : Fin 3 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let v432 : Index := Scalar.indexCast v304
  let c1280_384 : Index := 1280#32
  let c0_385 : Index := 0#32
  ![v432.toNat, 1280, 0]
def k0_off15 (k0_t2 : Fin k0_t2_loop.trips) : Fin 2 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let c256_i32_395 : BitVec 32 := 256#32
  let v458 : BitVec 32 := Scalar.muli v304 c256_i32_395
  let v459 : Index := Scalar.indexCast v458
  let c0_396 : Index := 0#32
  ![v459.toNat, 0]
@[reducible] def k0_t3_loop : Scf.Loop 32 :=
  let c0_i32_42 : BitVec 32 := 0#32
  let c32_i32 : BitVec 32 := 32#32
  let v82 : BitVec 32 := Scalar.addi c0_i32_42 c32_i32
  let c1_i32_43 : BitVec 32 := 1#32
  ⟨c0_i32_42, v82, c1_i32_43⟩
def k0_cond1 (k0_t3 : Fin k0_t3_loop.trips) : BitVec 1 :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_335 : BitVec 32 := 2#32
  let v306 : BitVec 1 := Scalar.cmpi .sge v304 c2_i32_335
  let v307 : BitVec 32 := Scalar.extui v306
  let c0_i32_336 : BitVec 32 := 0#32
  let v308 : BitVec 1 := Scalar.cmpi .ne v307 c0_i32_336
  v308

def k0_off16 (k0_t3 : Fin k0_t3_loop.trips) : Fin 1 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  ![v305.toNat]
def k0_off17 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_451 : BitVec 32 := 256#32
  let v443 : BitVec 32 := Scalar.muli v442 c256_i32_451
  let c0_i32_453 : BitVec 32 := 0#32
  ![v443.toNat, 0]
def k0_off18 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c0_i32_452 : BitVec 32 := 0#32
  let c0_i32_454 : BitVec 32 := 0#32
  let c0_i32_455 : BitVec 32 := 0#32
  ![v305.toNat, 0, 0, 0]
def k0_off19 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_461 : BitVec 32 := 256#32
  let v455 : BitVec 32 := Scalar.muli v442 c256_i32_461
  let c128_i32_463 : BitVec 32 := 128#32
  ![v455.toNat, 128]
def k0_off20 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c6_i32_462 : BitVec 32 := 6#32
  let c0_i32_464 : BitVec 32 := 0#32
  let c0_i32_465 : BitVec 32 := 0#32
  ![v305.toNat, 6, 0, 0]
def k0_off21 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_471 : BitVec 32 := 256#32
  let v467 : BitVec 32 := Scalar.muli v442 c256_i32_471
  let c256_i32_473 : BitVec 32 := 256#32
  ![v467.toNat, 256]
def k0_off22 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c1_i32_472 : BitVec 32 := 1#32
  let c0_i32_474 : BitVec 32 := 0#32
  let c0_i32_475 : BitVec 32 := 0#32
  ![v305.toNat, 1, 0, 0]
def k0_off23 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_481 : BitVec 32 := 256#32
  let v479 : BitVec 32 := Scalar.muli v442 c256_i32_481
  let c384_i32_483 : BitVec 32 := 384#32
  ![v479.toNat, 384]
def k0_off24 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c7_i32_482 : BitVec 32 := 7#32
  let c0_i32_484 : BitVec 32 := 0#32
  let c0_i32_485 : BitVec 32 := 0#32
  ![v305.toNat, 7, 0, 0]
def k0_off25 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_491 : BitVec 32 := 256#32
  let v491 : BitVec 32 := Scalar.muli v442 c256_i32_491
  let c512_i32_493 : BitVec 32 := 512#32
  ![v491.toNat, 512]
def k0_off26 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c2_i32_492 : BitVec 32 := 2#32
  let c0_i32_494 : BitVec 32 := 0#32
  let c0_i32_495 : BitVec 32 := 0#32
  ![v305.toNat, 2, 0, 0]
def k0_off27 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_501 : BitVec 32 := 256#32
  let v503 : BitVec 32 := Scalar.muli v442 c256_i32_501
  let c640_i32_503 : BitVec 32 := 640#32
  ![v503.toNat, 640]
def k0_off28 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c8_i32_502 : BitVec 32 := 8#32
  let c0_i32_504 : BitVec 32 := 0#32
  let c0_i32_505 : BitVec 32 := 0#32
  ![v305.toNat, 8, 0, 0]
def k0_off29 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_511 : BitVec 32 := 256#32
  let v515 : BitVec 32 := Scalar.muli v442 c256_i32_511
  let c768_i32_513 : BitVec 32 := 768#32
  ![v515.toNat, 768]
def k0_off30 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c3_i32_512 : BitVec 32 := 3#32
  let c0_i32_514 : BitVec 32 := 0#32
  let c0_i32_515 : BitVec 32 := 0#32
  ![v305.toNat, 3, 0, 0]
def k0_off31 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_521 : BitVec 32 := 256#32
  let v527 : BitVec 32 := Scalar.muli v442 c256_i32_521
  let c896_i32_523 : BitVec 32 := 896#32
  ![v527.toNat, 896]
def k0_off32 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c9_i32_522 : BitVec 32 := 9#32
  let c0_i32_524 : BitVec 32 := 0#32
  let c0_i32_525 : BitVec 32 := 0#32
  ![v305.toNat, 9, 0, 0]
def k0_off33 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_531 : BitVec 32 := 256#32
  let v539 : BitVec 32 := Scalar.muli v442 c256_i32_531
  let c1024_i32_533 : BitVec 32 := 1024#32
  ![v539.toNat, 1024]
def k0_off34 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c4_i32_532 : BitVec 32 := 4#32
  let c0_i32_534 : BitVec 32 := 0#32
  let c0_i32_535 : BitVec 32 := 0#32
  ![v305.toNat, 4, 0, 0]
def k0_off35 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_541 : BitVec 32 := 256#32
  let v551 : BitVec 32 := Scalar.muli v442 c256_i32_541
  let c1152_i32_543 : BitVec 32 := 1152#32
  ![v551.toNat, 1152]
def k0_off36 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c10_i32_542 : BitVec 32 := 10#32
  let c0_i32_544 : BitVec 32 := 0#32
  let c0_i32_545 : BitVec 32 := 0#32
  ![v305.toNat, 10, 0, 0]
def k0_off37 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_551 : BitVec 32 := 256#32
  let v563 : BitVec 32 := Scalar.muli v442 c256_i32_551
  let c1280_i32_553 : BitVec 32 := 1280#32
  ![v563.toNat, 1280]
def k0_off38 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c5_i32_552 : BitVec 32 := 5#32
  let c0_i32_554 : BitVec 32 := 0#32
  let c0_i32_555 : BitVec 32 := 0#32
  ![v305.toNat, 5, 0, 0]
@[reducible] def k0_t4_loop : Scf.Loop 32 :=
  let c0_i32_337 : BitVec 32 := 0#32
  let c16_i32 : BitVec 32 := 16#32
  let v309 : BitVec 32 := Scalar.addi c0_i32_337 c16_i32
  let c1_i32_338 : BitVec 32 := 1#32
  ⟨c0_i32_337, v309, c1_i32_338⟩
def k0_off39 (k0_t3 : Fin k0_t3_loop.trips) (k0_t4 : Fin k0_t4_loop.trips) : Fin 2 → Nat :=
  let c0_457 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_454 : BitVec 32 := 256#32
  let v446 : BitVec 32 := Scalar.muli v304 c256_i32_454
  let c2_i32_455 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_452 : BitVec 32 := 8#32
  let v444 : BitVec 32 := Scalar.muli v443 c8_i32_452
  let c0_i32_453 : BitVec 32 := 0#32
  let v445 : BitVec 32 := Scalar.addi v444 c0_i32_453
  let v447 : BitVec 32 := Scalar.muli c2_i32_455 v445
  let v448 : BitVec 32 := Scalar.addi v446 v447
  let c0_i32_456 : BitVec 32 := 0#32
  let v449 : BitVec 32 := Scalar.addi v448 c0_i32_456
  let v450 : Index := Scalar.indexCast v449
  ![0, v450.toNat]
def k0_mult2 (v451 : BitVec 32) : BitVec 32 :=
  let c8_i32_458 : BitVec 32 := 8#32
  let v452 : BitVec 32 := Scalar.muli v451 c8_i32_458
  v452

def k0_off40 (v451 : BitVec 32) : Fin 2 → Nat :=
  let c8_i32_458 : BitVec 32 := 8#32
  let v452 : BitVec 32 := Scalar.muli v451 c8_i32_458
  let v453 : BitVec 32 := v452
  let v454 : Index := Scalar.indexCast v453
  let c0_459 : Index := 0#32
  ![v454.toNat, 0]
def k0_off41 (v451 : BitVec 32) : Fin 2 → Nat :=
  let v456 : Index := Scalar.indexCast v451
  let c0_460 : Index := 0#32
  ![v456.toNat, 0]

def k0_chk1 (v451 : BitVec 32) : Prop :=
  (8 ∣ (k0_mult2 v451).toNat) ∧
  (∀ a, (k0_off40 v451) a + S8x128.size a ≤ S63488x128.size a) ∧
  (∀ a, S8x128.size a = 0 ∨ (k0_off41 v451) a + (![0, 1] : Fin 2 → Nat) a * (S8x128.size a - 1) < S7936x128.size a)
theorem k0_mult2_dvd : ∀ (v451 : BitVec 32) (k0_hw1 : k0_chk1 v451), 8 ∣ (k0_mult2 v451).toNat := fun v451 k0_hw1 => k0_hw1.1
theorem k0_off40_inb : ∀ (v451 : BitVec 32) (k0_hw1 : k0_chk1 v451), ∀ a, (k0_off40 v451) a + S8x128.size a ≤ S63488x128.size a := fun v451 k0_hw1 => k0_hw1.2.1
theorem k0_off41_inb : ∀ (v451 : BitVec 32) (k0_hw1 : k0_chk1 v451), ∀ a, S8x128.size a = 0 ∨ (k0_off41 v451) a + (![0, 1] : Fin 2 → Nat) a * (S8x128.size a - 1) < S7936x128.size a := fun v451 k0_hw1 => k0_hw1.2.2

def k0_off42 (k0_t3 : Fin k0_t3_loop.trips) (k0_t4 : Fin k0_t4_loop.trips) : Fin 2 → Nat :=
  let c0_465 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_462 : BitVec 32 := 256#32
  let v468 : BitVec 32 := Scalar.muli v304 c256_i32_462
  let c2_i32_463 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_452 : BitVec 32 := 8#32
  let v444 : BitVec 32 := Scalar.muli v443 c8_i32_452
  let c0_i32_453 : BitVec 32 := 0#32
  let v445 : BitVec 32 := Scalar.addi v444 c0_i32_453
  let v469 : BitVec 32 := Scalar.muli c2_i32_463 v445
  let v470 : BitVec 32 := Scalar.addi v468 v469
  let c1_i32_464 : BitVec 32 := 1#32
  let v471 : BitVec 32 := Scalar.addi v470 c1_i32_464
  let v472 : Index := Scalar.indexCast v471
  ![0, v472.toNat]
def k0_mult3 (v473 : BitVec 32) : BitVec 32 :=
  let c8_i32_466 : BitVec 32 := 8#32
  let v474 : BitVec 32 := Scalar.muli v473 c8_i32_466
  v474

def k0_off43 (v473 : BitVec 32) : Fin 2 → Nat :=
  let c8_i32_466 : BitVec 32 := 8#32
  let v474 : BitVec 32 := Scalar.muli v473 c8_i32_466
  let v475 : BitVec 32 := v474
  let v476 : Index := Scalar.indexCast v475
  let c0_467 : Index := 0#32
  ![v476.toNat, 0]
def k0_off44 (v473 : BitVec 32) : Fin 2 → Nat :=
  let v478 : Index := Scalar.indexCast v473
  let c0_468 : Index := 0#32
  ![v478.toNat, 0]

def k0_chk2 (v473 : BitVec 32) : Prop :=
  (8 ∣ (k0_mult3 v473).toNat) ∧
  (∀ a, (k0_off43 v473) a + S8x128.size a ≤ S63488x128.size a) ∧
  (∀ a, S8x128.size a = 0 ∨ (k0_off44 v473) a + (![0, 1] : Fin 2 → Nat) a * (S8x128.size a - 1) < S7936x128.size a)
theorem k0_mult3_dvd : ∀ (v473 : BitVec 32) (k0_hw2 : k0_chk2 v473), 8 ∣ (k0_mult3 v473).toNat := fun v473 k0_hw2 => k0_hw2.1
theorem k0_off43_inb : ∀ (v473 : BitVec 32) (k0_hw2 : k0_chk2 v473), ∀ a, (k0_off43 v473) a + S8x128.size a ≤ S63488x128.size a := fun v473 k0_hw2 => k0_hw2.2.1
theorem k0_off44_inb : ∀ (v473 : BitVec 32) (k0_hw2 : k0_chk2 v473), ∀ a, S8x128.size a = 0 ∨ (k0_off44 v473) a + (![0, 1] : Fin 2 → Nat) a * (S8x128.size a - 1) < S7936x128.size a := fun v473 k0_hw2 => k0_hw2.2.2

def k0_off45 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v493 : Index := Scalar.indexCast v305
  let c0_471 : Index := 0#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_452 : BitVec 32 := 8#32
  let v444 : BitVec 32 := Scalar.muli v443 c8_i32_452
  let c0_i32_453 : BitVec 32 := 0#32
  let v445 : BitVec 32 := Scalar.addi v444 c0_i32_453
  let v494 : Index := Scalar.indexCast v445
  let c0_472 : Index := 0#32
  ![v493.toNat, 0, Nat.mul 2 v494.toNat, 0]
def k0_off46 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v501 : Index := Scalar.indexCast v305
  let c6 : Index := 6#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_452 : BitVec 32 := 8#32
  let v444 : BitVec 32 := Scalar.muli v443 c8_i32_452
  let c0_i32_453 : BitVec 32 := 0#32
  let v445 : BitVec 32 := Scalar.addi v444 c0_i32_453
  let v502 : Index := Scalar.indexCast v445
  let c0_473 : Index := 0#32
  ![v501.toNat, 6, Nat.mul 2 v502.toNat, 0]
def k0_off47 (k0_t3 : Fin k0_t3_loop.trips) (k0_t4 : Fin k0_t4_loop.trips) : Fin 2 → Nat :=
  let c0_483 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_480 : BitVec 32 := 256#32
  let v524 : BitVec 32 := Scalar.muli v304 c256_i32_480
  let c2_i32_481 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_478 : BitVec 32 := 8#32
  let v522 : BitVec 32 := Scalar.muli v443 c8_i32_478
  let c1_i32_479 : BitVec 32 := 1#32
  let v523 : BitVec 32 := Scalar.addi v522 c1_i32_479
  let v525 : BitVec 32 := Scalar.muli c2_i32_481 v523
  let v526 : BitVec 32 := Scalar.addi v524 v525
  let c0_i32_482 : BitVec 32 := 0#32
  let v527 : BitVec 32 := Scalar.addi v526 c0_i32_482
  let v528 : Index := Scalar.indexCast v527
  ![0, v528.toNat]
def k0_mult4 (v529 : BitVec 32) : BitVec 32 :=
  let c8_i32_484 : BitVec 32 := 8#32
  let v530 : BitVec 32 := Scalar.muli v529 c8_i32_484
  v530

def k0_off48 (v529 : BitVec 32) : Fin 2 → Nat :=
  let c8_i32_484 : BitVec 32 := 8#32
  let v530 : BitVec 32 := Scalar.muli v529 c8_i32_484
  let v531 : BitVec 32 := v530
  let v532 : Index := Scalar.indexCast v531
  let c0_485 : Index := 0#32
  ![v532.toNat, 0]
def k0_off49 (v529 : BitVec 32) : Fin 2 → Nat :=
  let v534 : Index := Scalar.indexCast v529
  let c0_486 : Index := 0#32
  ![v534.toNat, 0]

def k0_chk3 (v529 : BitVec 32) : Prop :=
  (8 ∣ (k0_mult4 v529).toNat) ∧
  (∀ a, (k0_off48 v529) a + S8x128.size a ≤ S63488x128.size a) ∧
  (∀ a, S8x128.size a = 0 ∨ (k0_off49 v529) a + (![0, 1] : Fin 2 → Nat) a * (S8x128.size a - 1) < S7936x128.size a)
theorem k0_mult4_dvd : ∀ (v529 : BitVec 32) (k0_hw3 : k0_chk3 v529), 8 ∣ (k0_mult4 v529).toNat := fun v529 k0_hw3 => k0_hw3.1
theorem k0_off48_inb : ∀ (v529 : BitVec 32) (k0_hw3 : k0_chk3 v529), ∀ a, (k0_off48 v529) a + S8x128.size a ≤ S63488x128.size a := fun v529 k0_hw3 => k0_hw3.2.1
theorem k0_off49_inb : ∀ (v529 : BitVec 32) (k0_hw3 : k0_chk3 v529), ∀ a, S8x128.size a = 0 ∨ (k0_off49 v529) a + (![0, 1] : Fin 2 → Nat) a * (S8x128.size a - 1) < S7936x128.size a := fun v529 k0_hw3 => k0_hw3.2.2

def k0_off50 (k0_t3 : Fin k0_t3_loop.trips) (k0_t4 : Fin k0_t4_loop.trips) : Fin 2 → Nat :=
  let c0_492 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_489 : BitVec 32 := 256#32
  let v546 : BitVec 32 := Scalar.muli v304 c256_i32_489
  let c2_i32_490 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_478 : BitVec 32 := 8#32
  let v522 : BitVec 32 := Scalar.muli v443 c8_i32_478
  let c1_i32_479 : BitVec 32 := 1#32
  let v523 : BitVec 32 := Scalar.addi v522 c1_i32_479
  let v547 : BitVec 32 := Scalar.muli c2_i32_490 v523
  let v548 : BitVec 32 := Scalar.addi v546 v547
  let c1_i32_491 : BitVec 32 := 1#32
  let v549 : BitVec 32 := Scalar.addi v548 c1_i32_491
  let v550 : Index := Scalar.indexCast v549
  ![0, v550.toNat]
def k0_mult5 (v551 : BitVec 32) : BitVec 32 :=
  let c8_i32_493 : BitVec 32 := 8#32
  let v552 : BitVec 32 := Scalar.muli v551 c8_i32_493
  v552

def k0_off51 (v551 : BitVec 32) : Fin 2 → Nat :=
  let c8_i32_493 : BitVec 32 := 8#32
  let v552 : BitVec 32 := Scalar.muli v551 c8_i32_493
  let v553 : BitVec 32 := v552
  let v554 : Index := Scalar.indexCast v553
  let c0_494 : Index := 0#32
  ![v554.toNat, 0]
def k0_off52 (v551 : BitVec 32) : Fin 2 → Nat :=
  let v556 : Index := Scalar.indexCast v551
  let c0_495 : Index := 0#32
  ![v556.toNat, 0]

def k0_chk4 (v551 : BitVec 32) : Prop :=
  (8 ∣ (k0_mult5 v551).toNat) ∧
  (∀ a, (k0_off51 v551) a + S8x128.size a ≤ S63488x128.size a) ∧
  (∀ a, S8x128.size a = 0 ∨ (k0_off52 v551) a + (![0, 1] : Fin 2 → Nat) a * (S8x128.size a - 1) < S7936x128.size a)
theorem k0_mult5_dvd : ∀ (v551 : BitVec 32) (k0_hw4 : k0_chk4 v551), 8 ∣ (k0_mult5 v551).toNat := fun v551 k0_hw4 => k0_hw4.1
theorem k0_off51_inb : ∀ (v551 : BitVec 32) (k0_hw4 : k0_chk4 v551), ∀ a, (k0_off51 v551) a + S8x128.size a ≤ S63488x128.size a := fun v551 k0_hw4 => k0_hw4.2.1
theorem k0_off52_inb : ∀ (v551 : BitVec 32) (k0_hw4 : k0_chk4 v551), ∀ a, S8x128.size a = 0 ∨ (k0_off52 v551) a + (![0, 1] : Fin 2 → Nat) a * (S8x128.size a - 1) < S7936x128.size a := fun v551 k0_hw4 => k0_hw4.2.2

def k0_off53 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v571 : Index := Scalar.indexCast v305
  let c0_498 : Index := 0#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_478 : BitVec 32 := 8#32
  let v522 : BitVec 32 := Scalar.muli v443 c8_i32_478
  let c1_i32_479 : BitVec 32 := 1#32
  let v523 : BitVec 32 := Scalar.addi v522 c1_i32_479
  let v572 : Index := Scalar.indexCast v523
  let c0_499 : Index := 0#32
  ![v571.toNat, 0, Nat.mul 2 v572.toNat, 0]
def k0_off54 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v579 : Index := Scalar.indexCast v305
  let c6_500 : Index := 6#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_478 : BitVec 32 := 8#32
  let v522 : BitVec 32 := Scalar.muli v443 c8_i32_478
  let c1_i32_479 : BitVec 32 := 1#32
  let v523 : BitVec 32 := Scalar.addi v522 c1_i32_479
  let v580 : Index := Scalar.indexCast v523
  let c0_501 : Index := 0#32
  ![v579.toNat, 6, Nat.mul 2 v580.toNat, 0]
def k0_off55 (k0_t3 : Fin k0_t3_loop.trips) (k0_t4 : Fin k0_t4_loop.trips) : Fin 2 → Nat :=
  let c0_511 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_508 : BitVec 32 := 256#32
  let v602 : BitVec 32 := Scalar.muli v304 c256_i32_508
  let c2_i32_509 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_506 : BitVec 32 := 8#32
  let v600 : BitVec 32 := Scalar.muli v443 c8_i32_506
  let c2_i32_507 : BitVec 32 := 2#32
  let v601 : BitVec 32 := Scalar.addi v600 c2_i32_507
  let v603 : BitVec 32 := Scalar.muli c2_i32_509 v601
  let v604 : BitVec 32 := Scalar.addi v602 v603
  let c0_i32_510 : BitVec 32 := 0#32
  let v605 : BitVec 32 := Scalar.addi v604 c0_i32_510
  let v606 : Index := Scalar.indexCast v605
  ![0, v606.toNat]
def k0_mult6 (v607 : BitVec 32) : BitVec 32 :=
  let c8_i32_512 : BitVec 32 := 8#32
  let v608 : BitVec 32 := Scalar.muli v607 c8_i32_512
  v608

def k0_off56 (v607 : BitVec 32) : Fin 2 → Nat :=
  let c8_i32_512 : BitVec 32 := 8#32
  let v608 : BitVec 32 := Scalar.muli v607 c8_i32_512
  let v609 : BitVec 32 := v608
  let v610 : Index := Scalar.indexCast v609
  let c0_513 : Index := 0#32
  ![v610.toNat, 0]
def k0_off57 (v607 : BitVec 32) : Fin 2 → Nat :=
  let v612 : Index := Scalar.indexCast v607
  let c0_514 : Index := 0#32
  ![v612.toNat, 0]

def k0_chk5 (v607 : BitVec 32) : Prop :=
  (8 ∣ (k0_mult6 v607).toNat) ∧
  (∀ a, (k0_off56 v607) a + S8x128.size a ≤ S63488x128.size a) ∧
  (∀ a, S8x128.size a = 0 ∨ (k0_off57 v607) a + (![0, 1] : Fin 2 → Nat) a * (S8x128.size a - 1) < S7936x128.size a)
theorem k0_mult6_dvd : ∀ (v607 : BitVec 32) (k0_hw5 : k0_chk5 v607), 8 ∣ (k0_mult6 v607).toNat := fun v607 k0_hw5 => k0_hw5.1
theorem k0_off56_inb : ∀ (v607 : BitVec 32) (k0_hw5 : k0_chk5 v607), ∀ a, (k0_off56 v607) a + S8x128.size a ≤ S63488x128.size a := fun v607 k0_hw5 => k0_hw5.2.1
theorem k0_off57_inb : ∀ (v607 : BitVec 32) (k0_hw5 : k0_chk5 v607), ∀ a, S8x128.size a = 0 ∨ (k0_off57 v607) a + (![0, 1] : Fin 2 → Nat) a * (S8x128.size a - 1) < S7936x128.size a := fun v607 k0_hw5 => k0_hw5.2.2

def k0_off58 (k0_t3 : Fin k0_t3_loop.trips) (k0_t4 : Fin k0_t4_loop.trips) : Fin 2 → Nat :=
  let c0_520 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_517 : BitVec 32 := 256#32
  let v624 : BitVec 32 := Scalar.muli v304 c256_i32_517
  let c2_i32_518 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_506 : BitVec 32 := 8#32
  let v600 : BitVec 32 := Scalar.muli v443 c8_i32_506
  let c2_i32_507 : BitVec 32 := 2#32
  let v601 : BitVec 32 := Scalar.addi v600 c2_i32_507
  let v625 : BitVec 32 := Scalar.muli c2_i32_518 v601
  let v626 : BitVec 32 := Scalar.addi v624 v625
  let c1_i32_519 : BitVec 32 := 1#32
  let v627 : BitVec 32 := Scalar.addi v626 c1_i32_519
  let v628 : Index := Scalar.indexCast v627
  ![0, v628.toNat]
def k0_mult7 (v629 : BitVec 32) : BitVec 32 :=
  let c8_i32_521 : BitVec 32 := 8#32
  let v630 : BitVec 32 := Scalar.muli v629 c8_i32_521
  v630

def k0_off59 (v629 : BitVec 32) : Fin 2 → Nat :=
  let c8_i32_521 : BitVec 32 := 8#32
  let v630 : BitVec 32 := Scalar.muli v629 c8_i32_521
  let v631 : BitVec 32 := v630
  let v632 : Index := Scalar.indexCast v631
  let c0_522 : Index := 0#32
  ![v632.toNat, 0]
def k0_off60 (v629 : BitVec 32) : Fin 2 → Nat :=
  let v634 : Index := Scalar.indexCast v629
  let c0_523 : Index := 0#32
  ![v634.toNat, 0]

def k0_chk6 (v629 : BitVec 32) : Prop :=
  (8 ∣ (k0_mult7 v629).toNat) ∧
  (∀ a, (k0_off59 v629) a + S8x128.size a ≤ S63488x128.size a) ∧
  (∀ a, S8x128.size a = 0 ∨ (k0_off60 v629) a + (![0, 1] : Fin 2 → Nat) a * (S8x128.size a - 1) < S7936x128.size a)
theorem k0_mult7_dvd : ∀ (v629 : BitVec 32) (k0_hw6 : k0_chk6 v629), 8 ∣ (k0_mult7 v629).toNat := fun v629 k0_hw6 => k0_hw6.1
theorem k0_off59_inb : ∀ (v629 : BitVec 32) (k0_hw6 : k0_chk6 v629), ∀ a, (k0_off59 v629) a + S8x128.size a ≤ S63488x128.size a := fun v629 k0_hw6 => k0_hw6.2.1
theorem k0_off60_inb : ∀ (v629 : BitVec 32) (k0_hw6 : k0_chk6 v629), ∀ a, S8x128.size a = 0 ∨ (k0_off60 v629) a + (![0, 1] : Fin 2 → Nat) a * (S8x128.size a - 1) < S7936x128.size a := fun v629 k0_hw6 => k0_hw6.2.2

def k0_off61 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v649 : Index := Scalar.indexCast v305
  let c0_526 : Index := 0#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_506 : BitVec 32 := 8#32
  let v600 : BitVec 32 := Scalar.muli v443 c8_i32_506
  let c2_i32_507 : BitVec 32 := 2#32
  let v601 : BitVec 32 := Scalar.addi v600 c2_i32_507
  let v650 : Index := Scalar.indexCast v601
  let c0_527 : Index := 0#32
  ![v649.toNat, 0, Nat.mul 2 v650.toNat, 0]
def k0_off62 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v657 : Index := Scalar.indexCast v305
  let c6_528 : Index := 6#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_506 : BitVec 32 := 8#32
  let v600 : BitVec 32 := Scalar.muli v443 c8_i32_506
  let c2_i32_507 : BitVec 32 := 2#32
  let v601 : BitVec 32 := Scalar.addi v600 c2_i32_507
  let v658 : Index := Scalar.indexCast v601
  let c0_529 : Index := 0#32
  ![v657.toNat, 6, Nat.mul 2 v658.toNat, 0]
def k0_off63 (k0_t3 : Fin k0_t3_loop.trips) (k0_t4 : Fin k0_t4_loop.trips) : Fin 2 → Nat :=
  let c0_539 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_536 : BitVec 32 := 256#32
  let v680 : BitVec 32 := Scalar.muli v304 c256_i32_536
  let c2_i32_537 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_534 : BitVec 32 := 8#32
  let v678 : BitVec 32 := Scalar.muli v443 c8_i32_534
  let c3_i32_535 : BitVec 32 := 3#32
  let v679 : BitVec 32 := Scalar.addi v678 c3_i32_535
  let v681 : BitVec 32 := Scalar.muli c2_i32_537 v679
  let v682 : BitVec 32 := Scalar.addi v680 v681
  let c0_i32_538 : BitVec 32 := 0#32
  let v683 : BitVec 32 := Scalar.addi v682 c0_i32_538
  let v684 : Index := Scalar.indexCast v683
  ![0, v684.toNat]
def k0_mult8 (v685 : BitVec 32) : BitVec 32 :=
  let c8_i32_540 : BitVec 32 := 8#32
  let v686 : BitVec 32 := Scalar.muli v685 c8_i32_540
  v686

def k0_off64 (v685 : BitVec 32) : Fin 2 → Nat :=
  let c8_i32_540 : BitVec 32 := 8#32
  let v686 : BitVec 32 := Scalar.muli v685 c8_i32_540
  let v687 : BitVec 32 := v686
  let v688 : Index := Scalar.indexCast v687
  let c0_541 : Index := 0#32
  ![v688.toNat, 0]
def k0_off65 (v685 : BitVec 32) : Fin 2 → Nat :=
  let v690 : Index := Scalar.indexCast v685
  let c0_542 : Index := 0#32
  ![v690.toNat, 0]

def k0_chk7 (v685 : BitVec 32) : Prop :=
  (8 ∣ (k0_mult8 v685).toNat) ∧
  (∀ a, (k0_off64 v685) a + S8x128.size a ≤ S63488x128.size a) ∧
  (∀ a, S8x128.size a = 0 ∨ (k0_off65 v685) a + (![0, 1] : Fin 2 → Nat) a * (S8x128.size a - 1) < S7936x128.size a)
theorem k0_mult8_dvd : ∀ (v685 : BitVec 32) (k0_hw7 : k0_chk7 v685), 8 ∣ (k0_mult8 v685).toNat := fun v685 k0_hw7 => k0_hw7.1
theorem k0_off64_inb : ∀ (v685 : BitVec 32) (k0_hw7 : k0_chk7 v685), ∀ a, (k0_off64 v685) a + S8x128.size a ≤ S63488x128.size a := fun v685 k0_hw7 => k0_hw7.2.1
theorem k0_off65_inb : ∀ (v685 : BitVec 32) (k0_hw7 : k0_chk7 v685), ∀ a, S8x128.size a = 0 ∨ (k0_off65 v685) a + (![0, 1] : Fin 2 → Nat) a * (S8x128.size a - 1) < S7936x128.size a := fun v685 k0_hw7 => k0_hw7.2.2

def k0_off66 (k0_t3 : Fin k0_t3_loop.trips) (k0_t4 : Fin k0_t4_loop.trips) : Fin 2 → Nat :=
  let c0_548 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_545 : BitVec 32 := 256#32
  let v702 : BitVec 32 := Scalar.muli v304 c256_i32_545
  let c2_i32_546 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_534 : BitVec 32 := 8#32
  let v678 : BitVec 32 := Scalar.muli v443 c8_i32_534
  let c3_i32_535 : BitVec 32 := 3#32
  let v679 : BitVec 32 := Scalar.addi v678 c3_i32_535
  let v703 : BitVec 32 := Scalar.muli c2_i32_546 v679
  let v704 : BitVec 32 := Scalar.addi v702 v703
  let c1_i32_547 : BitVec 32 := 1#32
  let v705 : BitVec 32 := Scalar.addi v704 c1_i32_547
  let v706 : Index := Scalar.indexCast v705
  ![0, v706.toNat]
def k0_mult9 (v707 : BitVec 32) : BitVec 32 :=
  let c8_i32_549 : BitVec 32 := 8#32
  let v708 : BitVec 32 := Scalar.muli v707 c8_i32_549
  v708

def k0_off67 (v707 : BitVec 32) : Fin 2 → Nat :=
  let c8_i32_549 : BitVec 32 := 8#32
  let v708 : BitVec 32 := Scalar.muli v707 c8_i32_549
  let v709 : BitVec 32 := v708
  let v710 : Index := Scalar.indexCast v709
  let c0_550 : Index := 0#32
  ![v710.toNat, 0]
def k0_off68 (v707 : BitVec 32) : Fin 2 → Nat :=
  let v712 : Index := Scalar.indexCast v707
  let c0_551 : Index := 0#32
  ![v712.toNat, 0]

def k0_chk8 (v707 : BitVec 32) : Prop :=
  (8 ∣ (k0_mult9 v707).toNat) ∧
  (∀ a, (k0_off67 v707) a + S8x128.size a ≤ S63488x128.size a) ∧
  (∀ a, S8x128.size a = 0 ∨ (k0_off68 v707) a + (![0, 1] : Fin 2 → Nat) a * (S8x128.size a - 1) < S7936x128.size a)
theorem k0_mult9_dvd : ∀ (v707 : BitVec 32) (k0_hw8 : k0_chk8 v707), 8 ∣ (k0_mult9 v707).toNat := fun v707 k0_hw8 => k0_hw8.1
theorem k0_off67_inb : ∀ (v707 : BitVec 32) (k0_hw8 : k0_chk8 v707), ∀ a, (k0_off67 v707) a + S8x128.size a ≤ S63488x128.size a := fun v707 k0_hw8 => k0_hw8.2.1
theorem k0_off68_inb : ∀ (v707 : BitVec 32) (k0_hw8 : k0_chk8 v707), ∀ a, S8x128.size a = 0 ∨ (k0_off68 v707) a + (![0, 1] : Fin 2 → Nat) a * (S8x128.size a - 1) < S7936x128.size a := fun v707 k0_hw8 => k0_hw8.2.2

def k0_off69 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v727 : Index := Scalar.indexCast v305
  let c0_554 : Index := 0#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_534 : BitVec 32 := 8#32
  let v678 : BitVec 32 := Scalar.muli v443 c8_i32_534
  let c3_i32_535 : BitVec 32 := 3#32
  let v679 : BitVec 32 := Scalar.addi v678 c3_i32_535
  let v728 : Index := Scalar.indexCast v679
  let c0_555 : Index := 0#32
  ![v727.toNat, 0, Nat.mul 2 v728.toNat, 0]
def k0_off70 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v735 : Index := Scalar.indexCast v305
  let c6_556 : Index := 6#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_534 : BitVec 32 := 8#32
  let v678 : BitVec 32 := Scalar.muli v443 c8_i32_534
  let c3_i32_535 : BitVec 32 := 3#32
  let v679 : BitVec 32 := Scalar.addi v678 c3_i32_535
  let v736 : Index := Scalar.indexCast v679
  let c0_557 : Index := 0#32
  ![v735.toNat, 6, Nat.mul 2 v736.toNat, 0]
def k0_off71 (k0_t3 : Fin k0_t3_loop.trips) (k0_t4 : Fin k0_t4_loop.trips) : Fin 2 → Nat :=
  let c0_567 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_564 : BitVec 32 := 256#32
  let v758 : BitVec 32 := Scalar.muli v304 c256_i32_564
  let c2_i32_565 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_562 : BitVec 32 := 8#32
  let v756 : BitVec 32 := Scalar.muli v443 c8_i32_562
  let c4_i32_563 : BitVec 32 := 4#32
  let v757 : BitVec 32 := Scalar.addi v756 c4_i32_563
  let v759 : BitVec 32 := Scalar.muli c2_i32_565 v757
  let v760 : BitVec 32 := Scalar.addi v758 v759
  let c0_i32_566 : BitVec 32 := 0#32
  let v761 : BitVec 32 := Scalar.addi v760 c0_i32_566
  let v762 : Index := Scalar.indexCast v761
  ![0, v762.toNat]
def k0_mult10 (v763 : BitVec 32) : BitVec 32 :=
  let c8_i32_568 : BitVec 32 := 8#32
  let v764 : BitVec 32 := Scalar.muli v763 c8_i32_568
  v764

def k0_off72 (v763 : BitVec 32) : Fin 2 → Nat :=
  let c8_i32_568 : BitVec 32 := 8#32
  let v764 : BitVec 32 := Scalar.muli v763 c8_i32_568
  let v765 : BitVec 32 := v764
  let v766 : Index := Scalar.indexCast v765
  let c0_569 : Index := 0#32
  ![v766.toNat, 0]
def k0_off73 (v763 : BitVec 32) : Fin 2 → Nat :=
  let v768 : Index := Scalar.indexCast v763
  let c0_570 : Index := 0#32
  ![v768.toNat, 0]

def k0_chk9 (v763 : BitVec 32) : Prop :=
  (8 ∣ (k0_mult10 v763).toNat) ∧
  (∀ a, (k0_off72 v763) a + S8x128.size a ≤ S63488x128.size a) ∧
  (∀ a, S8x128.size a = 0 ∨ (k0_off73 v763) a + (![0, 1] : Fin 2 → Nat) a * (S8x128.size a - 1) < S7936x128.size a)
theorem k0_mult10_dvd : ∀ (v763 : BitVec 32) (k0_hw9 : k0_chk9 v763), 8 ∣ (k0_mult10 v763).toNat := fun v763 k0_hw9 => k0_hw9.1
theorem k0_off72_inb : ∀ (v763 : BitVec 32) (k0_hw9 : k0_chk9 v763), ∀ a, (k0_off72 v763) a + S8x128.size a ≤ S63488x128.size a := fun v763 k0_hw9 => k0_hw9.2.1
theorem k0_off73_inb : ∀ (v763 : BitVec 32) (k0_hw9 : k0_chk9 v763), ∀ a, S8x128.size a = 0 ∨ (k0_off73 v763) a + (![0, 1] : Fin 2 → Nat) a * (S8x128.size a - 1) < S7936x128.size a := fun v763 k0_hw9 => k0_hw9.2.2

def k0_off74 (k0_t3 : Fin k0_t3_loop.trips) (k0_t4 : Fin k0_t4_loop.trips) : Fin 2 → Nat :=
  let c0_576 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_573 : BitVec 32 := 256#32
  let v780 : BitVec 32 := Scalar.muli v304 c256_i32_573
  let c2_i32_574 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_562 : BitVec 32 := 8#32
  let v756 : BitVec 32 := Scalar.muli v443 c8_i32_562
  let c4_i32_563 : BitVec 32 := 4#32
  let v757 : BitVec 32 := Scalar.addi v756 c4_i32_563
  let v781 : BitVec 32 := Scalar.muli c2_i32_574 v757
  let v782 : BitVec 32 := Scalar.addi v780 v781
  let c1_i32_575 : BitVec 32 := 1#32
  let v783 : BitVec 32 := Scalar.addi v782 c1_i32_575
  let v784 : Index := Scalar.indexCast v783
  ![0, v784.toNat]
def k0_mult11 (v785 : BitVec 32) : BitVec 32 :=
  let c8_i32_577 : BitVec 32 := 8#32
  let v786 : BitVec 32 := Scalar.muli v785 c8_i32_577
  v786

def k0_off75 (v785 : BitVec 32) : Fin 2 → Nat :=
  let c8_i32_577 : BitVec 32 := 8#32
  let v786 : BitVec 32 := Scalar.muli v785 c8_i32_577
  let v787 : BitVec 32 := v786
  let v788 : Index := Scalar.indexCast v787
  let c0_578 : Index := 0#32
  ![v788.toNat, 0]
def k0_off76 (v785 : BitVec 32) : Fin 2 → Nat :=
  let v790 : Index := Scalar.indexCast v785
  let c0_579 : Index := 0#32
  ![v790.toNat, 0]

def k0_chk10 (v785 : BitVec 32) : Prop :=
  (8 ∣ (k0_mult11 v785).toNat) ∧
  (∀ a, (k0_off75 v785) a + S8x128.size a ≤ S63488x128.size a) ∧
  (∀ a, S8x128.size a = 0 ∨ (k0_off76 v785) a + (![0, 1] : Fin 2 → Nat) a * (S8x128.size a - 1) < S7936x128.size a)
theorem k0_mult11_dvd : ∀ (v785 : BitVec 32) (k0_hw10 : k0_chk10 v785), 8 ∣ (k0_mult11 v785).toNat := fun v785 k0_hw10 => k0_hw10.1
theorem k0_off75_inb : ∀ (v785 : BitVec 32) (k0_hw10 : k0_chk10 v785), ∀ a, (k0_off75 v785) a + S8x128.size a ≤ S63488x128.size a := fun v785 k0_hw10 => k0_hw10.2.1
theorem k0_off76_inb : ∀ (v785 : BitVec 32) (k0_hw10 : k0_chk10 v785), ∀ a, S8x128.size a = 0 ∨ (k0_off76 v785) a + (![0, 1] : Fin 2 → Nat) a * (S8x128.size a - 1) < S7936x128.size a := fun v785 k0_hw10 => k0_hw10.2.2

def k0_off77 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v805 : Index := Scalar.indexCast v305
  let c0_582 : Index := 0#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_562 : BitVec 32 := 8#32
  let v756 : BitVec 32 := Scalar.muli v443 c8_i32_562
  let c4_i32_563 : BitVec 32 := 4#32
  let v757 : BitVec 32 := Scalar.addi v756 c4_i32_563
  let v806 : Index := Scalar.indexCast v757
  let c0_583 : Index := 0#32
  ![v805.toNat, 0, Nat.mul 2 v806.toNat, 0]
def k0_off78 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v813 : Index := Scalar.indexCast v305
  let c6_584 : Index := 6#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_562 : BitVec 32 := 8#32
  let v756 : BitVec 32 := Scalar.muli v443 c8_i32_562
  let c4_i32_563 : BitVec 32 := 4#32
  let v757 : BitVec 32 := Scalar.addi v756 c4_i32_563
  let v814 : Index := Scalar.indexCast v757
  let c0_585 : Index := 0#32
  ![v813.toNat, 6, Nat.mul 2 v814.toNat, 0]
def k0_off79 (k0_t3 : Fin k0_t3_loop.trips) (k0_t4 : Fin k0_t4_loop.trips) : Fin 2 → Nat :=
  let c0_595 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_592 : BitVec 32 := 256#32
  let v836 : BitVec 32 := Scalar.muli v304 c256_i32_592
  let c2_i32_593 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_590 : BitVec 32 := 8#32
  let v834 : BitVec 32 := Scalar.muli v443 c8_i32_590
  let c5_i32_591 : BitVec 32 := 5#32
  let v835 : BitVec 32 := Scalar.addi v834 c5_i32_591
  let v837 : BitVec 32 := Scalar.muli c2_i32_593 v835
  let v838 : BitVec 32 := Scalar.addi v836 v837
  let c0_i32_594 : BitVec 32 := 0#32
  let v839 : BitVec 32 := Scalar.addi v838 c0_i32_594
  let v840 : Index := Scalar.indexCast v839
  ![0, v840.toNat]
def k0_mult12 (v841 : BitVec 32) : BitVec 32 :=
  let c8_i32_596 : BitVec 32 := 8#32
  let v842 : BitVec 32 := Scalar.muli v841 c8_i32_596
  v842

def k0_off80 (v841 : BitVec 32) : Fin 2 → Nat :=
  let c8_i32_596 : BitVec 32 := 8#32
  let v842 : BitVec 32 := Scalar.muli v841 c8_i32_596
  let v843 : BitVec 32 := v842
  let v844 : Index := Scalar.indexCast v843
  let c0_597 : Index := 0#32
  ![v844.toNat, 0]
def k0_off81 (v841 : BitVec 32) : Fin 2 → Nat :=
  let v846 : Index := Scalar.indexCast v841
  let c0_598 : Index := 0#32
  ![v846.toNat, 0]

def k0_chk11 (v841 : BitVec 32) : Prop :=
  (8 ∣ (k0_mult12 v841).toNat) ∧
  (∀ a, (k0_off80 v841) a + S8x128.size a ≤ S63488x128.size a) ∧
  (∀ a, S8x128.size a = 0 ∨ (k0_off81 v841) a + (![0, 1] : Fin 2 → Nat) a * (S8x128.size a - 1) < S7936x128.size a)
theorem k0_mult12_dvd : ∀ (v841 : BitVec 32) (k0_hw11 : k0_chk11 v841), 8 ∣ (k0_mult12 v841).toNat := fun v841 k0_hw11 => k0_hw11.1
theorem k0_off80_inb : ∀ (v841 : BitVec 32) (k0_hw11 : k0_chk11 v841), ∀ a, (k0_off80 v841) a + S8x128.size a ≤ S63488x128.size a := fun v841 k0_hw11 => k0_hw11.2.1
theorem k0_off81_inb : ∀ (v841 : BitVec 32) (k0_hw11 : k0_chk11 v841), ∀ a, S8x128.size a = 0 ∨ (k0_off81 v841) a + (![0, 1] : Fin 2 → Nat) a * (S8x128.size a - 1) < S7936x128.size a := fun v841 k0_hw11 => k0_hw11.2.2

def k0_off82 (k0_t3 : Fin k0_t3_loop.trips) (k0_t4 : Fin k0_t4_loop.trips) : Fin 2 → Nat :=
  let c0_604 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_601 : BitVec 32 := 256#32
  let v858 : BitVec 32 := Scalar.muli v304 c256_i32_601
  let c2_i32_602 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_590 : BitVec 32 := 8#32
  let v834 : BitVec 32 := Scalar.muli v443 c8_i32_590
  let c5_i32_591 : BitVec 32 := 5#32
  let v835 : BitVec 32 := Scalar.addi v834 c5_i32_591
  let v859 : BitVec 32 := Scalar.muli c2_i32_602 v835
  let v860 : BitVec 32 := Scalar.addi v858 v859
  let c1_i32_603 : BitVec 32 := 1#32
  let v861 : BitVec 32 := Scalar.addi v860 c1_i32_603
  let v862 : Index := Scalar.indexCast v861
  ![0, v862.toNat]
def k0_mult13 (v863 : BitVec 32) : BitVec 32 :=
  let c8_i32_605 : BitVec 32 := 8#32
  let v864 : BitVec 32 := Scalar.muli v863 c8_i32_605
  v864

def k0_off83 (v863 : BitVec 32) : Fin 2 → Nat :=
  let c8_i32_605 : BitVec 32 := 8#32
  let v864 : BitVec 32 := Scalar.muli v863 c8_i32_605
  let v865 : BitVec 32 := v864
  let v866 : Index := Scalar.indexCast v865
  let c0_606 : Index := 0#32
  ![v866.toNat, 0]
def k0_off84 (v863 : BitVec 32) : Fin 2 → Nat :=
  let v868 : Index := Scalar.indexCast v863
  let c0_607 : Index := 0#32
  ![v868.toNat, 0]

def k0_chk12 (v863 : BitVec 32) : Prop :=
  (8 ∣ (k0_mult13 v863).toNat) ∧
  (∀ a, (k0_off83 v863) a + S8x128.size a ≤ S63488x128.size a) ∧
  (∀ a, S8x128.size a = 0 ∨ (k0_off84 v863) a + (![0, 1] : Fin 2 → Nat) a * (S8x128.size a - 1) < S7936x128.size a)
theorem k0_mult13_dvd : ∀ (v863 : BitVec 32) (k0_hw12 : k0_chk12 v863), 8 ∣ (k0_mult13 v863).toNat := fun v863 k0_hw12 => k0_hw12.1
theorem k0_off83_inb : ∀ (v863 : BitVec 32) (k0_hw12 : k0_chk12 v863), ∀ a, (k0_off83 v863) a + S8x128.size a ≤ S63488x128.size a := fun v863 k0_hw12 => k0_hw12.2.1
theorem k0_off84_inb : ∀ (v863 : BitVec 32) (k0_hw12 : k0_chk12 v863), ∀ a, S8x128.size a = 0 ∨ (k0_off84 v863) a + (![0, 1] : Fin 2 → Nat) a * (S8x128.size a - 1) < S7936x128.size a := fun v863 k0_hw12 => k0_hw12.2.2

def k0_off85 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v883 : Index := Scalar.indexCast v305
  let c0_610 : Index := 0#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_590 : BitVec 32 := 8#32
  let v834 : BitVec 32 := Scalar.muli v443 c8_i32_590
  let c5_i32_591 : BitVec 32 := 5#32
  let v835 : BitVec 32 := Scalar.addi v834 c5_i32_591
  let v884 : Index := Scalar.indexCast v835
  let c0_611 : Index := 0#32
  ![v883.toNat, 0, Nat.mul 2 v884.toNat, 0]
def k0_off86 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v891 : Index := Scalar.indexCast v305
  let c6_612 : Index := 6#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_590 : BitVec 32 := 8#32
  let v834 : BitVec 32 := Scalar.muli v443 c8_i32_590
  let c5_i32_591 : BitVec 32 := 5#32
  let v835 : BitVec 32 := Scalar.addi v834 c5_i32_591
  let v892 : Index := Scalar.indexCast v835
  let c0_613 : Index := 0#32
  ![v891.toNat, 6, Nat.mul 2 v892.toNat, 0]
def k0_off87 (k0_t3 : Fin k0_t3_loop.trips) (k0_t4 : Fin k0_t4_loop.trips) : Fin 2 → Nat :=
  let c0_623 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_620 : BitVec 32 := 256#32
  let v914 : BitVec 32 := Scalar.muli v304 c256_i32_620
  let c2_i32_621 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_618 : BitVec 32 := 8#32
  let v912 : BitVec 32 := Scalar.muli v443 c8_i32_618
  let c6_i32_619 : BitVec 32 := 6#32
  let v913 : BitVec 32 := Scalar.addi v912 c6_i32_619
  let v915 : BitVec 32 := Scalar.muli c2_i32_621 v913
  let v916 : BitVec 32 := Scalar.addi v914 v915
  let c0_i32_622 : BitVec 32 := 0#32
  let v917 : BitVec 32 := Scalar.addi v916 c0_i32_622
  let v918 : Index := Scalar.indexCast v917
  ![0, v918.toNat]
def k0_mult14 (v919 : BitVec 32) : BitVec 32 :=
  let c8_i32_624 : BitVec 32 := 8#32
  let v920 : BitVec 32 := Scalar.muli v919 c8_i32_624
  v920

def k0_off88 (v919 : BitVec 32) : Fin 2 → Nat :=
  let c8_i32_624 : BitVec 32 := 8#32
  let v920 : BitVec 32 := Scalar.muli v919 c8_i32_624
  let v921 : BitVec 32 := v920
  let v922 : Index := Scalar.indexCast v921
  let c0_625 : Index := 0#32
  ![v922.toNat, 0]
def k0_off89 (v919 : BitVec 32) : Fin 2 → Nat :=
  let v924 : Index := Scalar.indexCast v919
  let c0_626 : Index := 0#32
  ![v924.toNat, 0]

def k0_chk13 (v919 : BitVec 32) : Prop :=
  (8 ∣ (k0_mult14 v919).toNat) ∧
  (∀ a, (k0_off88 v919) a + S8x128.size a ≤ S63488x128.size a) ∧
  (∀ a, S8x128.size a = 0 ∨ (k0_off89 v919) a + (![0, 1] : Fin 2 → Nat) a * (S8x128.size a - 1) < S7936x128.size a)
theorem k0_mult14_dvd : ∀ (v919 : BitVec 32) (k0_hw13 : k0_chk13 v919), 8 ∣ (k0_mult14 v919).toNat := fun v919 k0_hw13 => k0_hw13.1
theorem k0_off88_inb : ∀ (v919 : BitVec 32) (k0_hw13 : k0_chk13 v919), ∀ a, (k0_off88 v919) a + S8x128.size a ≤ S63488x128.size a := fun v919 k0_hw13 => k0_hw13.2.1
theorem k0_off89_inb : ∀ (v919 : BitVec 32) (k0_hw13 : k0_chk13 v919), ∀ a, S8x128.size a = 0 ∨ (k0_off89 v919) a + (![0, 1] : Fin 2 → Nat) a * (S8x128.size a - 1) < S7936x128.size a := fun v919 k0_hw13 => k0_hw13.2.2

def k0_off90 (k0_t3 : Fin k0_t3_loop.trips) (k0_t4 : Fin k0_t4_loop.trips) : Fin 2 → Nat :=
  let c0_632 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_629 : BitVec 32 := 256#32
  let v936 : BitVec 32 := Scalar.muli v304 c256_i32_629
  let c2_i32_630 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_618 : BitVec 32 := 8#32
  let v912 : BitVec 32 := Scalar.muli v443 c8_i32_618
  let c6_i32_619 : BitVec 32 := 6#32
  let v913 : BitVec 32 := Scalar.addi v912 c6_i32_619
  let v937 : BitVec 32 := Scalar.muli c2_i32_630 v913
  let v938 : BitVec 32 := Scalar.addi v936 v937
  let c1_i32_631 : BitVec 32 := 1#32
  let v939 : BitVec 32 := Scalar.addi v938 c1_i32_631
  let v940 : Index := Scalar.indexCast v939
  ![0, v940.toNat]
def k0_mult15 (v941 : BitVec 32) : BitVec 32 :=
  let c8_i32_633 : BitVec 32 := 8#32
  let v942 : BitVec 32 := Scalar.muli v941 c8_i32_633
  v942

def k0_off91 (v941 : BitVec 32) : Fin 2 → Nat :=
  let c8_i32_633 : BitVec 32 := 8#32
  let v942 : BitVec 32 := Scalar.muli v941 c8_i32_633
  let v943 : BitVec 32 := v942
  let v944 : Index := Scalar.indexCast v943
  let c0_634 : Index := 0#32
  ![v944.toNat, 0]
def k0_off92 (v941 : BitVec 32) : Fin 2 → Nat :=
  let v946 : Index := Scalar.indexCast v941
  let c0_635 : Index := 0#32
  ![v946.toNat, 0]

def k0_chk14 (v941 : BitVec 32) : Prop :=
  (8 ∣ (k0_mult15 v941).toNat) ∧
  (∀ a, (k0_off91 v941) a + S8x128.size a ≤ S63488x128.size a) ∧
  (∀ a, S8x128.size a = 0 ∨ (k0_off92 v941) a + (![0, 1] : Fin 2 → Nat) a * (S8x128.size a - 1) < S7936x128.size a)
theorem k0_mult15_dvd : ∀ (v941 : BitVec 32) (k0_hw14 : k0_chk14 v941), 8 ∣ (k0_mult15 v941).toNat := fun v941 k0_hw14 => k0_hw14.1
theorem k0_off91_inb : ∀ (v941 : BitVec 32) (k0_hw14 : k0_chk14 v941), ∀ a, (k0_off91 v941) a + S8x128.size a ≤ S63488x128.size a := fun v941 k0_hw14 => k0_hw14.2.1
theorem k0_off92_inb : ∀ (v941 : BitVec 32) (k0_hw14 : k0_chk14 v941), ∀ a, S8x128.size a = 0 ∨ (k0_off92 v941) a + (![0, 1] : Fin 2 → Nat) a * (S8x128.size a - 1) < S7936x128.size a := fun v941 k0_hw14 => k0_hw14.2.2

def k0_off93 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v961 : Index := Scalar.indexCast v305
  let c0_638 : Index := 0#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_618 : BitVec 32 := 8#32
  let v912 : BitVec 32 := Scalar.muli v443 c8_i32_618
  let c6_i32_619 : BitVec 32 := 6#32
  let v913 : BitVec 32 := Scalar.addi v912 c6_i32_619
  let v962 : Index := Scalar.indexCast v913
  let c0_639 : Index := 0#32
  ![v961.toNat, 0, Nat.mul 2 v962.toNat, 0]
def k0_off94 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v969 : Index := Scalar.indexCast v305
  let c6_640 : Index := 6#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_618 : BitVec 32 := 8#32
  let v912 : BitVec 32 := Scalar.muli v443 c8_i32_618
  let c6_i32_619 : BitVec 32 := 6#32
  let v913 : BitVec 32 := Scalar.addi v912 c6_i32_619
  let v970 : Index := Scalar.indexCast v913
  let c0_641 : Index := 0#32
  ![v969.toNat, 6, Nat.mul 2 v970.toNat, 0]
def k0_off95 (k0_t3 : Fin k0_t3_loop.trips) (k0_t4 : Fin k0_t4_loop.trips) : Fin 2 → Nat :=
  let c0_651 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_648 : BitVec 32 := 256#32
  let v992 : BitVec 32 := Scalar.muli v304 c256_i32_648
  let c2_i32_649 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_646 : BitVec 32 := 8#32
  let v990 : BitVec 32 := Scalar.muli v443 c8_i32_646
  let c7_i32_647 : BitVec 32 := 7#32
  let v991 : BitVec 32 := Scalar.addi v990 c7_i32_647
  let v993 : BitVec 32 := Scalar.muli c2_i32_649 v991
  let v994 : BitVec 32 := Scalar.addi v992 v993
  let c0_i32_650 : BitVec 32 := 0#32
  let v995 : BitVec 32 := Scalar.addi v994 c0_i32_650
  let v996 : Index := Scalar.indexCast v995
  ![0, v996.toNat]
def k0_mult16 (v997 : BitVec 32) : BitVec 32 :=
  let c8_i32_652 : BitVec 32 := 8#32
  let v998 : BitVec 32 := Scalar.muli v997 c8_i32_652
  v998

def k0_off96 (v997 : BitVec 32) : Fin 2 → Nat :=
  let c8_i32_652 : BitVec 32 := 8#32
  let v998 : BitVec 32 := Scalar.muli v997 c8_i32_652
  let v999 : BitVec 32 := v998
  let v1000 : Index := Scalar.indexCast v999
  let c0_653 : Index := 0#32
  ![v1000.toNat, 0]
def k0_off97 (v997 : BitVec 32) : Fin 2 → Nat :=
  let v1002 : Index := Scalar.indexCast v997
  let c0_654 : Index := 0#32
  ![v1002.toNat, 0]

def k0_chk15 (v997 : BitVec 32) : Prop :=
  (8 ∣ (k0_mult16 v997).toNat) ∧
  (∀ a, (k0_off96 v997) a + S8x128.size a ≤ S63488x128.size a) ∧
  (∀ a, S8x128.size a = 0 ∨ (k0_off97 v997) a + (![0, 1] : Fin 2 → Nat) a * (S8x128.size a - 1) < S7936x128.size a)
theorem k0_mult16_dvd : ∀ (v997 : BitVec 32) (k0_hw15 : k0_chk15 v997), 8 ∣ (k0_mult16 v997).toNat := fun v997 k0_hw15 => k0_hw15.1
theorem k0_off96_inb : ∀ (v997 : BitVec 32) (k0_hw15 : k0_chk15 v997), ∀ a, (k0_off96 v997) a + S8x128.size a ≤ S63488x128.size a := fun v997 k0_hw15 => k0_hw15.2.1
theorem k0_off97_inb : ∀ (v997 : BitVec 32) (k0_hw15 : k0_chk15 v997), ∀ a, S8x128.size a = 0 ∨ (k0_off97 v997) a + (![0, 1] : Fin 2 → Nat) a * (S8x128.size a - 1) < S7936x128.size a := fun v997 k0_hw15 => k0_hw15.2.2

def k0_off98 (k0_t3 : Fin k0_t3_loop.trips) (k0_t4 : Fin k0_t4_loop.trips) : Fin 2 → Nat :=
  let c0_660 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_657 : BitVec 32 := 256#32
  let v1014 : BitVec 32 := Scalar.muli v304 c256_i32_657
  let c2_i32_658 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_646 : BitVec 32 := 8#32
  let v990 : BitVec 32 := Scalar.muli v443 c8_i32_646
  let c7_i32_647 : BitVec 32 := 7#32
  let v991 : BitVec 32 := Scalar.addi v990 c7_i32_647
  let v1015 : BitVec 32 := Scalar.muli c2_i32_658 v991
  let v1016 : BitVec 32 := Scalar.addi v1014 v1015
  let c1_i32_659 : BitVec 32 := 1#32
  let v1017 : BitVec 32 := Scalar.addi v1016 c1_i32_659
  let v1018 : Index := Scalar.indexCast v1017
  ![0, v1018.toNat]
def k0_mult17 (v1019 : BitVec 32) : BitVec 32 :=
  let c8_i32_661 : BitVec 32 := 8#32
  let v1020 : BitVec 32 := Scalar.muli v1019 c8_i32_661
  v1020

def k0_off99 (v1019 : BitVec 32) : Fin 2 → Nat :=
  let c8_i32_661 : BitVec 32 := 8#32
  let v1020 : BitVec 32 := Scalar.muli v1019 c8_i32_661
  let v1021 : BitVec 32 := v1020
  let v1022 : Index := Scalar.indexCast v1021
  let c0_662 : Index := 0#32
  ![v1022.toNat, 0]
def k0_off100 (v1019 : BitVec 32) : Fin 2 → Nat :=
  let v1024 : Index := Scalar.indexCast v1019
  let c0_663 : Index := 0#32
  ![v1024.toNat, 0]

def k0_chk16 (v1019 : BitVec 32) : Prop :=
  (8 ∣ (k0_mult17 v1019).toNat) ∧
  (∀ a, (k0_off99 v1019) a + S8x128.size a ≤ S63488x128.size a) ∧
  (∀ a, S8x128.size a = 0 ∨ (k0_off100 v1019) a + (![0, 1] : Fin 2 → Nat) a * (S8x128.size a - 1) < S7936x128.size a)
theorem k0_mult17_dvd : ∀ (v1019 : BitVec 32) (k0_hw16 : k0_chk16 v1019), 8 ∣ (k0_mult17 v1019).toNat := fun v1019 k0_hw16 => k0_hw16.1
theorem k0_off99_inb : ∀ (v1019 : BitVec 32) (k0_hw16 : k0_chk16 v1019), ∀ a, (k0_off99 v1019) a + S8x128.size a ≤ S63488x128.size a := fun v1019 k0_hw16 => k0_hw16.2.1
theorem k0_off100_inb : ∀ (v1019 : BitVec 32) (k0_hw16 : k0_chk16 v1019), ∀ a, S8x128.size a = 0 ∨ (k0_off100 v1019) a + (![0, 1] : Fin 2 → Nat) a * (S8x128.size a - 1) < S7936x128.size a := fun v1019 k0_hw16 => k0_hw16.2.2

def k0_off101 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v1039 : Index := Scalar.indexCast v305
  let c0_666 : Index := 0#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_646 : BitVec 32 := 8#32
  let v990 : BitVec 32 := Scalar.muli v443 c8_i32_646
  let c7_i32_647 : BitVec 32 := 7#32
  let v991 : BitVec 32 := Scalar.addi v990 c7_i32_647
  let v1040 : Index := Scalar.indexCast v991
  let c0_667 : Index := 0#32
  ![v1039.toNat, 0, Nat.mul 2 v1040.toNat, 0]
def k0_off102 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v1047 : Index := Scalar.indexCast v305
  let c6_668 : Index := 6#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_646 : BitVec 32 := 8#32
  let v990 : BitVec 32 := Scalar.muli v443 c8_i32_646
  let c7_i32_647 : BitVec 32 := 7#32
  let v991 : BitVec 32 := Scalar.addi v990 c7_i32_647
  let v1048 : Index := Scalar.indexCast v991
  let c0_669 : Index := 0#32
  ![v1047.toNat, 6, Nat.mul 2 v1048.toNat, 0]
def k0_off103 (k0_t3 : Fin k0_t3_loop.trips) : Fin 1 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  ![v305.toNat]
def k0_off104 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_340 : BitVec 32 := 256#32
  let v310 : BitVec 32 := Scalar.muli v304 c256_i32_340
  let c0_i32_342 : BitVec 32 := 0#32
  ![v310.toNat, 0]
def k0_off105 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c0_i32_341 : BitVec 32 := 0#32
  let c0_i32_343 : BitVec 32 := 0#32
  let c0_i32_344 : BitVec 32 := 0#32
  ![v305.toNat, 0, 0, 0]
def k0_off106 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_350 : BitVec 32 := 256#32
  let v322 : BitVec 32 := Scalar.muli v304 c256_i32_350
  let c128_i32_352 : BitVec 32 := 128#32
  ![v322.toNat, 128]
def k0_off107 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c6_i32_351 : BitVec 32 := 6#32
  let c0_i32_353 : BitVec 32 := 0#32
  let c0_i32_354 : BitVec 32 := 0#32
  ![v305.toNat, 6, 0, 0]
def k0_off108 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_360 : BitVec 32 := 256#32
  let v334 : BitVec 32 := Scalar.muli v304 c256_i32_360
  let c256_i32_362 : BitVec 32 := 256#32
  ![v334.toNat, 256]
def k0_off109 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c1_i32_361 : BitVec 32 := 1#32
  let c0_i32_363 : BitVec 32 := 0#32
  let c0_i32_364 : BitVec 32 := 0#32
  ![v305.toNat, 1, 0, 0]
def k0_off110 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_370 : BitVec 32 := 256#32
  let v346 : BitVec 32 := Scalar.muli v304 c256_i32_370
  let c384_i32_372 : BitVec 32 := 384#32
  ![v346.toNat, 384]
def k0_off111 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c7_i32_371 : BitVec 32 := 7#32
  let c0_i32_373 : BitVec 32 := 0#32
  let c0_i32_374 : BitVec 32 := 0#32
  ![v305.toNat, 7, 0, 0]
def k0_off112 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_380 : BitVec 32 := 256#32
  let v358 : BitVec 32 := Scalar.muli v304 c256_i32_380
  let c512_i32_382 : BitVec 32 := 512#32
  ![v358.toNat, 512]
def k0_off113 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c2_i32_381 : BitVec 32 := 2#32
  let c0_i32_383 : BitVec 32 := 0#32
  let c0_i32_384 : BitVec 32 := 0#32
  ![v305.toNat, 2, 0, 0]
def k0_off114 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_390 : BitVec 32 := 256#32
  let v370 : BitVec 32 := Scalar.muli v304 c256_i32_390
  let c640_i32_392 : BitVec 32 := 640#32
  ![v370.toNat, 640]
def k0_off115 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c8_i32_391 : BitVec 32 := 8#32
  let c0_i32_393 : BitVec 32 := 0#32
  let c0_i32_394 : BitVec 32 := 0#32
  ![v305.toNat, 8, 0, 0]
def k0_off116 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_400 : BitVec 32 := 256#32
  let v382 : BitVec 32 := Scalar.muli v304 c256_i32_400
  let c768_i32_402 : BitVec 32 := 768#32
  ![v382.toNat, 768]
def k0_off117 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c3_i32_401 : BitVec 32 := 3#32
  let c0_i32_403 : BitVec 32 := 0#32
  let c0_i32_404 : BitVec 32 := 0#32
  ![v305.toNat, 3, 0, 0]
def k0_off118 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_410 : BitVec 32 := 256#32
  let v394 : BitVec 32 := Scalar.muli v304 c256_i32_410
  let c896_i32_412 : BitVec 32 := 896#32
  ![v394.toNat, 896]
def k0_off119 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c9_i32_411 : BitVec 32 := 9#32
  let c0_i32_413 : BitVec 32 := 0#32
  let c0_i32_414 : BitVec 32 := 0#32
  ![v305.toNat, 9, 0, 0]
def k0_off120 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_420 : BitVec 32 := 256#32
  let v406 : BitVec 32 := Scalar.muli v304 c256_i32_420
  let c1024_i32_422 : BitVec 32 := 1024#32
  ![v406.toNat, 1024]
def k0_off121 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c4_i32_421 : BitVec 32 := 4#32
  let c0_i32_423 : BitVec 32 := 0#32
  let c0_i32_424 : BitVec 32 := 0#32
  ![v305.toNat, 4, 0, 0]
def k0_off122 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_430 : BitVec 32 := 256#32
  let v418 : BitVec 32 := Scalar.muli v304 c256_i32_430
  let c1152_i32_432 : BitVec 32 := 1152#32
  ![v418.toNat, 1152]
def k0_off123 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c10_i32_431 : BitVec 32 := 10#32
  let c0_i32_433 : BitVec 32 := 0#32
  let c0_i32_434 : BitVec 32 := 0#32
  ![v305.toNat, 10, 0, 0]
def k0_off124 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_440 : BitVec 32 := 256#32
  let v430 : BitVec 32 := Scalar.muli v304 c256_i32_440
  let c1280_i32_442 : BitVec 32 := 1280#32
  ![v430.toNat, 1280]
def k0_off125 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c5_i32_441 : BitVec 32 := 5#32
  let c0_i32_443 : BitVec 32 := 0#32
  let c0_i32_444 : BitVec 32 := 0#32
  ![v305.toNat, 5, 0, 0]
abbrev stage0_0 : Fin 1 → Memref sig .tc .smem S1x8192 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7936 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
abbrev S1x8192 : Shape := ⟨2, ![1, 8192]⟩
abbrev S1408x7936 : Shape := ⟨2, ![1408, 7936]⟩
abbrev S7936 : Shape := ⟨1, ![7936]⟩
abbrev S1408 : Shape := ⟨1, ![1408]⟩
abbrev S8192x1408 : Shape := ⟨2, ![8192, 1408]⟩
abbrev S63488x128 : Shape := ⟨2, ![63488, 128]⟩
abbrev S63488x2x128 : Shape := ⟨3, ![63488, 2, 128]⟩
abbrev S63488x1x128 : Shape := ⟨3, ![63488, 1, 128]⟩
abbrev S7936x128 : Shape := ⟨2, ![7936, 128]⟩
abbrev S31x1408x256 : Shape := ⟨3, ![31, 1408, 256]⟩
abbrev S256x128 : Shape := ⟨2, ![256, 128]⟩
abbrev S2x8x128 : Shape := ⟨3, ![2, 8, 128]⟩
abbrev S2x11x272x128 : Shape := ⟨4, ![2, 11, 272, 128]⟩
abbrev S31 : Shape := ⟨1, ![31]⟩
abbrev S2 : Shape := ⟨1, ![2]⟩
abbrev S1 : Shape := ⟨1, ![1]⟩
abbrev S_ : Shape := ⟨0, ![]⟩
abbrev S1x1408x256 : Shape := ⟨3, ![1, 1408, 256]⟩
abbrev S1408x256 : Shape := ⟨2, ![1408, 256]⟩
abbrev S128 : Shape := ⟨1, ![128]⟩
abbrev S1x128 : Shape := ⟨2, ![1, 128]⟩
abbrev S1x1x128 : Shape := ⟨3, ![1, 1, 128]⟩
abbrev S256x256 : Shape := ⟨2, ![256, 256]⟩
abbrev S256 : Shape := ⟨1, ![256]⟩
abbrev S1x256 : Shape := ⟨2, ![1, 256]⟩
abbrev S1x256x256 : Shape := ⟨3, ![1, 256, 256]⟩
abbrev S256x2x128 : Shape := ⟨3, ![256, 2, 128]⟩
abbrev S256x1x128 : Shape := ⟨3, ![256, 1, 128]⟩
abbrev S1x128x256 : Shape := ⟨3, ![1, 128, 256]⟩
abbrev S128x256 : Shape := ⟨2, ![128, 256]⟩
abbrev S256x1 : Shape := ⟨2, ![256, 1]⟩
abbrev S1x8x128 : Shape := ⟨3, ![1, 8, 128]⟩
abbrev S8x128 : Shape := ⟨2, ![8, 128]⟩
abbrev S1x1x256x128 : Shape := ⟨4, ![1, 1, 256, 128]⟩
abbrev S1x1 : Shape := ⟨2, ![1, 1]⟩
abbrev S8x2x128 : Shape := ⟨3, ![8, 2, 128]⟩
abbrev S8x1x128 : Shape := ⟨3, ![8, 1, 128]⟩
abbrev S16x128 : Shape := ⟨2, ![16, 128]⟩
abbrev S6x128 : Shape := ⟨2, ![6, 128]⟩
abbrev S2x11x136x128 : Shape := ⟨4, ![2, 11, 136, 128]⟩
abbrev S1x6x1x128 : Shape := ⟨4, ![1, 6, 1, 128]⟩
abbrev S1x6x2x128 : Shape := ⟨4, ![1, 6, 2, 128]⟩
abbrev S5x128 : Shape := ⟨2, ![5, 128]⟩
abbrev S1x5x1x128 : Shape := ⟨4, ![1, 5, 1, 128]⟩
abbrev S1x5x2x128 : Shape := ⟨4, ![1, 5, 2, 128]⟩
abbrev S1x8192x1408 : Shape := ⟨3, ![1, 8192, 1408]⟩

abbrev nBuf : Space → Nat
  | .hbm => 8
  | .vmem => 9
  | .smem => 1
  | _ => 0

abbrev bufTy : (tb : Table) → Fin (tcTables nBuf tb) → BufTy
  | .hbm, ⟨0, _⟩ => ⟨S1x8192, .i32⟩
  | .hbm, ⟨1, _⟩ => ⟨S1408x7936, .i8⟩
  | .hbm, ⟨2, _⟩ => ⟨S7936, .f32⟩
  | .hbm, ⟨3, _⟩ => ⟨S1408, .bf16⟩
  | .hbm, ⟨4, _⟩ => ⟨S8192x1408, .bf16⟩
  | .hbm, ⟨5, _⟩ => ⟨S8192x1408, .bf16⟩
  | .hbm, ⟨6, _⟩ => ⟨S1x8192x1408, .bf16⟩
  | .hbm, ⟨7, _⟩ => ⟨S1x8192x1408, .bf16⟩
  | .local _ .vmem, ⟨0, _⟩ => ⟨S7936, .f32⟩
  | .local _ .vmem, ⟨1, _⟩ => ⟨S1408, .bf16⟩
  | .local _ .vmem, ⟨2, _⟩ => ⟨S63488x2x128, .bf16⟩
  | .local _ .vmem, ⟨3, _⟩ => ⟨S7936x128, .f32⟩
  | .local _ .vmem, ⟨4, _⟩ => ⟨S31x1408x256, .i8⟩
  | .local _ .vmem, ⟨5, _⟩ => ⟨S256x128, .f32⟩
  | .local _ .vmem, ⟨6, _⟩ => ⟨S2x8x128, .f32⟩
  | .local _ .vmem, ⟨7, _⟩ => ⟨S2x11x272x128, .bf16⟩
  | .local _ .vmem, ⟨8, _⟩ => ⟨S2x11x272x128, .bf16⟩
  | .local _ .smem, ⟨0, _⟩ => ⟨S1x8192, .i32⟩
  | _, _ => ⟨S1x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c31_i32 : BitVec 32 := 31#32
  let v0 : BitVec 32 := Scalar.addi c0_i32 c31_i32
  let c1_i32 : BitVec 32 := 1#32
  ⟨c0_i32, v0, c1_i32⟩
def k0_off1 (k0_t1 : Fin k0_t1_loop.trips) : Fin 1 → Nat :=
  let c0_i32_333 : BitVec 32 := 0#32
  let c0_i32 : BitVec 32 := 0#32
  let c1_i32 : BitVec 32 := 1#32
  let arg15 : BitVec 32 := Scf.iv c0_i32 c1_i32 k0_t1
  let c1_i32_332 : BitVec 32 := 1#32
  let v303 : BitVec 32 := Scalar.muli arg15 c1_i32_332
  let v304 : BitVec 32 := Scalar.addi c0_i32_333 v303
  ![v304.toNat]
def k0_off2 (k0_t1 : Fin k0_t1_loop.trips) : Fin 3 → Nat :=
  let c0_i32_333 : BitVec 32 := 0#32
  let c0_i32 : BitVec 32 := 0#32
  let c1_i32 : BitVec 32 := 1#32
  let arg15 : BitVec 32 := Scf.iv c0_i32 c1_i32 k0_t1
  let c1_i32_332 : BitVec 32 := 1#32
  let v303 : BitVec 32 := Scalar.muli arg15 c1_i32_332
  let v304 : BitVec 32 := Scalar.addi c0_i32_333 v303
  let c0_i32_335 : BitVec 32 := 0#32
  let c0_i32_336 : BitVec 32 := 0#32
  ![v304.toNat, 0, 0]
def k0_off3 (k0_t1 : Fin k0_t1_loop.trips) : Fin 2 → Nat :=
  let c0_i32_337 : BitVec 32 := 0#32
  let c0_i32_333 : BitVec 32 := 0#32
  let c0_i32 : BitVec 32 := 0#32
  let c1_i32 : BitVec 32 := 1#32
  let arg15 : BitVec 32 := Scf.iv c0_i32 c1_i32 k0_t1
  let c1_i32_332 : BitVec 32 := 1#32
  let v303 : BitVec 32 := Scalar.muli arg15 c1_i32_332
  let v304 : BitVec 32 := Scalar.addi c0_i32_333 v303
  let c256_i32_334 : BitVec 32 := 256#32
  let v305 : BitVec 32 := Scalar.muli v304 c256_i32_334
  ![0, v305.toNat]
@[reducible] def k0_t2_loop : Scf.Loop 32 :=
  let c0_i32_32 : BitVec 32 := 0#32
  let c31_i32_33 : BitVec 32 := 31#32
  let v77 : BitVec 32 := Scalar.addi c0_i32_32 c31_i32_33
  let c1_i32_34 : BitVec 32 := 1#32
  ⟨c0_i32_32, v77, c1_i32_34⟩
def k0_off4 (k0_t2 : Fin k0_t2_loop.trips) : Fin 1 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  ![v304.toNat]
def k0_off5 (k0_t2 : Fin k0_t2_loop.trips) : Fin 3 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let c0_i32_335 : BitVec 32 := 0#32
  let c0_i32_336 : BitVec 32 := 0#32
  ![v304.toNat, 0, 0]
def k0_off6 (k0_t2 : Fin k0_t2_loop.trips) : Fin 2 → Nat :=
  let c0_i32_337 : BitVec 32 := 0#32
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let c256_i32_334 : BitVec 32 := 256#32
  let v305 : BitVec 32 := Scalar.muli v304 c256_i32_334
  ![0, v305.toNat]
def k0_off7 (k0_t2 : Fin k0_t2_loop.trips) : Fin 1 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let c256_i32_338 : BitVec 32 := 256#32
  let v311 : BitVec 32 := Scalar.muli v304 c256_i32_338
  let v312 : Index := Scalar.indexCast v311
  ![v312.toNat]
def k0_mult1 (k0_t2 : Fin k0_t2_loop.trips) : BitVec 32 :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let c256_i32_339 : BitVec 32 := 256#32
  let v316 : BitVec 32 := Scalar.muli v304 c256_i32_339
  let c8_i32_340 : BitVec 32 := 8#32
  let v317 : BitVec 32 := Scalar.muli v316 c8_i32_340
  v317
def k0_off8 (k0_t2 : Fin k0_t2_loop.trips) : Fin 3 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let v319 : Index := Scalar.indexCast v304
  let c0_341 : Index := 0#32
  let c0_342 : Index := 0#32
  ![v319.toNat, 0, 0]
def k0_off9 (k0_t2 : Fin k0_t2_loop.trips) (c0_i32_344 : BitVec 32) : Fin 3 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let c256_i32_339 : BitVec 32 := 256#32
  let v316 : BitVec 32 := Scalar.muli v304 c256_i32_339
  let c8_i32_340 : BitVec 32 := 8#32
  let v317 : BitVec 32 := Scalar.muli v316 c8_i32_340
  let v318 : BitVec 32 := v317
  let v332 : BitVec 32 := Scalar.addi v318 c0_i32_344
  let v333 : Index := Scalar.indexCast v332
  let c0_345 : Index := 0#32
  ![v333.toNat, 0, 0]
def k0_off10 (k0_t2 : Fin k0_t2_loop.trips) : Fin 3 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let v340 : Index := Scalar.indexCast v304
  let c256_348 : Index := 256#32
  let c0_349 : Index := 0#32
  ![v340.toNat, 256, 0]
def k0_off11 (k0_t2 : Fin k0_t2_loop.trips) : Fin 3 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let v363 : Index := Scalar.indexCast v304
  let c512_357 : Index := 512#32
  let c0_358 : Index := 0#32
  ![v363.toNat, 512, 0]
def k0_off12 (k0_t2 : Fin k0_t2_loop.trips) : Fin 3 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let v386 : Index := Scalar.indexCast v304
  let c768_366 : Index := 768#32
  let c0_367 : Index := 0#32
  ![v386.toNat, 768, 0]
def k0_off13 (k0_t2 : Fin k0_t2_loop.trips) : Fin 3 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let v409 : Index := Scalar.indexCast v304
  let c1024_375 : Index := 1024#32
  let c0_376 : Index := 0#32
  ![v409.toNat, 1024, 0]
def k0_off14 (k0_t2 : Fin k0_t2_loop.trips) : Fin 3 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let v432 : Index := Scalar.indexCast v304
  let c1280_384 : Index := 1280#32
  let c0_385 : Index := 0#32
  ![v432.toNat, 1280, 0]
def k0_off15 (k0_t2 : Fin k0_t2_loop.trips) : Fin 2 → Nat :=
  let c0_i32_333 : BitVec 32 := 0#32
  let c0_i32_32 : BitVec 32 := 0#32
  let c1_i32_34 : BitVec 32 := 1#32
  let arg15 : BitVec 32 := Scf.iv c0_i32_32 c1_i32_34 k0_t2
  let c1_i32_332 : BitVec 32 := 1#32
  let v303 : BitVec 32 := Scalar.muli arg15 c1_i32_332
  let v304 : BitVec 32 := Scalar.addi c0_i32_333 v303
  let c256_i32_395 : BitVec 32 := 256#32
  let v458 : BitVec 32 := Scalar.muli v304 c256_i32_395
  let v459 : Index := Scalar.indexCast v458
  let c0_396 : Index := 0#32
  ![v459.toNat, 0]
@[reducible] def k0_t3_loop : Scf.Loop 32 :=
  let c0_i32_42 : BitVec 32 := 0#32
  let c32_i32 : BitVec 32 := 32#32
  let v82 : BitVec 32 := Scalar.addi c0_i32_42 c32_i32
  let c1_i32_43 : BitVec 32 := 1#32
  ⟨c0_i32_42, v82, c1_i32_43⟩
def k0_cond1 (k0_t3 : Fin k0_t3_loop.trips) : BitVec 1 :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_335 : BitVec 32 := 2#32
  let v306 : BitVec 1 := Scalar.cmpi .sge v304 c2_i32_335
  let v307 : BitVec 32 := Scalar.extui v306
  let c0_i32_336 : BitVec 32 := 0#32
  let v308 : BitVec 1 := Scalar.cmpi .ne v307 c0_i32_336
  v308

def k0_off16 (k0_t3 : Fin k0_t3_loop.trips) : Fin 1 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  ![v305.toNat]
def k0_off17 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_451 : BitVec 32 := 256#32
  let v443 : BitVec 32 := Scalar.muli v442 c256_i32_451
  let c0_i32_453 : BitVec 32 := 0#32
  ![v443.toNat, 0]
def k0_off18 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c0_i32_452 : BitVec 32 := 0#32
  let c0_i32_454 : BitVec 32 := 0#32
  let c0_i32_455 : BitVec 32 := 0#32
  ![v305.toNat, 0, 0, 0]
def k0_off19 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_461 : BitVec 32 := 256#32
  let v455 : BitVec 32 := Scalar.muli v442 c256_i32_461
  let c128_i32_463 : BitVec 32 := 128#32
  ![v455.toNat, 128]
def k0_off20 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c6_i32_462 : BitVec 32 := 6#32
  let c0_i32_464 : BitVec 32 := 0#32
  let c0_i32_465 : BitVec 32 := 0#32
  ![v305.toNat, 6, 0, 0]
def k0_off21 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_471 : BitVec 32 := 256#32
  let v467 : BitVec 32 := Scalar.muli v442 c256_i32_471
  let c256_i32_473 : BitVec 32 := 256#32
  ![v467.toNat, 256]
def k0_off22 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c1_i32_472 : BitVec 32 := 1#32
  let c0_i32_474 : BitVec 32 := 0#32
  let c0_i32_475 : BitVec 32 := 0#32
  ![v305.toNat, 1, 0, 0]
def k0_off23 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_481 : BitVec 32 := 256#32
  let v479 : BitVec 32 := Scalar.muli v442 c256_i32_481
  let c384_i32_483 : BitVec 32 := 384#32
  ![v479.toNat, 384]
def k0_off24 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c7_i32_482 : BitVec 32 := 7#32
  let c0_i32_484 : BitVec 32 := 0#32
  let c0_i32_485 : BitVec 32 := 0#32
  ![v305.toNat, 7, 0, 0]
def k0_off25 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_491 : BitVec 32 := 256#32
  let v491 : BitVec 32 := Scalar.muli v442 c256_i32_491
  let c512_i32_493 : BitVec 32 := 512#32
  ![v491.toNat, 512]
def k0_off26 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c2_i32_492 : BitVec 32 := 2#32
  let c0_i32_494 : BitVec 32 := 0#32
  let c0_i32_495 : BitVec 32 := 0#32
  ![v305.toNat, 2, 0, 0]
def k0_off27 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_501 : BitVec 32 := 256#32
  let v503 : BitVec 32 := Scalar.muli v442 c256_i32_501
  let c640_i32_503 : BitVec 32 := 640#32
  ![v503.toNat, 640]
def k0_off28 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c8_i32_502 : BitVec 32 := 8#32
  let c0_i32_504 : BitVec 32 := 0#32
  let c0_i32_505 : BitVec 32 := 0#32
  ![v305.toNat, 8, 0, 0]
def k0_off29 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_511 : BitVec 32 := 256#32
  let v515 : BitVec 32 := Scalar.muli v442 c256_i32_511
  let c768_i32_513 : BitVec 32 := 768#32
  ![v515.toNat, 768]
def k0_off30 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c3_i32_512 : BitVec 32 := 3#32
  let c0_i32_514 : BitVec 32 := 0#32
  let c0_i32_515 : BitVec 32 := 0#32
  ![v305.toNat, 3, 0, 0]
def k0_off31 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_521 : BitVec 32 := 256#32
  let v527 : BitVec 32 := Scalar.muli v442 c256_i32_521
  let c896_i32_523 : BitVec 32 := 896#32
  ![v527.toNat, 896]
def k0_off32 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c9_i32_522 : BitVec 32 := 9#32
  let c0_i32_524 : BitVec 32 := 0#32
  let c0_i32_525 : BitVec 32 := 0#32
  ![v305.toNat, 9, 0, 0]
def k0_off33 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_531 : BitVec 32 := 256#32
  let v539 : BitVec 32 := Scalar.muli v442 c256_i32_531
  let c1024_i32_533 : BitVec 32 := 1024#32
  ![v539.toNat, 1024]
def k0_off34 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c4_i32_532 : BitVec 32 := 4#32
  let c0_i32_534 : BitVec 32 := 0#32
  let c0_i32_535 : BitVec 32 := 0#32
  ![v305.toNat, 4, 0, 0]
def k0_off35 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_541 : BitVec 32 := 256#32
  let v551 : BitVec 32 := Scalar.muli v442 c256_i32_541
  let c1152_i32_543 : BitVec 32 := 1152#32
  ![v551.toNat, 1152]
def k0_off36 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c10_i32_542 : BitVec 32 := 10#32
  let c0_i32_544 : BitVec 32 := 0#32
  let c0_i32_545 : BitVec 32 := 0#32
  ![v305.toNat, 10, 0, 0]
def k0_off37 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_450 : BitVec 32 := 2#32
  let v442 : BitVec 32 := Scalar.subi v304 c2_i32_450
  let c256_i32_551 : BitVec 32 := 256#32
  let v563 : BitVec 32 := Scalar.muli v442 c256_i32_551
  let c1280_i32_553 : BitVec 32 := 1280#32
  ![v563.toNat, 1280]
def k0_off38 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c5_i32_552 : BitVec 32 := 5#32
  let c0_i32_554 : BitVec 32 := 0#32
  let c0_i32_555 : BitVec 32 := 0#32
  ![v305.toNat, 5, 0, 0]
@[reducible] def k0_t4_loop : Scf.Loop 32 :=
  let c0_i32_337 : BitVec 32 := 0#32
  let c16_i32 : BitVec 32 := 16#32
  let v309 : BitVec 32 := Scalar.addi c0_i32_337 c16_i32
  let c1_i32_338 : BitVec 32 := 1#32
  ⟨c0_i32_337, v309, c1_i32_338⟩
def k0_off39 (k0_t3 : Fin k0_t3_loop.trips) (k0_t4 : Fin k0_t4_loop.trips) : Fin 2 → Nat :=
  let c0_457 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_454 : BitVec 32 := 256#32
  let v446 : BitVec 32 := Scalar.muli v304 c256_i32_454
  let c2_i32_455 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_452 : BitVec 32 := 8#32
  let v444 : BitVec 32 := Scalar.muli v443 c8_i32_452
  let c0_i32_453 : BitVec 32 := 0#32
  let v445 : BitVec 32 := Scalar.addi v444 c0_i32_453
  let v447 : BitVec 32 := Scalar.muli c2_i32_455 v445
  let v448 : BitVec 32 := Scalar.addi v446 v447
  let c0_i32_456 : BitVec 32 := 0#32
  let v449 : BitVec 32 := Scalar.addi v448 c0_i32_456
  let v450 : Index := Scalar.indexCast v449
  ![0, v450.toNat]
def k0_mult2 (v451 : BitVec 32) : BitVec 32 :=
  let c8_i32_458 : BitVec 32 := 8#32
  let v452 : BitVec 32 := Scalar.muli v451 c8_i32_458
  v452

def k0_off40 (v451 : BitVec 32) : Fin 3 → Nat :=
  let c8_i32_458 : BitVec 32 := 8#32
  let v452 : BitVec 32 := Scalar.muli v451 c8_i32_458
  let v453 : BitVec 32 := v452
  let v454 : Index := Scalar.indexCast v453
  let c0_459 : Index := 0#32
  ![v454.toNat, 0, 0]
def k0_off41 (v451 : BitVec 32) : Fin 2 → Nat :=
  let v456 : Index := Scalar.indexCast v451
  let c0_460 : Index := 0#32
  ![v456.toNat, 0]

def k0_chk1 (v451 : BitVec 32) : Prop :=
  (8 ∣ (k0_mult2 v451).toNat) ∧
  (∀ a, (k0_off40 v451) a + S8x2x128.size a ≤ S63488x2x128.size a) ∧
  (∀ a, S8x128.size a = 0 ∨ (k0_off41 v451) a + (![0, 1] : Fin 2 → Nat) a * (S8x128.size a - 1) < S7936x128.size a)
theorem k0_mult2_dvd : ∀ (v451 : BitVec 32) (k0_hw1 : k0_chk1 v451), 8 ∣ (k0_mult2 v451).toNat := fun v451 k0_hw1 => k0_hw1.1
theorem k0_off40_inb : ∀ (v451 : BitVec 32) (k0_hw1 : k0_chk1 v451), ∀ a, (k0_off40 v451) a + S8x2x128.size a ≤ S63488x2x128.size a := fun v451 k0_hw1 => k0_hw1.2.1
theorem k0_off41_inb : ∀ (v451 : BitVec 32) (k0_hw1 : k0_chk1 v451), ∀ a, S8x128.size a = 0 ∨ (k0_off41 v451) a + (![0, 1] : Fin 2 → Nat) a * (S8x128.size a - 1) < S7936x128.size a := fun v451 k0_hw1 => k0_hw1.2.2

def k0_off42 (k0_t3 : Fin k0_t3_loop.trips) (k0_t4 : Fin k0_t4_loop.trips) : Fin 2 → Nat :=
  let c0_465 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_462 : BitVec 32 := 256#32
  let v468 : BitVec 32 := Scalar.muli v304 c256_i32_462
  let c2_i32_463 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_452 : BitVec 32 := 8#32
  let v444 : BitVec 32 := Scalar.muli v443 c8_i32_452
  let c0_i32_453 : BitVec 32 := 0#32
  let v445 : BitVec 32 := Scalar.addi v444 c0_i32_453
  let v469 : BitVec 32 := Scalar.muli c2_i32_463 v445
  let v470 : BitVec 32 := Scalar.addi v468 v469
  let c1_i32_464 : BitVec 32 := 1#32
  let v471 : BitVec 32 := Scalar.addi v470 c1_i32_464
  let v472 : Index := Scalar.indexCast v471
  ![0, v472.toNat]
def k0_mult3 (v473 : BitVec 32) : BitVec 32 :=
  let c8_i32_466 : BitVec 32 := 8#32
  let v474 : BitVec 32 := Scalar.muli v473 c8_i32_466
  v474

def k0_off43 (v473 : BitVec 32) : Fin 3 → Nat :=
  let c8_i32_466 : BitVec 32 := 8#32
  let v474 : BitVec 32 := Scalar.muli v473 c8_i32_466
  let v475 : BitVec 32 := v474
  let v476 : Index := Scalar.indexCast v475
  let c0_467 : Index := 0#32
  ![v476.toNat, 0, 0]
def k0_off44 (v473 : BitVec 32) : Fin 2 → Nat :=
  let v478 : Index := Scalar.indexCast v473
  let c0_468 : Index := 0#32
  ![v478.toNat, 0]

def k0_chk2 (v473 : BitVec 32) : Prop :=
  (8 ∣ (k0_mult3 v473).toNat) ∧
  (∀ a, (k0_off43 v473) a + S8x2x128.size a ≤ S63488x2x128.size a) ∧
  (∀ a, S8x128.size a = 0 ∨ (k0_off44 v473) a + (![0, 1] : Fin 2 → Nat) a * (S8x128.size a - 1) < S7936x128.size a)
theorem k0_mult3_dvd : ∀ (v473 : BitVec 32) (k0_hw2 : k0_chk2 v473), 8 ∣ (k0_mult3 v473).toNat := fun v473 k0_hw2 => k0_hw2.1
theorem k0_off43_inb : ∀ (v473 : BitVec 32) (k0_hw2 : k0_chk2 v473), ∀ a, (k0_off43 v473) a + S8x2x128.size a ≤ S63488x2x128.size a := fun v473 k0_hw2 => k0_hw2.2.1
theorem k0_off44_inb : ∀ (v473 : BitVec 32) (k0_hw2 : k0_chk2 v473), ∀ a, S8x128.size a = 0 ∨ (k0_off44 v473) a + (![0, 1] : Fin 2 → Nat) a * (S8x128.size a - 1) < S7936x128.size a := fun v473 k0_hw2 => k0_hw2.2.2

def k0_off45 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v493 : Index := Scalar.indexCast v305
  let c0_471 : Index := 0#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_452 : BitVec 32 := 8#32
  let v444 : BitVec 32 := Scalar.muli v443 c8_i32_452
  let c0_i32_453 : BitVec 32 := 0#32
  let v445 : BitVec 32 := Scalar.addi v444 c0_i32_453
  let v494 : Index := Scalar.indexCast v445
  let c0_472 : Index := 0#32
  ![v493.toNat, 0, Nat.mul 2 v494.toNat, 0]
def k0_off46 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v501 : Index := Scalar.indexCast v305
  let c6 : Index := 6#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_452 : BitVec 32 := 8#32
  let v444 : BitVec 32 := Scalar.muli v443 c8_i32_452
  let c0_i32_453 : BitVec 32 := 0#32
  let v445 : BitVec 32 := Scalar.addi v444 c0_i32_453
  let v502 : Index := Scalar.indexCast v445
  let c0_473 : Index := 0#32
  ![v501.toNat, 6, Nat.mul 2 v502.toNat, 0]
def k0_off47 (k0_t3 : Fin k0_t3_loop.trips) (k0_t4 : Fin k0_t4_loop.trips) : Fin 2 → Nat :=
  let c0_483 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_480 : BitVec 32 := 256#32
  let v524 : BitVec 32 := Scalar.muli v304 c256_i32_480
  let c2_i32_481 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_478 : BitVec 32 := 8#32
  let v522 : BitVec 32 := Scalar.muli v443 c8_i32_478
  let c1_i32_479 : BitVec 32 := 1#32
  let v523 : BitVec 32 := Scalar.addi v522 c1_i32_479
  let v525 : BitVec 32 := Scalar.muli c2_i32_481 v523
  let v526 : BitVec 32 := Scalar.addi v524 v525
  let c0_i32_482 : BitVec 32 := 0#32
  let v527 : BitVec 32 := Scalar.addi v526 c0_i32_482
  let v528 : Index := Scalar.indexCast v527
  ![0, v528.toNat]
def k0_mult4 (v529 : BitVec 32) : BitVec 32 :=
  let c8_i32_484 : BitVec 32 := 8#32
  let v530 : BitVec 32 := Scalar.muli v529 c8_i32_484
  v530

def k0_off48 (v529 : BitVec 32) : Fin 3 → Nat :=
  let c8_i32_484 : BitVec 32 := 8#32
  let v530 : BitVec 32 := Scalar.muli v529 c8_i32_484
  let v531 : BitVec 32 := v530
  let v532 : Index := Scalar.indexCast v531
  let c0_485 : Index := 0#32
  ![v532.toNat, 0, 0]
def k0_off49 (v529 : BitVec 32) : Fin 2 → Nat :=
  let v534 : Index := Scalar.indexCast v529
  let c0_486 : Index := 0#32
  ![v534.toNat, 0]

def k0_chk3 (v529 : BitVec 32) : Prop :=
  (8 ∣ (k0_mult4 v529).toNat) ∧
  (∀ a, (k0_off48 v529) a + S8x2x128.size a ≤ S63488x2x128.size a) ∧
  (∀ a, S8x128.size a = 0 ∨ (k0_off49 v529) a + (![0, 1] : Fin 2 → Nat) a * (S8x128.size a - 1) < S7936x128.size a)
theorem k0_mult4_dvd : ∀ (v529 : BitVec 32) (k0_hw3 : k0_chk3 v529), 8 ∣ (k0_mult4 v529).toNat := fun v529 k0_hw3 => k0_hw3.1
theorem k0_off48_inb : ∀ (v529 : BitVec 32) (k0_hw3 : k0_chk3 v529), ∀ a, (k0_off48 v529) a + S8x2x128.size a ≤ S63488x2x128.size a := fun v529 k0_hw3 => k0_hw3.2.1
theorem k0_off49_inb : ∀ (v529 : BitVec 32) (k0_hw3 : k0_chk3 v529), ∀ a, S8x128.size a = 0 ∨ (k0_off49 v529) a + (![0, 1] : Fin 2 → Nat) a * (S8x128.size a - 1) < S7936x128.size a := fun v529 k0_hw3 => k0_hw3.2.2

def k0_off50 (k0_t3 : Fin k0_t3_loop.trips) (k0_t4 : Fin k0_t4_loop.trips) : Fin 2 → Nat :=
  let c0_492 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_489 : BitVec 32 := 256#32
  let v546 : BitVec 32 := Scalar.muli v304 c256_i32_489
  let c2_i32_490 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_478 : BitVec 32 := 8#32
  let v522 : BitVec 32 := Scalar.muli v443 c8_i32_478
  let c1_i32_479 : BitVec 32 := 1#32
  let v523 : BitVec 32 := Scalar.addi v522 c1_i32_479
  let v547 : BitVec 32 := Scalar.muli c2_i32_490 v523
  let v548 : BitVec 32 := Scalar.addi v546 v547
  let c1_i32_491 : BitVec 32 := 1#32
  let v549 : BitVec 32 := Scalar.addi v548 c1_i32_491
  let v550 : Index := Scalar.indexCast v549
  ![0, v550.toNat]
def k0_mult5 (v551 : BitVec 32) : BitVec 32 :=
  let c8_i32_493 : BitVec 32 := 8#32
  let v552 : BitVec 32 := Scalar.muli v551 c8_i32_493
  v552

def k0_off51 (v551 : BitVec 32) : Fin 3 → Nat :=
  let c8_i32_493 : BitVec 32 := 8#32
  let v552 : BitVec 32 := Scalar.muli v551 c8_i32_493
  let v553 : BitVec 32 := v552
  let v554 : Index := Scalar.indexCast v553
  let c0_494 : Index := 0#32
  ![v554.toNat, 0, 0]
def k0_off52 (v551 : BitVec 32) : Fin 2 → Nat :=
  let v556 : Index := Scalar.indexCast v551
  let c0_495 : Index := 0#32
  ![v556.toNat, 0]

def k0_chk4 (v551 : BitVec 32) : Prop :=
  (8 ∣ (k0_mult5 v551).toNat) ∧
  (∀ a, (k0_off51 v551) a + S8x2x128.size a ≤ S63488x2x128.size a) ∧
  (∀ a, S8x128.size a = 0 ∨ (k0_off52 v551) a + (![0, 1] : Fin 2 → Nat) a * (S8x128.size a - 1) < S7936x128.size a)
theorem k0_mult5_dvd : ∀ (v551 : BitVec 32) (k0_hw4 : k0_chk4 v551), 8 ∣ (k0_mult5 v551).toNat := fun v551 k0_hw4 => k0_hw4.1
theorem k0_off51_inb : ∀ (v551 : BitVec 32) (k0_hw4 : k0_chk4 v551), ∀ a, (k0_off51 v551) a + S8x2x128.size a ≤ S63488x2x128.size a := fun v551 k0_hw4 => k0_hw4.2.1
theorem k0_off52_inb : ∀ (v551 : BitVec 32) (k0_hw4 : k0_chk4 v551), ∀ a, S8x128.size a = 0 ∨ (k0_off52 v551) a + (![0, 1] : Fin 2 → Nat) a * (S8x128.size a - 1) < S7936x128.size a := fun v551 k0_hw4 => k0_hw4.2.2

def k0_off53 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v571 : Index := Scalar.indexCast v305
  let c0_498 : Index := 0#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_478 : BitVec 32 := 8#32
  let v522 : BitVec 32 := Scalar.muli v443 c8_i32_478
  let c1_i32_479 : BitVec 32 := 1#32
  let v523 : BitVec 32 := Scalar.addi v522 c1_i32_479
  let v572 : Index := Scalar.indexCast v523
  let c0_499 : Index := 0#32
  ![v571.toNat, 0, Nat.mul 2 v572.toNat, 0]
def k0_off54 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v579 : Index := Scalar.indexCast v305
  let c6_500 : Index := 6#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_478 : BitVec 32 := 8#32
  let v522 : BitVec 32 := Scalar.muli v443 c8_i32_478
  let c1_i32_479 : BitVec 32 := 1#32
  let v523 : BitVec 32 := Scalar.addi v522 c1_i32_479
  let v580 : Index := Scalar.indexCast v523
  let c0_501 : Index := 0#32
  ![v579.toNat, 6, Nat.mul 2 v580.toNat, 0]
def k0_off55 (k0_t3 : Fin k0_t3_loop.trips) (k0_t4 : Fin k0_t4_loop.trips) : Fin 2 → Nat :=
  let c0_511 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_508 : BitVec 32 := 256#32
  let v602 : BitVec 32 := Scalar.muli v304 c256_i32_508
  let c2_i32_509 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_506 : BitVec 32 := 8#32
  let v600 : BitVec 32 := Scalar.muli v443 c8_i32_506
  let c2_i32_507 : BitVec 32 := 2#32
  let v601 : BitVec 32 := Scalar.addi v600 c2_i32_507
  let v603 : BitVec 32 := Scalar.muli c2_i32_509 v601
  let v604 : BitVec 32 := Scalar.addi v602 v603
  let c0_i32_510 : BitVec 32 := 0#32
  let v605 : BitVec 32 := Scalar.addi v604 c0_i32_510
  let v606 : Index := Scalar.indexCast v605
  ![0, v606.toNat]
def k0_mult6 (v607 : BitVec 32) : BitVec 32 :=
  let c8_i32_512 : BitVec 32 := 8#32
  let v608 : BitVec 32 := Scalar.muli v607 c8_i32_512
  v608

def k0_off56 (v607 : BitVec 32) : Fin 3 → Nat :=
  let c8_i32_512 : BitVec 32 := 8#32
  let v608 : BitVec 32 := Scalar.muli v607 c8_i32_512
  let v609 : BitVec 32 := v608
  let v610 : Index := Scalar.indexCast v609
  let c0_513 : Index := 0#32
  ![v610.toNat, 0, 0]
def k0_off57 (v607 : BitVec 32) : Fin 2 → Nat :=
  let v612 : Index := Scalar.indexCast v607
  let c0_514 : Index := 0#32
  ![v612.toNat, 0]

def k0_chk5 (v607 : BitVec 32) : Prop :=
  (8 ∣ (k0_mult6 v607).toNat) ∧
  (∀ a, (k0_off56 v607) a + S8x2x128.size a ≤ S63488x2x128.size a) ∧
  (∀ a, S8x128.size a = 0 ∨ (k0_off57 v607) a + (![0, 1] : Fin 2 → Nat) a * (S8x128.size a - 1) < S7936x128.size a)
theorem k0_mult6_dvd : ∀ (v607 : BitVec 32) (k0_hw5 : k0_chk5 v607), 8 ∣ (k0_mult6 v607).toNat := fun v607 k0_hw5 => k0_hw5.1
theorem k0_off56_inb : ∀ (v607 : BitVec 32) (k0_hw5 : k0_chk5 v607), ∀ a, (k0_off56 v607) a + S8x2x128.size a ≤ S63488x2x128.size a := fun v607 k0_hw5 => k0_hw5.2.1
theorem k0_off57_inb : ∀ (v607 : BitVec 32) (k0_hw5 : k0_chk5 v607), ∀ a, S8x128.size a = 0 ∨ (k0_off57 v607) a + (![0, 1] : Fin 2 → Nat) a * (S8x128.size a - 1) < S7936x128.size a := fun v607 k0_hw5 => k0_hw5.2.2

def k0_off58 (k0_t3 : Fin k0_t3_loop.trips) (k0_t4 : Fin k0_t4_loop.trips) : Fin 2 → Nat :=
  let c0_520 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_517 : BitVec 32 := 256#32
  let v624 : BitVec 32 := Scalar.muli v304 c256_i32_517
  let c2_i32_518 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_506 : BitVec 32 := 8#32
  let v600 : BitVec 32 := Scalar.muli v443 c8_i32_506
  let c2_i32_507 : BitVec 32 := 2#32
  let v601 : BitVec 32 := Scalar.addi v600 c2_i32_507
  let v625 : BitVec 32 := Scalar.muli c2_i32_518 v601
  let v626 : BitVec 32 := Scalar.addi v624 v625
  let c1_i32_519 : BitVec 32 := 1#32
  let v627 : BitVec 32 := Scalar.addi v626 c1_i32_519
  let v628 : Index := Scalar.indexCast v627
  ![0, v628.toNat]
def k0_mult7 (v629 : BitVec 32) : BitVec 32 :=
  let c8_i32_521 : BitVec 32 := 8#32
  let v630 : BitVec 32 := Scalar.muli v629 c8_i32_521
  v630

def k0_off59 (v629 : BitVec 32) : Fin 3 → Nat :=
  let c8_i32_521 : BitVec 32 := 8#32
  let v630 : BitVec 32 := Scalar.muli v629 c8_i32_521
  let v631 : BitVec 32 := v630
  let v632 : Index := Scalar.indexCast v631
  let c0_522 : Index := 0#32
  ![v632.toNat, 0, 0]
def k0_off60 (v629 : BitVec 32) : Fin 2 → Nat :=
  let v634 : Index := Scalar.indexCast v629
  let c0_523 : Index := 0#32
  ![v634.toNat, 0]

def k0_chk6 (v629 : BitVec 32) : Prop :=
  (8 ∣ (k0_mult7 v629).toNat) ∧
  (∀ a, (k0_off59 v629) a + S8x2x128.size a ≤ S63488x2x128.size a) ∧
  (∀ a, S8x128.size a = 0 ∨ (k0_off60 v629) a + (![0, 1] : Fin 2 → Nat) a * (S8x128.size a - 1) < S7936x128.size a)
theorem k0_mult7_dvd : ∀ (v629 : BitVec 32) (k0_hw6 : k0_chk6 v629), 8 ∣ (k0_mult7 v629).toNat := fun v629 k0_hw6 => k0_hw6.1
theorem k0_off59_inb : ∀ (v629 : BitVec 32) (k0_hw6 : k0_chk6 v629), ∀ a, (k0_off59 v629) a + S8x2x128.size a ≤ S63488x2x128.size a := fun v629 k0_hw6 => k0_hw6.2.1
theorem k0_off60_inb : ∀ (v629 : BitVec 32) (k0_hw6 : k0_chk6 v629), ∀ a, S8x128.size a = 0 ∨ (k0_off60 v629) a + (![0, 1] : Fin 2 → Nat) a * (S8x128.size a - 1) < S7936x128.size a := fun v629 k0_hw6 => k0_hw6.2.2

def k0_off61 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v649 : Index := Scalar.indexCast v305
  let c0_526 : Index := 0#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_506 : BitVec 32 := 8#32
  let v600 : BitVec 32 := Scalar.muli v443 c8_i32_506
  let c2_i32_507 : BitVec 32 := 2#32
  let v601 : BitVec 32 := Scalar.addi v600 c2_i32_507
  let v650 : Index := Scalar.indexCast v601
  let c0_527 : Index := 0#32
  ![v649.toNat, 0, Nat.mul 2 v650.toNat, 0]
def k0_off62 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v657 : Index := Scalar.indexCast v305
  let c6_528 : Index := 6#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_506 : BitVec 32 := 8#32
  let v600 : BitVec 32 := Scalar.muli v443 c8_i32_506
  let c2_i32_507 : BitVec 32 := 2#32
  let v601 : BitVec 32 := Scalar.addi v600 c2_i32_507
  let v658 : Index := Scalar.indexCast v601
  let c0_529 : Index := 0#32
  ![v657.toNat, 6, Nat.mul 2 v658.toNat, 0]
def k0_off63 (k0_t3 : Fin k0_t3_loop.trips) (k0_t4 : Fin k0_t4_loop.trips) : Fin 2 → Nat :=
  let c0_539 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_536 : BitVec 32 := 256#32
  let v680 : BitVec 32 := Scalar.muli v304 c256_i32_536
  let c2_i32_537 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_534 : BitVec 32 := 8#32
  let v678 : BitVec 32 := Scalar.muli v443 c8_i32_534
  let c3_i32_535 : BitVec 32 := 3#32
  let v679 : BitVec 32 := Scalar.addi v678 c3_i32_535
  let v681 : BitVec 32 := Scalar.muli c2_i32_537 v679
  let v682 : BitVec 32 := Scalar.addi v680 v681
  let c0_i32_538 : BitVec 32 := 0#32
  let v683 : BitVec 32 := Scalar.addi v682 c0_i32_538
  let v684 : Index := Scalar.indexCast v683
  ![0, v684.toNat]
def k0_mult8 (v685 : BitVec 32) : BitVec 32 :=
  let c8_i32_540 : BitVec 32 := 8#32
  let v686 : BitVec 32 := Scalar.muli v685 c8_i32_540
  v686

def k0_off64 (v685 : BitVec 32) : Fin 3 → Nat :=
  let c8_i32_540 : BitVec 32 := 8#32
  let v686 : BitVec 32 := Scalar.muli v685 c8_i32_540
  let v687 : BitVec 32 := v686
  let v688 : Index := Scalar.indexCast v687
  let c0_541 : Index := 0#32
  ![v688.toNat, 0, 0]
def k0_off65 (v685 : BitVec 32) : Fin 2 → Nat :=
  let v690 : Index := Scalar.indexCast v685
  let c0_542 : Index := 0#32
  ![v690.toNat, 0]

def k0_chk7 (v685 : BitVec 32) : Prop :=
  (8 ∣ (k0_mult8 v685).toNat) ∧
  (∀ a, (k0_off64 v685) a + S8x2x128.size a ≤ S63488x2x128.size a) ∧
  (∀ a, S8x128.size a = 0 ∨ (k0_off65 v685) a + (![0, 1] : Fin 2 → Nat) a * (S8x128.size a - 1) < S7936x128.size a)
theorem k0_mult8_dvd : ∀ (v685 : BitVec 32) (k0_hw7 : k0_chk7 v685), 8 ∣ (k0_mult8 v685).toNat := fun v685 k0_hw7 => k0_hw7.1
theorem k0_off64_inb : ∀ (v685 : BitVec 32) (k0_hw7 : k0_chk7 v685), ∀ a, (k0_off64 v685) a + S8x2x128.size a ≤ S63488x2x128.size a := fun v685 k0_hw7 => k0_hw7.2.1
theorem k0_off65_inb : ∀ (v685 : BitVec 32) (k0_hw7 : k0_chk7 v685), ∀ a, S8x128.size a = 0 ∨ (k0_off65 v685) a + (![0, 1] : Fin 2 → Nat) a * (S8x128.size a - 1) < S7936x128.size a := fun v685 k0_hw7 => k0_hw7.2.2

def k0_off66 (k0_t3 : Fin k0_t3_loop.trips) (k0_t4 : Fin k0_t4_loop.trips) : Fin 2 → Nat :=
  let c0_548 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_545 : BitVec 32 := 256#32
  let v702 : BitVec 32 := Scalar.muli v304 c256_i32_545
  let c2_i32_546 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_534 : BitVec 32 := 8#32
  let v678 : BitVec 32 := Scalar.muli v443 c8_i32_534
  let c3_i32_535 : BitVec 32 := 3#32
  let v679 : BitVec 32 := Scalar.addi v678 c3_i32_535
  let v703 : BitVec 32 := Scalar.muli c2_i32_546 v679
  let v704 : BitVec 32 := Scalar.addi v702 v703
  let c1_i32_547 : BitVec 32 := 1#32
  let v705 : BitVec 32 := Scalar.addi v704 c1_i32_547
  let v706 : Index := Scalar.indexCast v705
  ![0, v706.toNat]
def k0_mult9 (v707 : BitVec 32) : BitVec 32 :=
  let c8_i32_549 : BitVec 32 := 8#32
  let v708 : BitVec 32 := Scalar.muli v707 c8_i32_549
  v708

def k0_off67 (v707 : BitVec 32) : Fin 3 → Nat :=
  let c8_i32_549 : BitVec 32 := 8#32
  let v708 : BitVec 32 := Scalar.muli v707 c8_i32_549
  let v709 : BitVec 32 := v708
  let v710 : Index := Scalar.indexCast v709
  let c0_550 : Index := 0#32
  ![v710.toNat, 0, 0]
def k0_off68 (v707 : BitVec 32) : Fin 2 → Nat :=
  let v712 : Index := Scalar.indexCast v707
  let c0_551 : Index := 0#32
  ![v712.toNat, 0]

def k0_chk8 (v707 : BitVec 32) : Prop :=
  (8 ∣ (k0_mult9 v707).toNat) ∧
  (∀ a, (k0_off67 v707) a + S8x2x128.size a ≤ S63488x2x128.size a) ∧
  (∀ a, S8x128.size a = 0 ∨ (k0_off68 v707) a + (![0, 1] : Fin 2 → Nat) a * (S8x128.size a - 1) < S7936x128.size a)
theorem k0_mult9_dvd : ∀ (v707 : BitVec 32) (k0_hw8 : k0_chk8 v707), 8 ∣ (k0_mult9 v707).toNat := fun v707 k0_hw8 => k0_hw8.1
theorem k0_off67_inb : ∀ (v707 : BitVec 32) (k0_hw8 : k0_chk8 v707), ∀ a, (k0_off67 v707) a + S8x2x128.size a ≤ S63488x2x128.size a := fun v707 k0_hw8 => k0_hw8.2.1
theorem k0_off68_inb : ∀ (v707 : BitVec 32) (k0_hw8 : k0_chk8 v707), ∀ a, S8x128.size a = 0 ∨ (k0_off68 v707) a + (![0, 1] : Fin 2 → Nat) a * (S8x128.size a - 1) < S7936x128.size a := fun v707 k0_hw8 => k0_hw8.2.2

def k0_off69 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v727 : Index := Scalar.indexCast v305
  let c0_554 : Index := 0#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_534 : BitVec 32 := 8#32
  let v678 : BitVec 32 := Scalar.muli v443 c8_i32_534
  let c3_i32_535 : BitVec 32 := 3#32
  let v679 : BitVec 32 := Scalar.addi v678 c3_i32_535
  let v728 : Index := Scalar.indexCast v679
  let c0_555 : Index := 0#32
  ![v727.toNat, 0, Nat.mul 2 v728.toNat, 0]
def k0_off70 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v735 : Index := Scalar.indexCast v305
  let c6_556 : Index := 6#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_534 : BitVec 32 := 8#32
  let v678 : BitVec 32 := Scalar.muli v443 c8_i32_534
  let c3_i32_535 : BitVec 32 := 3#32
  let v679 : BitVec 32 := Scalar.addi v678 c3_i32_535
  let v736 : Index := Scalar.indexCast v679
  let c0_557 : Index := 0#32
  ![v735.toNat, 6, Nat.mul 2 v736.toNat, 0]
def k0_off71 (k0_t3 : Fin k0_t3_loop.trips) (k0_t4 : Fin k0_t4_loop.trips) : Fin 2 → Nat :=
  let c0_567 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_564 : BitVec 32 := 256#32
  let v758 : BitVec 32 := Scalar.muli v304 c256_i32_564
  let c2_i32_565 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_562 : BitVec 32 := 8#32
  let v756 : BitVec 32 := Scalar.muli v443 c8_i32_562
  let c4_i32_563 : BitVec 32 := 4#32
  let v757 : BitVec 32 := Scalar.addi v756 c4_i32_563
  let v759 : BitVec 32 := Scalar.muli c2_i32_565 v757
  let v760 : BitVec 32 := Scalar.addi v758 v759
  let c0_i32_566 : BitVec 32 := 0#32
  let v761 : BitVec 32 := Scalar.addi v760 c0_i32_566
  let v762 : Index := Scalar.indexCast v761
  ![0, v762.toNat]
def k0_mult10 (v763 : BitVec 32) : BitVec 32 :=
  let c8_i32_568 : BitVec 32 := 8#32
  let v764 : BitVec 32 := Scalar.muli v763 c8_i32_568
  v764

def k0_off72 (v763 : BitVec 32) : Fin 3 → Nat :=
  let c8_i32_568 : BitVec 32 := 8#32
  let v764 : BitVec 32 := Scalar.muli v763 c8_i32_568
  let v765 : BitVec 32 := v764
  let v766 : Index := Scalar.indexCast v765
  let c0_569 : Index := 0#32
  ![v766.toNat, 0, 0]
def k0_off73 (v763 : BitVec 32) : Fin 2 → Nat :=
  let v768 : Index := Scalar.indexCast v763
  let c0_570 : Index := 0#32
  ![v768.toNat, 0]

def k0_chk9 (v763 : BitVec 32) : Prop :=
  (8 ∣ (k0_mult10 v763).toNat) ∧
  (∀ a, (k0_off72 v763) a + S8x2x128.size a ≤ S63488x2x128.size a) ∧
  (∀ a, S8x128.size a = 0 ∨ (k0_off73 v763) a + (![0, 1] : Fin 2 → Nat) a * (S8x128.size a - 1) < S7936x128.size a)
theorem k0_mult10_dvd : ∀ (v763 : BitVec 32) (k0_hw9 : k0_chk9 v763), 8 ∣ (k0_mult10 v763).toNat := fun v763 k0_hw9 => k0_hw9.1
theorem k0_off72_inb : ∀ (v763 : BitVec 32) (k0_hw9 : k0_chk9 v763), ∀ a, (k0_off72 v763) a + S8x2x128.size a ≤ S63488x2x128.size a := fun v763 k0_hw9 => k0_hw9.2.1
theorem k0_off73_inb : ∀ (v763 : BitVec 32) (k0_hw9 : k0_chk9 v763), ∀ a, S8x128.size a = 0 ∨ (k0_off73 v763) a + (![0, 1] : Fin 2 → Nat) a * (S8x128.size a - 1) < S7936x128.size a := fun v763 k0_hw9 => k0_hw9.2.2

def k0_off74 (k0_t3 : Fin k0_t3_loop.trips) (k0_t4 : Fin k0_t4_loop.trips) : Fin 2 → Nat :=
  let c0_576 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_573 : BitVec 32 := 256#32
  let v780 : BitVec 32 := Scalar.muli v304 c256_i32_573
  let c2_i32_574 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_562 : BitVec 32 := 8#32
  let v756 : BitVec 32 := Scalar.muli v443 c8_i32_562
  let c4_i32_563 : BitVec 32 := 4#32
  let v757 : BitVec 32 := Scalar.addi v756 c4_i32_563
  let v781 : BitVec 32 := Scalar.muli c2_i32_574 v757
  let v782 : BitVec 32 := Scalar.addi v780 v781
  let c1_i32_575 : BitVec 32 := 1#32
  let v783 : BitVec 32 := Scalar.addi v782 c1_i32_575
  let v784 : Index := Scalar.indexCast v783
  ![0, v784.toNat]
def k0_mult11 (v785 : BitVec 32) : BitVec 32 :=
  let c8_i32_577 : BitVec 32 := 8#32
  let v786 : BitVec 32 := Scalar.muli v785 c8_i32_577
  v786

def k0_off75 (v785 : BitVec 32) : Fin 3 → Nat :=
  let c8_i32_577 : BitVec 32 := 8#32
  let v786 : BitVec 32 := Scalar.muli v785 c8_i32_577
  let v787 : BitVec 32 := v786
  let v788 : Index := Scalar.indexCast v787
  let c0_578 : Index := 0#32
  ![v788.toNat, 0, 0]
def k0_off76 (v785 : BitVec 32) : Fin 2 → Nat :=
  let v790 : Index := Scalar.indexCast v785
  let c0_579 : Index := 0#32
  ![v790.toNat, 0]

def k0_chk10 (v785 : BitVec 32) : Prop :=
  (8 ∣ (k0_mult11 v785).toNat) ∧
  (∀ a, (k0_off75 v785) a + S8x2x128.size a ≤ S63488x2x128.size a) ∧
  (∀ a, S8x128.size a = 0 ∨ (k0_off76 v785) a + (![0, 1] : Fin 2 → Nat) a * (S8x128.size a - 1) < S7936x128.size a)
theorem k0_mult11_dvd : ∀ (v785 : BitVec 32) (k0_hw10 : k0_chk10 v785), 8 ∣ (k0_mult11 v785).toNat := fun v785 k0_hw10 => k0_hw10.1
theorem k0_off75_inb : ∀ (v785 : BitVec 32) (k0_hw10 : k0_chk10 v785), ∀ a, (k0_off75 v785) a + S8x2x128.size a ≤ S63488x2x128.size a := fun v785 k0_hw10 => k0_hw10.2.1
theorem k0_off76_inb : ∀ (v785 : BitVec 32) (k0_hw10 : k0_chk10 v785), ∀ a, S8x128.size a = 0 ∨ (k0_off76 v785) a + (![0, 1] : Fin 2 → Nat) a * (S8x128.size a - 1) < S7936x128.size a := fun v785 k0_hw10 => k0_hw10.2.2

def k0_off77 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v805 : Index := Scalar.indexCast v305
  let c0_582 : Index := 0#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_562 : BitVec 32 := 8#32
  let v756 : BitVec 32 := Scalar.muli v443 c8_i32_562
  let c4_i32_563 : BitVec 32 := 4#32
  let v757 : BitVec 32 := Scalar.addi v756 c4_i32_563
  let v806 : Index := Scalar.indexCast v757
  let c0_583 : Index := 0#32
  ![v805.toNat, 0, Nat.mul 2 v806.toNat, 0]
def k0_off78 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v813 : Index := Scalar.indexCast v305
  let c6_584 : Index := 6#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_562 : BitVec 32 := 8#32
  let v756 : BitVec 32 := Scalar.muli v443 c8_i32_562
  let c4_i32_563 : BitVec 32 := 4#32
  let v757 : BitVec 32 := Scalar.addi v756 c4_i32_563
  let v814 : Index := Scalar.indexCast v757
  let c0_585 : Index := 0#32
  ![v813.toNat, 6, Nat.mul 2 v814.toNat, 0]
def k0_off79 (k0_t3 : Fin k0_t3_loop.trips) (k0_t4 : Fin k0_t4_loop.trips) : Fin 2 → Nat :=
  let c0_595 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_592 : BitVec 32 := 256#32
  let v836 : BitVec 32 := Scalar.muli v304 c256_i32_592
  let c2_i32_593 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_590 : BitVec 32 := 8#32
  let v834 : BitVec 32 := Scalar.muli v443 c8_i32_590
  let c5_i32_591 : BitVec 32 := 5#32
  let v835 : BitVec 32 := Scalar.addi v834 c5_i32_591
  let v837 : BitVec 32 := Scalar.muli c2_i32_593 v835
  let v838 : BitVec 32 := Scalar.addi v836 v837
  let c0_i32_594 : BitVec 32 := 0#32
  let v839 : BitVec 32 := Scalar.addi v838 c0_i32_594
  let v840 : Index := Scalar.indexCast v839
  ![0, v840.toNat]
def k0_mult12 (v841 : BitVec 32) : BitVec 32 :=
  let c8_i32_596 : BitVec 32 := 8#32
  let v842 : BitVec 32 := Scalar.muli v841 c8_i32_596
  v842

def k0_off80 (v841 : BitVec 32) : Fin 3 → Nat :=
  let c8_i32_596 : BitVec 32 := 8#32
  let v842 : BitVec 32 := Scalar.muli v841 c8_i32_596
  let v843 : BitVec 32 := v842
  let v844 : Index := Scalar.indexCast v843
  let c0_597 : Index := 0#32
  ![v844.toNat, 0, 0]
def k0_off81 (v841 : BitVec 32) : Fin 2 → Nat :=
  let v846 : Index := Scalar.indexCast v841
  let c0_598 : Index := 0#32
  ![v846.toNat, 0]

def k0_chk11 (v841 : BitVec 32) : Prop :=
  (8 ∣ (k0_mult12 v841).toNat) ∧
  (∀ a, (k0_off80 v841) a + S8x2x128.size a ≤ S63488x2x128.size a) ∧
  (∀ a, S8x128.size a = 0 ∨ (k0_off81 v841) a + (![0, 1] : Fin 2 → Nat) a * (S8x128.size a - 1) < S7936x128.size a)
theorem k0_mult12_dvd : ∀ (v841 : BitVec 32) (k0_hw11 : k0_chk11 v841), 8 ∣ (k0_mult12 v841).toNat := fun v841 k0_hw11 => k0_hw11.1
theorem k0_off80_inb : ∀ (v841 : BitVec 32) (k0_hw11 : k0_chk11 v841), ∀ a, (k0_off80 v841) a + S8x2x128.size a ≤ S63488x2x128.size a := fun v841 k0_hw11 => k0_hw11.2.1
theorem k0_off81_inb : ∀ (v841 : BitVec 32) (k0_hw11 : k0_chk11 v841), ∀ a, S8x128.size a = 0 ∨ (k0_off81 v841) a + (![0, 1] : Fin 2 → Nat) a * (S8x128.size a - 1) < S7936x128.size a := fun v841 k0_hw11 => k0_hw11.2.2

def k0_off82 (k0_t3 : Fin k0_t3_loop.trips) (k0_t4 : Fin k0_t4_loop.trips) : Fin 2 → Nat :=
  let c0_604 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_601 : BitVec 32 := 256#32
  let v858 : BitVec 32 := Scalar.muli v304 c256_i32_601
  let c2_i32_602 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_590 : BitVec 32 := 8#32
  let v834 : BitVec 32 := Scalar.muli v443 c8_i32_590
  let c5_i32_591 : BitVec 32 := 5#32
  let v835 : BitVec 32 := Scalar.addi v834 c5_i32_591
  let v859 : BitVec 32 := Scalar.muli c2_i32_602 v835
  let v860 : BitVec 32 := Scalar.addi v858 v859
  let c1_i32_603 : BitVec 32 := 1#32
  let v861 : BitVec 32 := Scalar.addi v860 c1_i32_603
  let v862 : Index := Scalar.indexCast v861
  ![0, v862.toNat]
def k0_mult13 (v863 : BitVec 32) : BitVec 32 :=
  let c8_i32_605 : BitVec 32 := 8#32
  let v864 : BitVec 32 := Scalar.muli v863 c8_i32_605
  v864

def k0_off83 (v863 : BitVec 32) : Fin 3 → Nat :=
  let c8_i32_605 : BitVec 32 := 8#32
  let v864 : BitVec 32 := Scalar.muli v863 c8_i32_605
  let v865 : BitVec 32 := v864
  let v866 : Index := Scalar.indexCast v865
  let c0_606 : Index := 0#32
  ![v866.toNat, 0, 0]
def k0_off84 (v863 : BitVec 32) : Fin 2 → Nat :=
  let v868 : Index := Scalar.indexCast v863
  let c0_607 : Index := 0#32
  ![v868.toNat, 0]

def k0_chk12 (v863 : BitVec 32) : Prop :=
  (8 ∣ (k0_mult13 v863).toNat) ∧
  (∀ a, (k0_off83 v863) a + S8x2x128.size a ≤ S63488x2x128.size a) ∧
  (∀ a, S8x128.size a = 0 ∨ (k0_off84 v863) a + (![0, 1] : Fin 2 → Nat) a * (S8x128.size a - 1) < S7936x128.size a)
theorem k0_mult13_dvd : ∀ (v863 : BitVec 32) (k0_hw12 : k0_chk12 v863), 8 ∣ (k0_mult13 v863).toNat := fun v863 k0_hw12 => k0_hw12.1
theorem k0_off83_inb : ∀ (v863 : BitVec 32) (k0_hw12 : k0_chk12 v863), ∀ a, (k0_off83 v863) a + S8x2x128.size a ≤ S63488x2x128.size a := fun v863 k0_hw12 => k0_hw12.2.1
theorem k0_off84_inb : ∀ (v863 : BitVec 32) (k0_hw12 : k0_chk12 v863), ∀ a, S8x128.size a = 0 ∨ (k0_off84 v863) a + (![0, 1] : Fin 2 → Nat) a * (S8x128.size a - 1) < S7936x128.size a := fun v863 k0_hw12 => k0_hw12.2.2

def k0_off85 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v883 : Index := Scalar.indexCast v305
  let c0_610 : Index := 0#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_590 : BitVec 32 := 8#32
  let v834 : BitVec 32 := Scalar.muli v443 c8_i32_590
  let c5_i32_591 : BitVec 32 := 5#32
  let v835 : BitVec 32 := Scalar.addi v834 c5_i32_591
  let v884 : Index := Scalar.indexCast v835
  let c0_611 : Index := 0#32
  ![v883.toNat, 0, Nat.mul 2 v884.toNat, 0]
def k0_off86 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v891 : Index := Scalar.indexCast v305
  let c6_612 : Index := 6#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_590 : BitVec 32 := 8#32
  let v834 : BitVec 32 := Scalar.muli v443 c8_i32_590
  let c5_i32_591 : BitVec 32 := 5#32
  let v835 : BitVec 32 := Scalar.addi v834 c5_i32_591
  let v892 : Index := Scalar.indexCast v835
  let c0_613 : Index := 0#32
  ![v891.toNat, 6, Nat.mul 2 v892.toNat, 0]
def k0_off87 (k0_t3 : Fin k0_t3_loop.trips) (k0_t4 : Fin k0_t4_loop.trips) : Fin 2 → Nat :=
  let c0_623 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_620 : BitVec 32 := 256#32
  let v914 : BitVec 32 := Scalar.muli v304 c256_i32_620
  let c2_i32_621 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_618 : BitVec 32 := 8#32
  let v912 : BitVec 32 := Scalar.muli v443 c8_i32_618
  let c6_i32_619 : BitVec 32 := 6#32
  let v913 : BitVec 32 := Scalar.addi v912 c6_i32_619
  let v915 : BitVec 32 := Scalar.muli c2_i32_621 v913
  let v916 : BitVec 32 := Scalar.addi v914 v915
  let c0_i32_622 : BitVec 32 := 0#32
  let v917 : BitVec 32 := Scalar.addi v916 c0_i32_622
  let v918 : Index := Scalar.indexCast v917
  ![0, v918.toNat]
def k0_mult14 (v919 : BitVec 32) : BitVec 32 :=
  let c8_i32_624 : BitVec 32 := 8#32
  let v920 : BitVec 32 := Scalar.muli v919 c8_i32_624
  v920

def k0_off88 (v919 : BitVec 32) : Fin 3 → Nat :=
  let c8_i32_624 : BitVec 32 := 8#32
  let v920 : BitVec 32 := Scalar.muli v919 c8_i32_624
  let v921 : BitVec 32 := v920
  let v922 : Index := Scalar.indexCast v921
  let c0_625 : Index := 0#32
  ![v922.toNat, 0, 0]
def k0_off89 (v919 : BitVec 32) : Fin 2 → Nat :=
  let v924 : Index := Scalar.indexCast v919
  let c0_626 : Index := 0#32
  ![v924.toNat, 0]

def k0_chk13 (v919 : BitVec 32) : Prop :=
  (8 ∣ (k0_mult14 v919).toNat) ∧
  (∀ a, (k0_off88 v919) a + S8x2x128.size a ≤ S63488x2x128.size a) ∧
  (∀ a, S8x128.size a = 0 ∨ (k0_off89 v919) a + (![0, 1] : Fin 2 → Nat) a * (S8x128.size a - 1) < S7936x128.size a)
theorem k0_mult14_dvd : ∀ (v919 : BitVec 32) (k0_hw13 : k0_chk13 v919), 8 ∣ (k0_mult14 v919).toNat := fun v919 k0_hw13 => k0_hw13.1
theorem k0_off88_inb : ∀ (v919 : BitVec 32) (k0_hw13 : k0_chk13 v919), ∀ a, (k0_off88 v919) a + S8x2x128.size a ≤ S63488x2x128.size a := fun v919 k0_hw13 => k0_hw13.2.1
theorem k0_off89_inb : ∀ (v919 : BitVec 32) (k0_hw13 : k0_chk13 v919), ∀ a, S8x128.size a = 0 ∨ (k0_off89 v919) a + (![0, 1] : Fin 2 → Nat) a * (S8x128.size a - 1) < S7936x128.size a := fun v919 k0_hw13 => k0_hw13.2.2

def k0_off90 (k0_t3 : Fin k0_t3_loop.trips) (k0_t4 : Fin k0_t4_loop.trips) : Fin 2 → Nat :=
  let c0_632 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_629 : BitVec 32 := 256#32
  let v936 : BitVec 32 := Scalar.muli v304 c256_i32_629
  let c2_i32_630 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_618 : BitVec 32 := 8#32
  let v912 : BitVec 32 := Scalar.muli v443 c8_i32_618
  let c6_i32_619 : BitVec 32 := 6#32
  let v913 : BitVec 32 := Scalar.addi v912 c6_i32_619
  let v937 : BitVec 32 := Scalar.muli c2_i32_630 v913
  let v938 : BitVec 32 := Scalar.addi v936 v937
  let c1_i32_631 : BitVec 32 := 1#32
  let v939 : BitVec 32 := Scalar.addi v938 c1_i32_631
  let v940 : Index := Scalar.indexCast v939
  ![0, v940.toNat]
def k0_mult15 (v941 : BitVec 32) : BitVec 32 :=
  let c8_i32_633 : BitVec 32 := 8#32
  let v942 : BitVec 32 := Scalar.muli v941 c8_i32_633
  v942

def k0_off91 (v941 : BitVec 32) : Fin 3 → Nat :=
  let c8_i32_633 : BitVec 32 := 8#32
  let v942 : BitVec 32 := Scalar.muli v941 c8_i32_633
  let v943 : BitVec 32 := v942
  let v944 : Index := Scalar.indexCast v943
  let c0_634 : Index := 0#32
  ![v944.toNat, 0, 0]
def k0_off92 (v941 : BitVec 32) : Fin 2 → Nat :=
  let v946 : Index := Scalar.indexCast v941
  let c0_635 : Index := 0#32
  ![v946.toNat, 0]

def k0_chk14 (v941 : BitVec 32) : Prop :=
  (8 ∣ (k0_mult15 v941).toNat) ∧
  (∀ a, (k0_off91 v941) a + S8x2x128.size a ≤ S63488x2x128.size a) ∧
  (∀ a, S8x128.size a = 0 ∨ (k0_off92 v941) a + (![0, 1] : Fin 2 → Nat) a * (S8x128.size a - 1) < S7936x128.size a)
theorem k0_mult15_dvd : ∀ (v941 : BitVec 32) (k0_hw14 : k0_chk14 v941), 8 ∣ (k0_mult15 v941).toNat := fun v941 k0_hw14 => k0_hw14.1
theorem k0_off91_inb : ∀ (v941 : BitVec 32) (k0_hw14 : k0_chk14 v941), ∀ a, (k0_off91 v941) a + S8x2x128.size a ≤ S63488x2x128.size a := fun v941 k0_hw14 => k0_hw14.2.1
theorem k0_off92_inb : ∀ (v941 : BitVec 32) (k0_hw14 : k0_chk14 v941), ∀ a, S8x128.size a = 0 ∨ (k0_off92 v941) a + (![0, 1] : Fin 2 → Nat) a * (S8x128.size a - 1) < S7936x128.size a := fun v941 k0_hw14 => k0_hw14.2.2

def k0_off93 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v961 : Index := Scalar.indexCast v305
  let c0_638 : Index := 0#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_618 : BitVec 32 := 8#32
  let v912 : BitVec 32 := Scalar.muli v443 c8_i32_618
  let c6_i32_619 : BitVec 32 := 6#32
  let v913 : BitVec 32 := Scalar.addi v912 c6_i32_619
  let v962 : Index := Scalar.indexCast v913
  let c0_639 : Index := 0#32
  ![v961.toNat, 0, Nat.mul 2 v962.toNat, 0]
def k0_off94 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v969 : Index := Scalar.indexCast v305
  let c6_640 : Index := 6#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_618 : BitVec 32 := 8#32
  let v912 : BitVec 32 := Scalar.muli v443 c8_i32_618
  let c6_i32_619 : BitVec 32 := 6#32
  let v913 : BitVec 32 := Scalar.addi v912 c6_i32_619
  let v970 : Index := Scalar.indexCast v913
  let c0_641 : Index := 0#32
  ![v969.toNat, 6, Nat.mul 2 v970.toNat, 0]
def k0_off95 (k0_t3 : Fin k0_t3_loop.trips) (k0_t4 : Fin k0_t4_loop.trips) : Fin 2 → Nat :=
  let c0_651 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_648 : BitVec 32 := 256#32
  let v992 : BitVec 32 := Scalar.muli v304 c256_i32_648
  let c2_i32_649 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_646 : BitVec 32 := 8#32
  let v990 : BitVec 32 := Scalar.muli v443 c8_i32_646
  let c7_i32_647 : BitVec 32 := 7#32
  let v991 : BitVec 32 := Scalar.addi v990 c7_i32_647
  let v993 : BitVec 32 := Scalar.muli c2_i32_649 v991
  let v994 : BitVec 32 := Scalar.addi v992 v993
  let c0_i32_650 : BitVec 32 := 0#32
  let v995 : BitVec 32 := Scalar.addi v994 c0_i32_650
  let v996 : Index := Scalar.indexCast v995
  ![0, v996.toNat]
def k0_mult16 (v997 : BitVec 32) : BitVec 32 :=
  let c8_i32_652 : BitVec 32 := 8#32
  let v998 : BitVec 32 := Scalar.muli v997 c8_i32_652
  v998

def k0_off96 (v997 : BitVec 32) : Fin 3 → Nat :=
  let c8_i32_652 : BitVec 32 := 8#32
  let v998 : BitVec 32 := Scalar.muli v997 c8_i32_652
  let v999 : BitVec 32 := v998
  let v1000 : Index := Scalar.indexCast v999
  let c0_653 : Index := 0#32
  ![v1000.toNat, 0, 0]
def k0_off97 (v997 : BitVec 32) : Fin 2 → Nat :=
  let v1002 : Index := Scalar.indexCast v997
  let c0_654 : Index := 0#32
  ![v1002.toNat, 0]

def k0_chk15 (v997 : BitVec 32) : Prop :=
  (8 ∣ (k0_mult16 v997).toNat) ∧
  (∀ a, (k0_off96 v997) a + S8x2x128.size a ≤ S63488x2x128.size a) ∧
  (∀ a, S8x128.size a = 0 ∨ (k0_off97 v997) a + (![0, 1] : Fin 2 → Nat) a * (S8x128.size a - 1) < S7936x128.size a)
theorem k0_mult16_dvd : ∀ (v997 : BitVec 32) (k0_hw15 : k0_chk15 v997), 8 ∣ (k0_mult16 v997).toNat := fun v997 k0_hw15 => k0_hw15.1
theorem k0_off96_inb : ∀ (v997 : BitVec 32) (k0_hw15 : k0_chk15 v997), ∀ a, (k0_off96 v997) a + S8x2x128.size a ≤ S63488x2x128.size a := fun v997 k0_hw15 => k0_hw15.2.1
theorem k0_off97_inb : ∀ (v997 : BitVec 32) (k0_hw15 : k0_chk15 v997), ∀ a, S8x128.size a = 0 ∨ (k0_off97 v997) a + (![0, 1] : Fin 2 → Nat) a * (S8x128.size a - 1) < S7936x128.size a := fun v997 k0_hw15 => k0_hw15.2.2

def k0_off98 (k0_t3 : Fin k0_t3_loop.trips) (k0_t4 : Fin k0_t4_loop.trips) : Fin 2 → Nat :=
  let c0_660 : Index := 0#32
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_657 : BitVec 32 := 256#32
  let v1014 : BitVec 32 := Scalar.muli v304 c256_i32_657
  let c2_i32_658 : BitVec 32 := 2#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_646 : BitVec 32 := 8#32
  let v990 : BitVec 32 := Scalar.muli v443 c8_i32_646
  let c7_i32_647 : BitVec 32 := 7#32
  let v991 : BitVec 32 := Scalar.addi v990 c7_i32_647
  let v1015 : BitVec 32 := Scalar.muli c2_i32_658 v991
  let v1016 : BitVec 32 := Scalar.addi v1014 v1015
  let c1_i32_659 : BitVec 32 := 1#32
  let v1017 : BitVec 32 := Scalar.addi v1016 c1_i32_659
  let v1018 : Index := Scalar.indexCast v1017
  ![0, v1018.toNat]
def k0_mult17 (v1019 : BitVec 32) : BitVec 32 :=
  let c8_i32_661 : BitVec 32 := 8#32
  let v1020 : BitVec 32 := Scalar.muli v1019 c8_i32_661
  v1020

def k0_off99 (v1019 : BitVec 32) : Fin 3 → Nat :=
  let c8_i32_661 : BitVec 32 := 8#32
  let v1020 : BitVec 32 := Scalar.muli v1019 c8_i32_661
  let v1021 : BitVec 32 := v1020
  let v1022 : Index := Scalar.indexCast v1021
  let c0_662 : Index := 0#32
  ![v1022.toNat, 0, 0]
def k0_off100 (v1019 : BitVec 32) : Fin 2 → Nat :=
  let v1024 : Index := Scalar.indexCast v1019
  let c0_663 : Index := 0#32
  ![v1024.toNat, 0]

def k0_chk16 (v1019 : BitVec 32) : Prop :=
  (8 ∣ (k0_mult17 v1019).toNat) ∧
  (∀ a, (k0_off99 v1019) a + S8x2x128.size a ≤ S63488x2x128.size a) ∧
  (∀ a, S8x128.size a = 0 ∨ (k0_off100 v1019) a + (![0, 1] : Fin 2 → Nat) a * (S8x128.size a - 1) < S7936x128.size a)
theorem k0_mult17_dvd : ∀ (v1019 : BitVec 32) (k0_hw16 : k0_chk16 v1019), 8 ∣ (k0_mult17 v1019).toNat := fun v1019 k0_hw16 => k0_hw16.1
theorem k0_off99_inb : ∀ (v1019 : BitVec 32) (k0_hw16 : k0_chk16 v1019), ∀ a, (k0_off99 v1019) a + S8x2x128.size a ≤ S63488x2x128.size a := fun v1019 k0_hw16 => k0_hw16.2.1
theorem k0_off100_inb : ∀ (v1019 : BitVec 32) (k0_hw16 : k0_chk16 v1019), ∀ a, S8x128.size a = 0 ∨ (k0_off100 v1019) a + (![0, 1] : Fin 2 → Nat) a * (S8x128.size a - 1) < S7936x128.size a := fun v1019 k0_hw16 => k0_hw16.2.2

def k0_off101 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v1039 : Index := Scalar.indexCast v305
  let c0_666 : Index := 0#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_646 : BitVec 32 := 8#32
  let v990 : BitVec 32 := Scalar.muli v443 c8_i32_646
  let c7_i32_647 : BitVec 32 := 7#32
  let v991 : BitVec 32 := Scalar.addi v990 c7_i32_647
  let v1040 : Index := Scalar.indexCast v991
  let c0_667 : Index := 0#32
  ![v1039.toNat, 0, Nat.mul 2 v1040.toNat, 0]
def k0_off102 (k0_t3 : Fin k0_t3_loop.trips) (k0_t4 : Fin k0_t4_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let v1047 : Index := Scalar.indexCast v305
  let c6_668 : Index := 6#32
  let c0_i32_451 : BitVec 32 := 0#32
  let c0_i32_337 : BitVec 32 := 0#32
  let c1_i32_338 : BitVec 32 := 1#32
  let arg16 : BitVec 32 := Scf.iv c0_i32_337 c1_i32_338 k0_t4
  let c1_i32_450 : BitVec 32 := 1#32
  let v442 : BitVec 32 := Scalar.muli arg16 c1_i32_450
  let v443 : BitVec 32 := Scalar.addi c0_i32_451 v442
  let c8_i32_646 : BitVec 32 := 8#32
  let v990 : BitVec 32 := Scalar.muli v443 c8_i32_646
  let c7_i32_647 : BitVec 32 := 7#32
  let v991 : BitVec 32 := Scalar.addi v990 c7_i32_647
  let v1048 : Index := Scalar.indexCast v991
  let c0_669 : Index := 0#32
  ![v1047.toNat, 6, Nat.mul 2 v1048.toNat, 0]
def k0_off103 (k0_t3 : Fin k0_t3_loop.trips) : Fin 1 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  ![v305.toNat]
def k0_off104 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_340 : BitVec 32 := 256#32
  let v310 : BitVec 32 := Scalar.muli v304 c256_i32_340
  let c0_i32_342 : BitVec 32 := 0#32
  ![v310.toNat, 0]
def k0_off105 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c0_i32_341 : BitVec 32 := 0#32
  let c0_i32_343 : BitVec 32 := 0#32
  let c0_i32_344 : BitVec 32 := 0#32
  ![v305.toNat, 0, 0, 0]
def k0_off106 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_350 : BitVec 32 := 256#32
  let v322 : BitVec 32 := Scalar.muli v304 c256_i32_350
  let c128_i32_352 : BitVec 32 := 128#32
  ![v322.toNat, 128]
def k0_off107 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c6_i32_351 : BitVec 32 := 6#32
  let c0_i32_353 : BitVec 32 := 0#32
  let c0_i32_354 : BitVec 32 := 0#32
  ![v305.toNat, 6, 0, 0]
def k0_off108 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_360 : BitVec 32 := 256#32
  let v334 : BitVec 32 := Scalar.muli v304 c256_i32_360
  let c256_i32_362 : BitVec 32 := 256#32
  ![v334.toNat, 256]
def k0_off109 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c1_i32_361 : BitVec 32 := 1#32
  let c0_i32_363 : BitVec 32 := 0#32
  let c0_i32_364 : BitVec 32 := 0#32
  ![v305.toNat, 1, 0, 0]
def k0_off110 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_370 : BitVec 32 := 256#32
  let v346 : BitVec 32 := Scalar.muli v304 c256_i32_370
  let c384_i32_372 : BitVec 32 := 384#32
  ![v346.toNat, 384]
def k0_off111 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c7_i32_371 : BitVec 32 := 7#32
  let c0_i32_373 : BitVec 32 := 0#32
  let c0_i32_374 : BitVec 32 := 0#32
  ![v305.toNat, 7, 0, 0]
def k0_off112 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_380 : BitVec 32 := 256#32
  let v358 : BitVec 32 := Scalar.muli v304 c256_i32_380
  let c512_i32_382 : BitVec 32 := 512#32
  ![v358.toNat, 512]
def k0_off113 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c2_i32_381 : BitVec 32 := 2#32
  let c0_i32_383 : BitVec 32 := 0#32
  let c0_i32_384 : BitVec 32 := 0#32
  ![v305.toNat, 2, 0, 0]
def k0_off114 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_390 : BitVec 32 := 256#32
  let v370 : BitVec 32 := Scalar.muli v304 c256_i32_390
  let c640_i32_392 : BitVec 32 := 640#32
  ![v370.toNat, 640]
def k0_off115 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c8_i32_391 : BitVec 32 := 8#32
  let c0_i32_393 : BitVec 32 := 0#32
  let c0_i32_394 : BitVec 32 := 0#32
  ![v305.toNat, 8, 0, 0]
def k0_off116 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_400 : BitVec 32 := 256#32
  let v382 : BitVec 32 := Scalar.muli v304 c256_i32_400
  let c768_i32_402 : BitVec 32 := 768#32
  ![v382.toNat, 768]
def k0_off117 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c3_i32_401 : BitVec 32 := 3#32
  let c0_i32_403 : BitVec 32 := 0#32
  let c0_i32_404 : BitVec 32 := 0#32
  ![v305.toNat, 3, 0, 0]
def k0_off118 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_410 : BitVec 32 := 256#32
  let v394 : BitVec 32 := Scalar.muli v304 c256_i32_410
  let c896_i32_412 : BitVec 32 := 896#32
  ![v394.toNat, 896]
def k0_off119 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c9_i32_411 : BitVec 32 := 9#32
  let c0_i32_413 : BitVec 32 := 0#32
  let c0_i32_414 : BitVec 32 := 0#32
  ![v305.toNat, 9, 0, 0]
def k0_off120 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_420 : BitVec 32 := 256#32
  let v406 : BitVec 32 := Scalar.muli v304 c256_i32_420
  let c1024_i32_422 : BitVec 32 := 1024#32
  ![v406.toNat, 1024]
def k0_off121 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c4_i32_421 : BitVec 32 := 4#32
  let c0_i32_423 : BitVec 32 := 0#32
  let c0_i32_424 : BitVec 32 := 0#32
  ![v305.toNat, 4, 0, 0]
def k0_off122 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_430 : BitVec 32 := 256#32
  let v418 : BitVec 32 := Scalar.muli v304 c256_i32_430
  let c1152_i32_432 : BitVec 32 := 1152#32
  ![v418.toNat, 1152]
def k0_off123 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c10_i32_431 : BitVec 32 := 10#32
  let c0_i32_433 : BitVec 32 := 0#32
  let c0_i32_434 : BitVec 32 := 0#32
  ![v305.toNat, 10, 0, 0]
def k0_off124 (k0_t3 : Fin k0_t3_loop.trips) : Fin 2 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c256_i32_440 : BitVec 32 := 256#32
  let v430 : BitVec 32 := Scalar.muli v304 c256_i32_440
  let c1280_i32_442 : BitVec 32 := 1280#32
  ![v430.toNat, 1280]
def k0_off125 (k0_t3 : Fin k0_t3_loop.trips) : Fin 4 → Nat :=
  let c0_i32_333 : BitVec 32 := 0#32
  let c0_i32_42 : BitVec 32 := 0#32
  let c1_i32_43 : BitVec 32 := 1#32
  let arg15 : BitVec 32 := Scf.iv c0_i32_42 c1_i32_43 k0_t3
  let c1_i32_332 : BitVec 32 := 1#32
  let v303 : BitVec 32 := Scalar.muli arg15 c1_i32_332
  let v304 : BitVec 32 := Scalar.addi c0_i32_333 v303
  let c2_i32_334 : BitVec 32 := 2#32
  let v305 : BitVec 32 := Scalar.remsi v304 c2_i32_334
  let c5_i32_441 : BitVec 32 := 5#32
  let c0_i32_443 : BitVec 32 := 0#32
  let c0_i32_444 : BitVec 32 := 0#32
  ![v305.toNat, 5, 0, 0]
abbrev stage0_0 : Fin 1 → Memref sig .tc .smem S1x8192 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7936 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1x8192 : Shape := ⟨2, ![1, 8192]⟩
abbrev S1408x7936 : Shape := ⟨2, ![1408, 7936]⟩
abbrev S7936 : Shape := ⟨1, ![7936]⟩
abbrev S1408 : Shape := ⟨1, ![1408]⟩
abbrev S_ : Shape := ⟨0, ![]⟩
abbrev S1x8192x1 : Shape := ⟨3, ![1, 8192, 1]⟩
abbrev S1 : Shape := ⟨1, ![1]⟩
abbrev S1x1x1 : Shape := ⟨3, ![1, 1, 1]⟩
abbrev S1408x1x8192 : Shape := ⟨3, ![1408, 1, 8192]⟩
abbrev S1x8192x1408 : Shape := ⟨3, ![1, 8192, 1408]⟩
abbrev S1x1x1408 : Shape := ⟨3, ![1, 1, 1408]⟩

abbrev nBuf : Space → Nat
  | .hbm => 75
  | .vmem => 0
  | .smem => 0
  | _ => 0

abbrev bufTy : (tb : Table) → Fin (tcTables nBuf tb) → BufTy
  | .hbm, ⟨0, _⟩ => ⟨S1x8192, .i32⟩
  | .hbm, ⟨1, _⟩ => ⟨S1408x7936, .i8⟩
  | .hbm, ⟨2, _⟩ => ⟨S7936, .f32⟩
  | .hbm, ⟨3, _⟩ => ⟨S1408, .bf16⟩
  | .hbm, ⟨4, _⟩ => ⟨S_, .i32⟩
  | .hbm, ⟨5, _⟩ => ⟨S1x8192, .i32⟩
  | .hbm, ⟨6, _⟩ => ⟨S1x8192, .i1⟩
  | .hbm, ⟨7, _⟩ => ⟨S_, .i32⟩
  | .hbm, ⟨8, _⟩ => ⟨S1x8192, .i32⟩
  | .hbm, ⟨9, _⟩ => ⟨S1x8192, .i32⟩
  | .hbm, ⟨10, _⟩ => ⟨S1x8192, .i32⟩
  | .hbm, ⟨11, _⟩ => ⟨S1x8192x1, .i32⟩
  | .hbm, ⟨12, _⟩ => ⟨S1, .i32⟩
  | .hbm, ⟨13, _⟩ => ⟨S_, .i32⟩
  | .hbm, ⟨14, _⟩ => ⟨S1x8192x1, .i32⟩
  | .hbm, ⟨15, _⟩ => ⟨S1x8192x1, .i1⟩
  | .hbm, ⟨16, _⟩ => ⟨S1x1x1, .i32⟩
  | .hbm, ⟨17, _⟩ => ⟨S1x8192x1, .i32⟩
  | .hbm, ⟨18, _⟩ => ⟨S1x8192x1, .i1⟩
  | .hbm, ⟨19, _⟩ => ⟨S1x8192x1, .i1⟩
  | .hbm, ⟨20, _⟩ => ⟨S_, .i1⟩
  | .hbm, ⟨21, _⟩ => ⟨S1x8192, .i1⟩
  | .hbm, ⟨22, _⟩ => ⟨S1408x1x8192, .i8⟩
  | .hbm, ⟨23, _⟩ => ⟨S1408x1x8192, .i1⟩
  | .hbm, ⟨24, _⟩ => ⟨S_, .i8⟩
  | .hbm, ⟨25, _⟩ => ⟨S1408x1x8192, .i8⟩
  | .hbm, ⟨26, _⟩ => ⟨S1408x1x8192, .i8⟩
  | .hbm, ⟨27, _⟩ => ⟨S1x8192x1408, .i8⟩
  | .hbm, ⟨28, _⟩ => ⟨S_, .i32⟩
  | .hbm, ⟨29, _⟩ => ⟨S1x8192, .i32⟩
  | .hbm, ⟨30, _⟩ => ⟨S1x8192, .i1⟩
  | .hbm, ⟨31, _⟩ => ⟨S_, .i32⟩
  | .hbm, ⟨32, _⟩ => ⟨S1x8192, .i32⟩
  | .hbm, ⟨33, _⟩ => ⟨S1x8192, .i32⟩
  | .hbm, ⟨34, _⟩ => ⟨S1x8192, .i32⟩
  | .hbm, ⟨35, _⟩ => ⟨S1x8192x1, .i32⟩
  | .hbm, ⟨36, _⟩ => ⟨S1, .i32⟩
  | .hbm, ⟨37, _⟩ => ⟨S_, .i32⟩
  | .hbm, ⟨38, _⟩ => ⟨S1x8192x1, .i32⟩
  | .hbm, ⟨39, _⟩ => ⟨S1x8192x1, .i1⟩
  | .hbm, ⟨40, _⟩ => ⟨S1x1x1, .i32⟩
  | .hbm, ⟨41, _⟩ => ⟨S1x8192x1, .i32⟩
  | .hbm, ⟨42, _⟩ => ⟨S1x8192x1, .i1⟩
  | .hbm, ⟨43, _⟩ => ⟨S1x8192x1, .i1⟩
  | .hbm, ⟨44, _⟩ => ⟨S_, .i1⟩
  | .hbm, ⟨45, _⟩ => ⟨S1x8192, .i1⟩
  | .hbm, ⟨46, _⟩ => ⟨S1x8192, .f32⟩
  | .hbm, ⟨47, _⟩ => ⟨S_, .f32⟩
  | .hbm, ⟨48, _⟩ => ⟨S1x8192, .f32⟩
  | .hbm, ⟨49, _⟩ => ⟨S1x8192, .f32⟩
  | .hbm, ⟨50, _⟩ => ⟨S1x8192x1408, .i32⟩
  | .hbm, ⟨51, _⟩ => ⟨S1x8192x1408, .bf16⟩
  | .hbm, ⟨52, _⟩ => ⟨S1x8192, .bf16⟩
  | .hbm, ⟨53, _⟩ => ⟨S1x8192x1, .bf16⟩
  | .hbm, ⟨54, _⟩ => ⟨S1x8192x1408, .bf16⟩
  | .hbm, ⟨55, _⟩ => ⟨S1x8192x1408, .bf16⟩
  | .hbm, ⟨56, _⟩ => ⟨S1x8192x1408, .f32⟩
  | .hbm, ⟨57, _⟩ => ⟨S1x8192x1408, .f32⟩
  | .hbm, ⟨58, _⟩ => ⟨S_, .f32⟩
  | .hbm, ⟨59, _⟩ => ⟨S1x8192, .f32⟩
  | .hbm, ⟨60, _⟩ => ⟨S1x8192x1, .f32⟩
  | .hbm, ⟨61, _⟩ => ⟨S_, .f32⟩
  | .hbm, ⟨62, _⟩ => ⟨S1x8192x1, .f32⟩
  | .hbm, ⟨63, _⟩ => ⟨S1x8192x1, .f32⟩
  | .hbm, ⟨64, _⟩ => ⟨S_, .f32⟩
  | .hbm, ⟨65, _⟩ => ⟨S1x8192x1, .f32⟩
  | .hbm, ⟨66, _⟩ => ⟨S1x8192x1, .f32⟩
  | .hbm, ⟨67, _⟩ => ⟨S1x8192x1, .f32⟩
  | .hbm, ⟨68, _⟩ => ⟨S1x8192x1408, .f32⟩
  | .hbm, ⟨69, _⟩ => ⟨S1x8192x1408, .f32⟩
  | .hbm, ⟨70, _⟩ => ⟨S1408, .f32⟩
  | .hbm, ⟨71, _⟩ => ⟨S1x1x1408, .f32⟩
  | .hbm, ⟨72, _⟩ => ⟨S1x8192x1408, .f32⟩
  | .hbm, ⟨73, _⟩ => ⟨S1x8192x1408, .f32⟩
  | .hbm, ⟨74, _⟩ => ⟨S1x8192x1408, .bf16⟩
  | _, _ => ⟨S1x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_c_4 : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_cst : Ref sig .tc := ⟨.hbm, 58, rfl⟩
abbrev main_v11 : Ref sig .tc := ⟨.hbm, 59, rfl⟩
abbrev main_v12 : Ref sig .tc := ⟨.hbm, 60, rfl⟩
abbrev main_cst_0 : Ref sig .tc := ⟨.hbm, 61, rfl⟩
abbrev main_v13 : Ref sig .tc := ⟨.hbm, 62, rfl⟩
abbrev main_v14 : Ref sig .tc := ⟨.hbm, 63, rfl⟩
abbrev main_cst_1 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩

abbrev nD : Nat := 1
abbrev τ : Topo := Topo.v7x

variable {F : FTy → Type} [FloatOps F]
-- ==== Proof.Ref.lean ====
/-
  What the reference computes, index by index: with every token id inside the table, its two results are the embedding
  row and the normalised row of each token's id.
-/
module

public import proofs.«01_k».proof.Proof.Gen.ReferenceIdeal.Run
public import Idealize.ShloMosaic.Lib.Pointwise
public import Idealize.ShloMosaic.Lib.ReduceAll
public import Idealize.ShloMosaic.Lib.ValueIdxCore

@[expose] public section

noncomputable section

namespace Cert.Proof.Ref

open Cert.ReferenceIdeal Cert.ReferenceIdeal.Gen
open Idealize.ShloMosaic Idealize.ShloMosaic.TcCoe

variable (ids : IVec S1x8192 32) (codes : IVec S1408x7936 8) (scale : FVec Ideal S7936 .f32) (w : FVec Ideal S1408 .bf16)

/-- The row index of each token: its id, a negative one counted from the end. -/
def row : IVec S1x8192x1 32 :=
  broadcastInDim S1x8192x1 ![0, 1] bcast_S1x8192_S1x8192x1_0_1 (select (cmpi .slt ids (broadcastInDim S1x8192 ![] bcast_S_S1x8192 (constantI S_ 32 0#32))) (addi ids (broadcastInDim S1x8192 ![] bcast_S_S1x8192 (constantI S_ 32 7936#32))) ids)

/-- Whether each token's row is inside the table. -/
def mask : IVec S1x8192 1 :=
  Host.reduce IntOp.andi (andi (cmpi .sge (row ids) (broadcastInDim S1x8192x1 ![] bcast_S_S1x8192x1 (constantI S_ 32 0#32))) (cmpi .sle (row ids) (broadcastInDim S1x8192x1 ![0, 1, 2] bcast_S1x1x1_S1x8192x1_0_1_2 (broadcastInDim S1x1x1 ![2] bcast_S1_S1x1x1_2 (constantI S1 32 7935#32))))) (constantI S_ 1 1#1) reducesTo_S1x8192x1_S1x8192_d2 h_S_

/-- The codes of each token's row. -/
def takeCodes : IVec S1408x1x8192 8 :=
  Host.gather gather_S1408x7936_S1x8192x1_S1408x1x8192_0_1_n_n_1_2_14081 codes (row ids)

/-- The scale of each token's row. -/
def takeScale : FVec Ideal S1x8192 .f32 :=
  Host.gather gather_S7936_S1x8192x1_S1x8192_n_0_n_n_0_2_1 scale (row ids)

/-- The embedding rows. -/
def emb : FVec Ideal S1x8192x1408 .bf16 :=
  mulf (sitofp .bf16 (extsi 32 (transpose S1x8192x1408 [1, 2, 0] (select (broadcastInDim S1408x1x8192 ![1, 2] bcast_S1x8192_S1408x1x8192_1_2 (mask ids)) (takeCodes ids codes) (broadcastInDim S1408x1x8192 ![] bcast_S_S1408x1x8192 (constantI S_ 8 128#8))) transposes_S1408x1x8192_S1x8192x1408_1_2_0) natLt_8_32)) (broadcastInDim S1x8192x1408 ![0, 1, 2] bcast_S1x8192x1_S1x8192x1408_0_1_2 (broadcastInDim S1x8192x1 ![0, 1] bcast_S1x8192_S1x8192x1_0_1 (truncf .bf16 (select (mask ids) (takeScale ids scale) (broadcastInDim S1x8192 ![] bcast_S_S1x8192 (constant S_ .f32 0x7FC00000#32))) bitsLt_bf16_f32)))

/-- The normalised rows of embedding rows `e`. -/
def out (e : FVec Ideal S1x8192x1408 .bf16) : FVec Ideal S1x8192x1408 .bf16 :=
  truncf .bf16 (mulf (mulf (extf .f32 e bitsLt_bf16_f32) (broadcastInDim S1x8192x1408 ![0, 1, 2] bcast_S1x8192x1_S1x8192x1408_0_1_2 (Host.rsqrt (addf (Host.divf (broadcastInDim S1x8192x1 ![0, 1] bcast_S1x8192_S1x8192x1_0_1 (Host.reduceAdd (mulf (extf .f32 e bitsLt_bf16_f32) (extf .f32 e bitsLt_bf16_f32)) (constant S_ .f32 0x00000000#32) reducesTo_S1x8192x1408_S1x8192_d2 h_S_)) (broadcastInDim S1x8192x1 ![] bcast_S_S1x8192x1 (constant S_ .f32 0x44B00000#32))) (broadcastInDim S1x8192x1 ![] bcast_S_S1x8192x1 (constant S_ .f32 0x358637BD#32)))))) (broadcastInDim S1x8192x1408 ![0, 1, 2] bcast_S1x1x1408_S1x8192x1408_0_1_2 (broadcastInDim S1x1x1408 ![2] bcast_S1408_S1x1x1408_2 (extf .f32 w bitsLt_bf16_f32)))) bitsLt_bf16_f32

variable {ids} (hin : ∀ t : Fin 8192, (ids (ix2 0 t)).toNat < 7936)

include hin

/-- A token id is not negative. -/
theorem ids_slt (t : Fin 8192) : IntOp.cmpi .slt (ids (ix2 0 t)) 0#32 = 0#1 := by
  have h := hin t
  generalize ids (ix2 0 t) = x at h
  have h0 : x.slt 0#32 = false := by
    simp only [BitVec.slt, decide_eq_false_iff_not, BitVec.toInt_eq_toNat_cond, BitVec.toNat_ofNat]; omega
  simp [IntOp.cmpi, h0]

/-- The row index of a token is its id. -/
theorem row_apply (i : S1x8192x1.Idx) : row ids i = ids (ix2 0 (i 1)) := by
  have h := ids_slt hin (i 1)
  unfold row
  pointwise
  rw [h]; rfl

/-- Every token's row is inside the table. -/
theorem mask_apply (j : S1x8192.Idx) : mask ids j = 1#1 := by
  unfold mask
  refine Host.reduce_andi_one _ _ _ _ _ rfl fun i => ?_
  have h := hin (i 1)
  pointwise
  rw [row_apply hin]
  generalize ids (ix2 0 (i 1)) = x at h
  have h0 : (0#32).sle x = true := by
    simp only [BitVec.sle, decide_eq_true_eq, BitVec.toInt_eq_toNat_cond, BitVec.toNat_ofNat]; omega
  have h1 : x.sle 7935#32 = true := by
    simp only [BitVec.sle, decide_eq_true_eq, BitVec.toInt_eq_toNat_cond, BitVec.toNat_ofNat]; omega
  simp [IntOp.cmpi, IntOp.andi, h0, h1]

/-- A token id read as a signed number is its unsigned value. -/
theorem ids_toInt (t : Fin 8192) : (ids (ix2 0 t)).toInt.toNat = (ids (ix2 0 t)).toNat := by
  have h := hin t
  rw [BitVec.toInt_eq_toNat_cond]; omega

/-- The codes taken are those of the token's id. -/
theorem takeCodes_apply (k : Fin 1408) (z : Fin 1) (t : Fin 8192) :
    takeCodes ids codes (ix3 k z t) = codes (ix2 k ⟨(ids (ix2 0 t)).toNat, hin t⟩) := by
  unfold takeCodes Host.gather
  congr 1
  funext a
  refine Fin.ext ?_
  show GatherDims.start _ (ix3 k z t) (row ids) a + GatherDims.batchCoord _ (ix3 k z t) a + GatherDims.offCoord _ (ix3 k z t) a = _
  have hb : ∀ a, GatherDims.batchCoord gather_S1408x7936_S1x8192x1_S1408x1x8192_0_1_n_n_1_2_14081 (ix3 k z t) a = 0 :=
    fun a => GatherDims.batchCoord_eq_zero _ _ _ List.not_mem_nil
  rw [hb]
  have h01 : a = 0 ∨ a = 1 := by
    match a with
    | ⟨0, _⟩ => exact Or.inl rfl
    | ⟨1, _⟩ => exact Or.inr rfl
  rcases h01 with rfl | rfl
  · unfold GatherDims.start
    rw [dif_neg (by decide)]
    unfold GatherDims.offCoord
    rw [dif_pos (by decide)]
    exact Nat.zero_add _
  · rw [GatherDims.offCoord_eq_zero _ _ _ (by decide)]
    unfold GatherDims.start
    rw [dif_pos (by decide), row_apply hin]
    show min (ids (ix2 0 t)).toInt.toNat (7936 - 1) = _
    rw [ids_toInt hin]
    have h := hin t
    show min (ids (ix2 0 t)).toNat (7936 - 1) = (ids (ix2 0 t)).toNat
    omega

/-- The scale taken is that of the token's id. -/
theorem takeScale_apply (z : Fin 1) (t : Fin 8192) :
    takeScale ids scale (ix2 z t) = scale (ix1 ⟨(ids (ix2 0 t)).toNat, hin t⟩) := by
  refine (ValueIdx.gather_take_apply (by decide) _ scale (row ids) (ix2 z t)).trans ?_
  congr 2
  refine Fin.ext ?_
  show min (row ids (ValueIdx.takeIdx (ix2 z t))).toInt.toNat (7936 - 1) = (ids (ix2 0 t)).toNat
  rw [row_apply hin]
  show min (ids (ix2 0 t)).toInt.toNat (7936 - 1) = _
  rw [ids_toInt hin]
  have h := hin t
  omega

/-- The embedding entry of a token: the code times the scale. -/
theorem emb_apply (t : Fin 8192) (k : Fin 1408) :
    emb ids codes scale (ix3 0 t k)
      = (((codes (ix2 k ⟨(ids (ix2 0 t)).toNat, hin t⟩)).toInt : ℝ) : EReal) * scale (ix1 ⟨(ids (ix2 0 t)).toNat, hin t⟩) := by
  unfold emb
  pointwise
  rw [mask_apply hin, takeCodes_apply codes hin, takeScale_apply scale hin]
  show (((((codes (ix2 k ⟨(ids (ix2 0 t)).toNat, hin t⟩)).signExtend 32).toInt : ℝ) : EReal)) * _ = _
  rw [BitVec.toInt_signExtend_of_le (by decide)]; rfl

omit hin in
/-- The normalised entry. -/
theorem out_apply (e : FVec Ideal S1x8192x1408 .bf16) (t : Fin 8192) (k : Fin 1408) :
    out w e (ix3 0 t k) = e (ix3 0 t k) * Ideal.rsqrt (Ideal.div (∑ j : Fin 1408, e (ix3 0 t j) * e (ix3 0 t j)) (Ideal.ofBits FTy.f32 1152385024#32) + Ideal.ofBits FTy.f32 897988541#32) * w (ix1 k) := by
  unfold out
  pointwise

omit hin in
/-- The reference's first result is the normalised rows of its embedding rows. -/
theorem res_eq (m : (ℓ : Loc nD τ sig) → Buf (Elt Ideal) ℓ) (c : Dev nD) :
    Value.res_main_v24 m c = out (m ((c.tc : Thread nD τ).loc main_arg3))
      (emb (m ((c.tc : Thread nD τ).loc main_arg0)) (m ((c.tc : Thread nD τ).loc main_arg1)) (m ((c.tc : Thread nD τ).loc main_arg2))) := by
  unfold Value.res_main_v24; rfl

end Cert.Proof.Ref

end
-- ==== Proof.Ideal.Open.lean ====
module

public import proofs.«01_k».proof.Defs
public import proofs.«01_k».proof.Proof.Gen.KernelIdeal
public import proofs.«01_k».proof.Proof.Gen.KernelIdeal.Skeleton
public import Idealize.ShloMosaic.Lib.Tactic.OpenCalls
public meta import Idealize.ShloMosaic.Lib.Tactic.OpenCalls

@[expose] public section

noncomputable section

namespace Cert.Proof.KernelIdeal

open Cert.KernelIdeal
open Idealize.ShloMosaic Idealize.ShloMosaic.TcCoe Idealize.ShloMosaic.Tactic

set_option open_calls.check false in
set_option maxRecDepth 65536 in
set_option maxHeartbeats 400000000 in
open_calls t4o := Gen.k0_t4_body [k0_part9, k0_part10, k0_part11, k0_part12, k0_part13, k0_part14, k0_part15, k0_part16, k0_part17, k0_part18, k0_part19, k0_part20, k0_part21, k0_part22, k0_part23, k0_part24, k0_part25, k0_part26]

set_option open_calls.check false in
set_option maxRecDepth 65536 in
set_option maxHeartbeats 400000000 in
open_calls t2o := Gen.k0_t2_body [k0_part1, k0_part2, k0_part3, k0_part4]

set_option open_calls.check false in
set_option maxRecDepth 65536 in
set_option maxHeartbeats 400000000 in
open_calls t3o := Gen.k0_t3_body [k0_part27, k0_part28, k0_part29, k0_part30]

set_option open_calls.check false in
set_option maxRecDepth 65536 in
set_option maxHeartbeats 400000000 in
open_calls bo := Gen.cc0__body_skel [k0_part31, k0_part32, k0_part33, k0_part34, k0_part35, k0_part36, k0_part37, k0_part38, k0_part39, k0_part40, k0_part41, k0_part42]

end Cert.Proof.KernelIdeal
-- ==== Proof.Ideal.Pairs.lean ====
/-
  The inner loop's body, one trip of which copies eight pairs of tokens, cut into its eight pairs.
-/
module

public import proofs.«01_k».proof.Proof.Ideal.Open
public import Idealize.ShloMosaic.Lib.Tactic.Stretches
public meta import Idealize.ShloMosaic.Lib.Tactic.Stretches

@[expose] public section

noncomputable section

namespace Cert.Proof.KernelIdeal

open Cert.KernelIdeal
open Idealize.ShloMosaic Idealize.ShloMosaic.TcCoe Idealize.ShloMosaic.Tactic

set_option open_calls.check false in
set_option maxRecDepth 65536 in
set_option maxHeartbeats 400000000 in
cut_chain pr := t4o at 17, 33, 49, 65, 81, 97, 113

end Cert.Proof.KernelIdeal
-- ==== Proof.Ideal.PairVal.lean ====
/-
  What one pair of tokens stores, read at an index: the two rows of the table the pair loads, and those rows times
  the tokens' inverse norms and the weights, each even chunk in one store and each odd chunk in another.
-/
module

public import proofs.«01_k».proof.Proof.Ideal.Open
public import Idealize.ShloMosaic.Lib.Pointwise

@[expose] public section

noncomputable section

namespace Cert.Proof.KernelIdeal

open Cert.KernelIdeal
open Idealize.ShloMosaic Idealize.ShloMosaic.TcCoe Idealize.ShloMosaic.Tactic

/-- The even chunks of a pair's embeddings, as stored. -/
def payE (r1 r2 : Vec Ideal S8x2x128 .bf16) : Vec Ideal S1x6x2x128 .bf16 := Gen.k0_pay45 (Gen.k0_pay36 r1) (Gen.k0_pay40 r2)
/-- The odd chunks of a pair's embeddings, as stored. -/
def payE' (r1 r2 : Vec Ideal S8x2x128 .bf16) : Vec Ideal S1x5x2x128 .bf16 := Gen.k0_pay46 (Gen.k0_pay37 r1) (Gen.k0_pay41 r2)
/-- The even chunks of a pair's results, as stored. -/
def payO (w : FVec Ideal S8x128 .f32) (r1 : Vec Ideal S8x2x128 .bf16) (n1 : Vec Ideal S8x128 .f32) (r2 : Vec Ideal S8x2x128 .bf16) (n2 : Vec Ideal S8x128 .f32) : Vec Ideal S1x6x2x128 .bf16 :=
  Gen.k0_pay49 (Gen.k0_pay47 (Gen.k0_pay38 w r1 n1)) (Gen.k0_pay48 w (Gen.k0_pay40 r2) n2)
/-- The odd chunks of a pair's results, as stored. -/
def payO' (w : FVec Ideal S8x128 .f32) (r1 : Vec Ideal S8x2x128 .bf16) (n1 : Vec Ideal S8x128 .f32) (r2 : Vec Ideal S8x2x128 .bf16) (n2 : Vec Ideal S8x128 .f32) : Vec Ideal S1x5x2x128 .bf16 :=
  Gen.k0_pay50 (Gen.k0_pay39 w r1 n1) (Gen.k0_pay44 w (Gen.k0_pay41 r2) n2)

/-- Row `h` of the even chunks of token `q` of the pair. -/
theorem payE_apply (r1 r2 : Vec Ideal S8x2x128 .bf16) (h : Fin 6) (q : Fin 2) (l : Fin 128) :
    payE r1 r2 (ix4 0 h q l) = if q.val = 0 then r1 (ix3 ⟨h.val, by omega⟩ 0 l) else r2 (ix3 ⟨h.val, by omega⟩ 0 l) := by
  unfold payE
  unfold_payloads
  pointwise
  rw [Nat.mod_eq_of_lt q.isLt]

/-- Row `h` of the odd chunks of token `q` of the pair. -/
theorem payE'_apply (r1 r2 : Vec Ideal S8x2x128 .bf16) (h : Fin 5) (q : Fin 2) (l : Fin 128) :
    payE' r1 r2 (ix4 0 h q l) = if q.val = 0 then r1 (ix3 ⟨h.val, by omega⟩ 1 l) else r2 (ix3 ⟨h.val, by omega⟩ 1 l) := by
  unfold payE'
  unfold_payloads
  pointwise
  rw [Nat.mod_eq_of_lt q.isLt]

/-- Row `h` of the even chunks of the result of token `q` of the pair. -/
theorem payO_apply (w : FVec Ideal S8x128 .f32) (r1 : Vec Ideal S8x2x128 .bf16) (n1 : Vec Ideal S8x128 .f32) (r2 : Vec Ideal S8x2x128 .bf16) (n2 : Vec Ideal S8x128 .f32)
    (h : Fin 6) (q : Fin 2) (l : Fin 128) :
    payO w r1 n1 r2 n2 (ix4 0 h q l) = if q.val = 0
      then (r1 (ix3 ⟨h.val, by omega⟩ 0 l) : EReal) * n1 (ix2 ⟨h.val, by omega⟩ l) * w (ix2 ⟨h.val, by omega⟩ l)
      else (r2 (ix3 ⟨h.val, by omega⟩ 0 l) : EReal) * n2 (ix2 ⟨h.val, by omega⟩ l) * w (ix2 ⟨h.val, by omega⟩ l) := by
  unfold payO
  unfold_payloads
  pointwise
  rw [Nat.mod_eq_of_lt q.isLt]

/-- Row `h` of the odd chunks of the result of token `q` of the pair. -/
theorem payO'_apply (w : FVec Ideal S8x128 .f32) (r1 : Vec Ideal S8x2x128 .bf16) (n1 : Vec Ideal S8x128 .f32) (r2 : Vec Ideal S8x2x128 .bf16) (n2 : Vec Ideal S8x128 .f32)
    (h : Fin 5) (q : Fin 2) (l : Fin 128) :
    payO' w r1 n1 r2 n2 (ix4 0 h q l) = if q.val = 0
      then (r1 (ix3 ⟨h.val, by omega⟩ 1 l) : EReal) * n1 (ix2 ⟨h.val, by omega⟩ l) * w (ix2 ⟨h.val, by omega⟩ l)
      else (r2 (ix3 ⟨h.val, by omega⟩ 1 l) : EReal) * n2 (ix2 ⟨h.val, by omega⟩ l) * w (ix2 ⟨h.val, by omega⟩ l) := by
  unfold payO'
  unfold_payloads
  pointwise
  rw [Nat.mod_eq_of_lt q.isLt]

end Cert.Proof.KernelIdeal
-- ==== Proof.Own.lean ====
/-
  Ownership of some elements of a memref, stated by the memref's own indices: `own c m S q g` says that core `c`
  holds, at share `q`, the elements of the memref `m` whose indices lie in `S`, and that they hold the values `g`.
  Here are the rules of loads, stores and transfers in terms of it, and its algebra (splitting, joining, agreement).
-/
module

public import Idealize.ShloMosaic.Lib.Batch
public import Idealize.ShloMosaic.Lib.Tactic
public import Idealize.ShloMosaic.Lib.Pipeline.FrameSuffixV

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}
local notation "𝕄" => MT nD τ sig Unit Val ℕ U ℕ

variable {sp sp' : Space} {s s' : Shape} {e e' : EltTy}

/-- A bound return runs on. -/
theorem ret_bind' {Ef : Type → Type} {α β : Type} (a : α) (k : α → Prog Ef β) : (Prog.ret a).bind k = k a := rfl

/-- The elements of `m` with indices in `S`, held at share `q` with the values `g`. -/
def own (c : Thread nD τ) (m : Memref sig c.2.kind sp s e) (S : Finset s.Idx) (q : PosShare TreeShare) (g : s.Idx → Val e) : sProp 𝕄 :=
  iprop(∃ f, ⌜∀ i ∈ S, m.view.read Val f i = g i⌝ ∗ (m.view.loc c ↦[m.view.setOn S]{q} f))

/-- An ownership of elements is kept by invariants. -/
instance own_storable (c : Thread nD τ) (m : Memref sig c.2.kind sp s e) (S : Finset s.Idx) (q : PosShare TreeShare) (g : s.Idx → Val e) :
    Storable (upEmb : UEmb _ 𝕄) (own (U := U) c m S q g) := by unfold own; infer_instance

section Algebra

variable {c : Thread nD τ} {m : Memref sig c.2.kind sp s e} {S I J : Finset s.Idx} {q : PosShare TreeShare} {g g' : s.Idx → Val e}

/-- Only the values at the owned indices matter. -/
theorem own_congr (h : ∀ i ∈ S, g i = g' i) : (own c m S q g : sProp 𝕄) ⊢ own c m S q g' := by
  unfold own
  iintro ⟨%f, %hf, H⟩
  iexists f; isplitr
  · ipureintro; exact fun i hi => (hf i hi).trans (h i hi)
  · iexact H

/-- Disjoint index sets have disjoint elements. -/
theorem setOn_disjoint (v : View sig c.2.kind sp s e) (h : Disjoint I J) : Disjoint (v.setOn I) (v.setOn J) :=
  (Finset.disjoint_map _).mpr h

/-- Ownership of a disjoint union splits. -/
theorem own_split (h : Disjoint I J) : (own c m (I ∪ J) q g : sProp 𝕄) ⊢ iprop(own c m I q g ∗ own c m J q g) := by
  unfold own
  iintro ⟨%f, %hf, H⟩
  have e1 : m.view.setOn (I ∪ J) = m.view.setOn I ∪ m.view.setOn J := Finset.map_union _ _
  ihave H' := (Entails.of_eq (by rw [e1]) : (m.view.loc c ↦[m.view.setOn (I ∪ J)]{q} f : sProp 𝕄) ⊢ (m.view.loc c ↦[m.view.setOn I ∪ m.view.setOn J]{q} f)) $$ H
  ihave H'' := (pointsTo_union (setOn_disjoint m.view h)).1 $$ H'
  icases H'' with ⟨H1, H2⟩
  isplitl [H1]
  · iexists f; isplitr
    · ipureintro; exact fun i hi => hf i (Finset.mem_union_left _ hi)
    · iexact H1
  · iexists f; isplitr
    · ipureintro; exact fun i hi => hf i (Finset.mem_union_right _ hi)
    · iexact H2

/-- Ownerships of disjoint index sets join. -/
theorem own_join (h : Disjoint I J) : iprop(own c m I q g ∗ own c m J q g) ⊢ (own c m (I ∪ J) q g : sProp 𝕄) := by
  unfold own
  iintro ⟨⟨%f, %hf, H1⟩, ⟨%f', %hf', H2⟩⟩
  have e1 : m.view.setOn (I ∪ J) = m.view.setOn I ∪ m.view.setOn J := Finset.map_union _ _
  have hd := setOn_disjoint m.view h
  iexists ((m.view.setOn J).piecewise f' f)
  isplitr
  · ipureintro
    intro i hi
    by_cases hj : i ∈ J
    · rw [← hf' i hj]
      exact View.read_congr_at i (Finset.piecewise_eq_of_mem _ _ _ (m.view.mem_setOn.mpr hj))
    · have hI := (Finset.mem_union.mp hi).resolve_right hj
      rw [← hf i hI]
      exact View.read_congr_at i (Finset.piecewise_eq_of_notMem _ _ _ (fun h => hj (m.view.mem_setOn.mp h)))
  · rw [e1]
    iapply (pointsTo_join hd)
    isplitl [H1]; · iexact H1
    iexact H2

/-- Ownership of a set splits at a part of it. -/
theorem own_sub (h : I ⊆ S) : (own c m S q g : sProp 𝕄) ⊢ iprop(own c m I q g ∗ own c m (S \ I) q g) := by
  have e1 : S = I ∪ (S \ I) := (Finset.union_sdiff_of_subset h).symm
  refine (Entails.of_eq (congrArg (fun T => own c m T q g) e1)).trans (own_split Finset.disjoint_sdiff)

/-- And joins again, whatever the part now holds. -/
theorem own_sub_join (h : I ⊆ S) : iprop(own c m I q g ∗ own c m (S \ I) q g) ⊢ (own c m S q g : sProp 𝕄) := by
  have e1 : I ∪ (S \ I) = S := (Finset.union_sdiff_of_subset h)
  exact (own_join Finset.disjoint_sdiff).trans (Entails.of_eq (congrArg (fun T => own c m T q g) e1))

/-- Ownership of equal sets. -/
theorem own_set_eq (h : S = I) : (own c m S q g : sProp 𝕄) ⊢ own c m I q g := Entails.of_eq (by rw [h])

/-- From a points-to fact on all of the memref's elements. -/
theorem own_of_pointsTo (f : Buf Val (m.view.loc c)) : (m.view.loc c ↦[m.view.set]{q} f : sProp 𝕄) ⊢ own c m Finset.univ q (m.view.read Val f) := by
  unfold own
  iintro H
  iexists f; isplitr
  · ipureintro; exact fun _ _ => rfl
  · iexact H

/-- Back to a points-to fact, at contents the memref reads as the values. -/
theorem pointsTo_of_own : (own c m Finset.univ q g : sProp 𝕄) ⊢ iprop(∃ f, ⌜m.view.read Val f = g⌝ ∗ (m.view.loc c ↦[m.view.set]{q} f)) := by
  unfold own
  iintro ⟨%f, %hf, H⟩
  iexists f; isplitr
  · ipureintro; exact funext fun i => hf i (Finset.mem_univ i)
  · iexact H

end Algebra

section Update

variable {V : Type}

/-- The values `g` with those under the rectangle `r` replaced by `w`. -/
def upd (r : Rect s) (w : r.shape.Idx → V) (g : s.Idx → V) : s.Idx → V :=
  fun i => match preimage? r.emb i with
    | some x => w x
    | none => g i

/-- Under the rectangle the new values are read. -/
theorem upd_emb (r : Rect s) (w : r.shape.Idx → V) (g : s.Idx → V) (x : r.shape.Idx) : upd r w g (r.emb x) = w x := by
  unfold upd; rw [preimage?_emb]

/-- The same, at an index given as the rectangle's. -/
theorem upd_eq (r : Rect s) (w : r.shape.Idx → V) (g : s.Idx → V) {i : s.Idx} (x : r.shape.Idx) (h : r.emb x = i) : upd r w g i = w x := by
  subst h; exact upd_emb r w g x

/-- Off the rectangle the old values are read. -/
theorem upd_off (r : Rect s) (w : r.shape.Idx → V) (g : s.Idx → V) {i : s.Idx} (h : i ∉ r.set) : upd r w g i = g i := by
  unfold upd; rw [preimage?_eq_none]
  intro x hx; exact h (hx ▸ r.idx_mem x)

/-- An index outside the rectangle along one axis. -/
theorem upd_axis (off size : Fin s.rank → ℕ) (inb) (w : (Rect.unit (s := s) off size inb).shape.Idx → V) (g : s.Idx → V) {i : s.Idx} (a : Fin s.rank)
    (h : (i a : ℕ) < off a ∨ off a + size a ≤ i a) : upd (Rect.unit off size inb) w g i = g i := by
  refine upd_off _ _ _ fun hm => ?_
  obtain ⟨j, hj, e⟩ := (LoadRect.mem_set _).mp hm a
  have hj' : j < size a := hj
  have e' : (i a : ℕ) = off a + 1 * j := e
  omega

end Update

section Rules

variable {defs : Defs nD τ sig Val Λ} (𝒱 : Variants) (c : Thread nD τ) (bd : Option 𝒱.V) {α : Type} {Q : α → sProp (MT nD τ sig Unit Val ℕ U ℕ)}

/-- A load of owned elements reads their values. -/
theorem own_load {cs : CoreSpace} {m : Memref sig c.2.kind cs s e} {r : LoadRect s} {hl : m.view.LoadsAt r}
    {k : (r.shape.Idx → Val e) → Prog (TpuEff nD τ sig Val Λ c.2) α} {S : Finset s.Idx} {q : PosShare TreeShare} {g : s.Idx → Val e}
    (hS : r.set ⊆ S) :
    (own c m S q g : sProp 𝕄) ⊢ iprop((own c m S q g -∗ wp frame (wpE defs 𝒱 c bd) Set.univ (k fun x => g (r.idx x)) Q)
      -∗ wp frame (wpE defs 𝒱 c bd) Set.univ (.op (.load m r hl) k) Q) := by
  unfold own
  iintro ⟨%f, %hf, H⟩ Hk
  have e1 : m.view.readAt Val r f = fun x => g (r.idx x) := funext fun x => hf _ (hS (r.idx_mem x))
  iapply (wp_load 𝒱 c bd Set.univ (m := m) (r := r) (S := m.view.setOn S) (Finset.map_subset_map.mpr hS)) $$ H
  rw [e1]
  iintro H
  iapply Hk
  iexists f; isplitr
  · ipureintro; exact hf
  · iexact H

/-- One element of scalar memory. -/
theorem own_smem {m : Memref sig c.2.kind .smem s e} {r : Rect s} {hw : (m.access r).Loads} {x : r.shape.Idx}
    {k : Val e → Prog (TpuEff nD τ sig Val Λ c.2) α} {S : Finset s.Idx} {q : PosShare TreeShare} {g : s.Idx → Val e}
    (hS : r.set ⊆ S) :
    (own c m S q g : sProp 𝕄) ⊢ iprop((own c m S q g -∗ wp frame (wpE defs 𝒱 c bd) Set.univ (k (g (r.emb x))) Q)
      -∗ wp frame (wpE defs 𝒱 c bd) Set.univ (smemLoadElt m r hw x k) Q) :=
  own_load 𝒱 c bd (k := fun f => k (f x)) hS

/-- A store over owned elements. -/
theorem own_store {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {S : Finset s.Idx} {g : s.Idx → Val e} (g' : s.Idx → Val e)
    (hS : r.set ⊆ S) (hw : ∀ x, g' (r.emb x) = w x) (ho : ∀ i ∈ S, i ∉ r.set → g' i = g i) :
    (own c m S fullShare g : sProp 𝕄) ⊢ iprop((own c m S fullShare g' -∗ wp frame (wpE defs 𝒱 c bd) Set.univ (k ⟨⟩) Q)
      -∗ wp frame (wpE defs 𝒱 c bd) Set.univ (.op (.store m r w Finset.univ hx hm) k) Q) := by
  unfold own
  iintro ⟨%f, %hf, H⟩ Hk
  have hsub : (m.access r).setOn Finset.univ ⊆ m.view.setOn S := by
    rw [View.setOn_univ, View.set_slice]; exact Finset.map_subset_map.mpr hS
  iapply (wp_store 𝒱 c bd Set.univ (m := m) (r := r) (S := m.view.setOn S) hsub) $$ H
  iintro H
  iapply Hk
  iexists ((m.access r).write Val f w Finset.univ)
  isplitr
  · ipureintro
    intro i hi
    by_cases h : i ∈ r.set
    · obtain ⟨x, rfl⟩ := r.exists_idx_of_mem h
      exact (View.read_write_of_mem (v := m.access r) f w (Finset.mem_univ x)).trans (hw x).symm
    · rw [ho i hi h, ← hf i hi]
      refine View.read_congr_at i (View.write_of_not_mem (v := m.access r) f w Finset.univ ?_)
      rw [View.setOn_univ, View.set_slice]
      intro h'; exact h (m.view.mem_setOn.mp h')
  · iexact H

/-- A store over owned elements, the values updated under its rectangle. -/
theorem own_store_upd {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {S : Finset s.Idx} {g : s.Idx → Val e} (hS : r.set ⊆ S) :
    (own c m S fullShare g : sProp 𝕄) ⊢ iprop((own c m S fullShare (upd r w g) -∗ wp frame (wpE defs 𝒱 c bd) Set.univ (k ⟨⟩) Q)
      -∗ wp frame (wpE defs 𝒱 c bd) Set.univ (.op (.store m r w Finset.univ hx hm) k) Q) :=
  own_store 𝒱 c bd (upd r w g) hS (upd_emb r w g) (fun i _ h => upd_off r w g h)

/-- A transfer of a batch, from a squeezed slice to a slice. -/
theorem own_dma_out (EC : UEmb Counters 𝕄) [EC.LandsIn (upEmb : UEmb _ 𝕄)] {n : ℕ}
    {s₀ s₁ : Shape} {ms : Memref sig c.2.kind sp s₀ e} {md : Memref sig c.2.kind sp' s₁ e}
    {rs : Rect s₀} {hrs : ∀ a, rs.stride a = 1} {rd : Rect s₁} {hrd : ∀ a, rd.stride a = 1} {hq : rs.shape.Squeezes rd.shape}
    {sm : SemLoc sig} {h1 h2 h3} {k : PUnit → Prog (TpuEff nD τ sig Val Λ c.2) α} {q : PosShare TreeShare}
    {gs : s₀.Idx → Val e} {gd : s₁.Idx → Val e} (gd' : s₁.Idx → Val e)
    {Ss : Finset s₀.Idx} {Sd : Finset s₁.Idx} (hSs : rs.set = Ss) (hSd : rd.set = Sd)
    (hg : ∀ x, gd' (rd.emb x) = gs (rs.emb (Shape.reshapeEquiv hq.numel_eq x)))
    {D : Fin n → sProp 𝕄} {j u N : ℕ}
    (hN : (md.slice rd hrd).view.amount sm = N) (hj : j < n) (hu : u ≤ j * N)
    (hD : iprop(own c md Sd fullShare gd' ∗ own c ms Ss q gs) ⊢ D ⟨j, hj⟩) :
    iprop(own c ms Ss q gs ∗ own c md Sd fullShare gd ∗ Transfers.Batch EC c sm () N D j u)
      ⊢ iprop((Transfers.Batch EC c sm () N D (j + 1) u -∗ wp frame (wpE defs 𝒱 c bd) Set.univ (k ⟨⟩) Q)
          -∗ wp frame (wpE defs 𝒱 c bd) Set.univ
            (.op (.enqueueDmaAs ((ms.slice rs hrs).squeeze rd.shape hq) (.here (md.slice rd hrd)) .same sm h1 h2 h3) k) Q) := by
  subst hSs hSd
  have hD' := hD
  unfold own at hD'
  have e1 : ((ms.slice rs hrs).squeeze rd.shape hq).view.set = ms.view.setOn rs.set := by
    rw [View.set_reshape, View.set_slice]; rfl
  have e2 : (md.slice rd hrd).view.set = md.view.setOn rd.set := by rw [View.set_slice]; rfl
  unfold own
  iintro ⟨⟨%fs, %hfs, Hs⟩, ⟨%fd, %hfd, Hd⟩, HB⟩ Hk
  iapply (Transfers.wp_dmaBatch EC 𝒱 c bd (src := (ms.slice rs hrs).squeeze rd.shape hq) (via := .same) (dst := md.slice rd hrd)
      (q := q) (fs := fs) (Sd := md.view.setOn rd.set) (fd := fd) (D := D) (u := u) () N hN e2.le hj hu ?_) $$ [Hs Hd HB] [Hk]
  · refine BIBase.Entails.trans ?_ hD'
    iintro ⟨Hd, Hs⟩
    isplitl [Hd]
    · iexists _
      isplitr
      swap; · iexact Hd
      ipureintro
      intro i hi
      obtain ⟨x, rfl⟩ := rd.exists_idx_of_mem hi
      have hx : rd.idx x = rd.emb x := rfl
      rw [hx, hg x]; refine Eq.trans ?_ (hfs (rs.emb _) (rs.idx_mem _))
      exact View.read_write_of_mem (v := (md.slice rd hrd).view) fd _ (Finset.mem_univ x)
    · iexists fs
      isplitr
      · ipureintro; exact hfs
      · rw [e1]; iexact Hs
  · isplitl [Hs]; · rw [e1]; iexact Hs
    isplitl [Hd]; · iexact Hd
    iexact HB
  · iexact Hk

/-- A transfer of a batch, from a slice to a squeezed slice. -/
theorem own_dma_in (EC : UEmb Counters 𝕄) [EC.LandsIn (upEmb : UEmb _ 𝕄)] {n : ℕ}
    {s₀ s₁ : Shape} {ms : Memref sig c.2.kind sp s₀ e} {md : Memref sig c.2.kind sp' s₁ e}
    {rs : Rect s₀} {hrs : ∀ a, rs.stride a = 1} {rd : Rect s₁} {hrd : ∀ a, rd.stride a = 1} {hq : rd.shape.Squeezes rs.shape}
    {sm : SemLoc sig} {h1 h2 h3} {k : PUnit → Prog (TpuEff nD τ sig Val Λ c.2) α} {q : PosShare TreeShare}
    {gs : s₀.Idx → Val e} {gd : s₁.Idx → Val e} (gd' : s₁.Idx → Val e)
    {Ss : Finset s₀.Idx} {Sd : Finset s₁.Idx} (hSs : rs.set = Ss) (hSd : rd.set = Sd)
    (hg : ∀ x, gd' (rd.emb (Shape.reshapeEquiv hq.numel_eq x)) = gs (rs.emb x))
    {D : Fin n → sProp 𝕄} {j u N : ℕ}
    (hN : ((md.slice rd hrd).squeeze rs.shape hq).view.amount sm = N) (hj : j < n) (hu : u ≤ j * N)
    (hD : iprop(own c md Sd fullShare gd' ∗ own c ms Ss q gs) ⊢ D ⟨j, hj⟩) :
    iprop(own c ms Ss q gs ∗ own c md Sd fullShare gd ∗ Transfers.Batch EC c sm () N D j u)
      ⊢ iprop((Transfers.Batch EC c sm () N D (j + 1) u -∗ wp frame (wpE defs 𝒱 c bd) Set.univ (k ⟨⟩) Q)
          -∗ wp frame (wpE defs 𝒱 c bd) Set.univ
            (.op (.enqueueDmaAs (ms.slice rs hrs) (.here ((md.slice rd hrd).squeeze rs.shape hq)) .same sm h1 h2 h3) k) Q) := by
  subst hSs hSd
  have hD' := hD
  unfold own at hD'
  have e1 : ((md.slice rd hrd).squeeze rs.shape hq).view.set = md.view.setOn rd.set := by
    rw [View.set_reshape, View.set_slice]; rfl
  have e2 : (ms.slice rs hrs).view.set = ms.view.setOn rs.set := by rw [View.set_slice]; rfl
  unfold own
  iintro ⟨⟨%fs, %hfs, Hs⟩, ⟨%fd, %hfd, Hd⟩, HB⟩ Hk
  iapply (Transfers.wp_dmaBatch EC 𝒱 c bd (src := ms.slice rs hrs) (via := .same) (dst := (md.slice rd hrd).squeeze rs.shape hq)
      (q := q) (fs := fs) (Sd := md.view.setOn rd.set) (fd := fd) (D := D) (u := u) () N hN e1.le hj hu ?_) $$ [Hs Hd HB] [Hk]
  · refine BIBase.Entails.trans ?_ hD'
    iintro ⟨Hd, Hs⟩
    isplitl [Hd]
    · iexists _
      isplitr
      swap; · iexact Hd
      ipureintro
      intro i hi
      obtain ⟨y, rfl⟩ := rd.exists_idx_of_mem hi
      obtain ⟨x, rfl⟩ := (Shape.reshapeEquiv hq.numel_eq).surjective y
      have hx : rd.idx (Shape.reshapeEquiv hq.numel_eq x) = rd.emb (Shape.reshapeEquiv hq.numel_eq x) := rfl
      rw [hx, hg x]; refine Eq.trans ?_ (hfs (rs.emb _) (rs.idx_mem _))
      exact View.read_write_of_mem (v := ((md.slice rd hrd).squeeze rs.shape hq).view) fd _ (Finset.mem_univ x)
    · iexists fs
      isplitr
      · ipureintro; exact hfs
      · rw [e2]; iexact Hs
  · isplitl [Hs]; · rw [e2]; iexact Hs
    isplitl [Hd]; · iexact Hd
    iexact HB
  · iexact Hk

end Rules

end Cert.Proof
-- ==== Proof.Ideal.Pair.lean ====
/-
  One pair of tokens: the program of a pair with its offsets as parameters, and what it does — the two tokens' ids are
  read, their rows of the table and their inverse norms loaded, and the two staging buffers hold, at the pair's two
  positions, the tokens' embeddings and results.
-/
module

public import proofs.«01_k».proof.Proof.Ideal.Pairs
public import proofs.«01_k».proof.Proof.Ideal.PairVal
public import proofs.«01_k».proof.Proof.Own

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

/-- The chunk of the model dimension held by row `r` of a staging slot: the even chunks first, then the odd ones. -/
def ch (r : ℕ) : ℕ := if r < 6 then 2 * r else 2 * (r - 6) + 1

/-- A result's entry: the embedding times the token's inverse norm times the weight. -/
def outv (E : ℕ → ℕ → EReal) (I : ℕ → EReal) (W : ℕ → EReal) (v k : ℕ) : EReal := E v k * I v * W k

/-- The table holds the embeddings: row `8 v + h` of parity `p` is chunk `2 h + p` of the embedding of id `v`. -/
def TableOk (E : ℕ → ℕ → EReal) (N : ℕ) (g : S63488x2x128.Idx → EReal) : Prop :=
  ∀ (r : Fin 63488) (p : Fin 2) (l : Fin 128), r.val < 8 * N → 2 * (r.val % 8) + p.val < 11 → g (ix3 r p l) = E (r.val / 8) (128 * (2 * (r.val % 8) + p.val) + l.val)

/-- The inverse norms' table. -/
def InvOk (I : ℕ → EReal) (N : ℕ) (g : S7936x128.Idx → EReal) : Prop :=
  ∀ (v : Fin 7936) (l : Fin 128), v.val < N → g (ix2 v l) = I v

/-- The even chunks of the weights. -/
def W0Ok (W : ℕ → EReal) (w : FVec Ideal S8x128 .f32) : Prop :=
  ∀ (h : Fin 8) (l : Fin 128), h.val < 6 → w (ix2 h l) = W (128 * (2 * h.val) + l)

/-- The odd chunks of the weights. -/
def W1Ok (W : ℕ → EReal) (w : FVec Ideal S8x128 .f32) : Prop :=
  ∀ (h : Fin 8) (l : Fin 128), h.val < 5 → w (ix2 h l) = W (128 * (2 * h.val + 1) + l)

/-- The ids in scalar memory. -/
def IdsOk (T : ℕ → ℕ) (g : S1x8192.Idx → BitVec 32) : Prop :=
  ∀ t : Fin 8192, (g (ix2 0 t)).toNat = T t ∧ T t < 7936

/-- The first `n` positions of slot `s` hold block `b`'s rows of `E'`. -/
def Good (E' : ℕ → ℕ → EReal) (T : ℕ → ℕ) (b : ℕ) (s : Fin 2) (n : ℕ) (g : S2x11x272x128.Idx → EReal) : Prop :=
  ∀ (r : Fin 11) (q : Fin 272) (l : Fin 128), q.val < n → g (ix4 s r q l) = E' (T (256 * b + q)) (128 * ch r + l)

/-- Slot `s` of a staging buffer. -/
def slab (s : Fin 2) : Finset S2x11x272x128.Idx := Finset.univ.filter fun i => (i (0 : Fin 4) : ℕ) = s.val

/-- The program of a pair of tokens. -/
def pairProg {R : Type} (arg0 : Memref sig .tc .smem S1x8192 .i32) (arg6 : Memref sig .tc .vmem S63488x2x128 .bf16) (arg7 : Memref sig .tc .vmem S7936x128 .f32)
    (arg11 arg12 : Memref sig .tc .vmem S2x11x272x128 .bf16) (w0 w1 : FVec Ideal S8x128 .f32)
    (oA oB : Fin 2 → ℕ) (hA : ∀ a, oA a + S1x1.size a ≤ S1x8192.size a) (hB : ∀ a, oB a + S1x1.size a ≤ S1x8192.size a)
    (P1 P2 : BitVec 32 → Prop) (d1 : ∀ v, Decidable (P1 v)) (d2 : ∀ v, Decidable (P2 v))
    (o6 o6' : BitVec 32 → Fin 3 → ℕ) (o7 o7' : BitVec 32 → Fin 2 → ℕ)
    (h6 : ∀ v, P1 v → ∀ a, o6 v a + S8x2x128.size a ≤ S63488x2x128.size a) (h6' : ∀ v, P2 v → ∀ a, o6' v a + S8x2x128.size a ≤ S63488x2x128.size a)
    (h7 : ∀ v, P1 v → ∀ a, S8x128.size a = 0 ∨ o7 v a + (![0, 1] : Fin 2 → ℕ) a * (S8x128.size a - 1) < S7936x128.size a)
    (h7' : ∀ v, P2 v → ∀ a, S8x128.size a = 0 ∨ o7' v a + (![0, 1] : Fin 2 → ℕ) a * (S8x128.size a - 1) < S7936x128.size a)
    (oW oV : Fin 4 → ℕ) (hW : ∀ a, oW a + S1x6x2x128.size a ≤ S2x11x272x128.size a) (hV : ∀ a, oV a + S1x5x2x128.size a ≤ S2x11x272x128.size a)
    (x1 : (arg12.access (Rect.unit (s := S2x11x272x128) oW S1x6x2x128.size hW)).Stores Finset.univ)
    (x2 : (arg12.access (Rect.unit (s := S2x11x272x128) oV S1x5x2x128.size hV)).Stores Finset.univ)
    (x3 : (arg11.access (Rect.unit (s := S2x11x272x128) oW S1x6x2x128.size hW)).Stores Finset.univ)
    (x4 : (arg11.access (Rect.unit (s := S2x11x272x128) oV S1x5x2x128.size hV)).Stores Finset.univ)
    (κ : Prog (TpuEff nD τ sig (Elt Ideal) Λ₀ .tc) R) : Prog (TpuEff nD τ sig (Elt Ideal) Λ₀ .tc) R :=
  smemLoadElt arg0 (Rect.unit (s := S1x8192) oA S1x1.size hA) (View.loads_smem_one rfl Gen.numel1_S1x1) (Shape.Idx.first (Gen.numel1_S1x1.symm ▸ Nat.one_pos)) fun v1 =>
  .op (.assume (P1 v1) (d1 v1)) fun c1 =>
  .op (.load arg6 (Rect.unit (s := S63488x2x128) (o6 v1) S8x2x128.size (h6 v1 c1.down)).toLoadRect (View.loadsAt_vmem Facts₀.h_S8x2x128)) fun r1 =>
  .op (.load arg7 (⟨o7 v1, S8x128.size, ![0, 1], h7 v1 c1.down⟩ : LoadRect S7936x128) (View.loadsAt_vmem Facts₀.h_S8x128)) fun n1 =>
  smemLoadElt arg0 (Rect.unit (s := S1x8192) oB S1x1.size hB) (View.loads_smem_one rfl Gen.numel1_S1x1) (Shape.Idx.first (Gen.numel1_S1x1.symm ▸ Nat.one_pos)) fun v2 =>
  .op (.assume (P2 v2) (d2 v2)) fun c2 =>
  .op (.load arg6 (Rect.unit (s := S63488x2x128) (o6' v2) S8x2x128.size (h6' v2 c2.down)).toLoadRect (View.loadsAt_vmem Facts₀.h_S8x2x128)) fun r2 =>
  .op (.load arg7 (⟨o7' v2, S8x128.size, ![0, 1], h7' v2 c2.down⟩ : LoadRect S7936x128) (View.loadsAt_vmem Facts₀.h_S8x128)) fun n2 =>
  .op (.load arg12 (Rect.unit (s := S2x11x272x128) oW S1x6x2x128.size hW).toLoadRect (View.loadsAt_vmem Facts₀.h_S1x6x2x128)) fun _ =>
  .op (.store arg12 (Rect.unit (s := S2x11x272x128) oW S1x6x2x128.size hW) (payE r1 r2) Finset.univ x1 (.inl rfl)) fun _ =>
  .op (.load arg12 (Rect.unit (s := S2x11x272x128) oV S1x5x2x128.size hV).toLoadRect (View.loadsAt_vmem Facts₀.h_S1x5x2x128)) fun _ =>
  .op (.store arg12 (Rect.unit (s := S2x11x272x128) oV S1x5x2x128.size hV) (payE' r1 r2) Finset.univ x2 (.inl rfl)) fun _ =>
  .op (.load arg11 (Rect.unit (s := S2x11x272x128) oW S1x6x2x128.size hW).toLoadRect (View.loadsAt_vmem Facts₀.h_S1x6x2x128)) fun _ =>
  .op (.store arg11 (Rect.unit (s := S2x11x272x128) oW S1x6x2x128.size hW) (payO w0 r1 n1 r2 n2) Finset.univ x3 (.inl rfl)) fun _ =>
  .op (.load arg11 (Rect.unit (s := S2x11x272x128) oV S1x5x2x128.size hV).toLoadRect (View.loadsAt_vmem Facts₀.h_S1x5x2x128)) fun _ =>
  .op (.store arg11 (Rect.unit (s := S2x11x272x128) oV S1x5x2x128.size hV) (payO' w1 r1 n1 r2 n2) Finset.univ x4 (.inl rfl)) fun _ =>
  κ

/-- The one index a scalar load's rectangle names. -/
theorem first_point (t : ℕ) (ht : t < 8192) (hA : ∀ a, (![0, t] : Fin 2 → ℕ) a + S1x1.size a ≤ S1x8192.size a) :
    (Rect.unit (s := S1x8192) ![0, t] S1x1.size hA).emb (Shape.Idx.first (Gen.numel1_S1x1.symm ▸ Nat.one_pos)) = ix2 0 ⟨t, ht⟩ := by
  funext a; apply Fin.ext
  have h : ((Rect.unit (s := S1x8192) ![0, t] S1x1.size hA).emb (Shape.Idx.first (Gen.numel1_S1x1.symm ▸ Nat.one_pos)) a : ℕ) = (![0, t] : Fin 2 → ℕ) a + 1 * ((Shape.Idx.first (Gen.numel1_S1x1.symm ▸ Nat.one_pos) : S1x1.Idx) a : ℕ) := rfl
  rw [h]
  have hz := ((Shape.Idx.first (Gen.numel1_S1x1.symm ▸ Nat.one_pos) : S1x1.Idx) a).isLt
  match a with
  | 0 => have hz' : ((Shape.Idx.first (Gen.numel1_S1x1.symm ▸ Nat.one_pos) : S1x1.Idx) 0 : ℕ) < 1 := hz
         show 0 + 1 * ((Shape.Idx.first (Gen.numel1_S1x1.symm ▸ Nat.one_pos) : S1x1.Idx) 0 : ℕ) = 0; omega
  | 1 => have hz' : ((Shape.Idx.first (Gen.numel1_S1x1.symm ▸ Nat.one_pos) : S1x1.Idx) 1 : ℕ) < 1 := hz
         show t + 1 * ((Shape.Idx.first (Gen.numel1_S1x1.symm ▸ Nat.one_pos) : S1x1.Idx) 1 : ℕ) = t; omega

/-- Eight times an id of the table, as a word. -/
theorem mul8 (v : BitVec 32) (h : v.toNat < 7936) : (v * 8#32).toNat = 8 * v.toNat := by
  rw [BitVec.toNat_mul]; show v.toNat * 8 % 4294967296 = _; omega

/-- The first row of an id's block of the table. -/
theorem off40_eq (v : BitVec 32) (h : v.toNat < 7936) : k0_off40 v = ![8 * v.toNat, 0, 0] := by
  show ![(v * 8#32).toNat, 0, 0] = _
  rw [mul8 v h]

/-- The row of an id in the inverse norms. -/
theorem off41_eq (v : BitVec 32) : k0_off41 v = ![v.toNat, 0] := rfl

/-- What the body assumes of an id holds of every id of the table. -/
theorem chk_of_lt (v : BitVec 32) (h : v.toNat < 7936) : k0_chk1 v := by
  refine ⟨?_, ?_, ?_⟩
  · show 8 ∣ (v * 8#32).toNat
    rw [mul8 v h]; exact ⟨_, rfl⟩
  · rw [off40_eq v h]
    intro a
    match a with
    | 0 => show 8 * v.toNat + 8 ≤ 63488; omega
    | 1 => show 0 + 2 ≤ 2; omega
    | 2 => show 0 + 128 ≤ 128; omega
  · rw [off41_eq]
    intro a
    match a with
    | 0 => right; show v.toNat + 0 * 7 < 7936; omega
    | 1 => right; show 0 + 1 * 127 < 128; omega

/-- A row of an id's block, read off the table. -/
theorem table_at (E : ℕ → ℕ → EReal) (g : S63488x2x128.Idx → EReal) (hg : TableOk E 7936 g) (v : BitVec 32)
    (h : ∀ a, k0_off40 v a + S8x2x128.size a ≤ S63488x2x128.size a) (hv : v.toNat < 7936) (j : Fin 8) (p : Fin 2) (l : Fin 128) (hj : 2 * j.val + p.val < 11) :
    g ((Rect.unit (s := S63488x2x128) (k0_off40 v) S8x2x128.size h).toLoadRect.idx (ix3 j p l)) = E v.toNat (128 * (2 * j.val + p.val) + l.val) := by
  have e : (Rect.unit (s := S63488x2x128) (k0_off40 v) S8x2x128.size h).toLoadRect.idx (ix3 j p l) = ix3 ⟨8 * v.toNat + j.val, by omega⟩ p l := by
    funext a; apply Fin.ext
    have q : k0_off40 v a = (![8 * v.toNat, 0, 0] : Fin 3 → ℕ) a := congrFun (off40_eq v hv) a
    show k0_off40 v a + 1 * (ix3 j p l a : ℕ) = _
    refine (congrArg (· + 1 * (ix3 j p l a : ℕ)) q).trans ?_
    match a with
    | 0 => show 8 * v.toNat + 1 * j.val = 8 * v.toNat + j.val; omega
    | 1 => show 0 + 1 * p.val = p.val; omega
    | 2 => show 0 + 1 * l.val = l.val; omega
  have hm : (8 * v.toNat + j.val) % 8 = j.val := by omega
  have hd : (8 * v.toNat + j.val) / 8 = v.toNat := by omega
  rw [e, hg _ _ _ (by show 8 * v.toNat + j.val < _; omega) (by show 2 * ((8 * v.toNat + j.val) % 8) + _ < _; omega)]
  show E ((8 * v.toNat + j.val) / 8) (128 * (2 * ((8 * v.toNat + j.val) % 8) + p.val) + l.val) = _
  rw [hm, hd]

/-- An id's inverse norm, read eight times over. -/
theorem inv_at (I : ℕ → EReal) (g : S7936x128.Idx → EReal) (hg : InvOk I 7936 g) (v : BitVec 32)
    (h : ∀ a, S8x128.size a = 0 ∨ k0_off41 v a + (![0, 1] : Fin 2 → ℕ) a * (S8x128.size a - 1) < S7936x128.size a) (hv : v.toNat < 7936) (j : Fin 8) (l : Fin 128) :
    g ((⟨k0_off41 v, S8x128.size, ![0, 1], h⟩ : LoadRect S7936x128).idx (ix2 j l)) = I v.toNat := by
  have e : (⟨k0_off41 v, S8x128.size, ![0, 1], h⟩ : LoadRect S7936x128).idx (ix2 j l) = ix2 ⟨v.toNat, hv⟩ l := by
    funext a; apply Fin.ext
    match a with
    | 0 => show v.toNat + 0 * j.val = v.toNat; omega
    | 1 => show 0 + 1 * l.val = l.val; omega
  rw [e, hg _ _ hv]

/-- After a pair's two stores, two more positions of the slot are filled. -/
theorem good_step (E' : ℕ → ℕ → EReal) (T : ℕ → ℕ) (b : ℕ) (s : Fin 2) (n : ℕ) (hn : n + 2 ≤ 256) (g : S2x11x272x128.Idx → EReal) (hg : Good E' T b s n g)
    (hW : ∀ a, (![s.val, 0, n, 0] : Fin 4 → ℕ) a + S1x6x2x128.size a ≤ S2x11x272x128.size a) (hV : ∀ a, (![s.val, 6, n, 0] : Fin 4 → ℕ) a + S1x5x2x128.size a ≤ S2x11x272x128.size a)
    (p : Vec Ideal S1x6x2x128 .bf16) (p' : Vec Ideal S1x5x2x128 .bf16)
    (hp : ∀ (h : Fin 6) (q : Fin 2) (l : Fin 128), p (ix4 0 h q l) = E' (T (256 * b + (n + q))) (128 * (2 * h.val) + l))
    (hp' : ∀ (h : Fin 5) (q : Fin 2) (l : Fin 128), p' (ix4 0 h q l) = E' (T (256 * b + (n + q))) (128 * (2 * h.val + 1) + l)) :
    Good E' T b s (n + 2) (upd (Rect.unit (s := S2x11x272x128) ![s.val, 6, n, 0] S1x5x2x128.size hV) p' (upd (Rect.unit (s := S2x11x272x128) ![s.val, 0, n, 0] S1x6x2x128.size hW) p g)) := by
  intro r q l hq
  by_cases hqn : q.val < n
  · rw [upd_axis _ _ _ _ _ (2 : Fin 4) (Or.inl hqn), upd_axis _ _ _ _ _ (2 : Fin 4) (Or.inl hqn)]
    exact hg r q l hqn
  · by_cases hr : r.val < 6
    · rw [upd_axis _ _ _ _ _ (1 : Fin 4) (Or.inl hr),
        upd_eq _ _ _ (ix4 0 ⟨r.val, hr⟩ ⟨q.val - n, by omega⟩ l)]
      · rw [hp]
        simp only [ch, if_pos hr]
        rw [Nat.add_sub_cancel' (Nat.le_of_not_lt hqn)]
      · funext a; apply Fin.ext
        match a with
        | 0 => show s.val + 1 * 0 = s.val; omega
        | 1 => show 0 + 1 * r.val = r.val; omega
        | 2 => show n + 1 * (q.val - n) = q.val; omega
        | 3 => show 0 + 1 * l.val = l.val; omega
    · rw [upd_eq _ _ _ (ix4 0 ⟨r.val - 6, by omega⟩ ⟨q.val - n, by omega⟩ l)]
      · rw [hp']
        simp only [ch, if_neg hr]
        rw [Nat.add_sub_cancel' (Nat.le_of_not_lt hqn)]
      · funext a; apply Fin.ext
        match a with
        | 0 => show s.val + 1 * 0 = s.val; omega
        | 1 => show 6 + 1 * (r.val - 6) = r.val; omega
        | 2 => show n + 1 * (q.val - n) = q.val; omega
        | 3 => show 0 + 1 * l.val = l.val; omega

/-- A pair's rectangle lies in its slot. -/
theorem unit_subset_slab (s : Fin 2) (x y : ℕ) (size : Fin 4 → ℕ) (h0 : size 0 = 1) (h) :
    (Rect.unit (s := S2x11x272x128) ![s.val, x, y, 0] size h).set ⊆ slab s := by
  intro i hi
  obtain ⟨j, hj, e⟩ := (LoadRect.mem_set _).mp hi (0 : Fin 4)
  have hj' : j < size 0 := hj
  have e' : (i (0 : Fin 4) : ℕ) = s.val + 1 * j := e
  simp only [slab, Finset.mem_filter, Finset.mem_univ, true_and]
  omega

/-- One pair: two more positions of each staging slot are filled. -/
theorem pair_wp {R : Type} (c : Dev nD) {defs : Defs nD τ sig (Elt Ideal) Λ₀} (𝒱 : Variants) (bd : Option 𝒱.V) (Q : R → sProp 𝕄)
    (arg0 : Memref sig .tc .smem S1x8192 .i32) (arg6 : Memref sig .tc .vmem S63488x2x128 .bf16) (arg7 : Memref sig .tc .vmem S7936x128 .f32)
    (arg11 arg12 : Memref sig .tc .vmem S2x11x272x128 .bf16) (w0 w1 : FVec Ideal S8x128 .f32)
    (oA oB : Fin 2 → ℕ) (hA hB) (P1 P2 : BitVec 32 → Prop) (d1 d2) (o6 o6' : BitVec 32 → Fin 3 → ℕ) (o7 o7' : BitVec 32 → Fin 2 → ℕ) (h6 h6' h7 h7')
    (oW oV : Fin 4 → ℕ) (hW hV x1 x2 x3 x4) (κ : Prog (TpuEff nD τ sig (Elt Ideal) Λ₀ .tc) R)
    (E : ℕ → ℕ → EReal) (I W : ℕ → EReal) (T : ℕ → ℕ) (b : ℕ) (s : Fin 2) (n : ℕ) (hb : b < 32) (hn : n + 2 ≤ 256)
    (eA : oA = ![0, 256 * b + n]) (eB : oB = ![0, 256 * b + n + 1]) (eW : oW = ![s.val, 0, n, 0]) (eV : oV = ![s.val, 6, n, 0])
    (e6 : ∀ v, o6 v = k0_off40 v) (e6' : ∀ v, o6' v = k0_off40 v) (e7 : ∀ v, o7 v = k0_off41 v) (e7' : ∀ v, o7' v = k0_off41 v)
    (eP1 : ∀ v, P1 v = k0_chk1 v) (eP2 : ∀ v, P2 v = k0_chk1 v)
    (q0 : PosShare TreeShare) (g0 : S1x8192.Idx → BitVec 32) (g6 : S63488x2x128.Idx → EReal) (g7 : S7936x128.Idx → EReal)
    (hg0 : IdsOk T g0) (hg6 : TableOk E 7936 g6) (hg7 : InvOk I 7936 g7) (hw0 : W0Ok W w0) (hw1 : W1Ok W w1) :
    (iprop(own (Val := Elt Ideal) (c : Thread nD τ) arg0 Finset.univ q0 g0 ∗ own (Val := Elt Ideal) (c : Thread nD τ) arg6 Finset.univ fullShare g6
        ∗ own (Val := Elt Ideal) (c : Thread nD τ) arg7 Finset.univ fullShare g7
        ∗ (∃ g, ⌜Good (outv E I W) T b s n g⌝ ∗ own (Val := Elt Ideal) (c : Thread nD τ) arg11 (slab s) fullShare g)
        ∗ (∃ g, ⌜Good E T b s n g⌝ ∗ own (Val := Elt Ideal) (c : Thread nD τ) arg12 (slab s) fullShare g)) : sProp 𝕄)
    ⊢ iprop((iprop(own (Val := Elt Ideal) (c : Thread nD τ) arg0 Finset.univ q0 g0 ∗ own (Val := Elt Ideal) (c : Thread nD τ) arg6 Finset.univ fullShare g6
        ∗ own (Val := Elt Ideal) (c : Thread nD τ) arg7 Finset.univ fullShare g7
        ∗ (∃ g, ⌜Good (outv E I W) T b s (n + 2) g⌝ ∗ own (Val := Elt Ideal) (c : Thread nD τ) arg11 (slab s) fullShare g)
        ∗ (∃ g, ⌜Good E T b s (n + 2) g⌝ ∗ own (Val := Elt Ideal) (c : Thread nD τ) arg12 (slab s) fullShare g)) -∗ wp frame (wpE defs 𝒱 (c : Thread nD τ) bd) Set.univ κ Q)
      -∗ wp frame (wpE defs 𝒱 (c : Thread nD τ) bd) Set.univ
        (pairProg arg0 arg6 arg7 arg11 arg12 w0 w1 oA oB hA hB P1 P2 d1 d2 o6 o6' o7 o7' h6 h6' h7 h7' oW oV hW hV x1 x2 x3 x4 κ) Q) := by
  subst eA eB eW eV
  obtain rfl : o6 = k0_off40 := funext e6
  obtain rfl : o6' = k0_off40 := funext e6'
  obtain rfl : o7 = k0_off41 := funext e7
  obtain rfl : o7' = k0_off41 := funext e7'
  obtain rfl : P1 = k0_chk1 := funext eP1
  obtain rfl : P2 = k0_chk1 := funext eP2
  have t1 : 256 * b + n < 8192 := by omega
  have t2 : 256 * b + n + 1 < 8192 := by omega
  obtain ⟨i1, l1⟩ := hg0 ⟨256 * b + n, t1⟩
  obtain ⟨i2, l2⟩ := hg0 ⟨256 * b + n + 1, t2⟩
  iintro ⟨H0, H6, H7, ⟨%ga, %hga, H11⟩, ⟨%gb, %hgb, H12⟩⟩ Hk
  unfold pairProg
  iapply (own_smem 𝒱 (c : Thread nD τ) bd (m := arg0) (Finset.subset_univ _)) $$ H0
  iintro H0
  have a1 : (Rect.unit (s := S1x8192) ![0, 256 * b + n] S1x1.size hA).emb (Shape.Idx.first (Gen.numel1_S1x1.symm ▸ Nat.one_pos)) = ix2 0 ⟨256 * b + n, t1⟩ := first_point _ _ _
  rw [a1]
  generalize hv1 : g0 (ix2 0 ⟨256 * b + n, t1⟩) = v1
  rw [hv1] at i1
  iapply (wp_assume 𝒱 (c : Thread nD τ) bd Set.univ (chk_of_lt v1 (by omega)))
  iapply (own_load 𝒱 (c : Thread nD τ) bd (m := arg6) (Finset.subset_univ _)) $$ H6
  iintro H6
  iapply (own_load 𝒱 (c : Thread nD τ) bd (m := arg7) (Finset.subset_univ _)) $$ H7
  iintro H7
  iapply (own_smem 𝒱 (c : Thread nD τ) bd (m := arg0) (Finset.subset_univ _)) $$ H0
  iintro H0
  have a2 : (Rect.unit (s := S1x8192) ![0, 256 * b + n + 1] S1x1.size hB).emb (Shape.Idx.first (Gen.numel1_S1x1.symm ▸ Nat.one_pos)) = ix2 0 ⟨256 * b + n + 1, t2⟩ := first_point _ _ _
  rw [a2]
  generalize hv2 : g0 (ix2 0 ⟨256 * b + n + 1, t2⟩) = v2
  rw [hv2] at i2
  iapply (wp_assume 𝒱 (c : Thread nD τ) bd Set.univ (chk_of_lt v2 (by omega)))
  iapply (own_load 𝒱 (c : Thread nD τ) bd (m := arg6) (Finset.subset_univ _)) $$ H6
  iintro H6
  iapply (own_load 𝒱 (c : Thread nD τ) bd (m := arg7) (Finset.subset_univ _)) $$ H7
  iintro H7
  iapply (own_load 𝒱 (c : Thread nD τ) bd (m := arg12) (S := slab s) (unit_subset_slab s _ _ _ rfl _)) $$ H12
  iintro H12
  iapply (own_store_upd 𝒱 (c : Thread nD τ) bd (m := arg12) (S := slab s) (unit_subset_slab s _ _ _ rfl _)) $$ H12
  iintro H12
  iapply (own_load 𝒱 (c : Thread nD τ) bd (m := arg12) (S := slab s) (unit_subset_slab s _ _ _ rfl _)) $$ H12
  iintro H12
  iapply (own_store_upd 𝒱 (c : Thread nD τ) bd (m := arg12) (S := slab s) (unit_subset_slab s _ _ _ rfl _)) $$ H12
  iintro H12
  iapply (own_load 𝒱 (c : Thread nD τ) bd (m := arg11) (S := slab s) (unit_subset_slab s _ _ _ rfl _)) $$ H11
  iintro H11
  iapply (own_store_upd 𝒱 (c : Thread nD τ) bd (m := arg11) (S := slab s) (unit_subset_slab s _ _ _ rfl _)) $$ H11
  iintro H11
  iapply (own_load 𝒱 (c : Thread nD τ) bd (m := arg11) (S := slab s) (unit_subset_slab s _ _ _ rfl _)) $$ H11
  iintro H11
  iapply (own_store_upd 𝒱 (c : Thread nD τ) bd (m := arg11) (S := slab s) (unit_subset_slab s _ _ _ rfl _)) $$ H11
  iintro H11
  iapply Hk
  isplitl [H0]; · iexact H0
  isplitl [H6]; · iexact H6
  isplitl [H7]; · iexact H7
  isplitl [H11]
  · iexists _
    isplitr
    swap; · iexact H11
    ipureintro
    refine good_step _ T b s n hn ga hga _ _ _ _ (fun h q l => ?_) (fun h q l => ?_)
    · rw [payO_apply]
      split_ifs with hq
      · rw [table_at E g6 hg6 v1 _ (by omega) _ 0 l (by show 2 * h.val + 0 < 11; omega), inv_at I g7 hg7 v1 _ (by omega), hw0 _ l h.isLt, i1, hq]; rfl
      · rw [table_at E g6 hg6 v2 _ (by omega) _ 0 l (by show 2 * h.val + 0 < 11; omega), inv_at I g7 hg7 v2 _ (by omega), hw0 _ l h.isLt, i2, (by omega : q.val = 1)]; rfl
    · rw [payO'_apply]
      split_ifs with hq
      · rw [table_at E g6 hg6 v1 _ (by omega) _ 1 l (by show 2 * h.val + 1 < 11; omega), inv_at I g7 hg7 v1 _ (by omega), hw1 _ l h.isLt, i1, hq]; rfl
      · rw [table_at E g6 hg6 v2 _ (by omega) _ 1 l (by show 2 * h.val + 1 < 11; omega), inv_at I g7 hg7 v2 _ (by omega), hw1 _ l h.isLt, i2, (by omega : q.val = 1)]; rfl
  · iexists _
    isplitr
    swap; · iexact H12
    ipureintro
    refine good_step _ T b s n hn gb hgb _ _ _ _ (fun h q l => ?_) (fun h q l => ?_)
    · rw [payE_apply]
      split_ifs with hq
      · rw [table_at E g6 hg6 v1 _ (by omega) _ 0 l (by show 2 * h.val + 0 < 11; omega), i1, hq]; rfl
      · rw [table_at E g6 hg6 v2 _ (by omega) _ 0 l (by show 2 * h.val + 0 < 11; omega), i2, (by omega : q.val = 1)]; rfl
    · rw [payE'_apply]
      split_ifs with hq
      · rw [table_at E g6 hg6 v1 _ (by omega) _ 1 l (by show 2 * h.val + 1 < 11; omega), i1, hq]; rfl
      · rw [table_at E g6 hg6 v2 _ (by omega) _ 1 l (by show 2 * h.val + 1 < 11; omega), i2, (by omega : q.val = 1)]; rfl

end Cert.Proof.KernelIdeal
-- ==== Proof.Ideal.Out.lean ====
/-
  The transfers of a block's rows from a slot of the two staging buffers to the two results: one transfer of 256 rows by
  128 columns for each chunk and each result, all on the slot's semaphore, issued together and awaited together.
-/
module

public import proofs.«01_k».proof.Proof.Ideal.Pair

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

/-- The algebra's counters, which the batches of transfers use. -/
abbrev EC : UEmb Counters 𝕄 := countersEmb (U := Pipeline.UD sig nD τ)

/-- The rows of slot `s` the transfers of chunks below `c` leave: the slack rows and the later chunks. -/
def srcRem (s : Fin 2) (c : ℕ) : Finset S2x11x272x128.Idx := Finset.univ.filter fun i => (i (0 : Fin 4) : ℕ) = s.val ∧ (256 ≤ (i (2 : Fin 4) : ℕ) ∨ c ≤ ch (i (1 : Fin 4)))
/-- Those already back: the slack rows and the chunks below `c`. -/
def srcAcc (s : Fin 2) (c : ℕ) : Finset S2x11x272x128.Idx := Finset.univ.filter fun i => (i (0 : Fin 4) : ℕ) = s.val ∧ (256 ≤ (i (2 : Fin 4) : ℕ) ∨ ch (i (1 : Fin 4)) < c)
/-- The rows of chunk `c` in slot `s`. -/
def piece (s : Fin 2) (c : ℕ) : Finset S2x11x272x128.Idx := Finset.univ.filter fun i => (i (0 : Fin 4) : ℕ) = s.val ∧ (i (2 : Fin 4) : ℕ) < 256 ∧ ch (i (1 : Fin 4)) = c
/-- Block `b`'s rows and the later ones, without the chunks below `c` of the block. -/
def dstRem (b c : ℕ) : Finset S8192x1408.Idx := Finset.univ.filter fun i => 256 * b ≤ (i (0 : Fin 2) : ℕ) ∧ (256 * (b + 1) ≤ (i (0 : Fin 2) : ℕ) ∨ c ≤ (i (1 : Fin 2) : ℕ) / 128)
/-- The rows of the blocks before `b`, and the chunks below `c` of block `b`. -/
def dstAcc (b c : ℕ) : Finset S8192x1408.Idx := Finset.univ.filter fun i => (i (0 : Fin 2) : ℕ) < 256 * b ∨ ((i (0 : Fin 2) : ℕ) < 256 * (b + 1) ∧ (i (1 : Fin 2) : ℕ) / 128 < c)
/-- Chunk `c` of block `b`'s rows of a result. -/
def dst (b c : ℕ) : Finset S8192x1408.Idx := Finset.univ.filter fun i => 256 * b ≤ (i (0 : Fin 2) : ℕ) ∧ (i (0 : Fin 2) : ℕ) < 256 * (b + 1) ∧ (i (1 : Fin 2) : ℕ) / 128 = c

/-- A result in full: row `t` is the row of `E'` of the id at `t`. -/
def fin (E' : ℕ → ℕ → EReal) (T : ℕ → ℕ) (i : S8192x1408.Idx) : EReal := E' (T (i (0 : Fin 2))) (i (1 : Fin 2))

/-- What one transfer delivers: the chunk of the result, and the staging rows back. -/
def Dw (c : Dev nD) (ms : Memref sig .tc .vmem S2x11x272x128 .bf16) (md : Memref sig .tc .hbm S8192x1408 .bf16) (E' : ℕ → ℕ → EReal) (T : ℕ → ℕ) (b : ℕ) (s : Fin 2) (k : ℕ) : sProp 𝕄 :=
  iprop(own (Val := Elt Ideal) (c : Thread nD τ) md (dst b k) fullShare (fin E' T) ∗ ∃ g, own (Val := Elt Ideal) (c : Thread nD τ) ms (piece s k) fullShare g)

/-- The block's 22 transfers: chunk by chunk, the result's before the embedding's. -/
def Dt (c : Dev nD) (ms₁ : Memref sig .tc .vmem S2x11x272x128 .bf16) (md₁ : Memref sig .tc .hbm S8192x1408 .bf16) (E₁ : ℕ → ℕ → EReal)
    (ms₂ : Memref sig .tc .vmem S2x11x272x128 .bf16) (md₂ : Memref sig .tc .hbm S8192x1408 .bf16) (E₂ : ℕ → ℕ → EReal) (T : ℕ → ℕ) (b : ℕ) (s : Fin 2) (t : Fin 22) : sProp 𝕄 :=
  if t.val % 2 = 0 then Dw c ms₁ md₁ E₁ T b s (t.val / 2) else Dw c ms₂ md₂ E₂ T b s (t.val / 2)

instance Dw_storable (c : Dev nD) (ms : Memref sig .tc .vmem S2x11x272x128 .bf16) (md : Memref sig .tc .hbm S8192x1408 .bf16) (E' : ℕ → ℕ → EReal) (T : ℕ → ℕ) (b : ℕ) (s : Fin 2) (k : ℕ) :
    Storable (upEmb : UEmb _ 𝕄) (Dw c ms md E' T b s k) := by unfold Dw; infer_instance

instance Dt_storable (c : Dev nD) (ms₁ : Memref sig .tc .vmem S2x11x272x128 .bf16) (md₁ : Memref sig .tc .hbm S8192x1408 .bf16) (E₁ : ℕ → ℕ → EReal)
    (ms₂ : Memref sig .tc .vmem S2x11x272x128 .bf16) (md₂ : Memref sig .tc .hbm S8192x1408 .bf16) (E₂ : ℕ → ℕ → EReal) (T : ℕ → ℕ) (b : ℕ) (s : Fin 2) (t : Fin 22) :
    Storable (upEmb : UEmb _ 𝕄) (Dt c ms₁ md₁ E₁ ms₂ md₂ E₂ T b s t) := by unfold Dt; split <;> infer_instance

section Pick
variable (c : Dev nD) (ms₁ : Memref sig .tc .vmem S2x11x272x128 .bf16) (md₁ : Memref sig .tc .hbm S8192x1408 .bf16) (E₁ : ℕ → ℕ → EReal)
    (ms₂ : Memref sig .tc .vmem S2x11x272x128 .bf16) (md₂ : Memref sig .tc .hbm S8192x1408 .bf16) (E₂ : ℕ → ℕ → EReal) (T : ℕ → ℕ) (b : ℕ) (s : Fin 2)
/-- An even transfer is the result's. -/
theorem Dt_even (t : Fin 22) (k : ℕ) (h : t.val = 2 * k) : Dt c ms₁ md₁ E₁ ms₂ md₂ E₂ T b s t = Dw c ms₁ md₁ E₁ T b s k := by
  unfold Dt; rw [if_pos (by omega), show t.val / 2 = k by omega]
/-- An odd transfer is the embedding's. -/
theorem Dt_odd (t : Fin 22) (k : ℕ) (h : t.val = 2 * k + 1) : Dt c ms₁ md₁ E₁ ms₂ md₂ E₂ T b s t = Dw c ms₂ md₂ E₂ T b s k := by
  unfold Dt; rw [if_neg (by omega), show t.val / 2 = k by omega]
end Pick

/-- The slot's semaphore. -/
def cellO (a : DmaSems sig S2) (s : Fin 2) : DmaSem sig := a.ix (ix1 s)

/-- A slot's semaphore, as the program names it. -/
theorem cellO_eq (a : DmaSems sig S2) (s : Fin 2) (off : Fin 1 → ℕ) (ho : off = ![s.val]) (h : ∀ x, off x + S1.size x ≤ S2.size x) (hq : S1.Squeezes S_) :
    ((a.slice (Rect.unit (s := S2) off S1.size h)).squeeze S_ hq).sem = cellO a s := by
  subst ho
  show a.ix _ = a.ix _
  congr 1
  funext x
  match x with
  | 0 => exact Fin.ext (by
      show s.val + 1 * _ = s.val
      have : ∀ j : Fin 1, s.val + 1 * j.val = s.val := fun j => by omega
      exact this _)

/-- The row of a staging slot holding chunk `c`. -/
def rowOf (c : ℕ) : ℕ := (c % 2) * 6 + c / 2

/-- The chunk of a row, and back. -/
theorem ch_rowOf {c : ℕ} (hc : c < 11) : ch (rowOf c) = c := by
  unfold ch rowOf; split_ifs <;> omega
/-- The chunk in row `r` of a slot is in row `r`. -/
theorem rowOf_ch {r : ℕ} (hr : r < 11) : rowOf (ch r) = r := by
  unfold ch rowOf; split_ifs <;> omega

/-- The rectangle of a transfer's source. -/
theorem src_set (s : Fin 2) (k : ℕ) (hk : k < 11) (off : Fin 4 → ℕ) (ho : off = ![s.val, rowOf k, 0, 0]) (h) :
    (Rect.unit (s := S2x11x272x128) off S1x1x256x128.size h).set = piece s k := by
  subst ho
  ext i
  simp only [piece, Finset.mem_filter, Finset.mem_univ, true_and]
  have h1 : (i (1 : Fin 4) : ℕ) < 11 := (i (1 : Fin 4)).isLt
  have h3 : (i (3 : Fin 4) : ℕ) < 128 := (i (3 : Fin 4)).isLt
  have hr := ch_rowOf hk
  constructor
  · intro hi
    have q := (Rect.mem_set_unit).mp hi
    have q0 : s.val ≤ (i (0 : Fin 4) : ℕ) ∧ (i (0 : Fin 4) : ℕ) < s.val + 1 := q 0
    have q1 : rowOf k ≤ (i (1 : Fin 4) : ℕ) ∧ (i (1 : Fin 4) : ℕ) < rowOf k + 1 := q 1
    have q2 : 0 ≤ (i (2 : Fin 4) : ℕ) ∧ (i (2 : Fin 4) : ℕ) < 0 + 256 := q 2
    have e1 : (i (1 : Fin 4) : ℕ) = rowOf k := by omega
    refine ⟨by omega, by omega, ?_⟩
    rw [e1, hr]
  · rintro ⟨e0, e2, e1⟩
    have e1' : (i (1 : Fin 4) : ℕ) = rowOf k := by rw [← e1, rowOf_ch h1]
    refine (Rect.mem_set_unit).mpr fun a => ?_
    match a with
    | 0 => show s.val ≤ (i (0 : Fin 4) : ℕ) ∧ (i (0 : Fin 4) : ℕ) < s.val + 1; omega
    | 1 => show rowOf k ≤ (i (1 : Fin 4) : ℕ) ∧ (i (1 : Fin 4) : ℕ) < rowOf k + 1; omega
    | 2 => show 0 ≤ (i (2 : Fin 4) : ℕ) ∧ (i (2 : Fin 4) : ℕ) < 0 + 256; omega
    | 3 => show 0 ≤ (i (3 : Fin 4) : ℕ) ∧ (i (3 : Fin 4) : ℕ) < 0 + 128; omega

/-- The rectangle of a transfer's destination. -/
theorem dst_set (b k : ℕ) (off : Fin 2 → ℕ) (ho : off = ![256 * b, 128 * k]) (h) :
    (Rect.unit (s := S8192x1408) off S256x128.size h).set = dst b k := by
  subst ho
  ext i
  simp only [dst, Finset.mem_filter, Finset.mem_univ, true_and]
  constructor
  · intro hi
    have q := (Rect.mem_set_unit).mp hi
    have q0 : 256 * b ≤ (i (0 : Fin 2) : ℕ) ∧ (i (0 : Fin 2) : ℕ) < 256 * b + 256 := q 0
    have q1 : 128 * k ≤ (i (1 : Fin 2) : ℕ) ∧ (i (1 : Fin 2) : ℕ) < 128 * k + 128 := q 1
    omega
  · rintro ⟨e0, e2, e1⟩
    refine (Rect.mem_set_unit).mpr fun a => ?_
    match a with
    | 0 => show 256 * b ≤ (i (0 : Fin 2) : ℕ) ∧ (i (0 : Fin 2) : ℕ) < 256 * b + 256; omega
    | 1 => show 128 * k ≤ (i (1 : Fin 2) : ℕ) ∧ (i (1 : Fin 2) : ℕ) < 128 * k + 128; omega

/-- Row `k` of a slot is among its rows from `k` on. -/
theorem piece_sub (s : Fin 2) (k : ℕ) : piece s k ⊆ srcRem s k := by
  intro i; simp only [piece, srcRem, Finset.mem_filter, Finset.mem_univ, true_and]; omega
/-- Without row `k`, a slot's rows from `k` on are those from `k + 1` on. -/
theorem srcRem_sdiff (s : Fin 2) (k : ℕ) : srcRem s k \ piece s k = srcRem s (k + 1) := by
  ext i; simp only [piece, srcRem, Finset.mem_sdiff, Finset.mem_filter, Finset.mem_univ, true_and]; omega
/-- The place row `k` goes to is among those not yet sent to. -/
theorem dst_sub (b k : ℕ) : dst b k ⊆ dstRem b k := by
  intro i; simp only [dst, dstRem, Finset.mem_filter, Finset.mem_univ, true_and]; omega
/-- Without row `k`'s place, those not yet sent to are the next row's. -/
theorem dstRem_sdiff (b k : ℕ) : dstRem b k \ dst b k = dstRem b (k + 1) := by
  ext i; simp only [dst, dstRem, Finset.mem_sdiff, Finset.mem_filter, Finset.mem_univ, true_and]; omega
/-- Row `k` of a slot is not among its earlier rows. -/
theorem srcAcc_disj (s : Fin 2) (k : ℕ) : Disjoint (srcAcc s k) (piece s k) := by
  rw [Finset.disjoint_left]; intro i; simp only [piece, srcAcc, Finset.mem_filter, Finset.mem_univ, true_and]; omega
/-- A slot's rows before `k` and row `k` are those before `k + 1`. -/
theorem srcAcc_union (s : Fin 2) (k : ℕ) : srcAcc s k ∪ piece s k = srcAcc s (k + 1) := by
  ext i; simp only [piece, srcAcc, Finset.mem_union, Finset.mem_filter, Finset.mem_univ, true_and]; omega
/-- Row `k`'s place is not among the earlier ones. -/
theorem dstAcc_disj (b k : ℕ) : Disjoint (dstAcc b k) (dst b k) := by
  rw [Finset.disjoint_left]; intro i; simp only [dst, dstAcc, Finset.mem_filter, Finset.mem_univ, true_and]; omega
/-- The places before row `k`'s and row `k`'s are those before row `k + 1`'s. -/
theorem dstAcc_union (b k : ℕ) : dstAcc b k ∪ dst b k = dstAcc b (k + 1) := by
  ext i; simp only [dst, dstAcc, Finset.mem_union, Finset.mem_filter, Finset.mem_univ, true_and]; omega
/-- A slot is its rows from 0 on. -/
theorem slab_eq_srcRem (s : Fin 2) : slab s = srcRem s 0 := by
  ext i; simp only [slab, srcRem, Finset.mem_filter, Finset.mem_univ, true_and]; omega
/-- After its last row a slot has none left, and before its first none behind. -/
theorem srcRem_eq_srcAcc (s : Fin 2) : srcRem s 11 = srcAcc s 0 := by
  ext i
  have h1 : (i (1 : Fin 4) : ℕ) < 11 := (i (1 : Fin 4)).isLt
  have : ch (i (1 : Fin 4)) < 11 := by unfold ch; split_ifs <;> omega
  simp only [srcAcc, srcRem, Finset.mem_filter, Finset.mem_univ, true_and]; omega
/-- A slot's rows before 11 are the slot. -/
theorem srcAcc_eq_slab (s : Fin 2) : srcAcc s 11 = slab s := by
  ext i
  have h1 : (i (1 : Fin 4) : ℕ) < 11 := (i (1 : Fin 4)).isLt
  have : ch (i (1 : Fin 4)) < 11 := by unfold ch; split_ifs <;> omega
  simp only [srcAcc, slab, Finset.mem_filter, Finset.mem_univ, true_and]; omega
/-- What is left after a block's last row is what the next block starts with. -/
theorem dstRem_next (b : ℕ) : dstRem b 11 = dstRem (b + 1) 0 := by
  ext i
  have h1 : (i (1 : Fin 2) : ℕ) < 1408 := (i (1 : Fin 2)).isLt
  simp only [dstRem, Finset.mem_filter, Finset.mem_univ, true_and]; omega
/-- What is done after a block's last row is what the next block starts from. -/
theorem dstAcc_next (b : ℕ) : dstAcc b 11 = dstAcc (b + 1) 0 := by
  ext i
  have h1 : (i (1 : Fin 2) : ℕ) < 1408 := (i (1 : Fin 2)).isLt
  simp only [dstAcc, Finset.mem_filter, Finset.mem_univ, true_and]; omega
/-- Before the first block a result is all to come. -/
theorem dstRem_zero : dstRem 0 0 = Finset.univ := by
  ext i; simp only [dstRem, Finset.mem_filter, Finset.mem_univ, true_and, iff_true]; exact ⟨Nat.zero_le _, Or.inr (Nat.zero_le _)⟩
/-- Before the first block nothing of a result is done. -/
theorem dstAcc_zero : dstAcc 0 0 = ∅ := by
  ext i; simp only [dstAcc, Finset.mem_filter, Finset.mem_univ, true_and, Finset.notMem_empty, iff_false]
  rintro (h | ⟨-, h⟩) <;> exact absurd h (Nat.not_lt_zero _)
/-- After the last block a result is all done. -/
theorem dstAcc_full : dstAcc 32 0 = Finset.univ := by
  ext i
  have h1 : (i (0 : Fin 2) : ℕ) < 8192 := (i (0 : Fin 2)).isLt
  simp only [dstAcc, Finset.mem_filter, Finset.mem_univ, true_and, iff_true]; exact Or.inl h1

/-- A transfer moves the values it should: row `q` of the staging row of chunk `k` is row `256 b + q` of the result. -/
theorem moves (E' : ℕ → ℕ → EReal) (T : ℕ → ℕ) (b : ℕ) (s : Fin 2) (k : ℕ) (hk : k < 11) (gs : S2x11x272x128.Idx → EReal) (hgs : Good E' T b s 256 gs)
    (offs : Fin 4 → ℕ) (hos : offs = ![s.val, rowOf k, 0, 0]) (hs) (offd : Fin 2 → ℕ) (hod : offd = ![256 * b, 128 * k]) (hd)
    (hq : S1x1x256x128.Squeezes S256x128) (x : S256x128.Idx) :
    fin E' T ((Rect.unit (s := S8192x1408) offd S256x128.size hd).emb x) = gs ((Rect.unit (s := S2x11x272x128) offs S1x1x256x128.size hs).emb (Shape.reshapeEquiv hq.numel_eq x)) := by
  subst hos hod
  have hr : rowOf k < 11 := by unfold rowOf; omega
  obtain ⟨q, l, rfl⟩ : ∃ (q : Fin 256) (l : Fin 128), x = ix2 q l := ⟨x 0, x 1, eq_ix2 x⟩
  have e : (Shape.reshapeEquiv hq.numel_eq (ix2 q l) : S1x1x256x128.Idx) = ix4 0 0 q l := by
    pointwise
  have e' : (Rect.unit (s := S2x11x272x128) ![s.val, rowOf k, 0, 0] S1x1x256x128.size hs).emb (ix4 0 0 q l) = ix4 s ⟨rowOf k, hr⟩ ⟨q.val, by omega⟩ l := by
    funext a; apply Fin.ext
    match a with
    | 0 => show s.val + 1 * 0 = s.val; omega
    | 1 => show rowOf k + 1 * 0 = rowOf k; omega
    | 2 => show 0 + 1 * q.val = q.val; omega
    | 3 => show 0 + 1 * l.val = l.val; omega
  rw [e, e', hgs _ _ _ q.isLt]
  show E' (T (256 * b + 1 * q.val)) (128 * k + 1 * l.val) = E' (T (256 * b + q.val)) (128 * ch (rowOf k) + l.val)
  rw [ch_rowOf hk, one_mul, one_mul]

/-- One transfer is issued. -/
theorem issue {R : Type} (c : Dev nD) {defs : Defs nD τ sig (Elt Ideal) Λ₀} (𝒱 : Variants) (bd : Option 𝒱.V) (Q : R → sProp 𝕄)
    (ms : Memref sig .tc .vmem S2x11x272x128 .bf16) (md : Memref sig .tc .hbm S8192x1408 .bf16) (a : DmaSems sig S2) (E' : ℕ → ℕ → EReal) (T : ℕ → ℕ) (b : ℕ) (s : Fin 2) (k : ℕ) (hk : k < 11)
    (N : ℕ) (hN : md.view.ref.dmaCredit S256x128 .bf16 = N) (D : Fin 22 → sProp 𝕄) (j : ℕ) (hj : j < 22) (hD : Dw c ms md E' T b s k ⊢ D ⟨j, hj⟩)
    (gs : S2x11x272x128.Idx → EReal) (hgs : Good E' T b s 256 gs) (gd : S8192x1408.Idx → EReal)
    {offs : Fin 4 → ℕ} (hos : offs = ![s.val, rowOf k, 0, 0]) {hs} {offd : Fin 2 → ℕ} (hod : offd = ![256 * b, 128 * k]) {hd} {hq : S1x1x256x128.Squeezes S256x128}
    {os : Fin 1 → ℕ} (ho : os = ![s.val]) {ho'} {hq'} {u1 u2 h1 h2 h3} {κ : PUnit → Prog (TpuEff nD τ sig (Elt Ideal) Λ₀ .tc) R} :
    (iprop(own (Val := Elt Ideal) (c : Thread nD τ) ms (srcRem s k) fullShare gs ∗ own (Val := Elt Ideal) (c : Thread nD τ) md (dstRem b k) fullShare gd
        ∗ Transfers.Batch EC (c : Thread nD τ) (.dma (cellO a s)) () N D j 0) : sProp 𝕄)
    ⊢ iprop((iprop(own (Val := Elt Ideal) (c : Thread nD τ) ms (srcRem s (k + 1)) fullShare gs ∗ own (Val := Elt Ideal) (c : Thread nD τ) md (dstRem b (k + 1)) fullShare gd
        ∗ Transfers.Batch EC (c : Thread nD τ) (.dma (cellO a s)) () N D (j + 1) 0) -∗ wp frame (wpE defs 𝒱 (c : Thread nD τ) bd) Set.univ (κ ⟨⟩) Q)
      -∗ wp frame (wpE defs 𝒱 (c : Thread nD τ) bd) Set.univ
        (.op (.enqueueDmaAs ((ms.slice (Rect.unit (s := S2x11x272x128) offs S1x1x256x128.size hs) u1).squeeze S256x128 hq)
          (.here (md.slice (Rect.unit (s := S8192x1408) offd S256x128.size hd) u2)) .same (.dma ((a.slice (Rect.unit (s := S2) os S1.size ho')).squeeze S_ hq').sem) h1 h2 h3) κ) Q) := by
  have hsem := cellO_eq a s os ho ho' hq'
  iintro ⟨Hs, Hd, HB⟩ Hk
  ihave H := (own_sub (piece_sub s k)) $$ Hs
  icases H with ⟨Hs, Hs'⟩
  ihave H := (own_sub (dst_sub b k)) $$ Hd
  icases H with ⟨Hd, Hd'⟩
  rw [srcRem_sdiff, dstRem_sdiff, ← hsem]
  iapply (own_dma_out (c := (c : Thread nD τ)) 𝒱 bd EC (fin E' T) (src_set s k hk offs hos hs) (dst_set b k offd hod hd)
    (fun x => moves E' T b s k hk gs hgs offs hos hs offd hod hd hq x) (by exact hN) hj (Nat.zero_le _) ?_) $$ [Hs Hd HB]
  · refine BIBase.Entails.trans ?_ hD
    unfold Dw
    iintro ⟨Hd, Hs⟩
    isplitl [Hd]; · iexact Hd
    iexists gs; iexact Hs
  · isplitl [Hs]; · iexact Hs
    isplitl [Hd]; · iexact Hd
    iexact HB
  iintro HB
  iapply Hk
  isplitl [Hs']; · iexact Hs'
  isplitl [Hd']; · iexact Hd'
  iexact HB

/-- A wait that does not drain the slot's batch. -/
theorem wait_one {R : Type} (c : Dev nD) {defs : Defs nD τ sig (Elt Ideal) Λ₀} (𝒱 : Variants) (bd : Option 𝒱.V) (Q : R → sProp 𝕄) (a : DmaSems sig S2) (s : Fin 2)
    (N : ℕ) (D : Fin 22 → sProp 𝕄) (j : ℕ) (hj : j + 1 < 22) (h0 : 0 < N) {sp sp' : Space} {s' : Shape}
    {srcw : Memref sig .tc sp' s' .bf16} {md : Memref sig .tc sp S8192x1408 .bf16} (hN : md.view.ref.dmaCredit S256x128 .bf16 = N) {offd : Fin 2 → ℕ} {hd} {u2}
    {os : Fin 1 → ℕ} (ho : os = ![s.val]) {ho'} {hq'} {h1 h2} {κ : PUnit → Prog (TpuEff nD τ sig (Elt Ideal) Λ₀ .tc) R} :
    (iprop(Transfers.Batch EC (c : Thread nD τ) (.dma (cellO a s)) () N D 22 (j * N) ∗ ∃ W, owes (c : Thread nD τ) (0 : CellTallies nD τ sig Unit) W) : sProp 𝕄)
    ⊢ iprop((iprop(Transfers.Batch EC (c : Thread nD τ) (.dma (cellO a s)) () N D 22 ((j + 1) * N) ∗ ∃ W, owes (c : Thread nD τ) (0 : CellTallies nD τ sig Unit) W) -∗ wp frame (wpE defs 𝒱 (c : Thread nD τ) bd) Set.univ (κ ⟨⟩) Q)
      -∗ wp frame (wpE defs 𝒱 (c : Thread nD τ) bd) Set.univ
        (.op (.waitDma2 ((a.slice (Rect.unit (s := S2) os S1.size ho')).squeeze S_ hq').sem srcw (md.slice (Rect.unit (s := S8192x1408) offd S256x128.size hd) u2) h1 h2) κ) Q) := by
  have hsem := cellO_eq a s os ho ho' hq'
  have hu : j * N + N < N * 22 := by
    rw [← Nat.succ_mul, Nat.mul_comm]; exact Nat.mul_lt_mul_of_pos_left hj h0
  iintro ⟨HB, ⟨%W, HO⟩⟩ Hk
  rw [← hsem]
  iapply (Transfers.wp_waitBatch EC 𝒱 (c : Thread nD τ) bd () (N := N) hN (u := j * N) (n := 22) hu) $$ [HB HO]
  · isplitl [HB]; · iexact HB
    iexact HO
  iintro ⟨HB, HO⟩
  iapply Hk
  isplitl [HB]
  · rw [Nat.succ_mul]; iexact HB
  iexists _; iexact HO

/-- The wait that drains the slot's batch. -/
theorem wait_last {R : Type} (c : Dev nD) {defs : Defs nD τ sig (Elt Ideal) Λ₀} (𝒱 : Variants) (bd : Option 𝒱.V) (Q : R → sProp 𝕄) (a : DmaSems sig S2) (s : Fin 2)
    (N : ℕ) (D : Fin 22 → sProp 𝕄) (h0 : 0 < N) {sp sp' : Space} {s' : Shape}
    {srcw : Memref sig .tc sp' s' .bf16} {md : Memref sig .tc sp S8192x1408 .bf16} (hN : md.view.ref.dmaCredit S256x128 .bf16 = N) {offd : Fin 2 → ℕ} {hd} {u2}
    {os : Fin 1 → ℕ} (ho : os = ![s.val]) {ho'} {hq'} {h1 h2} {κ : PUnit → Prog (TpuEff nD τ sig (Elt Ideal) Λ₀ .tc) R} :
    (iprop(Transfers.Batch EC (c : Thread nD τ) (.dma (cellO a s)) () N D 22 (21 * N) ∗ ∃ W, owes (c : Thread nD τ) (0 : CellTallies nD τ sig Unit) W) : sProp 𝕄)
    ⊢ iprop((iprop(bigSep Finset.univ D ∗ semVal ((c : Thread nD τ), SemLoc.dma (cellO a s)) 0 ∗ ∃ W, owes (c : Thread nD τ) (0 : CellTallies nD τ sig Unit) W) -∗ wp frame (wpE defs 𝒱 (c : Thread nD τ) bd) Set.univ (κ ⟨⟩) Q)
      -∗ wp frame (wpE defs 𝒱 (c : Thread nD τ) bd) Set.univ
        (.op (.waitDma2 ((a.slice (Rect.unit (s := S2) os S1.size ho')).squeeze S_ hq').sem srcw (md.slice (Rect.unit (s := S8192x1408) offd S256x128.size hd) u2) h1 h2) κ) Q) := by
  have hsem := cellO_eq a s os ho ho' hq'
  iintro ⟨HB, ⟨%W, HO⟩⟩ Hk
  rw [← hsem]
  iapply (Transfers.wp_waitBatchLast EC 𝒱 (c : Thread nD τ) bd () (N := N) hN h0 (u := 21 * N) (n := 22) (by omega)) $$ [HB HO]
  · isplitl [HB]; · iexact HB
    iexact HO
  iintro ⟨HD, Hv, HO⟩
  iapply Hk
  isplitl [HD]; · iexact HD
  isplitl [Hv]; · iexact Hv
  iexists _; iexact HO

/-- One delivery joins what is already back. -/
theorem take_one (c : Dev nD) (ms : Memref sig .tc .vmem S2x11x272x128 .bf16) (md : Memref sig .tc .hbm S8192x1408 .bf16) (E' : ℕ → ℕ → EReal) (T : ℕ → ℕ) (b : ℕ) (s : Fin 2) (k : ℕ) :
    (iprop((own (Val := Elt Ideal) (c : Thread nD τ) md (dstAcc b k) fullShare (fin E' T) ∗ ∃ g, own (Val := Elt Ideal) (c : Thread nD τ) ms (srcAcc s k) fullShare g) ∗ Dw c ms md E' T b s k) : sProp 𝕄)
    ⊢ iprop(own (Val := Elt Ideal) (c : Thread nD τ) md (dstAcc b (k + 1)) fullShare (fin E' T) ∗ ∃ g, own (Val := Elt Ideal) (c : Thread nD τ) ms (srcAcc s (k + 1)) fullShare g) := by
  unfold Dw
  iintro ⟨⟨Hd, ⟨%g, Hs⟩⟩, ⟨Hd', ⟨%g', Hs'⟩⟩⟩
  isplitl [Hd Hd']
  · ihave H := (own_join (dstAcc_disj b k)) $$ [Hd Hd']
    · isplitl [Hd]; · iexact Hd
      iexact Hd'
    rw [dstAcc_union]
    iexact H
  · have hd := srcAcc_disj s k
    iexists ((piece s k).piecewise g' g)
    ihave H1 := (own_congr (g' := (piece s k).piecewise g' g) (fun i hi => (Finset.piecewise_eq_of_notMem _ _ _ (Finset.disjoint_left.mp hd hi)).symm)) $$ Hs
    ihave H2 := (own_congr (g' := (piece s k).piecewise g' g) (fun i hi => (Finset.piecewise_eq_of_mem _ _ _ hi).symm)) $$ Hs'
    ihave H := (own_join hd) $$ [H1 H2]
    · isplitl [H1]; · iexact H1
      iexact H2
    rw [srcAcc_union]
    iexact H

/-- A list's separating conjunction, one element off. -/
theorem bigSepL_cons_sep {J : Type} (i : J) (l : List J) (Φ : J → sProp 𝕄) : BI.bigSepL (i :: l) Φ = iprop(Φ i ∗ BI.bigSepL l Φ) := BI.bigSepL_cons i l Φ

/-- All of a block's deliveries: the block's rows of both results are final, and the two staging slots are back. -/
theorem take_all (c : Dev nD) (ms₁ : Memref sig .tc .vmem S2x11x272x128 .bf16) (md₁ : Memref sig .tc .hbm S8192x1408 .bf16) (E₁ : ℕ → ℕ → EReal)
    (ms₂ : Memref sig .tc .vmem S2x11x272x128 .bf16) (md₂ : Memref sig .tc .hbm S8192x1408 .bf16) (E₂ : ℕ → ℕ → EReal) (T : ℕ → ℕ) (b : ℕ) (s : Fin 2) :
    (iprop((own (Val := Elt Ideal) (c : Thread nD τ) md₁ (dstAcc b 0) fullShare (fin E₁ T) ∗ ∃ g, own (Val := Elt Ideal) (c : Thread nD τ) ms₁ (srcRem s 11) fullShare g) ∗ (own (Val := Elt Ideal) (c : Thread nD τ) md₂ (dstAcc b 0) fullShare (fin E₂ T) ∗ ∃ g, own (Val := Elt Ideal) (c : Thread nD τ) ms₂ (srcRem s 11) fullShare g)
      ∗ bigSep Finset.univ (Dt c ms₁ md₁ E₁ ms₂ md₂ E₂ T b s)) : sProp 𝕄)
    ⊢ iprop((own (Val := Elt Ideal) (c : Thread nD τ) md₁ (dstAcc (b + 1) 0) fullShare (fin E₁ T) ∗ ∃ g, own (Val := Elt Ideal) (c : Thread nD τ) ms₁ (slab s) fullShare g) ∗ (own (Val := Elt Ideal) (c : Thread nD τ) md₂ (dstAcc (b + 1) 0) fullShare (fin E₂ T) ∗ ∃ g, own (Val := Elt Ideal) (c : Thread nD τ) ms₂ (slab s) fullShare g)) := by
  rw [srcRem_eq_srcAcc, BI.bigSep_eq_bigSepL_of_eq [(0 : Fin 22), (1 : Fin 22), (2 : Fin 22), (3 : Fin 22), (4 : Fin 22), (5 : Fin 22), (6 : Fin 22), (7 : Fin 22), (8 : Fin 22), (9 : Fin 22), (10 : Fin 22), (11 : Fin 22), (12 : Fin 22), (13 : Fin 22), (14 : Fin 22), (15 : Fin 22), (16 : Fin 22), (17 : Fin 22), (18 : Fin 22), (19 : Fin 22), (20 : Fin 22), (21 : Fin 22)] (by decide) (by decide)]
  simp only [bigSepL_cons_sep, BI.bigSepL_nil]
  iintro ⟨A, B, D0, D1, D2, D3, D4, D5, D6, D7, D8, D9, D10, D11, D12, D13, D14, D15, D16, D17, D18, D19, D20, D21, -⟩
  ihave D0 := (Entails.of_eq (Dt_even c ms₁ md₁ E₁ ms₂ md₂ E₂ T b s 0 0 rfl)) $$ D0
  ihave A := (take_one c ms₁ md₁ E₁ T b s 0) $$ [A D0]
  · isplitl [A]; · iexact A
    iexact D0
  ihave D1 := (Entails.of_eq (Dt_odd c ms₁ md₁ E₁ ms₂ md₂ E₂ T b s 1 0 rfl)) $$ D1
  ihave B := (take_one c ms₂ md₂ E₂ T b s 0) $$ [B D1]
  · isplitl [B]; · iexact B
    iexact D1
  ihave D2 := (Entails.of_eq (Dt_even c ms₁ md₁ E₁ ms₂ md₂ E₂ T b s 2 1 rfl)) $$ D2
  ihave A := (take_one c ms₁ md₁ E₁ T b s 1) $$ [A D2]
  · isplitl [A]; · iexact A
    iexact D2
  ihave D3 := (Entails.of_eq (Dt_odd c ms₁ md₁ E₁ ms₂ md₂ E₂ T b s 3 1 rfl)) $$ D3
  ihave B := (take_one c ms₂ md₂ E₂ T b s 1) $$ [B D3]
  · isplitl [B]; · iexact B
    iexact D3
  ihave D4 := (Entails.of_eq (Dt_even c ms₁ md₁ E₁ ms₂ md₂ E₂ T b s 4 2 rfl)) $$ D4
  ihave A := (take_one c ms₁ md₁ E₁ T b s 2) $$ [A D4]
  · isplitl [A]; · iexact A
    iexact D4
  ihave D5 := (Entails.of_eq (Dt_odd c ms₁ md₁ E₁ ms₂ md₂ E₂ T b s 5 2 rfl)) $$ D5
  ihave B := (take_one c ms₂ md₂ E₂ T b s 2) $$ [B D5]
  · isplitl [B]; · iexact B
    iexact D5
  ihave D6 := (Entails.of_eq (Dt_even c ms₁ md₁ E₁ ms₂ md₂ E₂ T b s 6 3 rfl)) $$ D6
  ihave A := (take_one c ms₁ md₁ E₁ T b s 3) $$ [A D6]
  · isplitl [A]; · iexact A
    iexact D6
  ihave D7 := (Entails.of_eq (Dt_odd c ms₁ md₁ E₁ ms₂ md₂ E₂ T b s 7 3 rfl)) $$ D7
  ihave B := (take_one c ms₂ md₂ E₂ T b s 3) $$ [B D7]
  · isplitl [B]; · iexact B
    iexact D7
  ihave D8 := (Entails.of_eq (Dt_even c ms₁ md₁ E₁ ms₂ md₂ E₂ T b s 8 4 rfl)) $$ D8
  ihave A := (take_one c ms₁ md₁ E₁ T b s 4) $$ [A D8]
  · isplitl [A]; · iexact A
    iexact D8
  ihave D9 := (Entails.of_eq (Dt_odd c ms₁ md₁ E₁ ms₂ md₂ E₂ T b s 9 4 rfl)) $$ D9
  ihave B := (take_one c ms₂ md₂ E₂ T b s 4) $$ [B D9]
  · isplitl [B]; · iexact B
    iexact D9
  ihave D10 := (Entails.of_eq (Dt_even c ms₁ md₁ E₁ ms₂ md₂ E₂ T b s 10 5 rfl)) $$ D10
  ihave A := (take_one c ms₁ md₁ E₁ T b s 5) $$ [A D10]
  · isplitl [A]; · iexact A
    iexact D10
  ihave D11 := (Entails.of_eq (Dt_odd c ms₁ md₁ E₁ ms₂ md₂ E₂ T b s 11 5 rfl)) $$ D11
  ihave B := (take_one c ms₂ md₂ E₂ T b s 5) $$ [B D11]
  · isplitl [B]; · iexact B
    iexact D11
  ihave D12 := (Entails.of_eq (Dt_even c ms₁ md₁ E₁ ms₂ md₂ E₂ T b s 12 6 rfl)) $$ D12
  ihave A := (take_one c ms₁ md₁ E₁ T b s 6) $$ [A D12]
  · isplitl [A]; · iexact A
    iexact D12
  ihave D13 := (Entails.of_eq (Dt_odd c ms₁ md₁ E₁ ms₂ md₂ E₂ T b s 13 6 rfl)) $$ D13
  ihave B := (take_one c ms₂ md₂ E₂ T b s 6) $$ [B D13]
  · isplitl [B]; · iexact B
    iexact D13
  ihave D14 := (Entails.of_eq (Dt_even c ms₁ md₁ E₁ ms₂ md₂ E₂ T b s 14 7 rfl)) $$ D14
  ihave A := (take_one c ms₁ md₁ E₁ T b s 7) $$ [A D14]
  · isplitl [A]; · iexact A
    iexact D14
  ihave D15 := (Entails.of_eq (Dt_odd c ms₁ md₁ E₁ ms₂ md₂ E₂ T b s 15 7 rfl)) $$ D15
  ihave B := (take_one c ms₂ md₂ E₂ T b s 7) $$ [B D15]
  · isplitl [B]; · iexact B
    iexact D15
  ihave D16 := (Entails.of_eq (Dt_even c ms₁ md₁ E₁ ms₂ md₂ E₂ T b s 16 8 rfl)) $$ D16
  ihave A := (take_one c ms₁ md₁ E₁ T b s 8) $$ [A D16]
  · isplitl [A]; · iexact A
    iexact D16
  ihave D17 := (Entails.of_eq (Dt_odd c ms₁ md₁ E₁ ms₂ md₂ E₂ T b s 17 8 rfl)) $$ D17
  ihave B := (take_one c ms₂ md₂ E₂ T b s 8) $$ [B D17]
  · isplitl [B]; · iexact B
    iexact D17
  ihave D18 := (Entails.of_eq (Dt_even c ms₁ md₁ E₁ ms₂ md₂ E₂ T b s 18 9 rfl)) $$ D18
  ihave A := (take_one c ms₁ md₁ E₁ T b s 9) $$ [A D18]
  · isplitl [A]; · iexact A
    iexact D18
  ihave D19 := (Entails.of_eq (Dt_odd c ms₁ md₁ E₁ ms₂ md₂ E₂ T b s 19 9 rfl)) $$ D19
  ihave B := (take_one c ms₂ md₂ E₂ T b s 9) $$ [B D19]
  · isplitl [B]; · iexact B
    iexact D19
  ihave D20 := (Entails.of_eq (Dt_even c ms₁ md₁ E₁ ms₂ md₂ E₂ T b s 20 10 rfl)) $$ D20
  ihave A := (take_one c ms₁ md₁ E₁ T b s 10) $$ [A D20]
  · isplitl [A]; · iexact A
    iexact D20
  ihave D21 := (Entails.of_eq (Dt_odd c ms₁ md₁ E₁ ms₂ md₂ E₂ T b s 21 10 rfl)) $$ D21
  ihave B := (take_one c ms₂ md₂ E₂ T b s 10) $$ [B D21]
  · isplitl [B]; · iexact B
    iexact D21
  rw [← dstAcc_next, ← srcAcc_eq_slab]
  isplitl [A]; · iexact A
  iexact B

end Cert.Proof.KernelIdeal
-- ==== Proof.Ideal.In.lean ====
/-
  The transfers of the codes: one transfer of 256 columns of the table for each of the 31 blocks, each on a semaphore of
  its own, all issued first and each awaited when its block is worked on.
-/
module

public import proofs.«01_k».proof.Proof.Ideal.Out

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

/-- The columns of block `v`, of the blocks from `k` on, and of the blocks before `k`. -/
def colBox (v : ℕ) : Finset S1408x7936.Idx := Finset.univ.filter fun i => (i (1 : Fin 2) : ℕ) / 256 = v
/-- The columns of the codes from block `k` on. -/
def colRem (k : ℕ) : Finset S1408x7936.Idx := Finset.univ.filter fun i => k ≤ (i (1 : Fin 2) : ℕ) / 256
/-- The columns of the codes before block `k`. -/
def colAcc (k : ℕ) : Finset S1408x7936.Idx := Finset.univ.filter fun i => (i (1 : Fin 2) : ℕ) / 256 < k
/-- The copy of block `v`, of the blocks from `k` on, and of the blocks before `k`. -/
def bBox (v : ℕ) : Finset S31x1408x256.Idx := Finset.univ.filter fun i => (i (0 : Fin 3) : ℕ) = v
/-- The blocks of the codes' copy from `k` on. -/
def bRem (k : ℕ) : Finset S31x1408x256.Idx := Finset.univ.filter fun i => k ≤ (i (0 : Fin 3) : ℕ)
/-- The blocks of the codes' copy before `k`. -/
def bAcc (k : ℕ) : Finset S31x1408x256.Idx := Finset.univ.filter fun i => (i (0 : Fin 3) : ℕ) < k

/-- Block `k`'s columns are among those from block `k` on. -/
theorem colBox_sub (k : ℕ) : colBox k ⊆ colRem k := by
  intro i; simp only [colBox, colRem, Finset.mem_filter, Finset.mem_univ, true_and]; omega
/-- Without block `k`'s columns, those from `k` on are those from `k + 1` on. -/
theorem colRem_sdiff (k : ℕ) : colRem k \ colBox k = colRem (k + 1) := by
  ext i; simp only [colBox, colRem, Finset.mem_sdiff, Finset.mem_filter, Finset.mem_univ, true_and]; omega
/-- Block `k`'s columns are not among the earlier ones. -/
theorem colAcc_disj (k : ℕ) : Disjoint (colAcc k) (colBox k) := by
  rw [Finset.disjoint_left]; intro i; simp only [colBox, colAcc, Finset.mem_filter, Finset.mem_univ, true_and]; omega
/-- The columns before block `k` and block `k`'s are those before `k + 1`. -/
theorem colAcc_union (k : ℕ) : colAcc k ∪ colBox k = colAcc (k + 1) := by
  ext i; simp only [colBox, colAcc, Finset.mem_union, Finset.mem_filter, Finset.mem_univ, true_and]; omega
/-- The columns from block 0 on are all columns. -/
theorem colRem_zero : colRem 0 = Finset.univ := by
  ext i; simp only [colRem, Finset.mem_filter, Finset.mem_univ, true_and, iff_true]; exact Nat.zero_le _
/-- There are no columns before block 0. -/
theorem colAcc_zero : colAcc 0 = ∅ := by
  ext i; simp only [colAcc, Finset.mem_filter, Finset.mem_univ, true_and, Finset.notMem_empty, iff_false]; exact Nat.not_lt_zero _
/-- The columns before block 31 are all columns. -/
theorem colAcc_full : colAcc 31 = Finset.univ := by
  ext i
  have h1 : (i (1 : Fin 2) : ℕ) < 7936 := (i (1 : Fin 2)).isLt
  simp only [colAcc, Finset.mem_filter, Finset.mem_univ, true_and, iff_true]; exact Nat.div_lt_of_lt_mul (by omega)
/-- Block `k` of the copy is among those from `k` on. -/
theorem bBox_sub (k : ℕ) : bBox k ⊆ bRem k := by
  intro i; simp only [bBox, bRem, Finset.mem_filter, Finset.mem_univ, true_and]; omega
/-- Without block `k`, the copy's blocks from `k` on are those from `k + 1` on. -/
theorem bRem_sdiff (k : ℕ) : bRem k \ bBox k = bRem (k + 1) := by
  ext i; simp only [bBox, bRem, Finset.mem_sdiff, Finset.mem_filter, Finset.mem_univ, true_and]; omega
/-- Block `k` of the copy is not among the earlier ones. -/
theorem bAcc_disj (k : ℕ) : Disjoint (bAcc k) (bBox k) := by
  rw [Finset.disjoint_left]; intro i; simp only [bBox, bAcc, Finset.mem_filter, Finset.mem_univ, true_and]; omega
/-- The copy's blocks before `k` and block `k` are those before `k + 1`. -/
theorem bAcc_union (k : ℕ) : bAcc k ∪ bBox k = bAcc (k + 1) := by
  ext i; simp only [bBox, bAcc, Finset.mem_union, Finset.mem_filter, Finset.mem_univ, true_and]; omega
/-- The copy's blocks from 0 on are the whole copy. -/
theorem bRem_zero : bRem 0 = Finset.univ := by
  ext i; simp only [bRem, Finset.mem_filter, Finset.mem_univ, true_and, iff_true]; exact Nat.zero_le _
/-- The copy has no blocks before 0. -/
theorem bAcc_zero : bAcc 0 = ∅ := by
  ext i; simp only [bAcc, Finset.mem_filter, Finset.mem_univ, true_and, Finset.notMem_empty, iff_false]; exact Nat.not_lt_zero _
/-- The copy's blocks before 31 are the whole copy. -/
theorem bAcc_full : bAcc 31 = Finset.univ := by
  ext i
  have h1 : (i (0 : Fin 3) : ℕ) < 31 := (i (0 : Fin 3)).isLt
  simp only [bAcc, Finset.mem_filter, Finset.mem_univ, true_and, iff_true]; exact h1

/-- The rectangle of a block's columns. -/
theorem col_set (v : ℕ) (off : Fin 2 → ℕ) (ho : off = ![0, 256 * v]) (h) :
    (Rect.unit (s := S1408x7936) off S1408x256.size h).set = colBox v := by
  subst ho
  ext i
  simp only [colBox, Finset.mem_filter, Finset.mem_univ, true_and]
  have h0 : (i (0 : Fin 2) : ℕ) < 1408 := (i (0 : Fin 2)).isLt
  constructor
  · intro hi
    have q := (Rect.mem_set_unit).mp hi
    have q1 : 256 * v ≤ (i (1 : Fin 2) : ℕ) ∧ (i (1 : Fin 2) : ℕ) < 256 * v + 256 := q 1
    omega
  · intro e
    refine (Rect.mem_set_unit).mpr fun a => ?_
    match a with
    | 0 => show 0 ≤ (i (0 : Fin 2) : ℕ) ∧ (i (0 : Fin 2) : ℕ) < 0 + 1408; omega
    | 1 => show 256 * v ≤ (i (1 : Fin 2) : ℕ) ∧ (i (1 : Fin 2) : ℕ) < 256 * v + 256; omega

/-- The rectangle of a block's copy. -/
theorem b_set (v : ℕ) (off : Fin 3 → ℕ) (ho : off = ![v, 0, 0]) (h) :
    (Rect.unit (s := S31x1408x256) off S1x1408x256.size h).set = bBox v := by
  subst ho
  ext i
  simp only [bBox, Finset.mem_filter, Finset.mem_univ, true_and]
  have h1 : (i (1 : Fin 3) : ℕ) < 1408 := (i (1 : Fin 3)).isLt
  have h2 : (i (2 : Fin 3) : ℕ) < 256 := (i (2 : Fin 3)).isLt
  constructor
  · intro hi
    have q := (Rect.mem_set_unit).mp hi
    have q0 : v ≤ (i (0 : Fin 3) : ℕ) ∧ (i (0 : Fin 3) : ℕ) < v + 1 := q 0
    omega
  · intro e
    refine (Rect.mem_set_unit).mpr fun a => ?_
    match a with
    | 0 => show v ≤ (i (0 : Fin 3) : ℕ) ∧ (i (0 : Fin 3) : ℕ) < v + 1; omega
    | 1 => show 0 ≤ (i (1 : Fin 3) : ℕ) ∧ (i (1 : Fin 3) : ℕ) < 0 + 1408; omega
    | 2 => show 0 ≤ (i (2 : Fin 3) : ℕ) ∧ (i (2 : Fin 3) : ℕ) < 0 + 256; omega

/-- A block's semaphore. -/
def cellI (a : DmaSems sig S31) (v : Fin 31) : DmaSem sig := a.ix (ix1 v)

/-- A block's semaphore, as the program names it. -/
theorem cellI_eq (a : DmaSems sig S31) (s : Fin 31) (off : Fin 1 → ℕ) (ho : off = ![s.val]) (h : ∀ x, off x + S1.size x ≤ S31.size x) (hq : S1.Squeezes S_) :
    ((a.slice (Rect.unit (s := S31) off S1.size h)).squeeze S_ hq).sem = cellI a s := by
  subst ho
  show a.ix _ = a.ix _
  congr 1
  funext x
  match x with
  | 0 => exact Fin.ext (by
      show s.val + 1 * _ = s.val
      have : ∀ j : Fin 1, s.val + 1 * j.val = s.val := fun j => by omega
      exact this _)

/-- The copy of the codes: block `v`, column `r` of the model dimension, row `j` of the block. -/
def gC (g1 : S1408x7936.Idx → BitVec 8) (i : S31x1408x256.Idx) : BitVec 8 :=
  g1 (ix2 (i (1 : Fin 3)) ⟨256 * (i (0 : Fin 3) : ℕ) + (i (2 : Fin 3) : ℕ), by
    have h0 : (i (0 : Fin 3) : ℕ) < 31 := (i (0 : Fin 3)).isLt
    have h2 : (i (2 : Fin 3) : ℕ) < 256 := (i (2 : Fin 3)).isLt
    omega⟩)

/-- What a block's transfer delivers: the block's copy, and the columns back. -/
def Din (c : Dev nD) (arg1 : Memref sig .tc .hbm S1408x7936 .i8) (arg8 : Memref sig .tc .vmem S31x1408x256 .i8) (g1 : S1408x7936.Idx → BitVec 8) (v : ℕ) (_ : Fin 1) : sProp 𝕄 :=
  iprop(own (Val := Elt Ideal) (c : Thread nD τ) arg8 (bBox v) fullShare (gC g1) ∗ own (Val := Elt Ideal) (c : Thread nD τ) arg1 (colBox v) fullShare g1)

instance Din_storable (c : Dev nD) (arg1 : Memref sig .tc .hbm S1408x7936 .i8) (arg8 : Memref sig .tc .vmem S31x1408x256 .i8) (g1 : S1408x7936.Idx → BitVec 8) (v : ℕ) (t : Fin 1) :
    Storable (upEmb : UEmb _ 𝕄) (Din c arg1 arg8 g1 v t) := by unfold Din; infer_instance

/-- The one delivery of a block's batch. -/
theorem Din_all (c : Dev nD) (arg1 : Memref sig .tc .hbm S1408x7936 .i8) (arg8 : Memref sig .tc .vmem S31x1408x256 .i8) (g1 : S1408x7936.Idx → BitVec 8) (v : ℕ) :
    (bigSep Finset.univ (Din c arg1 arg8 g1 v) : sProp 𝕄)
    ⊢ iprop(own (Val := Elt Ideal) (c : Thread nD τ) arg8 (bBox v) fullShare (gC g1) ∗ own (Val := Elt Ideal) (c : Thread nD τ) arg1 (colBox v) fullShare g1) := by
  rw [BI.bigSep_eq_bigSepL_of_eq [(0 : Fin 1)] (by decide) (by decide)]
  simp only [bigSepL_cons_sep, BI.bigSepL_nil]
  unfold Din
  iintro ⟨⟨H8, H1⟩, -⟩
  isplitl [H8]; · iexact H8
  iexact H1

/-- A block's transfer, not yet awaited. -/
def Flight (c : Dev nD) (arg1 : Memref sig .tc .hbm S1408x7936 .i8) (arg8 : Memref sig .tc .vmem S31x1408x256 .i8) (arg13 : DmaSems sig S31) (N : ℕ) (g1 : S1408x7936.Idx → BitVec 8) (v : Fin 31) : sProp 𝕄 :=
  Transfers.Batch EC (c : Thread nD τ) (.dma (cellI arg13 v)) () N (Din c arg1 arg8 g1 v.val) 1 0

/-- A block's semaphore at rest. -/
def Rest (c : Dev nD) (arg13 : DmaSems sig S31) (v : Fin 31) : sProp 𝕄 := semVal ((c : Thread nD τ), SemLoc.dma (cellI arg13 v)) 0

/-- A family of which the first `k` members have changed: the next one changes. -/
theorem fam_step (A B : Fin 31 → sProp 𝕄) (k : Fin 31) :
    (bigSep Finset.univ (fun v : Fin 31 => if v.val < k.val then B v else A v) : sProp 𝕄)
    ⊢ iprop(A k ∗ (B k -∗ bigSep Finset.univ (fun v : Fin 31 => if v.val < k.val + 1 then B v else A v))) := by
  have hs : ∀ Φ : Fin 31 → sProp 𝕄, bigSep Finset.univ Φ = iprop(Φ k ∗ bigSep (Finset.univ.erase k) Φ) := fun Φ => BI.bigSep_univ_split k
  rw [hs (fun v : Fin 31 => if v.val < k.val then B v else A v),
    hs (fun v : Fin 31 => if v.val < k.val + 1 then B v else A v), if_neg (lt_irrefl _), if_pos (Nat.lt_succ_self _)]
  rw [BI.bigSep_congr (s := Finset.univ.erase k) (Φ := fun v : Fin 31 => if v.val < k.val then B v else A v)
    (Ψ := fun v : Fin 31 => if v.val < k.val + 1 then B v else A v) (fun v hv => by
      have hne : v.val ≠ k.val := fun h => (Finset.mem_erase.mp hv).1 (Fin.ext h)
      show (if v.val < k.val then B v else A v) = if v.val < k.val + 1 then B v else A v
      by_cases h : v.val < k.val
      · rw [if_pos h, if_pos (by omega)]
      · rw [if_neg h, if_neg (by omega)])]
  iintro ⟨HA, HR⟩
  isplitl [HA]; · iexact HA
  iintro HB
  isplitl [HB]; · iexact HB
  iexact HR

/-- Before block `k`'s transfer is issued. -/
def InI (c : Dev nD) (arg1 : Memref sig .tc .hbm S1408x7936 .i8) (arg8 : Memref sig .tc .vmem S31x1408x256 .i8) (arg13 : DmaSems sig S31) (N : ℕ) (g1 : S1408x7936.Idx → BitVec 8) (k : ℕ) : sProp 𝕄 :=
  iprop(own (Val := Elt Ideal) (c : Thread nD τ) arg1 (colRem k) fullShare g1 ∗ (∃ g, own (Val := Elt Ideal) (c : Thread nD τ) arg8 (bRem k) fullShare g)
    ∗ bigSep Finset.univ (fun v : Fin 31 => if v.val < k then Flight c arg1 arg8 arg13 N g1 v else Rest c arg13 v))

/-- A transfer moves the codes it should. -/
theorem moves_in (g1 : S1408x7936.Idx → BitVec 8) (v : ℕ) (offs : Fin 2 → ℕ) (hos : offs = ![0, 256 * v]) (hs) (offd : Fin 3 → ℕ) (hod : offd = ![v, 0, 0]) (hd)
    (hq : S1x1408x256.Squeezes S1408x256) (x : S1408x256.Idx) :
    gC g1 ((Rect.unit (s := S31x1408x256) offd S1x1408x256.size hd).emb (Shape.reshapeEquiv hq.numel_eq x)) = g1 ((Rect.unit (s := S1408x7936) offs S1408x256.size hs).emb x) := by
  subst hos hod
  obtain ⟨r, j, rfl⟩ : ∃ (r : Fin 1408) (j : Fin 256), x = ix2 r j := ⟨x 0, x 1, eq_ix2 x⟩
  have e : (Shape.reshapeEquiv hq.numel_eq (ix2 r j) : S1x1408x256.Idx) = ix3 0 r j := by
    pointwise
  rw [e]
  unfold gC
  congr 1
  funext a; apply Fin.ext
  match a with
  | 0 => show 0 + 1 * r.val = 0 + 1 * r.val; rfl
  | 1 => show 256 * (v + 1 * 0) + (0 + 1 * j.val) = 256 * v + 1 * j.val; omega

/-- One trip of the first loop. -/
theorem t1_step (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x2x128 .bf16) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2)
    (c : Dev nD) {defs : Defs nD τ sig (Elt Ideal) Λ₀} (𝒱 : Variants) (bd : Option 𝒱.V) (N : ℕ) (h0 : 0 < N) (hN : arg8.view.ref.dmaCredit S1408x256 .i8 = N) (g1 : S1408x7936.Idx → BitVec 8)
    (k : Fin k0_t1_loop.trips) (x : Unit) :
    InI c arg1 arg8 arg13 N g1 k.val ⊢ wp frame (wpE defs 𝒱 (c : Thread nD τ) bd) Set.univ
      (Gen.k0_t1_body arg0 harg0 arg1 harg1 arg2 harg2 arg3 harg3 arg4 harg4 arg5 harg5 arg6 harg6 arg7 harg7 arg8 harg8 arg9 harg9 arg10 harg10 arg11 harg11 arg12 harg12 arg13 arg14 k x) (fun _ => InI c arg1 arg8 arg13 N g1 (k.val + 1)) := by
  have hk : k.val < 31 := k.isLt
  have hsem := cellI_eq arg13 ⟨k.val, hk⟩ (k0_off1 k) (Gen.k0_off1_eq k) (Gen.k0_off1_inb k) Gen.squeezes_S1_S_
  unfold InI Gen.k0_t1_body
  iintro ⟨H1, ⟨%g, H8⟩, HF⟩
  ihave H := (own_sub (colBox_sub k.val)) $$ H1
  icases H with ⟨H1, H1'⟩
  ihave H := (own_sub (bBox_sub k.val)) $$ H8
  icases H with ⟨H8, H8'⟩
  rw [colRem_sdiff, bRem_sdiff]
  ihave HF := (fam_step (Rest c arg13) (Flight c arg1 arg8 arg13 N g1) ⟨k.val, hk⟩) $$ HF
  icases HF with ⟨HR, HF⟩
  have hR : Rest c arg13 ⟨k.val, hk⟩ = semVal ((c : Thread nD τ), SemLoc.dma ((arg13.slice (Rect.unit (s := S31) (k0_off1 k) S1.size (Gen.k0_off1_inb k))).squeeze S_ Gen.squeezes_S1_S_).sem) 0 := by
    unfold Rest; rw [hsem]
  ihave HR := (Entails.of_eq hR) $$ HR
  imod (Transfers.batch_alloc' EC (c : Thread nD τ) () N (Din c arg1 arg8 g1 k.val) (sm := .dma ((arg13.slice (Rect.unit (s := S31) (k0_off1 k) S1.size (Gen.k0_off1_inb k))).squeeze S_ Gen.squeezes_S1_S_).sem) (E := Set.univ)) $$ HR with HB
  iapply (own_dma_in (c := (c : Thread nD τ)) 𝒱 bd EC (gC g1) (q := fullShare) (D := Din c arg1 arg8 g1 k.val) (col_set k.val _ (Gen.k0_off3_eq k) (Gen.k0_off3_inb k)) (b_set k.val _ (Gen.k0_off2_eq k) (Gen.k0_off2_inb k))
    (fun x => moves_in g1 k.val _ (Gen.k0_off3_eq k) (Gen.k0_off3_inb k) _ (Gen.k0_off2_eq k) (Gen.k0_off2_inb k) Gen.squeezes_S1x1408x256_S1408x256 x) (by exact hN) Nat.one_pos (Nat.zero_le _) ?_) $$ [H1 H8 HB]
  · unfold Din; exact .rfl
  · isplitl [H1]; · iexact H1
    isplitl [H8]; · iexact H8
    iexact HB
  iintro HB
  rw [ret_bind', wp_pure]; imodintro
  isplitl [H1']; · iexact H1'
  isplitl [H8']; · iexists _; iexact H8'
  iapply HF
  unfold Flight
  rw [← hsem]
  iexact HB

/-- A block's wait: its copy is there and its columns are back. -/
theorem wait_in {R : Type} (c : Dev nD) {defs : Defs nD τ sig (Elt Ideal) Λ₀} (𝒱 : Variants) (bd : Option 𝒱.V) (Q : R → sProp 𝕄)
    (arg1 : Memref sig .tc .hbm S1408x7936 .i8) (arg8 : Memref sig .tc .vmem S31x1408x256 .i8) (arg13 : DmaSems sig S31) (N : ℕ) (h0 : 0 < N) (hN : arg8.view.ref.dmaCredit S1408x256 .i8 = N) (g1 : S1408x7936.Idx → BitVec 8) (v : Fin 31)
    {offd : Fin 3 → ℕ} {hd} {u2} {hq2 : S1x1408x256.Squeezes S1408x256} {sp' : Space} {s' : Shape} {srcw : Memref sig .tc sp' s' .i8}
    {os : Fin 1 → ℕ} (ho : os = ![v.val]) {ho'} {hq'} {h1 h2} {κ : PUnit → Prog (TpuEff nD τ sig (Elt Ideal) Λ₀ .tc) R} :
    (iprop(Flight c arg1 arg8 arg13 N g1 v ∗ ∃ W, owes (c : Thread nD τ) (0 : CellTallies nD τ sig Unit) W) : sProp 𝕄)
    ⊢ iprop((iprop(own (Val := Elt Ideal) (c : Thread nD τ) arg8 (bBox v.val) fullShare (gC g1) ∗ own (Val := Elt Ideal) (c : Thread nD τ) arg1 (colBox v.val) fullShare g1
          ∗ Rest c arg13 v ∗ ∃ W, owes (c : Thread nD τ) (0 : CellTallies nD τ sig Unit) W) -∗ wp frame (wpE defs 𝒱 (c : Thread nD τ) bd) Set.univ (κ ⟨⟩) Q)
      -∗ wp frame (wpE defs 𝒱 (c : Thread nD τ) bd) Set.univ
        (.op (.waitDma2 ((arg13.slice (Rect.unit (s := S31) os S1.size ho')).squeeze S_ hq').sem srcw ((arg8.slice (Rect.unit (s := S31x1408x256) offd S1x1408x256.size hd) u2).squeeze S1408x256 hq2) h1 h2) κ) Q) := by
  have hsem := cellI_eq arg13 v os ho ho' hq'
  unfold Flight Rest
  iintro ⟨HB, ⟨%W, HO⟩⟩ Hk
  rw [← hsem]
  iapply (Transfers.wp_waitBatchLast EC 𝒱 (c : Thread nD τ) bd () (N := N) (by exact hN) h0 (u := 0) (n := 1) (by omega)) $$ [HB HO]
  · isplitl [HB]; · iexact HB
    iexact HO
  iintro ⟨HD, Hv, HO⟩
  iapply Hk
  ihave HD := (Din_all c arg1 arg8 g1 v.val) $$ HD
  icases HD with ⟨H8, H1⟩
  isplitl [H8]; · iexact H8
  isplitl [H1]; · iexact H1
  isplitl [Hv]; · iexact Hv
  iexists _; iexact HO

end Cert.Proof.KernelIdeal
-- ==== Proof.Ideal.Emb.lean ====
/-
  What one block of the table's build stores, read at an index: the codes of 256 rows of the vocabulary times their
  scales, turned round by a product with the identity matrix, and the partial sums of their squares.
-/
module

public import proofs.«01_k».proof.Proof.Ideal.Open
public import Idealize.ShloMosaic.Lib.Pointwise

@[expose] public section

noncomputable section

namespace Cert.Proof.KernelIdeal

open Cert.KernelIdeal
open Idealize.ShloMosaic Idealize.ShloMosaic.TcCoe Idealize.ShloMosaic.Tactic

/-- The identity matrix, read at an index. -/
theorem eye_apply (i j : Fin 256) : (Gen.k0_pay166 (F := Ideal)) (ix2 i j) = (if i = j then (1 : EReal) else 0) := by
  unfold_payloads
  pointwise
  have hij : (BitVec.ofNat 32 i.val = BitVec.ofNat 32 j.val) ↔ i = j := by
    rw [← BitVec.toNat_inj, BitVec.toNat_ofNat, BitVec.toNat_ofNat, Nat.mod_eq_of_lt (by omega), Nat.mod_eq_of_lt (by omega), Fin.ext_iff]
  by_cases h : i = j
  · subst h
    rw [if_pos rfl, show IntOp.cmpi CmpIPredicate.eq (BitVec.ofNat 32 i.val) (BitVec.ofNat 32 i.val) = 1#1 by simp [IntOp.cmpi]]
    show (((BitVec.toInt (BitVec.setWidth 32 1#1) : ℤ) : ℝ) : EReal) = 1
    rw [show BitVec.toInt (BitVec.setWidth 32 1#1) = 1 by decide]
    simp
  · rw [if_neg h, show IntOp.cmpi CmpIPredicate.eq (BitVec.ofNat 32 i.val) (BitVec.ofNat 32 j.val) = 0#1 by
      have hb : (BitVec.ofNat 32 i.val == BitVec.ofNat 32 j.val) = false := beq_eq_false_iff_ne.mpr (mt hij.mp h)
      simp only [IntOp.cmpi, hb]; rfl]
    show (((BitVec.toInt (BitVec.setWidth 32 0#1) : ℤ) : ℝ) : EReal) = 0
    rw [show BitVec.toInt (BitVec.setWidth 32 0#1) = 0 by decide]
    simp

/-- A sum against a row of the identity matrix picks one term. -/
theorem sum_eye (q : Fin 256) (f : Fin 256 → EReal) : (∑ x, (Gen.k0_pay166 (F := Ideal)) (ix2 q x) * f x) = f q := by
  rw [Finset.sum_eq_single q]
  · rw [eye_apply, if_pos rfl]
    exact one_mul _
  · intro b _ hb
    rw [eye_apply, if_neg (Ne.symm hb)]
    exact zero_mul _
  · exact fun h => absurd (Finset.mem_univ _) h

/-- A code times its scale. -/
def blk {n : ℕ} (sc : Vec Ideal S256 .f32) (cd : Fin n → Fin 256 → BitVec 8) (q : Fin 256) (k : Fin n) : EReal :=
  (((cd k q).toInt : ℝ) : EReal) * sc (ix1 q)

/-- The inverse norm of a row from the sum of its squares: the mean over 1408 columns, plus a small number, under the
inverse square root. -/
def invn (s : EReal) : EReal :=
  Ideal.rsqrt (Ideal.div s (Ideal.ofBits FTy.f32 1152385024#32) + Ideal.ofBits FTy.f32 897988541#32)

/-- The codes a load of 256 columns of the table gives, by column and row. -/
abbrev cds (cd : Vec Ideal S1x256x256 .i8) : Fin 256 → Fin 256 → BitVec 8 := fun k q => cd (ix3 0 k q)
/-- The codes the last load of 128 columns gives. -/
abbrev cdl (cd : Vec Ideal S1x128x256 .i8) : Fin 128 → Fin 256 → BitVec 8 := fun k q => cd (ix3 0 k q)

/-- One chunk of columns of a block, turned round: row `q`, column `k`. -/
theorem pay2_apply (sc : Vec Ideal S256 .f32) (cd : Vec Ideal S1x256x256 .i8) (q : Fin 256) (k : Fin 256) :
    Gen.k0_pay2 (F := Ideal) Gen.k0_pay166 sc cd (ix2 q k) = blk sc (cds cd) q k := by
  refine Eq.trans ?_ (sum_eye q fun x => blk sc (cds cd) x k)
  generalize hE : (Gen.k0_pay166 (F := Ideal)) = ey
  unfold_payloads
  pointwise
  rfl

/-- One chunk of columns of a block, turned round: row `q`, column `k`. -/
theorem pay8_apply (sc : Vec Ideal S256 .f32) (cd : Vec Ideal S1x256x256 .i8) (q : Fin 256) (k : Fin 256) :
    Gen.k0_pay8 (F := Ideal) Gen.k0_pay166 (Gen.k0_pay1 sc) cd (ix2 q k) = blk sc (cds cd) q k := by
  refine Eq.trans ?_ (sum_eye q fun x => blk sc (cds cd) x k)
  generalize hE : (Gen.k0_pay166 (F := Ideal)) = ey
  unfold_payloads
  pointwise
  rfl

/-- One chunk of columns of a block, turned round: row `q`, column `k`. -/
theorem pay13_apply (sc : Vec Ideal S256 .f32) (cd : Vec Ideal S1x256x256 .i8) (q : Fin 256) (k : Fin 256) :
    Gen.k0_pay13 (F := Ideal) Gen.k0_pay166 (Gen.k0_pay1 sc) cd (ix2 q k) = blk sc (cds cd) q k := by
  refine Eq.trans ?_ (sum_eye q fun x => blk sc (cds cd) x k)
  generalize hE : (Gen.k0_pay166 (F := Ideal)) = ey
  unfold_payloads
  pointwise
  rfl

/-- One chunk of columns of a block, turned round: row `q`, column `k`. -/
theorem pay21_apply (sc : Vec Ideal S256 .f32) (cd : Vec Ideal S1x256x256 .i8) (q : Fin 256) (k : Fin 256) :
    Gen.k0_pay21 (F := Ideal) Gen.k0_pay166 (Gen.k0_pay1 sc) cd (ix2 q k) = blk sc (cds cd) q k := by
  refine Eq.trans ?_ (sum_eye q fun x => blk sc (cds cd) x k)
  generalize hE : (Gen.k0_pay166 (F := Ideal)) = ey
  unfold_payloads
  pointwise
  rfl

/-- One chunk of columns of a block, turned round: row `q`, column `k`. -/
theorem pay27_apply (sc : Vec Ideal S256 .f32) (cd : Vec Ideal S1x256x256 .i8) (q : Fin 256) (k : Fin 256) :
    Gen.k0_pay27 (F := Ideal) Gen.k0_pay166 (Gen.k0_pay1 sc) cd (ix2 q k) = blk sc (cds cd) q k := by
  refine Eq.trans ?_ (sum_eye q fun x => blk sc (cds cd) x k)
  generalize hE : (Gen.k0_pay166 (F := Ideal)) = ey
  unfold_payloads
  pointwise
  rfl

/-- One chunk of columns of a block, turned round: row `q`, column `k`. -/
theorem pay32_apply (sc : Vec Ideal S256 .f32) (cd : Vec Ideal S1x128x256 .i8) (q : Fin 256) (k : Fin 128) :
    Gen.k0_pay32 (F := Ideal) Gen.k0_pay166 (Gen.k0_pay1 sc) cd (ix2 q k) = blk sc (cdl cd) q k := by
  refine Eq.trans ?_ (sum_eye q fun x => blk sc (cdl cd) x k)
  generalize hE : (Gen.k0_pay166 (F := Ideal)) = ey
  unfold_payloads
  pointwise
  rfl

/-- The even chunk of the block. -/
theorem pay3_apply (sc : Vec Ideal S256 .f32) (cd : Vec Ideal S1x256x256 .i8) (q : Fin 256) (k : Fin 128) :
    Gen.k0_pay3 (F := Ideal) Gen.k0_pay166 sc cd (ix2 q k) = blk sc (cds cd) q ⟨k.val, by omega⟩ := by
  refine Eq.trans ?_ (pay2_apply sc cd q ⟨k.val, by omega⟩)
  unfold Gen.k0_pay3
  generalize Gen.k0_pay2 (F := Ideal) Gen.k0_pay166 sc cd = e
  pointwise

/-- The odd chunk of the block. -/
theorem pay4_apply (sc : Vec Ideal S256 .f32) (cd : Vec Ideal S1x256x256 .i8) (q : Fin 256) (k : Fin 128) :
    Gen.k0_pay4 (F := Ideal) Gen.k0_pay166 sc cd (ix2 q k) = blk sc (cds cd) q ⟨128 + k.val, by omega⟩ := by
  refine Eq.trans ?_ (pay2_apply sc cd q ⟨128 + k.val, by omega⟩)
  unfold Gen.k0_pay4
  generalize Gen.k0_pay2 (F := Ideal) Gen.k0_pay166 sc cd = e
  pointwise

/-- The even chunk of the block. -/
theorem pay9_apply (sc : Vec Ideal S256 .f32) (cd : Vec Ideal S1x256x256 .i8) (q : Fin 256) (k : Fin 128) :
    Gen.k0_pay9 (F := Ideal) Gen.k0_pay166 (Gen.k0_pay1 sc) cd (ix2 q k) = blk sc (cds cd) q ⟨k.val, by omega⟩ := by
  refine Eq.trans ?_ (pay8_apply sc cd q ⟨k.val, by omega⟩)
  unfold Gen.k0_pay9
  generalize Gen.k0_pay8 (F := Ideal) Gen.k0_pay166 (Gen.k0_pay1 sc) cd = e
  pointwise

/-- The odd chunk of the block. -/
theorem pay10_apply (sc : Vec Ideal S256 .f32) (cd : Vec Ideal S1x256x256 .i8) (q : Fin 256) (k : Fin 128) :
    Gen.k0_pay10 (F := Ideal) Gen.k0_pay166 (Gen.k0_pay1 sc) cd (ix2 q k) = blk sc (cds cd) q ⟨128 + k.val, by omega⟩ := by
  refine Eq.trans ?_ (pay8_apply sc cd q ⟨128 + k.val, by omega⟩)
  unfold Gen.k0_pay10
  generalize Gen.k0_pay8 (F := Ideal) Gen.k0_pay166 (Gen.k0_pay1 sc) cd = e
  pointwise

/-- The even chunk of the block. -/
theorem pay14_apply (sc : Vec Ideal S256 .f32) (cd : Vec Ideal S1x256x256 .i8) (q : Fin 256) (k : Fin 128) :
    Gen.k0_pay14 (F := Ideal) Gen.k0_pay166 (Gen.k0_pay1 sc) cd (ix2 q k) = blk sc (cds cd) q ⟨k.val, by omega⟩ := by
  refine Eq.trans ?_ (pay13_apply sc cd q ⟨k.val, by omega⟩)
  unfold Gen.k0_pay14
  generalize Gen.k0_pay13 (F := Ideal) Gen.k0_pay166 (Gen.k0_pay1 sc) cd = e
  pointwise

/-- The odd chunk of the block. -/
theorem pay15_apply (sc : Vec Ideal S256 .f32) (cd : Vec Ideal S1x256x256 .i8) (q : Fin 256) (k : Fin 128) :
    Gen.k0_pay15 (F := Ideal) Gen.k0_pay166 (Gen.k0_pay1 sc) cd (ix2 q k) = blk sc (cds cd) q ⟨128 + k.val, by omega⟩ := by
  refine Eq.trans ?_ (pay13_apply sc cd q ⟨128 + k.val, by omega⟩)
  unfold Gen.k0_pay15
  generalize Gen.k0_pay13 (F := Ideal) Gen.k0_pay166 (Gen.k0_pay1 sc) cd = e
  pointwise

/-- The even chunk of the block. -/
theorem pay22_apply (sc : Vec Ideal S256 .f32) (cd : Vec Ideal S1x256x256 .i8) (q : Fin 256) (k : Fin 128) :
    Gen.k0_pay22 (F := Ideal) Gen.k0_pay166 (Gen.k0_pay1 sc) cd (ix2 q k) = blk sc (cds cd) q ⟨k.val, by omega⟩ := by
  refine Eq.trans ?_ (pay21_apply sc cd q ⟨k.val, by omega⟩)
  unfold Gen.k0_pay22
  generalize Gen.k0_pay21 (F := Ideal) Gen.k0_pay166 (Gen.k0_pay1 sc) cd = e
  pointwise

/-- The odd chunk of the block. -/
theorem pay23_apply (sc : Vec Ideal S256 .f32) (cd : Vec Ideal S1x256x256 .i8) (q : Fin 256) (k : Fin 128) :
    Gen.k0_pay23 (F := Ideal) Gen.k0_pay166 (Gen.k0_pay1 sc) cd (ix2 q k) = blk sc (cds cd) q ⟨128 + k.val, by omega⟩ := by
  refine Eq.trans ?_ (pay21_apply sc cd q ⟨128 + k.val, by omega⟩)
  unfold Gen.k0_pay23
  generalize Gen.k0_pay21 (F := Ideal) Gen.k0_pay166 (Gen.k0_pay1 sc) cd = e
  pointwise

/-- The even chunk of the block. -/
theorem pay28_apply (sc : Vec Ideal S256 .f32) (cd : Vec Ideal S1x256x256 .i8) (q : Fin 256) (k : Fin 128) :
    Gen.k0_pay28 (F := Ideal) Gen.k0_pay166 (Gen.k0_pay1 sc) cd (ix2 q k) = blk sc (cds cd) q ⟨k.val, by omega⟩ := by
  refine Eq.trans ?_ (pay27_apply sc cd q ⟨k.val, by omega⟩)
  unfold Gen.k0_pay28
  generalize Gen.k0_pay27 (F := Ideal) Gen.k0_pay166 (Gen.k0_pay1 sc) cd = e
  pointwise

/-- The odd chunk of the block. -/
theorem pay29_apply (sc : Vec Ideal S256 .f32) (cd : Vec Ideal S1x256x256 .i8) (q : Fin 256) (k : Fin 128) :
    Gen.k0_pay29 (F := Ideal) Gen.k0_pay166 (Gen.k0_pay1 sc) cd (ix2 q k) = blk sc (cds cd) q ⟨128 + k.val, by omega⟩ := by
  refine Eq.trans ?_ (pay27_apply sc cd q ⟨128 + k.val, by omega⟩)
  unfold Gen.k0_pay29
  generalize Gen.k0_pay27 (F := Ideal) Gen.k0_pay166 (Gen.k0_pay1 sc) cd = e
  pointwise

/-- The rows a block stores in the table: token `q`, parity `p`, lane `l`. -/
theorem st0_apply (sc : Vec Ideal S256 .f32) (cd : Vec Ideal S1x256x256 .i8) (q : Fin 256) (p : Fin 2) (l : Fin 128) :
    Gen.k0_pay6 (F := Ideal) Gen.k0_pay166 sc cd (ix3 q p l) = blk sc (cds cd) q ⟨128 * p.val + l.val, by omega⟩ := by
  have h0 := pay3_apply sc cd q l
  have h1 := pay4_apply sc cd q l
  unfold Gen.k0_pay6
  fin_vals p with hp
  · refine Eq.trans ?_ (h0.trans (congrArg (blk sc (cds cd) q) (Fin.ext (by show l.val = 128 * p.val + l.val; omega))))
    generalize Gen.k0_pay3 (F := Ideal) Gen.k0_pay166 sc cd = e0
    generalize Gen.k0_pay4 (F := Ideal) Gen.k0_pay166 sc cd = e1
    pointwise
    rw [if_pos (by omega)]
  · refine Eq.trans ?_ (h1.trans (congrArg (blk sc (cds cd) q) (Fin.ext (by show 128 + l.val = 128 * p.val + l.val; omega))))
    generalize Gen.k0_pay3 (F := Ideal) Gen.k0_pay166 sc cd = e0
    generalize Gen.k0_pay4 (F := Ideal) Gen.k0_pay166 sc cd = e1
    pointwise
    rw [if_neg (by omega)]

/-- The rows a block stores in the table: token `q`, parity `p`, lane `l`. -/
theorem st1_apply (sc : Vec Ideal S256 .f32) (cd : Vec Ideal S1x256x256 .i8) (q : Fin 256) (p : Fin 2) (l : Fin 128) :
    Gen.k0_pay11 (F := Ideal) Gen.k0_pay166 (Gen.k0_pay1 sc) cd (ix3 q p l) = blk sc (cds cd) q ⟨128 * p.val + l.val, by omega⟩ := by
  have h0 := pay9_apply sc cd q l
  have h1 := pay10_apply sc cd q l
  unfold Gen.k0_pay11
  fin_vals p with hp
  · refine Eq.trans ?_ (h0.trans (congrArg (blk sc (cds cd) q) (Fin.ext (by show l.val = 128 * p.val + l.val; omega))))
    generalize Gen.k0_pay9 (F := Ideal) Gen.k0_pay166 (Gen.k0_pay1 sc) cd = e0
    generalize Gen.k0_pay10 (F := Ideal) Gen.k0_pay166 (Gen.k0_pay1 sc) cd = e1
    pointwise
    rw [if_pos (by omega)]
  · refine Eq.trans ?_ (h1.trans (congrArg (blk sc (cds cd) q) (Fin.ext (by show 128 + l.val = 128 * p.val + l.val; omega))))
    generalize Gen.k0_pay9 (F := Ideal) Gen.k0_pay166 (Gen.k0_pay1 sc) cd = e0
    generalize Gen.k0_pay10 (F := Ideal) Gen.k0_pay166 (Gen.k0_pay1 sc) cd = e1
    pointwise
    rw [if_neg (by omega)]

/-- The rows a block stores in the table: token `q`, parity `p`, lane `l`. -/
theorem st2_apply (sc : Vec Ideal S256 .f32) (cd : Vec Ideal S1x256x256 .i8) (q : Fin 256) (p : Fin 2) (l : Fin 128) :
    Gen.k0_pay19 (Gen.k0_pay17 (F := Ideal) Gen.k0_pay166 (Gen.k0_pay1 sc) cd) (Gen.k0_pay18 (F := Ideal) Gen.k0_pay166 (Gen.k0_pay1 sc) cd) (ix3 q p l) = blk sc (cds cd) q ⟨128 * p.val + l.val, by omega⟩ := by
  have h0 := pay14_apply sc cd q l
  have h1 := pay15_apply sc cd q l
  unfold Gen.k0_pay19 Gen.k0_pay17 Gen.k0_pay18
  fin_vals p with hp
  · refine Eq.trans ?_ (h0.trans (congrArg (blk sc (cds cd) q) (Fin.ext (by show l.val = 128 * p.val + l.val; omega))))
    generalize Gen.k0_pay14 (F := Ideal) Gen.k0_pay166 (Gen.k0_pay1 sc) cd = e0
    generalize Gen.k0_pay15 (F := Ideal) Gen.k0_pay166 (Gen.k0_pay1 sc) cd = e1
    pointwise
    rw [if_pos (by omega)]
  · refine Eq.trans ?_ (h1.trans (congrArg (blk sc (cds cd) q) (Fin.ext (by show 128 + l.val = 128 * p.val + l.val; omega))))
    generalize Gen.k0_pay14 (F := Ideal) Gen.k0_pay166 (Gen.k0_pay1 sc) cd = e0
    generalize Gen.k0_pay15 (F := Ideal) Gen.k0_pay166 (Gen.k0_pay1 sc) cd = e1
    pointwise
    rw [if_neg (by omega)]

/-- The rows a block stores in the table: token `q`, parity `p`, lane `l`. -/
theorem st3_apply (sc : Vec Ideal S256 .f32) (cd : Vec Ideal S1x256x256 .i8) (q : Fin 256) (p : Fin 2) (l : Fin 128) :
    Gen.k0_pay24 (F := Ideal) Gen.k0_pay166 (Gen.k0_pay1 sc) cd (ix3 q p l) = blk sc (cds cd) q ⟨128 * p.val + l.val, by omega⟩ := by
  have h0 := pay22_apply sc cd q l
  have h1 := pay23_apply sc cd q l
  unfold Gen.k0_pay24
  fin_vals p with hp
  · refine Eq.trans ?_ (h0.trans (congrArg (blk sc (cds cd) q) (Fin.ext (by show l.val = 128 * p.val + l.val; omega))))
    generalize Gen.k0_pay22 (F := Ideal) Gen.k0_pay166 (Gen.k0_pay1 sc) cd = e0
    generalize Gen.k0_pay23 (F := Ideal) Gen.k0_pay166 (Gen.k0_pay1 sc) cd = e1
    pointwise
    rw [if_pos (by omega)]
  · refine Eq.trans ?_ (h1.trans (congrArg (blk sc (cds cd) q) (Fin.ext (by show 128 + l.val = 128 * p.val + l.val; omega))))
    generalize Gen.k0_pay22 (F := Ideal) Gen.k0_pay166 (Gen.k0_pay1 sc) cd = e0
    generalize Gen.k0_pay23 (F := Ideal) Gen.k0_pay166 (Gen.k0_pay1 sc) cd = e1
    pointwise
    rw [if_neg (by omega)]

/-- The rows a block stores in the table: token `q`, parity `p`, lane `l`. -/
theorem st4_apply (sc : Vec Ideal S256 .f32) (cd : Vec Ideal S1x256x256 .i8) (q : Fin 256) (p : Fin 2) (l : Fin 128) :
    Gen.k0_pay30 (F := Ideal) Gen.k0_pay166 (Gen.k0_pay1 sc) cd (ix3 q p l) = blk sc (cds cd) q ⟨128 * p.val + l.val, by omega⟩ := by
  have h0 := pay28_apply sc cd q l
  have h1 := pay29_apply sc cd q l
  unfold Gen.k0_pay30
  fin_vals p with hp
  · refine Eq.trans ?_ (h0.trans (congrArg (blk sc (cds cd) q) (Fin.ext (by show l.val = 128 * p.val + l.val; omega))))
    generalize Gen.k0_pay28 (F := Ideal) Gen.k0_pay166 (Gen.k0_pay1 sc) cd = e0
    generalize Gen.k0_pay29 (F := Ideal) Gen.k0_pay166 (Gen.k0_pay1 sc) cd = e1
    pointwise
    rw [if_pos (by omega)]
  · refine Eq.trans ?_ (h1.trans (congrArg (blk sc (cds cd) q) (Fin.ext (by show 128 + l.val = 128 * p.val + l.val; omega))))
    generalize Gen.k0_pay28 (F := Ideal) Gen.k0_pay166 (Gen.k0_pay1 sc) cd = e0
    generalize Gen.k0_pay29 (F := Ideal) Gen.k0_pay166 (Gen.k0_pay1 sc) cd = e1
    pointwise
    rw [if_neg (by omega)]

/-- The last block's rows: its even chunk is the last 128 columns. -/
theorem st5_apply (sc : Vec Ideal S256 .f32) (cd : Vec Ideal S1x128x256 .i8) (q : Fin 256) (p : Fin 2) (l : Fin 128) (hp : p.val = 0) :
    Gen.k0_pay167 (Gen.k0_pay34 (F := Ideal) Gen.k0_pay166 (Gen.k0_pay1 sc) cd) (Gen.k0_pay35 (F := Ideal)) (ix3 q p l) = blk sc (cdl cd) q l := by
  refine Eq.trans ?_ (pay32_apply sc cd q l)
  unfold Gen.k0_pay167 Gen.k0_pay34
  obtain rfl : p = 0 := Fin.ext hp
  generalize Gen.k0_pay32 (F := Ideal) Gen.k0_pay166 (Gen.k0_pay1 sc) cd = e0
  generalize Gen.k0_pay35 (F := Ideal) = e1
  pointwise

/-- The sums of squares after a block. -/
theorem sq0_apply (sc : Vec Ideal S256 .f32) (cd : Vec Ideal S1x256x256 .i8) (q : Fin 256) (l : Fin 128) :
    (Gen.k0_pay7 (Gen.k0_pay5 (F := Ideal) Gen.k0_pay166 sc cd) (ix2 q l) : EReal) = (blk sc (cds cd) q ⟨l.val, by omega⟩ * blk sc (cds cd) q ⟨l.val, by omega⟩
      + blk sc (cds cd) q ⟨128 + l.val, by omega⟩ * blk sc (cds cd) q ⟨128 + l.val, by omega⟩) := by
  rw [← pay3_apply sc cd q l, ← pay4_apply sc cd q l]
  unfold Gen.k0_pay7 Gen.k0_pay5
  generalize Gen.k0_pay3 (F := Ideal) Gen.k0_pay166 sc cd = e0
  generalize Gen.k0_pay4 (F := Ideal) Gen.k0_pay166 sc cd = e1
  pointwise

/-- The sums of squares after a block. -/
theorem sq1_apply (sc : Vec Ideal S256 .f32) (cd : Vec Ideal S1x256x256 .i8) (a : Vec Ideal S256x128 .f32) (q : Fin 256) (l : Fin 128) :
    (Gen.k0_pay12 (F := Ideal) Gen.k0_pay166 (Gen.k0_pay1 sc) cd a (ix2 q l) : EReal) = a (ix2 q l) + (blk sc (cds cd) q ⟨l.val, by omega⟩ * blk sc (cds cd) q ⟨l.val, by omega⟩
      + blk sc (cds cd) q ⟨128 + l.val, by omega⟩ * blk sc (cds cd) q ⟨128 + l.val, by omega⟩) := by
  rw [← pay9_apply sc cd q l, ← pay10_apply sc cd q l]
  unfold Gen.k0_pay12
  generalize Gen.k0_pay9 (F := Ideal) Gen.k0_pay166 (Gen.k0_pay1 sc) cd = e0
  generalize Gen.k0_pay10 (F := Ideal) Gen.k0_pay166 (Gen.k0_pay1 sc) cd = e1
  pointwise

/-- The sums of squares after a block. -/
theorem sq2_apply (sc : Vec Ideal S256 .f32) (cd : Vec Ideal S1x256x256 .i8) (a : Vec Ideal S256x128 .f32) (q : Fin 256) (l : Fin 128) :
    (Gen.k0_pay20 (Gen.k0_pay16 (F := Ideal) Gen.k0_pay166 (Gen.k0_pay1 sc) cd) a (ix2 q l) : EReal) = a (ix2 q l) + (blk sc (cds cd) q ⟨l.val, by omega⟩ * blk sc (cds cd) q ⟨l.val, by omega⟩
      + blk sc (cds cd) q ⟨128 + l.val, by omega⟩ * blk sc (cds cd) q ⟨128 + l.val, by omega⟩) := by
  rw [← pay14_apply sc cd q l, ← pay15_apply sc cd q l]
  unfold Gen.k0_pay20 Gen.k0_pay16
  generalize Gen.k0_pay14 (F := Ideal) Gen.k0_pay166 (Gen.k0_pay1 sc) cd = e0
  generalize Gen.k0_pay15 (F := Ideal) Gen.k0_pay166 (Gen.k0_pay1 sc) cd = e1
  pointwise

/-- The sums of squares after a block. -/
theorem sq3_apply (sc : Vec Ideal S256 .f32) (cd : Vec Ideal S1x256x256 .i8) (a : Vec Ideal S256x128 .f32) (q : Fin 256) (l : Fin 128) :
    (Gen.k0_pay26 (Gen.k0_pay25 (F := Ideal) Gen.k0_pay166 (Gen.k0_pay1 sc) cd a) (ix2 q l) : EReal) = a (ix2 q l) + (blk sc (cds cd) q ⟨l.val, by omega⟩ * blk sc (cds cd) q ⟨l.val, by omega⟩
      + blk sc (cds cd) q ⟨128 + l.val, by omega⟩ * blk sc (cds cd) q ⟨128 + l.val, by omega⟩) := by
  rw [← pay22_apply sc cd q l, ← pay23_apply sc cd q l]
  unfold Gen.k0_pay26 Gen.k0_pay25
  generalize Gen.k0_pay22 (F := Ideal) Gen.k0_pay166 (Gen.k0_pay1 sc) cd = e0
  generalize Gen.k0_pay23 (F := Ideal) Gen.k0_pay166 (Gen.k0_pay1 sc) cd = e1
  pointwise

/-- The sums of squares after a block. -/
theorem sq4_apply (sc : Vec Ideal S256 .f32) (cd : Vec Ideal S1x256x256 .i8) (a : Vec Ideal S256x128 .f32) (q : Fin 256) (l : Fin 128) :
    (Gen.k0_pay31 (F := Ideal) Gen.k0_pay166 (Gen.k0_pay1 sc) cd a (ix2 q l) : EReal) = a (ix2 q l) + (blk sc (cds cd) q ⟨l.val, by omega⟩ * blk sc (cds cd) q ⟨l.val, by omega⟩
      + blk sc (cds cd) q ⟨128 + l.val, by omega⟩ * blk sc (cds cd) q ⟨128 + l.val, by omega⟩) := by
  rw [← pay28_apply sc cd q l, ← pay29_apply sc cd q l]
  unfold Gen.k0_pay31
  generalize Gen.k0_pay28 (F := Ideal) Gen.k0_pay166 (Gen.k0_pay1 sc) cd = e0
  generalize Gen.k0_pay29 (F := Ideal) Gen.k0_pay166 (Gen.k0_pay1 sc) cd = e1
  pointwise

/-- The inverse norms a block stores. -/
theorem inv_apply (sc : Vec Ideal S256 .f32) (cd : Vec Ideal S1x128x256 .i8) (a : Vec Ideal S256x128 .f32) (q : Fin 256) (l : Fin 128) :
    (Gen.k0_pay168 (Gen.k0_pay33 (F := Ideal) Gen.k0_pay166 (Gen.k0_pay1 sc) cd) a (ix2 q l) : EReal) =
      invn (∑ l' : Fin 128, ((a (ix2 q l') : EReal) + blk sc (cdl cd) q l' * blk sc (cdl cd) q l')) := by
  have hs : ∀ l', blk sc (cdl cd) q l' = Gen.k0_pay32 (F := Ideal) Gen.k0_pay166 (Gen.k0_pay1 sc) cd (ix2 q l') := fun l' => (pay32_apply sc cd q l').symm
  simp only [hs]
  unfold invn Gen.k0_pay168 Gen.k0_pay33
  generalize Gen.k0_pay32 (F := Ideal) Gen.k0_pay166 (Gen.k0_pay1 sc) cd = e0
  pointwise

end Cert.Proof.KernelIdeal
-- ==== Proof.Ideal.Build.lean ====
/-
  Building the table: what one block stores in the table and in the inverse norms' table, in terms of the codes and the
  scales, and one trip of the loop over the blocks.
-/
module

public import proofs.«01_k».proof.Proof.Ideal.In
public import proofs.«01_k».proof.Proof.Ideal.Emb

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

/-- The embedding of id `v`, column `k`: its code times its scale. -/
def Ev (g1 : S1408x7936.Idx → BitVec 8) (g2 : S7936.Idx → EReal) (v k : ℕ) : EReal :=
  if h : v < 7936 ∧ k < 1408 then (((g1 (ix2 ⟨k, h.2⟩ ⟨v, h.1⟩)).toInt : ℝ) : EReal) * g2 (ix1 ⟨v, h.1⟩) else 0

/-- The sum of the squares of lane `l` of the first ten chunks of an embedding. -/
def sq10 (E : ℕ → ℕ → EReal) (v l : ℕ) : EReal :=
  (E v (256 * 0 + l) * E v (256 * 0 + l) + E v (256 * 0 + (128 + l)) * E v (256 * 0 + (128 + l)))
  + (E v (256 * 1 + l) * E v (256 * 1 + l) + E v (256 * 1 + (128 + l)) * E v (256 * 1 + (128 + l)))
  + (E v (256 * 2 + l) * E v (256 * 2 + l) + E v (256 * 2 + (128 + l)) * E v (256 * 2 + (128 + l)))
  + (E v (256 * 3 + l) * E v (256 * 3 + l) + E v (256 * 3 + (128 + l)) * E v (256 * 3 + (128 + l)))
  + (E v (256 * 4 + l) * E v (256 * 4 + l) + E v (256 * 4 + (128 + l)) * E v (256 * 4 + (128 + l)))

/-- The inverse norm of id `v`. -/
def Iv (E : ℕ → ℕ → EReal) (v : ℕ) : EReal :=
  invn (∑ l : Fin 128, (sq10 E v l.val + E v (256 * 5 + l.val) * E v (256 * 5 + l.val)))

/-- A block's loads: the code of column `256 j + k` times the scale of row `256 v + q`. -/
theorem blk_eq (g1 : S1408x7936.Idx → BitVec 8) (g2 : S7936.Idx → EReal) (v j a : ℕ) (hv : v < 31) (hj : j < 5) (ha : a = 256 * j)
    {o7 : Fin 1 → ℕ} (h7 : o7 = ![256 * v]) (i7) {o8 : Fin 3 → ℕ} (h8 : o8 = ![v, a, 0]) (i8) (q k : Fin 256) :
    blk (fun x => g2 ((Rect.unit (s := S7936) o7 S256.size i7).toLoadRect.idx x))
      (cds (fun x => gC g1 ((Rect.unit (s := S31x1408x256) o8 S1x256x256.size i8).toLoadRect.idx x))) q k = Ev g1 g2 (256 * v + q) (256 * j + k) := by
  subst h7 h8 ha
  unfold Ev
  rw [dif_pos ⟨by omega, by omega⟩]
  have e7 : (Rect.unit (s := S7936) ![256 * v] S256.size i7).toLoadRect.idx (ix1 q) = ix1 ⟨256 * v + q.val, by omega⟩ := by
    funext a; apply Fin.ext
    match a with
    | 0 => show 256 * v + 1 * q.val = 256 * v + q.val; omega
  have e8 : gC g1 ((Rect.unit (s := S31x1408x256) ![v, 256 * j, 0] S1x256x256.size i8).toLoadRect.idx (ix3 0 k q)) = g1 (ix2 ⟨256 * j + k.val, by omega⟩ ⟨256 * v + q.val, by omega⟩) := by
    unfold gC
    congr 1
    funext a; apply Fin.ext
    match a with
    | 0 => show 256 * j + 1 * k.val = 256 * j + k.val; omega
    | 1 => show 256 * (v + 1 * 0) + (0 + 1 * q.val) = 256 * v + q.val; omega
  show (((gC g1 ((Rect.unit (s := S31x1408x256) ![v, 256 * j, 0] S1x256x256.size i8).toLoadRect.idx (ix3 0 k q))).toInt : ℝ) : EReal) * g2 ((Rect.unit (s := S7936) ![256 * v] S256.size i7).toLoadRect.idx (ix1 q)) = _
  rw [e7, e8]

/-- The same for the last 128 columns. -/
theorem blk_last (g1 : S1408x7936.Idx → BitVec 8) (g2 : S7936.Idx → EReal) (v : ℕ) (hv : v < 31)
    {o7 : Fin 1 → ℕ} (h7 : o7 = ![256 * v]) (i7) {o8 : Fin 3 → ℕ} (h8 : o8 = ![v, 1280, 0]) (i8) (q : Fin 256) (k : Fin 128) :
    blk (fun x => g2 ((Rect.unit (s := S7936) o7 S256.size i7).toLoadRect.idx x))
      (cdl (fun x => gC g1 ((Rect.unit (s := S31x1408x256) o8 S1x128x256.size i8).toLoadRect.idx x))) q k = Ev g1 g2 (256 * v + q) (256 * 5 + k) := by
  subst h7 h8
  unfold Ev
  rw [dif_pos ⟨by omega, by omega⟩]
  have e7 : (Rect.unit (s := S7936) ![256 * v] S256.size i7).toLoadRect.idx (ix1 q) = ix1 ⟨256 * v + q.val, by omega⟩ := by
    funext a; apply Fin.ext
    match a with
    | 0 => show 256 * v + 1 * q.val = 256 * v + q.val; omega
  have e8 : gC g1 ((Rect.unit (s := S31x1408x256) ![v, 1280, 0] S1x128x256.size i8).toLoadRect.idx (ix3 0 k q)) = g1 (ix2 ⟨256 * 5 + k.val, by omega⟩ ⟨256 * v + q.val, by omega⟩) := by
    unfold gC
    congr 1
    funext a; apply Fin.ext
    match a with
    | 0 => show 1280 + 1 * k.val = 256 * 5 + k.val; omega
    | 1 => show 256 * (v + 1 * 0) + (0 + 1 * q.val) = 256 * v + q.val; omega
  show (((gC g1 ((Rect.unit (s := S31x1408x256) ![v, 1280, 0] S1x128x256.size i8).toLoadRect.idx (ix3 0 k q))).toInt : ℝ) : EReal) * g2 ((Rect.unit (s := S7936) ![256 * v] S256.size i7).toLoadRect.idx (ix1 q)) = _
  rw [e7, e8]

/-- The table while block `v` is worked on: the blocks before are there, and the first `j` rows of each of its ids. -/
def TabI (E : ℕ → ℕ → EReal) (v j : ℕ) (g : S63488x2x128.Idx → EReal) : Prop :=
  ∀ (r : Fin 63488) (p : Fin 2) (l : Fin 128), r.val < 8 * (256 * v) ∨ (r.val < 8 * (256 * (v + 1)) ∧ r.val % 8 < j) → 2 * (r.val % 8) + p.val < 11 →
    g (ix3 r p l) = E (r.val / 8) (128 * (2 * (r.val % 8) + p.val) + l.val)

/-- Before a block's first group of rows, the table is what the earlier blocks left. -/
theorem tab_start (E : ℕ → ℕ → EReal) (v : ℕ) (g) (h : TableOk E (256 * v) g) : TabI E v 0 g :=
  fun r p l hr hp => h r p l (by omega) hp

/-- After a block's last group of rows, the table holds the block too. -/
theorem tab_end (E : ℕ → ℕ → EReal) (v : ℕ) (g) (h : TabI E v 6 g) : TableOk E (256 * (v + 1)) g :=
  fun r p l hr hp => h r p l (by omega) hp

/-- One store of a block: every eighth row from row `2048 v + j`. -/
theorem tab_step (E : ℕ → ℕ → EReal) (v j : ℕ) (hv : v < 31) (hj : j < 6) {off : Fin 3 → ℕ} (ho : off = ![2048 * v + j, 0, 0]) (h) (hp)
    (w : S256x2x128.Idx → EReal) (g : S63488x2x128.Idx → EReal) (hg : TabI E v j g)
    (hw : ∀ (q : Fin 256) (p : Fin 2) (l : Fin 128), 2 * j + p.val < 11 → w (ix3 q p l) = E (256 * v + q) (128 * (2 * j + p) + l)) :
    TabI E v (j + 1) (upd (⟨(⟨off, S256x2x128.size, ![8, 1, 1], h⟩ : LoadRect S63488x2x128), hp⟩ : Rect S63488x2x128) w g) := by
  subst ho
  intro r p l hr hpl
  by_cases hm : 2048 * v ≤ r.val ∧ r.val < 2048 * (v + 1) ∧ r.val % 8 = j
  · obtain ⟨m1, m2, m3⟩ := hm
    have hq : r.val / 8 - 256 * v < 256 := by omega
    refine (upd_eq (⟨(⟨![2048 * v + j, 0, 0], S256x2x128.size, ![8, 1, 1], h⟩ : LoadRect S63488x2x128), hp⟩ : Rect S63488x2x128) w g (i := ix3 r p l) (ix3 ⟨r.val / 8 - 256 * v, hq⟩ p l) ?_).trans ?_
    · funext a; apply Fin.ext
      match a with
      | 0 => show (2048 * v + j) + 8 * (r.val / 8 - 256 * v) = r.val; omega
      | 1 => show 0 + 1 * p.val = p.val; omega
      | 2 => show 0 + 1 * l.val = l.val; omega
    · rw [hw _ p l (by omega), m3]
      congr 1
      show 256 * v + (r.val / 8 - 256 * v) = r.val / 8
      omega
  · refine (upd_off (⟨(⟨![2048 * v + j, 0, 0], S256x2x128.size, ![8, 1, 1], h⟩ : LoadRect S63488x2x128), hp⟩ : Rect S63488x2x128) w g fun hi => hm ?_).trans (hg r p l ?_ hpl)
    · obtain ⟨x, hx, e⟩ := (LoadRect.mem_set _).mp hi (0 : Fin 3)
      have hx' : x < 256 := hx
      have e' : r.val = (2048 * v + j) + 8 * x := e
      omega
    · omega

/-- The inverse norms a block stores. -/
theorem inv_step (I : ℕ → EReal) (v : ℕ) (hv : v < 31) {off : Fin 2 → ℕ} (ho : off = ![256 * v, 0]) (h) (w : S256x128.Idx → EReal) (g : S7936x128.Idx → EReal)
    (hg : InvOk I (256 * v) g) (hw : ∀ (q : Fin 256) (l : Fin 128), w (ix2 q l) = I (256 * v + q)) :
    InvOk I (256 * (v + 1)) (upd (Rect.unit (s := S7936x128) off S256x128.size h) w g) := by
  subst ho
  intro r l hr
  by_cases hm : 256 * v ≤ r.val
  · refine (upd_eq (Rect.unit (s := S7936x128) ![256 * v, 0] S256x128.size h) w g (i := ix2 r l) (ix2 ⟨r.val - 256 * v, by omega⟩ l) ?_).trans ?_
    · funext a; apply Fin.ext
      match a with
      | 0 => show 256 * v + 1 * (r.val - 256 * v) = r.val; omega
      | 1 => show 0 + 1 * l.val = l.val; omega
    · rw [hw]
      congr 1
      show 256 * v + (r.val - 256 * v) = r.val
      omega
  · exact (upd_axis (s := S7936x128) ![256 * v, 0] S256x128.size h w g (i := ix2 r l) (0 : Fin 2) (Or.inl (by show r.val < 256 * v; omega))).trans (hg r l (by omega))

/-- What has just been stored is read back. -/
theorem upd_at {off : Fin 2 → ℕ} (h) (w g : S256x128.Idx → EReal) (x : S256x128.Idx) :
    upd (Rect.unit (s := S256x128) off S256x128.size h) w g ((Rect.unit (s := S256x128) off S256x128.size h).toLoadRect.idx x) = w x :=
  upd_emb (Rect.unit (s := S256x128) off S256x128.size h) w g x

/-- A load of a block's copy lies in it. -/
theorem unit_sub_b (v a : ℕ) {off : Fin 3 → ℕ} (ho : off = ![v, a, 0]) (size : Fin 3 → ℕ) (h0 : size 0 = 1) (h) :
    (Rect.unit (s := S31x1408x256) off size h).set ⊆ bBox v := by
  subst ho
  intro i hi
  obtain ⟨j, hj, e⟩ := (LoadRect.mem_set _).mp hi (0 : Fin 3)
  have hj' : j < size 0 := hj
  have e' : (i (0 : Fin 3) : ℕ) = v + 1 * j := e
  simp only [bBox, Finset.mem_filter, Finset.mem_univ, true_and]
  omega

/-- Before block `k` is worked on. -/
def BuildI (c : Dev nD) (arg1 : Memref sig .tc .hbm S1408x7936 .i8) (arg2 : Memref sig .tc .vmem S7936 .f32) (arg6 : Memref sig .tc .vmem S63488x2x128 .bf16) (arg7 : Memref sig .tc .vmem S7936x128 .f32)
    (arg8 : Memref sig .tc .vmem S31x1408x256 .i8) (arg9 : Memref sig .tc .vmem S256x128 .f32) (arg13 : DmaSems sig S31) (N : ℕ)
    (g1 : S1408x7936.Idx → BitVec 8) (q2 : PosShare TreeShare) (g2 : S7936.Idx → EReal) (k : ℕ) : sProp 𝕄 :=
  iprop(own (Val := Elt Ideal) (c : Thread nD τ) arg1 (colAcc k) fullShare g1 ∗ (∃ g, own (Val := Elt Ideal) (c : Thread nD τ) arg8 (bAcc k) fullShare g)
    ∗ bigSep Finset.univ (fun v : Fin 31 => if v.val < k then Rest c arg13 v else Flight c arg1 arg8 arg13 N g1 v)
    ∗ own (Val := Elt Ideal) (c : Thread nD τ) arg2 Finset.univ q2 g2
    ∗ (∃ g, ⌜TableOk (Ev g1 g2) (256 * k) g⌝ ∗ own (Val := Elt Ideal) (c : Thread nD τ) arg6 Finset.univ fullShare g)
    ∗ (∃ g, ⌜InvOk (Iv (Ev g1 g2)) (256 * k) g⌝ ∗ own (Val := Elt Ideal) (c : Thread nD τ) arg7 Finset.univ fullShare g)
    ∗ (∃ g, own (Val := Elt Ideal) (c : Thread nD τ) arg9 Finset.univ fullShare g)
    ∗ ∃ W, owes (c : Thread nD τ) (0 : CellTallies nD τ sig Unit) W)

set_option maxHeartbeats 4000000 in
/-- One trip of the second loop. -/
theorem t2_step (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x2x128 .bf16) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2)
    (v61 : FVec Ideal S1x128 .f32)
    (c : Dev nD) {defs : Defs nD τ sig (Elt Ideal) Λ₀} (𝒱 : Variants) (bd : Option 𝒱.V) (N : ℕ) (h0 : 0 < N) (hN : arg8.view.ref.dmaCredit S1408x256 .i8 = N)
    (g1 : S1408x7936.Idx → BitVec 8) (q2 : PosShare TreeShare) (g2 : S7936.Idx → EReal) (k : Fin k0_t2_loop.trips) (x : Unit) :
    BuildI c arg1 arg2 arg6 arg7 arg8 arg9 arg13 N g1 q2 g2 k.val ⊢ wp frame (wpE defs 𝒱 (c : Thread nD τ) bd) Set.univ
      (Gen.k0_t2_body arg0 harg0 arg1 harg1 arg2 harg2 arg3 harg3 arg4 harg4 arg5 harg5 arg6 harg6 arg7 harg7 arg8 harg8 arg9 harg9 arg10 harg10 arg11 harg11 arg12 harg12 arg13 arg14 v61 k x) (fun _ => BuildI c arg1 arg2 arg6 arg7 arg8 arg9 arg13 N g1 q2 g2 (k.val + 1)) := by
  have hk : k.val < 31 := k.isLt
  rw [t2o.eq_at]
  unfold t2o BuildI
  iintro ⟨H1, ⟨%gb, H8'⟩, HF, H2, ⟨%g6, %hg6, H6⟩, ⟨%g7, %hg7, H7⟩, ⟨%g9, H9⟩, HO⟩
  ihave HF := (fam_step (Flight c arg1 arg8 arg13 N g1) (Rest c arg13) ⟨k.val, hk⟩) $$ HF
  icases HF with ⟨HB, HF⟩
  iapply (wait_in c 𝒱 bd _ arg1 arg8 arg13 N h0 hN g1 ⟨k.val, hk⟩ (Gen.k0_off4_eq k)) $$ [HB HO]
  · isplitl [HB]; · iexact HB
    iexact HO
  iintro ⟨H8, H1', HR, HO⟩
  iapply (own_load 𝒱 (c : Thread nD τ) bd (m := arg2) (Finset.subset_univ _)) $$ H2
  iintro H2
  iapply (own_load 𝒱 (c : Thread nD τ) bd (m := arg8) (S := bBox k.val) (unit_sub_b k.val 0 (Gen.k0_off8_eq k) S1x256x256.size rfl (Gen.k0_off8_inb k))) $$ H8
  iintro H8
  iapply (own_load 𝒱 (c : Thread nD τ) bd (m := arg6) (Finset.subset_univ _)) $$ H6
  iintro H6
  iapply (own_store_upd 𝒱 (c : Thread nD τ) bd (m := arg6) (Finset.subset_univ _)) $$ H6
  iintro H6
  iapply (own_load 𝒱 (c : Thread nD τ) bd (m := arg9) (Finset.subset_univ _)) $$ H9
  iintro H9
  iapply (own_store_upd 𝒱 (c : Thread nD τ) bd (m := arg9) (Finset.subset_univ _)) $$ H9
  iintro H9
  iapply (own_load 𝒱 (c : Thread nD τ) bd (m := arg8) (S := bBox k.val) (unit_sub_b k.val 256 (Gen.k0_off10_eq k) S1x256x256.size rfl (Gen.k0_off10_inb k))) $$ H8
  iintro H8
  iapply (own_load 𝒱 (c : Thread nD τ) bd (m := arg6) (Finset.subset_univ _)) $$ H6
  iintro H6
  iapply (own_store_upd 𝒱 (c : Thread nD τ) bd (m := arg6) (Finset.subset_univ _)) $$ H6
  iintro H6
  iapply (own_load 𝒱 (c : Thread nD τ) bd (m := arg9) (Finset.subset_univ _)) $$ H9
  iintro H9
  iapply (own_load 𝒱 (c : Thread nD τ) bd (m := arg9) (Finset.subset_univ _)) $$ H9
  iintro H9
  iapply (own_store_upd 𝒱 (c : Thread nD τ) bd (m := arg9) (Finset.subset_univ _)) $$ H9
  iintro H9
  iapply (own_load 𝒱 (c : Thread nD τ) bd (m := arg8) (S := bBox k.val) (unit_sub_b k.val 512 (Gen.k0_off11_eq k) S1x256x256.size rfl (Gen.k0_off11_inb k))) $$ H8
  iintro H8
  iapply (own_load 𝒱 (c : Thread nD τ) bd (m := arg6) (Finset.subset_univ _)) $$ H6
  iintro H6
  iapply (own_store_upd 𝒱 (c : Thread nD τ) bd (m := arg6) (Finset.subset_univ _)) $$ H6
  iintro H6
  iapply (own_load 𝒱 (c : Thread nD τ) bd (m := arg9) (Finset.subset_univ _)) $$ H9
  iintro H9
  iapply (own_load 𝒱 (c : Thread nD τ) bd (m := arg9) (Finset.subset_univ _)) $$ H9
  iintro H9
  iapply (own_store_upd 𝒱 (c : Thread nD τ) bd (m := arg9) (Finset.subset_univ _)) $$ H9
  iintro H9
  iapply (own_load 𝒱 (c : Thread nD τ) bd (m := arg8) (S := bBox k.val) (unit_sub_b k.val 768 (Gen.k0_off12_eq k) S1x256x256.size rfl (Gen.k0_off12_inb k))) $$ H8
  iintro H8
  iapply (own_load 𝒱 (c : Thread nD τ) bd (m := arg6) (Finset.subset_univ _)) $$ H6
  iintro H6
  iapply (own_store_upd 𝒱 (c : Thread nD τ) bd (m := arg6) (Finset.subset_univ _)) $$ H6
  iintro H6
  iapply (own_load 𝒱 (c : Thread nD τ) bd (m := arg9) (Finset.subset_univ _)) $$ H9
  iintro H9
  iapply (own_load 𝒱 (c : Thread nD τ) bd (m := arg9) (Finset.subset_univ _)) $$ H9
  iintro H9
  iapply (own_store_upd 𝒱 (c : Thread nD τ) bd (m := arg9) (Finset.subset_univ _)) $$ H9
  iintro H9
  iapply (own_load 𝒱 (c : Thread nD τ) bd (m := arg8) (S := bBox k.val) (unit_sub_b k.val 1024 (Gen.k0_off13_eq k) S1x256x256.size rfl (Gen.k0_off13_inb k))) $$ H8
  iintro H8
  iapply (own_load 𝒱 (c : Thread nD τ) bd (m := arg6) (Finset.subset_univ _)) $$ H6
  iintro H6
  iapply (own_store_upd 𝒱 (c : Thread nD τ) bd (m := arg6) (Finset.subset_univ _)) $$ H6
  iintro H6
  iapply (own_load 𝒱 (c : Thread nD τ) bd (m := arg9) (Finset.subset_univ _)) $$ H9
  iintro H9
  iapply (own_load 𝒱 (c : Thread nD τ) bd (m := arg9) (Finset.subset_univ _)) $$ H9
  iintro H9
  iapply (own_store_upd 𝒱 (c : Thread nD τ) bd (m := arg9) (Finset.subset_univ _)) $$ H9
  iintro H9
  iapply (own_load 𝒱 (c : Thread nD τ) bd (m := arg8) (S := bBox k.val) (unit_sub_b k.val 1280 (Gen.k0_off14_eq k) S1x128x256.size rfl (Gen.k0_off14_inb k))) $$ H8
  iintro H8
  iapply (own_load 𝒱 (c : Thread nD τ) bd (m := arg6) (Finset.subset_univ _)) $$ H6
  iintro H6
  iapply (own_store_upd 𝒱 (c : Thread nD τ) bd (m := arg6) (Finset.subset_univ _)) $$ H6
  iintro H6
  iapply (own_load 𝒱 (c : Thread nD τ) bd (m := arg9) (Finset.subset_univ _)) $$ H9
  iintro H9
  iapply (own_load 𝒱 (c : Thread nD τ) bd (m := arg7) (Finset.subset_univ _)) $$ H7
  iintro H7
  iapply (own_store_upd 𝒱 (c : Thread nD τ) bd (m := arg7) (Finset.subset_univ _)) $$ H7
  iintro H7
  rw [ret_bind', wp_pure]; imodintro
  isplitl [H1 H1']
  · ihave H := (own_join (colAcc_disj k.val)) $$ [H1 H1']
    · isplitl [H1]; · iexact H1
      iexact H1'
    rw [colAcc_union]
    iexact H
  isplitl [H8 H8']
  · have hd := bAcc_disj k.val
    iexists ((bBox k.val).piecewise (gC g1) gb)
    ihave H8' := (own_congr (g' := (bBox k.val).piecewise (gC g1) gb) (fun i hi => (Finset.piecewise_eq_of_notMem _ _ _ (Finset.disjoint_left.mp hd hi)).symm)) $$ H8'
    ihave H8 := (own_congr (g' := (bBox k.val).piecewise (gC g1) gb) (fun i hi => (Finset.piecewise_eq_of_mem _ _ _ hi).symm)) $$ H8
    ihave H := (own_join hd) $$ [H8' H8]
    · isplitl [H8']; · iexact H8'
      iexact H8
    rw [bAcc_union]
    iexact H
  isplitl [HR HF]
  · iapply HF; iexact HR
  isplitl [H2]; · iexact H2
  isplitl [H6]
  · iexists _
    isplitr
    swap; · iexact H6
    ipureintro
    refine tab_end _ _ _ ?_
    refine tab_step _ _ 5 hk (by decide) (Gen.k0_off9_eq k (⟨5, by decide⟩ : Fin 6)) _ _ _ _ ?_ (fun q p l hp => (st5_apply _ _ q p l (by omega)).trans ((blk_last g1 g2 k.val hk (Gen.k0_off7_eq k) (Gen.k0_off7_inb k) (Gen.k0_off14_eq k) (Gen.k0_off14_inb k) q l).trans (congrArg (Ev g1 g2 (256 * k.val + q.val)) (by omega))))
    refine tab_step _ _ 4 hk (by decide) (Gen.k0_off9_eq k (⟨4, by decide⟩ : Fin 6)) _ _ _ _ ?_ (fun q p l hp => (st4_apply _ _ q p l).trans ((blk_eq g1 g2 k.val 4 1024 hk (by decide) (by decide) (Gen.k0_off7_eq k) (Gen.k0_off7_inb k) (Gen.k0_off13_eq k) (Gen.k0_off13_inb k) q ⟨128 * p.val + l.val, by omega⟩).trans (congrArg (Ev g1 g2 (256 * k.val + q.val)) (by show 256 * 4 + (128 * p.val + l.val) = _; omega))))
    refine tab_step _ _ 3 hk (by decide) (Gen.k0_off9_eq k (⟨3, by decide⟩ : Fin 6)) _ _ _ _ ?_ (fun q p l hp => (st3_apply _ _ q p l).trans ((blk_eq g1 g2 k.val 3 768 hk (by decide) (by decide) (Gen.k0_off7_eq k) (Gen.k0_off7_inb k) (Gen.k0_off12_eq k) (Gen.k0_off12_inb k) q ⟨128 * p.val + l.val, by omega⟩).trans (congrArg (Ev g1 g2 (256 * k.val + q.val)) (by show 256 * 3 + (128 * p.val + l.val) = _; omega))))
    refine tab_step _ _ 2 hk (by decide) (Gen.k0_off9_eq k (⟨2, by decide⟩ : Fin 6)) _ _ _ _ ?_ (fun q p l hp => (st2_apply _ _ q p l).trans ((blk_eq g1 g2 k.val 2 512 hk (by decide) (by decide) (Gen.k0_off7_eq k) (Gen.k0_off7_inb k) (Gen.k0_off11_eq k) (Gen.k0_off11_inb k) q ⟨128 * p.val + l.val, by omega⟩).trans (congrArg (Ev g1 g2 (256 * k.val + q.val)) (by show 256 * 2 + (128 * p.val + l.val) = _; omega))))
    refine tab_step _ _ 1 hk (by decide) (Gen.k0_off9_eq k (⟨1, by decide⟩ : Fin 6)) _ _ _ _ ?_ (fun q p l hp => (st1_apply _ _ q p l).trans ((blk_eq g1 g2 k.val 1 256 hk (by decide) (by decide) (Gen.k0_off7_eq k) (Gen.k0_off7_inb k) (Gen.k0_off10_eq k) (Gen.k0_off10_inb k) q ⟨128 * p.val + l.val, by omega⟩).trans (congrArg (Ev g1 g2 (256 * k.val + q.val)) (by show 256 * 1 + (128 * p.val + l.val) = _; omega))))
    refine tab_step _ _ 0 hk (by decide) (Gen.k0_off9_eq k (⟨0, by decide⟩ : Fin 6)) _ _ _ _ ?_ (fun q p l hp => (st0_apply _ _ q p l).trans ((blk_eq g1 g2 k.val 0 0 hk (by decide) (by decide) (Gen.k0_off7_eq k) (Gen.k0_off7_inb k) (Gen.k0_off8_eq k) (Gen.k0_off8_inb k) q ⟨128 * p.val + l.val, by omega⟩).trans (congrArg (Ev g1 g2 (256 * k.val + q.val)) (by show 256 * 0 + (128 * p.val + l.val) = _; omega))))
    exact tab_start _ _ _ hg6

  isplitl [H7]
  · iexists _
    isplitr
    swap; · iexact H7
    ipureintro
    refine inv_step _ _ hk (Gen.k0_off15_eq k) _ _ _ hg7 fun q l => (inv_apply _ _ _ q l).trans ?_
    unfold Iv sq10
    refine congrArg invn (Finset.sum_congr rfl fun l' _ => ?_)
    exact congrArg₂ (· + ·) ((upd_at _ _ _ (ix2 q l')).trans ((sq4_apply _ _ _ q l').trans (congrArg₂ (· + ·) ((upd_at _ _ _ (ix2 q l')).trans ((sq3_apply _ _ _ q l').trans (congrArg₂ (· + ·) ((upd_at _ _ _ (ix2 q l')).trans ((sq2_apply _ _ _ q l').trans (congrArg₂ (· + ·) ((upd_at _ _ _ (ix2 q l')).trans ((sq1_apply _ _ _ q l').trans (congrArg₂ (· + ·) ((upd_at _ _ _ (ix2 q l')).trans ((sq0_apply _ _ q l').trans (congrArg₂ (· + ·) (congrArg₂ (· * ·) (blk_eq g1 g2 k.val 0 0 hk (by decide) (by decide) (Gen.k0_off7_eq k) (Gen.k0_off7_inb k) (Gen.k0_off8_eq k) (Gen.k0_off8_inb k) q ⟨l'.val, by omega⟩) (blk_eq g1 g2 k.val 0 0 hk (by decide) (by decide) (Gen.k0_off7_eq k) (Gen.k0_off7_inb k) (Gen.k0_off8_eq k) (Gen.k0_off8_inb k) q ⟨l'.val, by omega⟩)) (congrArg₂ (· * ·) (blk_eq g1 g2 k.val 0 0 hk (by decide) (by decide) (Gen.k0_off7_eq k) (Gen.k0_off7_inb k) (Gen.k0_off8_eq k) (Gen.k0_off8_inb k) q ⟨128 + l'.val, by omega⟩) (blk_eq g1 g2 k.val 0 0 hk (by decide) (by decide) (Gen.k0_off7_eq k) (Gen.k0_off7_inb k) (Gen.k0_off8_eq k) (Gen.k0_off8_inb k) q ⟨128 + l'.val, by omega⟩))))) (congrArg₂ (· + ·) (congrArg₂ (· * ·) (blk_eq g1 g2 k.val 1 256 hk (by decide) (by decide) (Gen.k0_off7_eq k) (Gen.k0_off7_inb k) (Gen.k0_off10_eq k) (Gen.k0_off10_inb k) q ⟨l'.val, by omega⟩) (blk_eq g1 g2 k.val 1 256 hk (by decide) (by decide) (Gen.k0_off7_eq k) (Gen.k0_off7_inb k) (Gen.k0_off10_eq k) (Gen.k0_off10_inb k) q ⟨l'.val, by omega⟩)) (congrArg₂ (· * ·) (blk_eq g1 g2 k.val 1 256 hk (by decide) (by decide) (Gen.k0_off7_eq k) (Gen.k0_off7_inb k) (Gen.k0_off10_eq k) (Gen.k0_off10_inb k) q ⟨128 + l'.val, by omega⟩) (blk_eq g1 g2 k.val 1 256 hk (by decide) (by decide) (Gen.k0_off7_eq k) (Gen.k0_off7_inb k) (Gen.k0_off10_eq k) (Gen.k0_off10_inb k) q ⟨128 + l'.val, by omega⟩)))))) (congrArg₂ (· + ·) (congrArg₂ (· * ·) (blk_eq g1 g2 k.val 2 512 hk (by decide) (by decide) (Gen.k0_off7_eq k) (Gen.k0_off7_inb k) (Gen.k0_off11_eq k) (Gen.k0_off11_inb k) q ⟨l'.val, by omega⟩) (blk_eq g1 g2 k.val 2 512 hk (by decide) (by decide) (Gen.k0_off7_eq k) (Gen.k0_off7_inb k) (Gen.k0_off11_eq k) (Gen.k0_off11_inb k) q ⟨l'.val, by omega⟩)) (congrArg₂ (· * ·) (blk_eq g1 g2 k.val 2 512 hk (by decide) (by decide) (Gen.k0_off7_eq k) (Gen.k0_off7_inb k) (Gen.k0_off11_eq k) (Gen.k0_off11_inb k) q ⟨128 + l'.val, by omega⟩) (blk_eq g1 g2 k.val 2 512 hk (by decide) (by decide) (Gen.k0_off7_eq k) (Gen.k0_off7_inb k) (Gen.k0_off11_eq k) (Gen.k0_off11_inb k) q ⟨128 + l'.val, by omega⟩)))))) (congrArg₂ (· + ·) (congrArg₂ (· * ·) (blk_eq g1 g2 k.val 3 768 hk (by decide) (by decide) (Gen.k0_off7_eq k) (Gen.k0_off7_inb k) (Gen.k0_off12_eq k) (Gen.k0_off12_inb k) q ⟨l'.val, by omega⟩) (blk_eq g1 g2 k.val 3 768 hk (by decide) (by decide) (Gen.k0_off7_eq k) (Gen.k0_off7_inb k) (Gen.k0_off12_eq k) (Gen.k0_off12_inb k) q ⟨l'.val, by omega⟩)) (congrArg₂ (· * ·) (blk_eq g1 g2 k.val 3 768 hk (by decide) (by decide) (Gen.k0_off7_eq k) (Gen.k0_off7_inb k) (Gen.k0_off12_eq k) (Gen.k0_off12_inb k) q ⟨128 + l'.val, by omega⟩) (blk_eq g1 g2 k.val 3 768 hk (by decide) (by decide) (Gen.k0_off7_eq k) (Gen.k0_off7_inb k) (Gen.k0_off12_eq k) (Gen.k0_off12_inb k) q ⟨128 + l'.val, by omega⟩)))))) (congrArg₂ (· + ·) (congrArg₂ (· * ·) (blk_eq g1 g2 k.val 4 1024 hk (by decide) (by decide) (Gen.k0_off7_eq k) (Gen.k0_off7_inb k) (Gen.k0_off13_eq k) (Gen.k0_off13_inb k) q ⟨l'.val, by omega⟩) (blk_eq g1 g2 k.val 4 1024 hk (by decide) (by decide) (Gen.k0_off7_eq k) (Gen.k0_off7_inb k) (Gen.k0_off13_eq k) (Gen.k0_off13_inb k) q ⟨l'.val, by omega⟩)) (congrArg₂ (· * ·) (blk_eq g1 g2 k.val 4 1024 hk (by decide) (by decide) (Gen.k0_off7_eq k) (Gen.k0_off7_inb k) (Gen.k0_off13_eq k) (Gen.k0_off13_inb k) q ⟨128 + l'.val, by omega⟩) (blk_eq g1 g2 k.val 4 1024 hk (by decide) (by decide) (Gen.k0_off7_eq k) (Gen.k0_off7_inb k) (Gen.k0_off13_eq k) (Gen.k0_off13_inb k) q ⟨128 + l'.val, by omega⟩)))))) (congrArg₂ (· * ·) (blk_last g1 g2 k.val hk (Gen.k0_off7_eq k) (Gen.k0_off7_inb k) (Gen.k0_off14_eq k) (Gen.k0_off14_inb k) q l') (blk_last g1 g2 k.val hk (Gen.k0_off7_eq k) (Gen.k0_off7_inb k) (Gen.k0_off14_eq k) (Gen.k0_off14_inb k) q l'))
  isplitl [H9]; · iexists _; iexact H9
  iexact HO

end Cert.Proof.KernelIdeal
-- ==== Proof.Ideal.Inner.lean ====
/-
  The loop over a block's tokens: sixteen trips of eight pairs, after which the slot's 256 positions hold the block's
  rows of the embeddings and of the results.
-/
module

public import proofs.«01_k».proof.Proof.Ideal.Pair

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

/-- The program of pair 1. -/
theorem pr1_prog {R : Type} (arg0 : Memref sig .tc .smem S1x8192 .i32) (arg6 : Memref sig .tc .vmem S63488x2x128 .bf16) (arg7 : Memref sig .tc .vmem S7936x128 .f32)
    (arg11 : Memref sig .tc .vmem S2x11x272x128 .bf16) (harg11 : arg11.IsWhole) (arg12 : Memref sig .tc .vmem S2x11x272x128 .bf16) (harg12 : arg12.IsWhole)
    (v79 v81 : FVec Ideal S8x128 .f32) (t3 : Fin k0_t3_loop.trips) (t4 : Fin k0_t4_loop.trips) (κ : Prog (TpuEff nD τ sig (Elt Ideal) Λ₀ .tc) R) :
    pr1 arg0 arg6 arg7 arg11 harg11 arg12 harg12 v79 v81 t3 t4 κ
      = pairProg arg0 arg6 arg7 arg11 arg12 v79 v81 (k0_off39 t3 t4) (k0_off42 t3 t4) (Gen.k0_off39_inb t3 t4) (Gen.k0_off42_inb t3 t4)
          (fun v => k0_chk1 v) (fun v => k0_chk2 v) (fun v => k0_chk1.dec v) (fun v => k0_chk2.dec v)
          (fun v => k0_off40 v) (fun v => k0_off43 v) (fun v => k0_off41 v) (fun v => k0_off44 v)
          (fun v h => k0_off40_inb v h) (fun v h => k0_off43_inb v h) (fun v h => k0_off41_inb v h) (fun v h => k0_off44_inb v h)
          (k0_off45 t3 t4) (k0_off46 t3 t4) (Gen.k0_off45_inb t3 t4) (Gen.k0_off46_inb t3 t4)
          (View.stores_vmem Facts₀.h_S1x6x2x128 (harg12.storeExact_slice rfl _ (Gen.k0_off45_packedbf16 t3 t4)) (fun _ => rfl)) (View.stores_vmem Facts₀.h_S1x5x2x128 (harg12.storeExact_slice rfl _ (Gen.k0_off46_packedbf16 t3 t4)) (fun _ => rfl)) (View.stores_vmem Facts₀.h_S1x6x2x128 (harg11.storeExact_slice rfl _ (Gen.k0_off45_packedbf16 t3 t4)) (fun _ => rfl)) (View.stores_vmem Facts₀.h_S1x5x2x128 (harg11.storeExact_slice rfl _ (Gen.k0_off46_packedbf16 t3 t4)) (fun _ => rfl)) κ := rfl

/-- The program of pair 2. -/
theorem pr2_prog {R : Type} (arg0 : Memref sig .tc .smem S1x8192 .i32) (arg6 : Memref sig .tc .vmem S63488x2x128 .bf16) (arg7 : Memref sig .tc .vmem S7936x128 .f32)
    (arg11 : Memref sig .tc .vmem S2x11x272x128 .bf16) (harg11 : arg11.IsWhole) (arg12 : Memref sig .tc .vmem S2x11x272x128 .bf16) (harg12 : arg12.IsWhole)
    (v79 v81 : FVec Ideal S8x128 .f32) (t3 : Fin k0_t3_loop.trips) (t4 : Fin k0_t4_loop.trips) (κ : Prog (TpuEff nD τ sig (Elt Ideal) Λ₀ .tc) R) :
    pr2 arg0 arg6 arg7 arg11 harg11 arg12 harg12 v79 v81 t3 t4 κ
      = pairProg arg0 arg6 arg7 arg11 arg12 v79 v81 (k0_off47 t3 t4) (k0_off50 t3 t4) (Gen.k0_off47_inb t3 t4) (Gen.k0_off50_inb t3 t4)
          (fun v => k0_chk3 v) (fun v => k0_chk4 v) (fun v => k0_chk3.dec v) (fun v => k0_chk4.dec v)
          (fun v => k0_off48 v) (fun v => k0_off51 v) (fun v => k0_off49 v) (fun v => k0_off52 v)
          (fun v h => k0_off48_inb v h) (fun v h => k0_off51_inb v h) (fun v h => k0_off49_inb v h) (fun v h => k0_off52_inb v h)
          (k0_off53 t3 t4) (k0_off54 t3 t4) (Gen.k0_off53_inb t3 t4) (Gen.k0_off54_inb t3 t4)
          (View.stores_vmem Facts₀.h_S1x6x2x128 (harg12.storeExact_slice rfl _ (Gen.k0_off53_packedbf16 t3 t4)) (fun _ => rfl)) (View.stores_vmem Facts₀.h_S1x5x2x128 (harg12.storeExact_slice rfl _ (Gen.k0_off54_packedbf16 t3 t4)) (fun _ => rfl)) (View.stores_vmem Facts₀.h_S1x6x2x128 (harg11.storeExact_slice rfl _ (Gen.k0_off53_packedbf16 t3 t4)) (fun _ => rfl)) (View.stores_vmem Facts₀.h_S1x5x2x128 (harg11.storeExact_slice rfl _ (Gen.k0_off54_packedbf16 t3 t4)) (fun _ => rfl)) κ := rfl

/-- The program of pair 3. -/
theorem pr3_prog {R : Type} (arg0 : Memref sig .tc .smem S1x8192 .i32) (arg6 : Memref sig .tc .vmem S63488x2x128 .bf16) (arg7 : Memref sig .tc .vmem S7936x128 .f32)
    (arg11 : Memref sig .tc .vmem S2x11x272x128 .bf16) (harg11 : arg11.IsWhole) (arg12 : Memref sig .tc .vmem S2x11x272x128 .bf16) (harg12 : arg12.IsWhole)
    (v79 v81 : FVec Ideal S8x128 .f32) (t3 : Fin k0_t3_loop.trips) (t4 : Fin k0_t4_loop.trips) (κ : Prog (TpuEff nD τ sig (Elt Ideal) Λ₀ .tc) R) :
    pr3 arg0 arg6 arg7 arg11 harg11 arg12 harg12 v79 v81 t3 t4 κ
      = pairProg arg0 arg6 arg7 arg11 arg12 v79 v81 (k0_off55 t3 t4) (k0_off58 t3 t4) (Gen.k0_off55_inb t3 t4) (Gen.k0_off58_inb t3 t4)
          (fun v => k0_chk5 v) (fun v => k0_chk6 v) (fun v => k0_chk5.dec v) (fun v => k0_chk6.dec v)
          (fun v => k0_off56 v) (fun v => k0_off59 v) (fun v => k0_off57 v) (fun v => k0_off60 v)
          (fun v h => k0_off56_inb v h) (fun v h => k0_off59_inb v h) (fun v h => k0_off57_inb v h) (fun v h => k0_off60_inb v h)
          (k0_off61 t3 t4) (k0_off62 t3 t4) (Gen.k0_off61_inb t3 t4) (Gen.k0_off62_inb t3 t4)
          (View.stores_vmem Facts₀.h_S1x6x2x128 (harg12.storeExact_slice rfl _ (Gen.k0_off61_packedbf16 t3 t4)) (fun _ => rfl)) (View.stores_vmem Facts₀.h_S1x5x2x128 (harg12.storeExact_slice rfl _ (Gen.k0_off62_packedbf16 t3 t4)) (fun _ => rfl)) (View.stores_vmem Facts₀.h_S1x6x2x128 (harg11.storeExact_slice rfl _ (Gen.k0_off61_packedbf16 t3 t4)) (fun _ => rfl)) (View.stores_vmem Facts₀.h_S1x5x2x128 (harg11.storeExact_slice rfl _ (Gen.k0_off62_packedbf16 t3 t4)) (fun _ => rfl)) κ := rfl

/-- The program of pair 4. -/
theorem pr4_prog {R : Type} (arg0 : Memref sig .tc .smem S1x8192 .i32) (arg6 : Memref sig .tc .vmem S63488x2x128 .bf16) (arg7 : Memref sig .tc .vmem S7936x128 .f32)
    (arg11 : Memref sig .tc .vmem S2x11x272x128 .bf16) (harg11 : arg11.IsWhole) (arg12 : Memref sig .tc .vmem S2x11x272x128 .bf16) (harg12 : arg12.IsWhole)
    (v79 v81 : FVec Ideal S8x128 .f32) (t3 : Fin k0_t3_loop.trips) (t4 : Fin k0_t4_loop.trips) (κ : Prog (TpuEff nD τ sig (Elt Ideal) Λ₀ .tc) R) :
    pr4 arg0 arg6 arg7 arg11 harg11 arg12 harg12 v79 v81 t3 t4 κ
      = pairProg arg0 arg6 arg7 arg11 arg12 v79 v81 (k0_off63 t3 t4) (k0_off66 t3 t4) (Gen.k0_off63_inb t3 t4) (Gen.k0_off66_inb t3 t4)
          (fun v => k0_chk7 v) (fun v => k0_chk8 v) (fun v => k0_chk7.dec v) (fun v => k0_chk8.dec v)
          (fun v => k0_off64 v) (fun v => k0_off67 v) (fun v => k0_off65 v) (fun v => k0_off68 v)
          (fun v h => k0_off64_inb v h) (fun v h => k0_off67_inb v h) (fun v h => k0_off65_inb v h) (fun v h => k0_off68_inb v h)
          (k0_off69 t3 t4) (k0_off70 t3 t4) (Gen.k0_off69_inb t3 t4) (Gen.k0_off70_inb t3 t4)
          (View.stores_vmem Facts₀.h_S1x6x2x128 (harg12.storeExact_slice rfl _ (Gen.k0_off69_packedbf16 t3 t4)) (fun _ => rfl)) (View.stores_vmem Facts₀.h_S1x5x2x128 (harg12.storeExact_slice rfl _ (Gen.k0_off70_packedbf16 t3 t4)) (fun _ => rfl)) (View.stores_vmem Facts₀.h_S1x6x2x128 (harg11.storeExact_slice rfl _ (Gen.k0_off69_packedbf16 t3 t4)) (fun _ => rfl)) (View.stores_vmem Facts₀.h_S1x5x2x128 (harg11.storeExact_slice rfl _ (Gen.k0_off70_packedbf16 t3 t4)) (fun _ => rfl)) κ := rfl

/-- The program of pair 5. -/
theorem pr5_prog {R : Type} (arg0 : Memref sig .tc .smem S1x8192 .i32) (arg6 : Memref sig .tc .vmem S63488x2x128 .bf16) (arg7 : Memref sig .tc .vmem S7936x128 .f32)
    (arg11 : Memref sig .tc .vmem S2x11x272x128 .bf16) (harg11 : arg11.IsWhole) (arg12 : Memref sig .tc .vmem S2x11x272x128 .bf16) (harg12 : arg12.IsWhole)
    (v79 v81 : FVec Ideal S8x128 .f32) (t3 : Fin k0_t3_loop.trips) (t4 : Fin k0_t4_loop.trips) (κ : Prog (TpuEff nD τ sig (Elt Ideal) Λ₀ .tc) R) :
    pr5 arg0 arg6 arg7 arg11 harg11 arg12 harg12 v79 v81 t3 t4 κ
      = pairProg arg0 arg6 arg7 arg11 arg12 v79 v81 (k0_off71 t3 t4) (k0_off74 t3 t4) (Gen.k0_off71_inb t3 t4) (Gen.k0_off74_inb t3 t4)
          (fun v => k0_chk9 v) (fun v => k0_chk10 v) (fun v => k0_chk9.dec v) (fun v => k0_chk10.dec v)
          (fun v => k0_off72 v) (fun v => k0_off75 v) (fun v => k0_off73 v) (fun v => k0_off76 v)
          (fun v h => k0_off72_inb v h) (fun v h => k0_off75_inb v h) (fun v h => k0_off73_inb v h) (fun v h => k0_off76_inb v h)
          (k0_off77 t3 t4) (k0_off78 t3 t4) (Gen.k0_off77_inb t3 t4) (Gen.k0_off78_inb t3 t4)
          (View.stores_vmem Facts₀.h_S1x6x2x128 (harg12.storeExact_slice rfl _ (Gen.k0_off77_packedbf16 t3 t4)) (fun _ => rfl)) (View.stores_vmem Facts₀.h_S1x5x2x128 (harg12.storeExact_slice rfl _ (Gen.k0_off78_packedbf16 t3 t4)) (fun _ => rfl)) (View.stores_vmem Facts₀.h_S1x6x2x128 (harg11.storeExact_slice rfl _ (Gen.k0_off77_packedbf16 t3 t4)) (fun _ => rfl)) (View.stores_vmem Facts₀.h_S1x5x2x128 (harg11.storeExact_slice rfl _ (Gen.k0_off78_packedbf16 t3 t4)) (fun _ => rfl)) κ := rfl

/-- The program of pair 6. -/
theorem pr6_prog {R : Type} (arg0 : Memref sig .tc .smem S1x8192 .i32) (arg6 : Memref sig .tc .vmem S63488x2x128 .bf16) (arg7 : Memref sig .tc .vmem S7936x128 .f32)
    (arg11 : Memref sig .tc .vmem S2x11x272x128 .bf16) (harg11 : arg11.IsWhole) (arg12 : Memref sig .tc .vmem S2x11x272x128 .bf16) (harg12 : arg12.IsWhole)
    (v79 v81 : FVec Ideal S8x128 .f32) (t3 : Fin k0_t3_loop.trips) (t4 : Fin k0_t4_loop.trips) (κ : Prog (TpuEff nD τ sig (Elt Ideal) Λ₀ .tc) R) :
    pr6 arg0 arg6 arg7 arg11 harg11 arg12 harg12 v79 v81 t3 t4 κ
      = pairProg arg0 arg6 arg7 arg11 arg12 v79 v81 (k0_off79 t3 t4) (k0_off82 t3 t4) (Gen.k0_off79_inb t3 t4) (Gen.k0_off82_inb t3 t4)
          (fun v => k0_chk11 v) (fun v => k0_chk12 v) (fun v => k0_chk11.dec v) (fun v => k0_chk12.dec v)
          (fun v => k0_off80 v) (fun v => k0_off83 v) (fun v => k0_off81 v) (fun v => k0_off84 v)
          (fun v h => k0_off80_inb v h) (fun v h => k0_off83_inb v h) (fun v h => k0_off81_inb v h) (fun v h => k0_off84_inb v h)
          (k0_off85 t3 t4) (k0_off86 t3 t4) (Gen.k0_off85_inb t3 t4) (Gen.k0_off86_inb t3 t4)
          (View.stores_vmem Facts₀.h_S1x6x2x128 (harg12.storeExact_slice rfl _ (Gen.k0_off85_packedbf16 t3 t4)) (fun _ => rfl)) (View.stores_vmem Facts₀.h_S1x5x2x128 (harg12.storeExact_slice rfl _ (Gen.k0_off86_packedbf16 t3 t4)) (fun _ => rfl)) (View.stores_vmem Facts₀.h_S1x6x2x128 (harg11.storeExact_slice rfl _ (Gen.k0_off85_packedbf16 t3 t4)) (fun _ => rfl)) (View.stores_vmem Facts₀.h_S1x5x2x128 (harg11.storeExact_slice rfl _ (Gen.k0_off86_packedbf16 t3 t4)) (fun _ => rfl)) κ := rfl

/-- The program of pair 7. -/
theorem pr7_prog {R : Type} (arg0 : Memref sig .tc .smem S1x8192 .i32) (arg6 : Memref sig .tc .vmem S63488x2x128 .bf16) (arg7 : Memref sig .tc .vmem S7936x128 .f32)
    (arg11 : Memref sig .tc .vmem S2x11x272x128 .bf16) (harg11 : arg11.IsWhole) (arg12 : Memref sig .tc .vmem S2x11x272x128 .bf16) (harg12 : arg12.IsWhole)
    (v79 v81 : FVec Ideal S8x128 .f32) (t3 : Fin k0_t3_loop.trips) (t4 : Fin k0_t4_loop.trips) (κ : Prog (TpuEff nD τ sig (Elt Ideal) Λ₀ .tc) R) :
    pr7 arg0 arg6 arg7 arg11 harg11 arg12 harg12 v79 v81 t3 t4 κ
      = pairProg arg0 arg6 arg7 arg11 arg12 v79 v81 (k0_off87 t3 t4) (k0_off90 t3 t4) (Gen.k0_off87_inb t3 t4) (Gen.k0_off90_inb t3 t4)
          (fun v => k0_chk13 v) (fun v => k0_chk14 v) (fun v => k0_chk13.dec v) (fun v => k0_chk14.dec v)
          (fun v => k0_off88 v) (fun v => k0_off91 v) (fun v => k0_off89 v) (fun v => k0_off92 v)
          (fun v h => k0_off88_inb v h) (fun v h => k0_off91_inb v h) (fun v h => k0_off89_inb v h) (fun v h => k0_off92_inb v h)
          (k0_off93 t3 t4) (k0_off94 t3 t4) (Gen.k0_off93_inb t3 t4) (Gen.k0_off94_inb t3 t4)
          (View.stores_vmem Facts₀.h_S1x6x2x128 (harg12.storeExact_slice rfl _ (Gen.k0_off93_packedbf16 t3 t4)) (fun _ => rfl)) (View.stores_vmem Facts₀.h_S1x5x2x128 (harg12.storeExact_slice rfl _ (Gen.k0_off94_packedbf16 t3 t4)) (fun _ => rfl)) (View.stores_vmem Facts₀.h_S1x6x2x128 (harg11.storeExact_slice rfl _ (Gen.k0_off93_packedbf16 t3 t4)) (fun _ => rfl)) (View.stores_vmem Facts₀.h_S1x5x2x128 (harg11.storeExact_slice rfl _ (Gen.k0_off94_packedbf16 t3 t4)) (fun _ => rfl)) κ := rfl

/-- The program of pair 8. -/
theorem pr8_prog {R : Type} (arg0 : Memref sig .tc .smem S1x8192 .i32) (arg6 : Memref sig .tc .vmem S63488x2x128 .bf16) (arg7 : Memref sig .tc .vmem S7936x128 .f32)
    (arg11 : Memref sig .tc .vmem S2x11x272x128 .bf16) (harg11 : arg11.IsWhole) (arg12 : Memref sig .tc .vmem S2x11x272x128 .bf16) (harg12 : arg12.IsWhole)
    (v79 v81 : FVec Ideal S8x128 .f32) (t3 : Fin k0_t3_loop.trips) (t4 : Fin k0_t4_loop.trips) (κ : Prog (TpuEff nD τ sig (Elt Ideal) Λ₀ .tc) R) :
    pr8 arg0 arg6 arg7 arg11 harg11 arg12 harg12 v79 v81 t3 t4 κ
      = pairProg arg0 arg6 arg7 arg11 arg12 v79 v81 (k0_off95 t3 t4) (k0_off98 t3 t4) (Gen.k0_off95_inb t3 t4) (Gen.k0_off98_inb t3 t4)
          (fun v => k0_chk15 v) (fun v => k0_chk16 v) (fun v => k0_chk15.dec v) (fun v => k0_chk16.dec v)
          (fun v => k0_off96 v) (fun v => k0_off99 v) (fun v => k0_off97 v) (fun v => k0_off100 v)
          (fun v h => k0_off96_inb v h) (fun v h => k0_off99_inb v h) (fun v h => k0_off97_inb v h) (fun v h => k0_off100_inb v h)
          (k0_off101 t3 t4) (k0_off102 t3 t4) (Gen.k0_off101_inb t3 t4) (Gen.k0_off102_inb t3 t4)
          (View.stores_vmem Facts₀.h_S1x6x2x128 (harg12.storeExact_slice rfl _ (Gen.k0_off101_packedbf16 t3 t4)) (fun _ => rfl)) (View.stores_vmem Facts₀.h_S1x5x2x128 (harg12.storeExact_slice rfl _ (Gen.k0_off102_packedbf16 t3 t4)) (fun _ => rfl)) (View.stores_vmem Facts₀.h_S1x6x2x128 (harg11.storeExact_slice rfl _ (Gen.k0_off101_packedbf16 t3 t4)) (fun _ => rfl)) (View.stores_vmem Facts₀.h_S1x5x2x128 (harg11.storeExact_slice rfl _ (Gen.k0_off102_packedbf16 t3 t4)) (fun _ => rfl)) κ := rfl

/-- What the loop over a block's tokens keeps: the ids, the table, the inverse norms, and the slot's first `n` positions. -/
def InnerI (c : Dev nD) (arg0 : Memref sig .tc .smem S1x8192 .i32) (arg6 : Memref sig .tc .vmem S63488x2x128 .bf16) (arg7 : Memref sig .tc .vmem S7936x128 .f32)
    (arg11 arg12 : Memref sig .tc .vmem S2x11x272x128 .bf16) (E : ℕ → ℕ → EReal) (I W : ℕ → EReal) (T : ℕ → ℕ)
    (q0 : PosShare TreeShare) (g0 : S1x8192.Idx → BitVec 32) (g6 : S63488x2x128.Idx → EReal) (g7 : S7936x128.Idx → EReal) (b : ℕ) (s : Fin 2) (n : ℕ) : sProp 𝕄 :=
  iprop(own (Val := Elt Ideal) (c : Thread nD τ) arg0 Finset.univ q0 g0 ∗ own (Val := Elt Ideal) (c : Thread nD τ) arg6 Finset.univ fullShare g6
        ∗ own (Val := Elt Ideal) (c : Thread nD τ) arg7 Finset.univ fullShare g7
        ∗ (∃ g, ⌜Good (outv E I W) T b s (n) g⌝ ∗ own (Val := Elt Ideal) (c : Thread nD τ) arg11 (slab s) fullShare g)
        ∗ (∃ g, ⌜Good E T b s (n) g⌝ ∗ own (Val := Elt Ideal) (c : Thread nD τ) arg12 (slab s) fullShare g))

/-- One trip fills sixteen more positions. -/
theorem t4_step (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x2x128 .bf16) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2) (v79 : FVec Ideal S8x128 .f32) (v81 : FVec Ideal S8x128 .f32) (c0_i32_42 : BitVec 32) (c1_i32_43 : BitVec 32) (k0_t3 : Fin k0_t3_loop.trips) (v304 : BitVec 32) (v305 : BitVec 32)
    (c : Dev nD) {defs : Defs nD τ sig (Elt Ideal) Λ₀} (𝒱 : Variants) (bd : Option 𝒱.V)
    (E : ℕ → ℕ → EReal) (I W : ℕ → EReal) (T : ℕ → ℕ) (q0 : PosShare TreeShare) (g0 : S1x8192.Idx → BitVec 32) (g6 : S63488x2x128.Idx → EReal) (g7 : S7936x128.Idx → EReal)
    (hg0 : IdsOk T g0) (hg6 : TableOk E 7936 g6) (hg7 : InvOk I 7936 g7) (hw0 : W0Ok W v79) (hw1 : W1Ok W v81) (s : Fin 2) (hs : s.val = k0_t3.val % 2) (k : Fin k0_t4_loop.trips) (x : Unit) :
    InnerI c arg0 arg6 arg7 arg11 arg12 E I W T q0 g0 g6 g7 k0_t3.val s  (16 * k.val) ⊢ wp frame (wpE defs 𝒱 (c : Thread nD τ) bd) Set.univ
      (Gen.k0_t4_body arg0 harg0 arg1 harg1 arg2 harg2 arg3 harg3 arg4 harg4 arg5 harg5 arg6 harg6 arg7 harg7 arg8 harg8 arg9 harg9 arg10 harg10 arg11 harg11 arg12 harg12 arg13 arg14 v79 v81 c0_i32_42 c1_i32_43 k0_t3 v304 v305 k x)
      (fun _ => InnerI c arg0 arg6 arg7 arg11 arg12 E I W T q0 g0 g6 g7 k0_t3.val s (16 * (k.val + 1))) := by
  have h3 : k0_t3.val < 32 := k0_t3.isLt
  have h4 : k.val < 16 := k.isLt
  unfold InnerI
  rw [t4o.eq_at, pr1.eq]
  iintro H
  rw [pr1_prog]
  iapply (pair_wp (E := E) (I := I) (W := W) (T := T) (b := k0_t3.val) (s := s) (n := 16 * k.val) c 𝒱 bd _ arg0 arg6 arg7 arg11 arg12 v79 v81 _ _ _ _ _ _ _ _ _ _ _ _ _ _ _ _ _ _ _ _ _ _ _ _ _ h3 (by omega)
      ((Gen.k0_off39_eq k0_t3 k).trans (by norm_num [Nat.add_assoc])) ((Gen.k0_off42_eq k0_t3 k).trans (by norm_num [Nat.add_assoc])) ((Gen.k0_off45_eq k0_t3 k).trans (by rw [hs])) ((Gen.k0_off46_eq k0_t3 k).trans (by rw [hs]))
      (fun _ => rfl) (fun _ => rfl) (fun _ => rfl) (fun _ => rfl) (fun _ => rfl) (fun _ => rfl) q0 g0 g6 g7 hg0 hg6 hg7 hw0 hw1) $$ H
  iintro H
  rw [pr2.eq, pr2_prog]
  iapply (pair_wp (E := E) (I := I) (W := W) (T := T) (b := k0_t3.val) (s := s) (n := 16 * k.val + 2) c 𝒱 bd _ arg0 arg6 arg7 arg11 arg12 v79 v81 _ _ _ _ _ _ _ _ _ _ _ _ _ _ _ _ _ _ _ _ _ _ _ _ _ h3 (by omega)
      ((Gen.k0_off47_eq k0_t3 k).trans (by norm_num [Nat.add_assoc])) ((Gen.k0_off50_eq k0_t3 k).trans (by norm_num [Nat.add_assoc])) ((Gen.k0_off53_eq k0_t3 k).trans (by rw [hs])) ((Gen.k0_off54_eq k0_t3 k).trans (by rw [hs]))
      (fun _ => rfl) (fun _ => rfl) (fun _ => rfl) (fun _ => rfl) (fun _ => rfl) (fun _ => rfl) q0 g0 g6 g7 hg0 hg6 hg7 hw0 hw1) $$ H
  iintro H
  rw [pr3.eq, pr3_prog]
  iapply (pair_wp (E := E) (I := I) (W := W) (T := T) (b := k0_t3.val) (s := s) (n := 16 * k.val + 4) c 𝒱 bd _ arg0 arg6 arg7 arg11 arg12 v79 v81 _ _ _ _ _ _ _ _ _ _ _ _ _ _ _ _ _ _ _ _ _ _ _ _ _ h3 (by omega)
      ((Gen.k0_off55_eq k0_t3 k).trans (by norm_num [Nat.add_assoc])) ((Gen.k0_off58_eq k0_t3 k).trans (by norm_num [Nat.add_assoc])) ((Gen.k0_off61_eq k0_t3 k).trans (by rw [hs])) ((Gen.k0_off62_eq k0_t3 k).trans (by rw [hs]))
      (fun _ => rfl) (fun _ => rfl) (fun _ => rfl) (fun _ => rfl) (fun _ => rfl) (fun _ => rfl) q0 g0 g6 g7 hg0 hg6 hg7 hw0 hw1) $$ H
  iintro H
  rw [pr4.eq, pr4_prog]
  iapply (pair_wp (E := E) (I := I) (W := W) (T := T) (b := k0_t3.val) (s := s) (n := 16 * k.val + 6) c 𝒱 bd _ arg0 arg6 arg7 arg11 arg12 v79 v81 _ _ _ _ _ _ _ _ _ _ _ _ _ _ _ _ _ _ _ _ _ _ _ _ _ h3 (by omega)
      ((Gen.k0_off63_eq k0_t3 k).trans (by norm_num [Nat.add_assoc])) ((Gen.k0_off66_eq k0_t3 k).trans (by norm_num [Nat.add_assoc])) ((Gen.k0_off69_eq k0_t3 k).trans (by rw [hs])) ((Gen.k0_off70_eq k0_t3 k).trans (by rw [hs]))
      (fun _ => rfl) (fun _ => rfl) (fun _ => rfl) (fun _ => rfl) (fun _ => rfl) (fun _ => rfl) q0 g0 g6 g7 hg0 hg6 hg7 hw0 hw1) $$ H
  iintro H
  rw [pr5.eq, pr5_prog]
  iapply (pair_wp (E := E) (I := I) (W := W) (T := T) (b := k0_t3.val) (s := s) (n := 16 * k.val + 8) c 𝒱 bd _ arg0 arg6 arg7 arg11 arg12 v79 v81 _ _ _ _ _ _ _ _ _ _ _ _ _ _ _ _ _ _ _ _ _ _ _ _ _ h3 (by omega)
      ((Gen.k0_off71_eq k0_t3 k).trans (by norm_num [Nat.add_assoc])) ((Gen.k0_off74_eq k0_t3 k).trans (by norm_num [Nat.add_assoc])) ((Gen.k0_off77_eq k0_t3 k).trans (by rw [hs])) ((Gen.k0_off78_eq k0_t3 k).trans (by rw [hs]))
      (fun _ => rfl) (fun _ => rfl) (fun _ => rfl) (fun _ => rfl) (fun _ => rfl) (fun _ => rfl) q0 g0 g6 g7 hg0 hg6 hg7 hw0 hw1) $$ H
  iintro H
  rw [pr6.eq, pr6_prog]
  iapply (pair_wp (E := E) (I := I) (W := W) (T := T) (b := k0_t3.val) (s := s) (n := 16 * k.val + 10) c 𝒱 bd _ arg0 arg6 arg7 arg11 arg12 v79 v81 _ _ _ _ _ _ _ _ _ _ _ _ _ _ _ _ _ _ _ _ _ _ _ _ _ h3 (by omega)
      ((Gen.k0_off79_eq k0_t3 k).trans (by norm_num [Nat.add_assoc])) ((Gen.k0_off82_eq k0_t3 k).trans (by norm_num [Nat.add_assoc])) ((Gen.k0_off85_eq k0_t3 k).trans (by rw [hs])) ((Gen.k0_off86_eq k0_t3 k).trans (by rw [hs]))
      (fun _ => rfl) (fun _ => rfl) (fun _ => rfl) (fun _ => rfl) (fun _ => rfl) (fun _ => rfl) q0 g0 g6 g7 hg0 hg6 hg7 hw0 hw1) $$ H
  iintro H
  rw [pr7.eq, pr7_prog]
  iapply (pair_wp (E := E) (I := I) (W := W) (T := T) (b := k0_t3.val) (s := s) (n := 16 * k.val + 12) c 𝒱 bd _ arg0 arg6 arg7 arg11 arg12 v79 v81 _ _ _ _ _ _ _ _ _ _ _ _ _ _ _ _ _ _ _ _ _ _ _ _ _ h3 (by omega)
      ((Gen.k0_off87_eq k0_t3 k).trans (by norm_num [Nat.add_assoc])) ((Gen.k0_off90_eq k0_t3 k).trans (by norm_num [Nat.add_assoc])) ((Gen.k0_off93_eq k0_t3 k).trans (by rw [hs])) ((Gen.k0_off94_eq k0_t3 k).trans (by rw [hs]))
      (fun _ => rfl) (fun _ => rfl) (fun _ => rfl) (fun _ => rfl) (fun _ => rfl) (fun _ => rfl) q0 g0 g6 g7 hg0 hg6 hg7 hw0 hw1) $$ H
  iintro H
  rw [pr8.eq, pr8_prog]
  iapply (pair_wp (E := E) (I := I) (W := W) (T := T) (b := k0_t3.val) (s := s) (n := 16 * k.val + 14) c 𝒱 bd _ arg0 arg6 arg7 arg11 arg12 v79 v81 _ _ _ _ _ _ _ _ _ _ _ _ _ _ _ _ _ _ _ _ _ _ _ _ _ h3 (by omega)
      ((Gen.k0_off95_eq k0_t3 k).trans (by norm_num [Nat.add_assoc])) ((Gen.k0_off98_eq k0_t3 k).trans (by norm_num [Nat.add_assoc])) ((Gen.k0_off101_eq k0_t3 k).trans (by rw [hs])) ((Gen.k0_off102_eq k0_t3 k).trans (by rw [hs]))
      (fun _ => rfl) (fun _ => rfl) (fun _ => rfl) (fun _ => rfl) (fun _ => rfl) (fun _ => rfl) q0 g0 g6 g7 hg0 hg6 hg7 hw0 hw1) $$ H
  iintro H
  rw [show 16 * (k.val + 1) = 16 * k.val + 14 + 2 from by ring]
  rw [show (pr8.tail : Prog (TpuEff nD τ sig (Elt Ideal) Λ₀ .tc) Unit) = Prog.ret () from rfl]
  rw [wp_ret]
  imodintro
  iexact H

/-- The loop over a block's tokens fills the slot. -/
theorem t4_loop {R : Type} (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x2x128 .bf16) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2) (v79 : FVec Ideal S8x128 .f32) (v81 : FVec Ideal S8x128 .f32) (c0_i32_42 : BitVec 32) (c1_i32_43 : BitVec 32) (k0_t3 : Fin k0_t3_loop.trips) (v304 : BitVec 32) (v305 : BitVec 32)
    (c : Dev nD) {defs : Defs nD τ sig (Elt Ideal) Λ₀} (𝒱 : Variants) (bd : Option 𝒱.V)
    (E : ℕ → ℕ → EReal) (I W : ℕ → EReal) (T : ℕ → ℕ) (q0 : PosShare TreeShare) (g0 : S1x8192.Idx → BitVec 32) (g6 : S63488x2x128.Idx → EReal) (g7 : S7936x128.Idx → EReal)
    (hg0 : IdsOk T g0) (hg6 : TableOk E 7936 g6) (hg7 : InvOk I 7936 g7) (hw0 : W0Ok W v79) (hw1 : W1Ok W v81) (s : Fin 2) (hs : s.val = k0_t3.val % 2) (kk : Unit → Prog (TpuEff nD τ sig (Elt Ideal) Λ₀ .tc) R) (Q : R → sProp 𝕄) :
    InnerI c arg0 arg6 arg7 arg11 arg12 E I W T q0 g0 g6 g7 k0_t3.val s 0 ⊢ iprop((iprop(InnerI c arg0 arg6 arg7 arg11 arg12 E I W T q0 g0 g6 g7 k0_t3.val s 256) -∗ wp frame (wpE defs 𝒱 (c : Thread nD τ) bd) Set.univ (kk ⟨⟩) Q)
      -∗ wp frame (wpE defs 𝒱 (c : Thread nD τ) bd) Set.univ
      (Scf.Loop.for k0_t4_loop Gen.k0_t4_ok ⟨⟩ (Gen.k0_t4_body arg0 harg0 arg1 harg1 arg2 harg2 arg3 harg3 arg4 harg4 arg5 harg5 arg6 harg6 arg7 harg7 arg8 harg8 arg9 harg9 arg10 harg10 arg11 harg11 arg12 harg12 arg13 arg14 v79 v81 c0_i32_42 c1_i32_43 k0_t3 v304 v305) >>= kk) Q) := by
  iintro H Hk
  unfold Scf.Loop.for
  iapply (Scf.wp_for_bind frame (wpE defs 𝒱 (c : Thread nD τ) bd) Set.univ _ _ _ _ _ _
    (fun n _ => InnerI c arg0 arg6 arg7 arg11 arg12 E I W T q0 g0 g6 g7 k0_t3.val s (16 * n))
    (fun k x => t4_step arg0 harg0 arg1 harg1 arg2 harg2 arg3 harg3 arg4 harg4 arg5 harg5 arg6 harg6 arg7 harg7 arg8 harg8 arg9 harg9 arg10 harg10 arg11 harg11 arg12 harg12 arg13 arg14 v79 v81 c0_i32_42 c1_i32_43 k0_t3 v304 v305 c 𝒱 bd E I W T q0 g0 g6 g7 hg0 hg6 hg7 hw0 hw1 s hs k x)) $$ H
  iintro %acc H
  iapply Hk
  iexact H

end Cert.Proof.KernelIdeal
-- ==== Proof.Ideal.Arm.lean ====
/-
  The branch of the outer loop that waits for the block two before this one, opened into its waits.
-/
module

public import proofs.«01_k».proof.Proof.Ideal.Open

@[expose] public section

noncomputable section

namespace Cert.Proof.KernelIdeal

open Cert.KernelIdeal Cert.KernelIdeal.Gen
open Idealize.ShloMosaic Idealize.ShloMosaic.TcCoe Idealize.ShloMosaic.Tactic Idealize.SL.Sem

/-- The branch. -/
def t3arm (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x2x128 .bf16) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2) (k0_t3 : Fin k0_t3_loop.trips) (v304 : BitVec 32) (k0_h1 : k0_cond1 k0_t3 = 1#1) : Prog (TpuEff nD τ sig (Elt Ideal) Λ₀ .tc) PUnit := do
  let v442 : BitVec 32 ← k0_part5 (F := Ideal) arg0 harg0 arg1 harg1 arg2 harg2 arg3 harg3 arg4 harg4 arg5 harg5 arg6 harg6 arg7 harg7 arg8 harg8 arg9 harg9 arg10 harg10 arg11 harg11 arg12 harg12 arg13 arg14 k0_t3 v304 k0_h1
  k0_part6 (F := Ideal) arg0 harg0 arg1 harg1 arg2 harg2 arg3 harg3 arg4 harg4 arg5 harg5 arg6 harg6 arg7 harg7 arg8 harg8 arg9 harg9 arg10 harg10 arg11 harg11 arg12 harg12 arg13 arg14 k0_t3 k0_h1 v442
  k0_part7 (F := Ideal) arg0 harg0 arg1 harg1 arg2 harg2 arg3 harg3 arg4 harg4 arg5 harg5 arg6 harg6 arg7 harg7 arg8 harg8 arg9 harg9 arg10 harg10 arg11 harg11 arg12 harg12 arg13 arg14 k0_t3 k0_h1 v442
  k0_part8 (F := Ideal) arg0 harg0 arg1 harg1 arg2 harg2 arg3 harg3 arg4 harg4 arg5 harg5 arg6 harg6 arg7 harg7 arg8 harg8 arg9 harg9 arg10 harg10 arg11 harg11 arg12 harg12 arg13 arg14 k0_t3 k0_h1 v442
  let v561 : Memref sig .tc .vmem S1x1x256x128 .bf16 := arg12.slice (Rect.unit (s := S2x11x272x128) (k0_off36 k0_t3) S1x1x256x128.size (k0_off36_inb k0_t3 k0_h1)) (fun _ => rfl)
  let v562 : Memref sig .tc .vmem S256x128 .bf16 := v561.squeeze S256x128 squeezes_S1x1x256x128_S256x128
  let v558 : DmaSems sig S1 := arg14.slice (Rect.unit (s := S2) (k0_off16 k0_t3) S1.size (k0_off16_inb k0_t3 k0_h1))
  let v559 : DmaSems sig S_ := v558.squeeze S_ squeezes_S1_S_
  let v560 : Memref sig .tc .hbm S256x128 .bf16 := arg5.slice (Rect.unit (s := S8192x1408) (k0_off35 k0_t3) S256x128.size (k0_off35_inb k0_t3 k0_h1)) (fun _ => rfl)
  Prog.lift (.waitDma2 v559.sem v562 v560 ((harg12.wordExact_slice rfl _ (k0_off36_wordsbf16 k0_t3 k0_h1)).reshape _ _) (harg5.wordExact_slice rfl _ (k0_off35_wordsbf16 k0_t3 k0_h1)))
  let v564 : DmaSems sig S1 := arg14.slice (Rect.unit (s := S2) (k0_off16 k0_t3) S1.size (k0_off16_inb k0_t3 k0_h1))
  let v565 : DmaSems sig S_ := v564.squeeze S_ squeezes_S1_S_
  let v566 : Memref sig .tc .hbm S256x128 .bf16 := arg4.slice (Rect.unit (s := S8192x1408) (k0_off37 k0_t3) S256x128.size (k0_off37_inb k0_t3 k0_h1)) (fun _ => rfl)
  let v567 : Memref sig .tc .vmem S1x1x256x128 .bf16 := arg11.slice (Rect.unit (s := S2x11x272x128) (k0_off38 k0_t3) S1x1x256x128.size (k0_off38_inb k0_t3 k0_h1)) (fun _ => rfl)
  let v568 : Memref sig .tc .vmem S256x128 .bf16 := v567.squeeze S256x128 squeezes_S1x1x256x128_S256x128
  Prog.lift (.waitDma2 v565.sem v568 v566 ((harg11.wordExact_slice rfl _ (k0_off38_wordsbf16 k0_t3 k0_h1)).reshape _ _) (harg4.wordExact_slice rfl _ (k0_off37_wordsbf16 k0_t3 k0_h1)))
  let v570 : DmaSems sig S1 := arg14.slice (Rect.unit (s := S2) (k0_off16 k0_t3) S1.size (k0_off16_inb k0_t3 k0_h1))
  let v571 : DmaSems sig S_ := v570.squeeze S_ squeezes_S1_S_
  let v572 : Memref sig .tc .hbm S256x128 .bf16 := arg5.slice (Rect.unit (s := S8192x1408) (k0_off37 k0_t3) S256x128.size (k0_off37_inb k0_t3 k0_h1)) (fun _ => rfl)
  let v573 : Memref sig .tc .vmem S1x1x256x128 .bf16 := arg12.slice (Rect.unit (s := S2x11x272x128) (k0_off38 k0_t3) S1x1x256x128.size (k0_off38_inb k0_t3 k0_h1)) (fun _ => rfl)
  let v574 : Memref sig .tc .vmem S256x128 .bf16 := v573.squeeze S256x128 squeezes_S1x1x256x128_S256x128
  Prog.lift (.waitDma2 v571.sem v574 v572 ((harg12.wordExact_slice rfl _ (k0_off38_wordsbf16 k0_t3 k0_h1)).reshape _ _) (harg5.wordExact_slice rfl _ (k0_off37_wordsbf16 k0_t3 k0_h1)))
  pure ⟨⟩

set_option open_calls.check false in
set_option maxRecDepth 65536 in
set_option maxHeartbeats 400000000 in
open_calls t3a := t3arm [k0_part5, k0_part6, k0_part7, k0_part8]

end Cert.Proof.KernelIdeal
-- ==== Proof.Ideal.Outer.lean ====
/-
  The outer loop: a trip waits for the block two before it, fills its slot and issues the block's transfers; after the
  last trip the two slots' batches are still out.
-/
module

public import proofs.«01_k».proof.Proof.Ideal.Inner
public import proofs.«01_k».proof.Proof.Ideal.Out
public import proofs.«01_k».proof.Proof.Ideal.Arm

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

/-- The parity of a block, which is its slot. -/
def par (k : ℕ) : Fin 2 := ⟨k % 2, by omega⟩

/-- A slot with nothing in flight. -/
def Idle (c : Dev nD) (arg11 arg12 : Memref sig .tc .vmem S2x11x272x128 .bf16) (a : DmaSems sig S2) (s : Fin 2) : sProp 𝕄 :=
  iprop(semVal ((c : Thread nD τ), SemLoc.dma (cellO a s)) 0 ∗ (∃ g, own (Val := Elt Ideal) (c : Thread nD τ) arg11 (slab s) fullShare g)
    ∗ (∃ g, own (Val := Elt Ideal) (c : Thread nD τ) arg12 (slab s) fullShare g))

/-- A slot whose block `b` is in flight. -/
def Busy (c : Dev nD) (arg4 arg5 : Memref sig .tc .hbm S8192x1408 .bf16) (arg11 arg12 : Memref sig .tc .vmem S2x11x272x128 .bf16) (a : DmaSems sig S2) (N : ℕ)
    (E : ℕ → ℕ → EReal) (I W : ℕ → EReal) (T : ℕ → ℕ) (s : Fin 2) (b : ℕ) : sProp 𝕄 :=
  iprop(Transfers.Batch EC (c : Thread nD τ) (.dma (cellO a s)) () N (Dt c arg11 arg4 (outv E I W) arg12 arg5 E T b s) 22 0
    ∗ (∃ g, own (Val := Elt Ideal) (c : Thread nD τ) arg11 (srcRem s 11) fullShare g)
    ∗ (∃ g, own (Val := Elt Ideal) (c : Thread nD τ) arg12 (srcRem s 11) fullShare g))

/-- The results so far: the blocks before `d` final, those from `k` on untouched. -/
def Outs (c : Dev nD) (arg4 arg5 : Memref sig .tc .hbm S8192x1408 .bf16) (E : ℕ → ℕ → EReal) (I W : ℕ → EReal) (T : ℕ → ℕ) (d k : ℕ) : sProp 𝕄 :=
  iprop(own (Val := Elt Ideal) (c : Thread nD τ) arg4 (dstAcc d 0) fullShare (fin (outv E I W) T)
    ∗ own (Val := Elt Ideal) (c : Thread nD τ) arg5 (dstAcc d 0) fullShare (fin E T)
    ∗ (∃ g, own (Val := Elt Ideal) (c : Thread nD τ) arg4 (dstRem k 0) fullShare g)
    ∗ (∃ g, own (Val := Elt Ideal) (c : Thread nD τ) arg5 (dstRem k 0) fullShare g))

/-- The slot trip `k` uses, before the trip. -/
def Cur (c : Dev nD) (arg4 arg5 : Memref sig .tc .hbm S8192x1408 .bf16) (arg11 arg12 : Memref sig .tc .vmem S2x11x272x128 .bf16) (a : DmaSems sig S2) (N : ℕ)
    (E : ℕ → ℕ → EReal) (I W : ℕ → EReal) (T : ℕ → ℕ) (k : ℕ) : sProp 𝕄 :=
  if k < 2 then Idle c arg11 arg12 a (par k) else Busy c arg4 arg5 arg11 arg12 a N E I W T (par k) (k - 2)

/-- What the outer loop keeps. -/
def OuterI (c : Dev nD) (arg0 : Memref sig .tc .smem S1x8192 .i32) (arg4 arg5 : Memref sig .tc .hbm S8192x1408 .bf16) (arg6 : Memref sig .tc .vmem S63488x2x128 .bf16) (arg7 : Memref sig .tc .vmem S7936x128 .f32)
    (arg11 arg12 : Memref sig .tc .vmem S2x11x272x128 .bf16) (a : DmaSems sig S2) (N : ℕ) (E : ℕ → ℕ → EReal) (I W : ℕ → EReal) (T : ℕ → ℕ)
    (q0 : PosShare TreeShare) (g0 : S1x8192.Idx → BitVec 32) (g6 : S63488x2x128.Idx → EReal) (g7 : S7936x128.Idx → EReal) (k : ℕ) : sProp 𝕄 :=
  iprop((own (Val := Elt Ideal) (c : Thread nD τ) arg0 Finset.univ q0 g0 ∗ own (Val := Elt Ideal) (c : Thread nD τ) arg6 Finset.univ fullShare g6
      ∗ own (Val := Elt Ideal) (c : Thread nD τ) arg7 Finset.univ fullShare g7)
    ∗ Outs c arg4 arg5 E I W T (k - 2) k ∗ Cur c arg4 arg5 arg11 arg12 a N E I W T k ∗ Cur c arg4 arg5 arg11 arg12 a N E I W T (k + 1)
    ∗ ∃ W, owes (c : Thread nD τ) (0 : CellTallies nD τ sig Unit) W)

/-- The branch that waits: the slot's block is final and the slot is free. -/
theorem arm_wp {R : Type} (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x2x128 .bf16) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2) (t3 : Fin k0_t3_loop.trips) (v304 : BitVec 32) (h1 : k0_cond1 t3 = 1#1)
    (c : Dev nD) {defs : Defs nD τ sig (Elt Ideal) Λ₀} (𝒱 : Variants) (bd : Option 𝒱.V)
    (N : ℕ) (h0 : 0 < N) (hN4 : arg4.view.ref.dmaCredit S256x128 .bf16 = N) (hN5 : arg5.view.ref.dmaCredit S256x128 .bf16 = N)
    (E : ℕ → ℕ → EReal) (I W : ℕ → EReal) (T : ℕ → ℕ) (b : ℕ) (κ : PUnit → Prog (TpuEff nD τ sig (Elt Ideal) Λ₀ .tc) R) (Q : R → sProp 𝕄) :
    (iprop(Busy c arg4 arg5 arg11 arg12 arg14 N E I W T (par t3.val) b
      ∗ own (Val := Elt Ideal) (c : Thread nD τ) arg4 (dstAcc b 0) fullShare (fin (outv E I W) T)
      ∗ own (Val := Elt Ideal) (c : Thread nD τ) arg5 (dstAcc b 0) fullShare (fin E T)
      ∗ ∃ W, owes (c : Thread nD τ) (0 : CellTallies nD τ sig Unit) W) : sProp 𝕄)
    ⊢ iprop((iprop(Idle c arg11 arg12 arg14 (par t3.val)
      ∗ own (Val := Elt Ideal) (c : Thread nD τ) arg4 (dstAcc (b + 1) 0) fullShare (fin (outv E I W) T)
      ∗ own (Val := Elt Ideal) (c : Thread nD τ) arg5 (dstAcc (b + 1) 0) fullShare (fin E T)
      ∗ ∃ W, owes (c : Thread nD τ) (0 : CellTallies nD τ sig Unit) W) -∗ wp frame (wpE defs 𝒱 (c : Thread nD τ) bd) Set.univ (κ ⟨⟩) Q)
      -∗ wp frame (wpE defs 𝒱 (c : Thread nD τ) bd) Set.univ (t3arm arg0 harg0 arg1 harg1 arg2 harg2 arg3 harg3 arg4 harg4 arg5 harg5 arg6 harg6 arg7 harg7 arg8 harg8 arg9 harg9 arg10 harg10 arg11 harg11 arg12 harg12 arg13 arg14 t3 v304 h1 >>= κ) Q) := by
  have hs : k0_off16 t3 = ![(par t3.val).val] := Gen.k0_off16_eq t3
  rw [t3a.eq_at]
  unfold Busy
  iintro ⟨⟨HB, ⟨%g1, H11⟩, ⟨%g2, H12⟩⟩, H4, H5, HO⟩ Hk
  ihave HB := (Entails.of_eq (by rw [Nat.zero_mul]) : Transfers.Batch EC (c : Thread nD τ) (.dma (cellO arg14 (par t3.val))) () N (Dt c arg11 arg4 (outv E I W) arg12 arg5 E T b (par t3.val)) 22 0 ⊢ Transfers.Batch EC (c : Thread nD τ) (.dma (cellO arg14 (par t3.val))) () N (Dt c arg11 arg4 (outv E I W) arg12 arg5 E T b (par t3.val)) 22 (0 * N)) $$ HB
  iapply (wait_one c 𝒱 bd _ arg14 (par t3.val) N _ 0 (by omega) h0 hN4 hs) $$ [HB HO]
  · isplitl [HB]; · iexact HB
    iexact HO
  iintro ⟨HB, HO⟩
  iapply (wait_one c 𝒱 bd _ arg14 (par t3.val) N _ 1 (by omega) h0 hN5 hs) $$ [HB HO]
  · isplitl [HB]; · iexact HB
    iexact HO
  iintro ⟨HB, HO⟩
  iapply (wait_one c 𝒱 bd _ arg14 (par t3.val) N _ 2 (by omega) h0 hN4 hs) $$ [HB HO]
  · isplitl [HB]; · iexact HB
    iexact HO
  iintro ⟨HB, HO⟩
  iapply (wait_one c 𝒱 bd _ arg14 (par t3.val) N _ 3 (by omega) h0 hN5 hs) $$ [HB HO]
  · isplitl [HB]; · iexact HB
    iexact HO
  iintro ⟨HB, HO⟩
  iapply (wait_one c 𝒱 bd _ arg14 (par t3.val) N _ 4 (by omega) h0 hN4 hs) $$ [HB HO]
  · isplitl [HB]; · iexact HB
    iexact HO
  iintro ⟨HB, HO⟩
  iapply (wait_one c 𝒱 bd _ arg14 (par t3.val) N _ 5 (by omega) h0 hN5 hs) $$ [HB HO]
  · isplitl [HB]; · iexact HB
    iexact HO
  iintro ⟨HB, HO⟩
  iapply (wait_one c 𝒱 bd _ arg14 (par t3.val) N _ 6 (by omega) h0 hN4 hs) $$ [HB HO]
  · isplitl [HB]; · iexact HB
    iexact HO
  iintro ⟨HB, HO⟩
  iapply (wait_one c 𝒱 bd _ arg14 (par t3.val) N _ 7 (by omega) h0 hN5 hs) $$ [HB HO]
  · isplitl [HB]; · iexact HB
    iexact HO
  iintro ⟨HB, HO⟩
  iapply (wait_one c 𝒱 bd _ arg14 (par t3.val) N _ 8 (by omega) h0 hN4 hs) $$ [HB HO]
  · isplitl [HB]; · iexact HB
    iexact HO
  iintro ⟨HB, HO⟩
  iapply (wait_one c 𝒱 bd _ arg14 (par t3.val) N _ 9 (by omega) h0 hN5 hs) $$ [HB HO]
  · isplitl [HB]; · iexact HB
    iexact HO
  iintro ⟨HB, HO⟩
  iapply (wait_one c 𝒱 bd _ arg14 (par t3.val) N _ 10 (by omega) h0 hN4 hs) $$ [HB HO]
  · isplitl [HB]; · iexact HB
    iexact HO
  iintro ⟨HB, HO⟩
  iapply (wait_one c 𝒱 bd _ arg14 (par t3.val) N _ 11 (by omega) h0 hN5 hs) $$ [HB HO]
  · isplitl [HB]; · iexact HB
    iexact HO
  iintro ⟨HB, HO⟩
  iapply (wait_one c 𝒱 bd _ arg14 (par t3.val) N _ 12 (by omega) h0 hN4 hs) $$ [HB HO]
  · isplitl [HB]; · iexact HB
    iexact HO
  iintro ⟨HB, HO⟩
  iapply (wait_one c 𝒱 bd _ arg14 (par t3.val) N _ 13 (by omega) h0 hN5 hs) $$ [HB HO]
  · isplitl [HB]; · iexact HB
    iexact HO
  iintro ⟨HB, HO⟩
  iapply (wait_one c 𝒱 bd _ arg14 (par t3.val) N _ 14 (by omega) h0 hN4 hs) $$ [HB HO]
  · isplitl [HB]; · iexact HB
    iexact HO
  iintro ⟨HB, HO⟩
  iapply (wait_one c 𝒱 bd _ arg14 (par t3.val) N _ 15 (by omega) h0 hN5 hs) $$ [HB HO]
  · isplitl [HB]; · iexact HB
    iexact HO
  iintro ⟨HB, HO⟩
  iapply (wait_one c 𝒱 bd _ arg14 (par t3.val) N _ 16 (by omega) h0 hN4 hs) $$ [HB HO]
  · isplitl [HB]; · iexact HB
    iexact HO
  iintro ⟨HB, HO⟩
  iapply (wait_one c 𝒱 bd _ arg14 (par t3.val) N _ 17 (by omega) h0 hN5 hs) $$ [HB HO]
  · isplitl [HB]; · iexact HB
    iexact HO
  iintro ⟨HB, HO⟩
  iapply (wait_one c 𝒱 bd _ arg14 (par t3.val) N _ 18 (by omega) h0 hN4 hs) $$ [HB HO]
  · isplitl [HB]; · iexact HB
    iexact HO
  iintro ⟨HB, HO⟩
  iapply (wait_one c 𝒱 bd _ arg14 (par t3.val) N _ 19 (by omega) h0 hN5 hs) $$ [HB HO]
  · isplitl [HB]; · iexact HB
    iexact HO
  iintro ⟨HB, HO⟩
  iapply (wait_one c 𝒱 bd _ arg14 (par t3.val) N _ 20 (by omega) h0 hN4 hs) $$ [HB HO]
  · isplitl [HB]; · iexact HB
    iexact HO
  iintro ⟨HB, HO⟩
  iapply (wait_last c 𝒱 bd _ arg14 (par t3.val) N _ h0 hN5 hs) $$ [HB HO]
  · isplitl [HB]; · iexact HB
    iexact HO
  iintro ⟨HD, Hv, HO⟩
  ihave H := (take_all c arg11 arg4 (outv E I W) arg12 arg5 E T b (par t3.val)) $$ [H4 H5 H11 H12 HD]
  · isplitl [H4 H11]
    · isplitl [H4]; · iexact H4
      iexists g1; iexact H11
    isplitl [H5 H12]
    · isplitl [H5]; · iexact H5
      iexists g2; iexact H12
    iexact HD
  icases H with ⟨⟨H4, H11⟩, H5, H12⟩
  iapply Hk
  unfold Idle
  isplitl [Hv H11 H12]
  · isplitl [Hv]; · iexact Hv
    isplitl [H11]; · iexact H11
    iexact H12
  isplitl [H4]; · iexact H4
  isplitl [H5]; · iexact H5
  iexact HO

/-- What the branch decides: whether a block is two before this one. -/
theorem cond1_iff : ∀ t3 : Fin k0_t3_loop.trips, (k0_cond1 t3 = 1#1 ↔ 2 ≤ t3.val) := by decide +kernel

/-- Two blocks on, the slot is the same. -/
theorem par_two (k : ℕ) : par (k + 2) = par k := Fin.ext (by simp [par])

/-- Before the trip's own work: the slot is free, and the block two before is final. -/
theorem enter_wp {R : Type} (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x2x128 .bf16) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2) (t3 : Fin k0_t3_loop.trips) (v304 : BitVec 32)
    (c : Dev nD) {defs : Defs nD τ sig (Elt Ideal) Λ₀} (𝒱 : Variants) (bd : Option 𝒱.V)
    (N : ℕ) (h0 : 0 < N) (hN4 : arg4.view.ref.dmaCredit S256x128 .bf16 = N) (hN5 : arg5.view.ref.dmaCredit S256x128 .bf16 = N)
    (E : ℕ → ℕ → EReal) (I W : ℕ → EReal) (T : ℕ → ℕ) (A : k0_cond1 t3 = 1#1 → Prog (TpuEff nD τ sig (Elt Ideal) Λ₀ .tc) R) (κ : Prog (TpuEff nD τ sig (Elt Ideal) Λ₀ .tc) R)
    (hA : ∀ h, A h = t3arm arg0 harg0 arg1 harg1 arg2 harg2 arg3 harg3 arg4 harg4 arg5 harg5 arg6 harg6 arg7 harg7 arg8 harg8 arg9 harg9 arg10 harg10 arg11 harg11 arg12 harg12 arg13 arg14 t3 v304 h >>= fun _ => κ) (Q : R → sProp 𝕄) :
    (iprop(Cur c arg4 arg5 arg11 arg12 arg14 N E I W T t3.val ∗ Outs c arg4 arg5 E I W T (t3.val - 2) t3.val
      ∗ ∃ W, owes (c : Thread nD τ) (0 : CellTallies nD τ sig Unit) W) : sProp 𝕄)
    ⊢ iprop((iprop(Idle c arg11 arg12 arg14 (par t3.val) ∗ Outs c arg4 arg5 E I W T (t3.val + 1 - 2) t3.val
      ∗ ∃ W, owes (c : Thread nD τ) (0 : CellTallies nD τ sig Unit) W) -∗ wp frame (wpE defs 𝒱 (c : Thread nD τ) bd) Set.univ κ Q)
      -∗ wp frame (wpE defs 𝒱 (c : Thread nD τ) bd) Set.univ (if h : k0_cond1 t3 = 1#1 then A h else κ) Q) := by
  by_cases h : 2 ≤ t3.val
  · rw [dif_pos ((cond1_iff t3).mpr h), hA]
    unfold Cur Outs
    rw [if_neg (by omega), show t3.val + 1 - 2 = t3.val - 2 + 1 by omega]
    iintro ⟨HC, ⟨H4, H5, HR⟩, HO⟩ Hk
    iapply (arm_wp arg0 harg0 arg1 harg1 arg2 harg2 arg3 harg3 arg4 harg4 arg5 harg5 arg6 harg6 arg7 harg7 arg8 harg8 arg9 harg9 arg10 harg10 arg11 harg11 arg12 harg12 arg13 arg14 t3 v304 _ c 𝒱 bd N h0 hN4 hN5 E I W T (t3.val - 2) (fun _ => κ) Q) $$ [HC H4 H5 HO]
    · isplitl [HC]; · iexact HC
      isplitl [H4]; · iexact H4
      isplitl [H5]; · iexact H5
      iexact HO
    iintro ⟨HC, H4, H5, HO⟩
    iapply Hk
    isplitl [HC]; · iexact HC
    isplitl [H4 H5 HR]
    · isplitl [H4]; · iexact H4
      isplitl [H5]; · iexact H5
      iexact HR
    iexact HO
  · rw [dif_neg (fun e => h ((cond1_iff t3).mp e))]
    unfold Cur
    rw [if_pos (by omega), show t3.val + 1 - 2 = t3.val - 2 by omega]
    iintro ⟨HC, H4, HO⟩ Hk
    iapply Hk
    isplitl [HC]; · iexact HC
    isplitl [H4]; · iexact H4
    iexact HO

set_option maxHeartbeats 4000000 in
/-- One trip of the outer loop. -/
theorem t3_step (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x2x128 .bf16) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2) (v61 : FVec Ideal S1x128 .f32) (v78 v80 : Vec Ideal S1x8x128 .f32)
    (c : Dev nD) {defs : Defs nD τ sig (Elt Ideal) Λ₀} (𝒱 : Variants) (bd : Option 𝒱.V)
    (N : ℕ) (h0 : 0 < N) (hN4 : arg4.view.ref.dmaCredit S256x128 .bf16 = N) (hN5 : arg5.view.ref.dmaCredit S256x128 .bf16 = N)
    (E : ℕ → ℕ → EReal) (I W : ℕ → EReal) (T : ℕ → ℕ) (q0 : PosShare TreeShare) (g0 : S1x8192.Idx → BitVec 32) (g6 : S63488x2x128.Idx → EReal) (g7 : S7936x128.Idx → EReal)
    (hg0 : IdsOk T g0) (hg6 : TableOk E 7936 g6) (hg7 : InvOk I 7936 g7) (hw0 : W0Ok W (Gen.k0_pay169 v78)) (hw1 : W1Ok W (Gen.k0_pay170 v80)) (k : Fin k0_t3_loop.trips) (x : Unit) :
    OuterI c arg0 arg4 arg5 arg6 arg7 arg11 arg12 arg14 N E I W T q0 g0 g6 g7 k.val ⊢ wp frame (wpE defs 𝒱 (c : Thread nD τ) bd) Set.univ
      (Gen.k0_t3_body arg0 harg0 arg1 harg1 arg2 harg2 arg3 harg3 arg4 harg4 arg5 harg5 arg6 harg6 arg7 harg7 arg8 harg8 arg9 harg9 arg10 harg10 arg11 harg11 arg12 harg12 arg13 arg14 v61 v78 v80 k x)
      (fun _ => OuterI c arg0 arg4 arg5 arg6 arg7 arg11 arg12 arg14 N E I W T q0 g0 g6 g7 (k.val + 1)) := by
  have hk : k.val < 32 := k.isLt
  rw [t3o.eq_at]
  unfold t3o OuterI
  iintro ⟨⟨H0, H6, H7⟩, HOut, HC, HC', HO⟩
  iapply (enter_wp arg0 harg0 arg1 harg1 arg2 harg2 arg3 harg3 arg4 harg4 arg5 harg5 arg6 harg6 arg7 harg7 arg8 harg8 arg9 harg9 arg10 harg10 arg11 harg11 arg12 harg12 arg13 arg14 k 0#32 c 𝒱 bd N h0 hN4 hN5 E I W T _ _ ?_) $$ [HC HOut HO]
  · exact fun _ => rfl
  · isplitl [HC]; · iexact HC
    isplitl [HOut]; · iexact HOut
    iexact HO
  unfold Idle
  iintro ⟨⟨Hv, ⟨%ga, H11⟩, ⟨%gb, H12⟩⟩, HOut, HO⟩
  iapply (t4_loop arg0 harg0 arg1 harg1 arg2 harg2 arg3 harg3 arg4 harg4 arg5 harg5 arg6 harg6 arg7 harg7 arg8 harg8 arg9 harg9 arg10 harg10 arg11 harg11 arg12 harg12 arg13 arg14 _ _ _ _ k _ _ c 𝒱 bd E I W T q0 g0 g6 g7 hg0 hg6 hg7 hw0 hw1 (par k.val) rfl) $$ [H0 H6 H7 H11 H12]
  · unfold InnerI
    isplitl [H0]; · iexact H0
    isplitl [H6]; · iexact H6
    isplitl [H7]; · iexact H7
    isplitl [H11]
    · iexists ga; isplitr
      swap; · iexact H11
      ipureintro; exact fun r q l h => absurd h (Nat.not_lt_zero _)
    · iexists gb; isplitr
      swap; · iexact H12
      ipureintro; exact fun r q l h => absurd h (Nat.not_lt_zero _)
  unfold InnerI Outs
  iintro ⟨H0, H6, H7, ⟨%ga, %hga, H11⟩, ⟨%gb, %hgb, H12⟩⟩
  icases HOut with ⟨H4, H5, ⟨%gd4, H4'⟩, ⟨%gd5, H5'⟩⟩
  imod (Transfers.batch_alloc' EC (c : Thread nD τ) () N (Dt c arg11 arg4 (outv E I W) arg12 arg5 E T k.val (par k.val)) (sm := .dma (cellO arg14 (par k.val))) (E := Set.univ)) $$ Hv with HB
  ihave H11 := (own_set_eq (slab_eq_srcRem (par k.val))) $$ H11
  ihave H12 := (own_set_eq (slab_eq_srcRem (par k.val))) $$ H12
  iapply (issue c 𝒱 bd _ arg11 arg4 arg14 (outv E I W) T k.val (par k.val) 0 (by omega) N hN4 _ 0 (by omega) (Entails.of_eq (Dt_even c arg11 arg4 (outv E I W) arg12 arg5 E T k.val (par k.val) 0 0 rfl).symm)
      ga hga gd4 (Gen.k0_off105_eq k) (Gen.k0_off104_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 (E) T k.val (par k.val) 0 (by omega) N hN5 _ 1 (by omega) (Entails.of_eq (Dt_odd c arg11 arg4 (outv E I W) arg12 arg5 E T k.val (par k.val) 1 0 rfl).symm)
      gb hgb gd5 (Gen.k0_off105_eq k) (Gen.k0_off104_eq k) (Gen.k0_off103_eq k)) $$ [H12 H5' HB]
  · isplitl [H12]; · iexact H12
    isplitl [H5']; · iexact H5'
    iexact HB
  iintro ⟨H12, H5', HB⟩
  iapply (issue c 𝒱 bd _ arg11 arg4 arg14 (outv E I W) T k.val (par k.val) 1 (by omega) N hN4 _ 2 (by omega) (Entails.of_eq (Dt_even c arg11 arg4 (outv E I W) arg12 arg5 E T k.val (par k.val) 2 1 rfl).symm)
      ga hga gd4 (Gen.k0_off107_eq k) (Gen.k0_off106_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 (E) T k.val (par k.val) 1 (by omega) N hN5 _ 3 (by omega) (Entails.of_eq (Dt_odd c arg11 arg4 (outv E I W) arg12 arg5 E T k.val (par k.val) 3 1 rfl).symm)
      gb hgb gd5 (Gen.k0_off107_eq k) (Gen.k0_off106_eq k) (Gen.k0_off103_eq k)) $$ [H12 H5' HB]
  · isplitl [H12]; · iexact H12
    isplitl [H5']; · iexact H5'
    iexact HB
  iintro ⟨H12, H5', HB⟩
  iapply (issue c 𝒱 bd _ arg11 arg4 arg14 (outv E I W) T k.val (par k.val) 2 (by omega) N hN4 _ 4 (by omega) (Entails.of_eq (Dt_even c arg11 arg4 (outv E I W) arg12 arg5 E T k.val (par k.val) 4 2 rfl).symm)
      ga hga gd4 (Gen.k0_off109_eq k) (Gen.k0_off108_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 (E) T k.val (par k.val) 2 (by omega) N hN5 _ 5 (by omega) (Entails.of_eq (Dt_odd c arg11 arg4 (outv E I W) arg12 arg5 E T k.val (par k.val) 5 2 rfl).symm)
      gb hgb gd5 (Gen.k0_off109_eq k) (Gen.k0_off108_eq k) (Gen.k0_off103_eq k)) $$ [H12 H5' HB]
  · isplitl [H12]; · iexact H12
    isplitl [H5']; · iexact H5'
    iexact HB
  iintro ⟨H12, H5', HB⟩
  iapply (issue c 𝒱 bd _ arg11 arg4 arg14 (outv E I W) T k.val (par k.val) 3 (by omega) N hN4 _ 6 (by omega) (Entails.of_eq (Dt_even c arg11 arg4 (outv E I W) arg12 arg5 E T k.val (par k.val) 6 3 rfl).symm)
      ga hga gd4 (Gen.k0_off111_eq k) (Gen.k0_off110_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 (E) T k.val (par k.val) 3 (by omega) N hN5 _ 7 (by omega) (Entails.of_eq (Dt_odd c arg11 arg4 (outv E I W) arg12 arg5 E T k.val (par k.val) 7 3 rfl).symm)
      gb hgb gd5 (Gen.k0_off111_eq k) (Gen.k0_off110_eq k) (Gen.k0_off103_eq k)) $$ [H12 H5' HB]
  · isplitl [H12]; · iexact H12
    isplitl [H5']; · iexact H5'
    iexact HB
  iintro ⟨H12, H5', HB⟩
  iapply (issue c 𝒱 bd _ arg11 arg4 arg14 (outv E I W) T k.val (par k.val) 4 (by omega) N hN4 _ 8 (by omega) (Entails.of_eq (Dt_even c arg11 arg4 (outv E I W) arg12 arg5 E T k.val (par k.val) 8 4 rfl).symm)
      ga hga gd4 (Gen.k0_off113_eq k) (Gen.k0_off112_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 (E) T k.val (par k.val) 4 (by omega) N hN5 _ 9 (by omega) (Entails.of_eq (Dt_odd c arg11 arg4 (outv E I W) arg12 arg5 E T k.val (par k.val) 9 4 rfl).symm)
      gb hgb gd5 (Gen.k0_off113_eq k) (Gen.k0_off112_eq k) (Gen.k0_off103_eq k)) $$ [H12 H5' HB]
  · isplitl [H12]; · iexact H12
    isplitl [H5']; · iexact H5'
    iexact HB
  iintro ⟨H12, H5', HB⟩
  iapply (issue c 𝒱 bd _ arg11 arg4 arg14 (outv E I W) T k.val (par k.val) 5 (by omega) N hN4 _ 10 (by omega) (Entails.of_eq (Dt_even c arg11 arg4 (outv E I W) arg12 arg5 E T k.val (par k.val) 10 5 rfl).symm)
      ga hga gd4 (Gen.k0_off115_eq k) (Gen.k0_off114_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 (E) T k.val (par k.val) 5 (by omega) N hN5 _ 11 (by omega) (Entails.of_eq (Dt_odd c arg11 arg4 (outv E I W) arg12 arg5 E T k.val (par k.val) 11 5 rfl).symm)
      gb hgb gd5 (Gen.k0_off115_eq k) (Gen.k0_off114_eq k) (Gen.k0_off103_eq k)) $$ [H12 H5' HB]
  · isplitl [H12]; · iexact H12
    isplitl [H5']; · iexact H5'
    iexact HB
  iintro ⟨H12, H5', HB⟩
  iapply (issue c 𝒱 bd _ arg11 arg4 arg14 (outv E I W) T k.val (par k.val) 6 (by omega) N hN4 _ 12 (by omega) (Entails.of_eq (Dt_even c arg11 arg4 (outv E I W) arg12 arg5 E T k.val (par k.val) 12 6 rfl).symm)
      ga hga gd4 (Gen.k0_off117_eq k) (Gen.k0_off116_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 (E) T k.val (par k.val) 6 (by omega) N hN5 _ 13 (by omega) (Entails.of_eq (Dt_odd c arg11 arg4 (outv E I W) arg12 arg5 E T k.val (par k.val) 13 6 rfl).symm)
      gb hgb gd5 (Gen.k0_off117_eq k) (Gen.k0_off116_eq k) (Gen.k0_off103_eq k)) $$ [H12 H5' HB]
  · isplitl [H12]; · iexact H12
    isplitl [H5']; · iexact H5'
    iexact HB
  iintro ⟨H12, H5', HB⟩
  iapply (issue c 𝒱 bd _ arg11 arg4 arg14 (outv E I W) T k.val (par k.val) 7 (by omega) N hN4 _ 14 (by omega) (Entails.of_eq (Dt_even c arg11 arg4 (outv E I W) arg12 arg5 E T k.val (par k.val) 14 7 rfl).symm)
      ga hga gd4 (Gen.k0_off119_eq k) (Gen.k0_off118_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 (E) T k.val (par k.val) 7 (by omega) N hN5 _ 15 (by omega) (Entails.of_eq (Dt_odd c arg11 arg4 (outv E I W) arg12 arg5 E T k.val (par k.val) 15 7 rfl).symm)
      gb hgb gd5 (Gen.k0_off119_eq k) (Gen.k0_off118_eq k) (Gen.k0_off103_eq k)) $$ [H12 H5' HB]
  · isplitl [H12]; · iexact H12
    isplitl [H5']; · iexact H5'
    iexact HB
  iintro ⟨H12, H5', HB⟩
  iapply (issue c 𝒱 bd _ arg11 arg4 arg14 (outv E I W) T k.val (par k.val) 8 (by omega) N hN4 _ 16 (by omega) (Entails.of_eq (Dt_even c arg11 arg4 (outv E I W) arg12 arg5 E T k.val (par k.val) 16 8 rfl).symm)
      ga hga gd4 (Gen.k0_off121_eq k) (Gen.k0_off120_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 (E) T k.val (par k.val) 8 (by omega) N hN5 _ 17 (by omega) (Entails.of_eq (Dt_odd c arg11 arg4 (outv E I W) arg12 arg5 E T k.val (par k.val) 17 8 rfl).symm)
      gb hgb gd5 (Gen.k0_off121_eq k) (Gen.k0_off120_eq k) (Gen.k0_off103_eq k)) $$ [H12 H5' HB]
  · isplitl [H12]; · iexact H12
    isplitl [H5']; · iexact H5'
    iexact HB
  iintro ⟨H12, H5', HB⟩
  iapply (issue c 𝒱 bd _ arg11 arg4 arg14 (outv E I W) T k.val (par k.val) 9 (by omega) N hN4 _ 18 (by omega) (Entails.of_eq (Dt_even c arg11 arg4 (outv E I W) arg12 arg5 E T k.val (par k.val) 18 9 rfl).symm)
      ga hga gd4 (Gen.k0_off123_eq k) (Gen.k0_off122_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 (E) T k.val (par k.val) 9 (by omega) N hN5 _ 19 (by omega) (Entails.of_eq (Dt_odd c arg11 arg4 (outv E I W) arg12 arg5 E T k.val (par k.val) 19 9 rfl).symm)
      gb hgb gd5 (Gen.k0_off123_eq k) (Gen.k0_off122_eq k) (Gen.k0_off103_eq k)) $$ [H12 H5' HB]
  · isplitl [H12]; · iexact H12
    isplitl [H5']; · iexact H5'
    iexact HB
  iintro ⟨H12, H5', HB⟩
  iapply (issue c 𝒱 bd _ arg11 arg4 arg14 (outv E I W) T k.val (par k.val) 10 (by omega) N hN4 _ 20 (by omega) (Entails.of_eq (Dt_even c arg11 arg4 (outv E I W) arg12 arg5 E T k.val (par k.val) 20 10 rfl).symm)
      ga hga gd4 (Gen.k0_off125_eq k) (Gen.k0_off124_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 (E) T k.val (par k.val) 10 (by omega) N hN5 _ 21 (by omega) (Entails.of_eq (Dt_odd c arg11 arg4 (outv E I W) arg12 arg5 E T k.val (par k.val) 21 10 rfl).symm)
      gb hgb gd5 (Gen.k0_off125_eq k) (Gen.k0_off124_eq k) (Gen.k0_off103_eq k)) $$ [H12 H5' HB]
  · isplitl [H12]; · iexact H12
    isplitl [H5']; · iexact H5'
    iexact HB
  iintro ⟨H12, H5', HB⟩
  rw [ret_bind', wp_pure]
  imodintro
  isplitl [H0 H6 H7]
  · isplitl [H0]; · iexact H0
    isplitl [H6]; · iexact H6
    iexact H7
  isplitl [H4 H5 H4' H5']
  · isplitl [H4]; · iexact H4
    isplitl [H5]; · iexact H5
    isplitl [H4']
    · iexists gd4; rw [← dstRem_next]; iexact H4'
    · iexists gd5; rw [← dstRem_next]; iexact H5'
  isplitl [HC']; · iexact HC'
  isplitr [HO]
  swap; · iexact HO
  rw [show k.val + 1 + 1 = k.val + 2 from rfl]
  unfold Cur
  rw [if_neg (by omega), show k.val + 2 - 2 = k.val by omega, par_two]
  unfold Busy
  isplitl [HB]; · iexact HB
  isplitl [H11]
  · iexists ga; iexact H11
  · iexists gb; iexact H12

end Cert.Proof.KernelIdeal
-- ==== Proof.Ideal.Body.lean ====
/-
  The kernel's body: the codes' transfers are issued, the weights are laid out, the table is built block by block, the
  tokens' blocks are produced and sent out, and the last two blocks' transfers are awaited.
-/
module

public import proofs.«01_k».proof.Proof.Ideal.Build
public import proofs.«01_k».proof.Proof.Ideal.Outer

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

/-- The weights, by column. -/
def Wv (g3 : S1408.Idx → EReal) (k : ℕ) : EReal := if h : k < 1408 then g3 (ix1 ⟨k, h⟩) else 0

/-- The weights' buffer with its first `n` chunks laid out. -/
def WtI (W : ℕ → EReal) (n : ℕ) (g : S2x8x128.Idx → EReal) : Prop :=
  ∀ (a : Fin 2) (h : Fin 8) (l : Fin 128), 2 * h.val + a.val < n → g (ix3 a h l) = W (128 * (2 * h.val + a.val) + l)

/-- A load of a chunk of the weights. -/
theorem wt_load (g3 : S1408.Idx → EReal) (n : ℕ) (hn : n < 11) {off : Fin 1 → ℕ} (ho : off = ![128 * n]) (h) (l : Fin 128) :
    g3 ((Rect.unit (s := S1408) off S128.size h).toLoadRect.idx (ix1 l)) = Wv g3 (128 * n + l) := by
  subst ho
  unfold Wv
  rw [dif_pos (by omega)]
  congr 1
  funext a; apply Fin.ext
  match a with
  | 0 => show 128 * n + 1 * l.val = 128 * n + l.val; omega

/-- One chunk of the weights is laid out. -/
theorem wt_step (W : ℕ → EReal) (n x y : ℕ) (hn : n = 2 * y + x) (hx : x < 2) {off : Fin 3 → ℕ} (ho : off = ![x, y, 0]) (h) (w : S1x1x128.Idx → EReal) (g : S2x8x128.Idx → EReal)
    (hg : WtI W n g) (hw : ∀ l : Fin 128, w (ix3 0 0 l) = W (128 * n + l)) :
    WtI W (n + 1) (upd (Rect.unit (s := S2x8x128) off S1x1x128.size h) w g) := by
  subst ho
  intro a r l hr
  by_cases hm : 2 * r.val + a.val = n
  · have ea : a.val = x := by omega
    have er : r.val = y := by omega
    refine (upd_eq (Rect.unit (s := S2x8x128) ![x, y, 0] S1x1x128.size h) w g (i := ix3 a r l) (ix3 0 0 l) ?_).trans ?_
    · funext b; apply Fin.ext
      match b with
      | 0 => show x + 1 * 0 = a.val; omega
      | 1 => show y + 1 * 0 = r.val; omega
      | 2 => show 0 + 1 * l.val = l.val; omega
    · rw [hw, hm]
  · by_cases ea : a.val = x
    · exact (upd_axis (s := S2x8x128) ![x, y, 0] S1x1x128.size h w g (i := ix3 a r l) (1 : Fin 3) (by show r.val < y ∨ y + 1 ≤ r.val; omega)).trans (hg a r l (by omega))
    · exact (upd_axis (s := S2x8x128) ![x, y, 0] S1x1x128.size h w g (i := ix3 a r l) (0 : Fin 3) (by show a.val < x ∨ x + 1 ≤ a.val; omega)).trans (hg a r l (by omega))

/-- The even chunks, as the loop reads them. -/
theorem wt_even (W : ℕ → EReal) (g : S2x8x128.Idx → EReal) (hg : WtI W 11 g) (h) :
    W0Ok W (Gen.k0_pay169 (F := Ideal) (fun x => g ((Rect.unit (s := S2x8x128) ![0, 0, 0] S1x8x128.size h).toLoadRect.idx x))) := by
  intro r l hr
  refine Eq.trans (?_ : _ = g (ix3 0 r l)) ((hg 0 r l (by show 2 * r.val + 0 < 11; omega)).trans (by show W (128 * (2 * r.val + 0) + l.val) = _; rw [Nat.add_zero]))
  refine Eq.trans (?_ : _ = g ((Rect.unit (s := S2x8x128) ![0, 0, 0] S1x8x128.size h).toLoadRect.idx (ix3 0 r l))) ?_
  · generalize (Rect.unit (s := S2x8x128) ![0, 0, 0] S1x8x128.size h).toLoadRect.idx = e
    unfold Gen.k0_pay169
    pointwise
  · congr 1
    funext b; apply Fin.ext
    match b with
    | 0 => rfl
    | 1 => show 0 + 1 * r.val = r.val; omega
    | 2 => show 0 + 1 * l.val = l.val; omega

/-- The odd chunks, as the loop reads them. -/
theorem wt_odd (W : ℕ → EReal) (g : S2x8x128.Idx → EReal) (hg : WtI W 11 g) (h) :
    W1Ok W (Gen.k0_pay170 (F := Ideal) (fun x => g ((Rect.unit (s := S2x8x128) ![1, 0, 0] S1x8x128.size h).toLoadRect.idx x))) := by
  intro r l hr
  refine Eq.trans (?_ : _ = g (ix3 1 r l)) (hg 1 r l (by show 2 * r.val + 1 < 11; omega))
  refine Eq.trans (?_ : _ = g ((Rect.unit (s := S2x8x128) ![1, 0, 0] S1x8x128.size h).toLoadRect.idx (ix3 0 r l))) ?_
  · generalize (Rect.unit (s := S2x8x128) ![1, 0, 0] S1x8x128.size h).toLoadRect.idx = e
    unfold Gen.k0_pay170
    pointwise
  · congr 1
    funext b; apply Fin.ext
    match b with
    | 0 => rfl
    | 1 => show 0 + 1 * r.val = r.val; omega
    | 2 => show 0 + 1 * l.val = l.val; omega

/-- Chunk 0 of the weights is stored as it was loaded. -/
theorem wpay0 (v : Vec Ideal S128 .bf16) (l : Fin 128) : Gen.k0_pay154 (F := Ideal) v (ix3 0 0 l) = v (ix1 l) := by
  unfold_payloads
  pointwise

/-- Chunk 1 of the weights is stored as it was loaded. -/
theorem wpay1 (v : Vec Ideal S128 .bf16) (l : Fin 128) : Gen.k0_pay155 (F := Ideal) v (ix3 0 0 l) = v (ix1 l) := by
  unfold_payloads
  pointwise

/-- Chunk 2 of the weights is stored as it was loaded. -/
theorem wpay2 (v : Vec Ideal S128 .bf16) (l : Fin 128) : Gen.k0_pay156 (F := Ideal) v (ix3 0 0 l) = v (ix1 l) := by
  unfold_payloads
  pointwise

/-- Chunk 3 of the weights is stored as it was loaded. -/
theorem wpay3 (v : Vec Ideal S128 .bf16) (l : Fin 128) : Gen.k0_pay157 (F := Ideal) v (ix3 0 0 l) = v (ix1 l) := by
  unfold_payloads
  pointwise

/-- Chunk 4 of the weights is stored as it was loaded. -/
theorem wpay4 (v : Vec Ideal S128 .bf16) (l : Fin 128) : Gen.k0_pay158 (F := Ideal) v (ix3 0 0 l) = v (ix1 l) := by
  unfold_payloads
  pointwise

/-- Chunk 5 of the weights is stored as it was loaded. -/
theorem wpay5 (v : Vec Ideal S128 .bf16) (l : Fin 128) : Gen.k0_pay159 (F := Ideal) v (ix3 0 0 l) = v (ix1 l) := by
  unfold_payloads
  pointwise

/-- Chunk 6 of the weights is stored as it was loaded. -/
theorem wpay6 (v : Vec Ideal S128 .bf16) (l : Fin 128) : Gen.k0_pay160 (F := Ideal) v (ix3 0 0 l) = v (ix1 l) := by
  unfold_payloads
  pointwise

/-- Chunk 7 of the weights is stored as it was loaded. -/
theorem wpay7 (v : Vec Ideal S128 .bf16) (l : Fin 128) : Gen.k0_pay161 (F := Ideal) v (ix3 0 0 l) = v (ix1 l) := by
  unfold_payloads
  pointwise

/-- Chunk 8 of the weights is stored as it was loaded. -/
theorem wpay8 (v : Vec Ideal S128 .bf16) (l : Fin 128) : Gen.k0_pay162 (F := Ideal) v (ix3 0 0 l) = v (ix1 l) := by
  unfold_payloads
  pointwise

/-- Chunk 9 of the weights is stored as it was loaded. -/
theorem wpay9 (v : Vec Ideal S128 .bf16) (l : Fin 128) : Gen.k0_pay164 (Gen.k0_pay163 (F := Ideal) v) (ix3 0 0 l) = v (ix1 l) := by
  unfold_payloads
  pointwise

/-- Chunk 10 of the weights is stored as it was loaded. -/
theorem wpay10 (v : Vec Ideal S128 .bf16) (l : Fin 128) : Gen.k0_pay165 (F := Ideal) v (ix3 0 0 l) = v (ix1 l) := by
  unfold_payloads
  pointwise

/-- The loop, from its start to its end. -/
theorem t1_loop {R : Type} (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x2x128 .bf16) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2) (c : Dev nD) {defs : Defs nD τ sig (Elt Ideal) Λ₀} (𝒱 : Variants) (bd : Option 𝒱.V) (N : ℕ) (h0 : 0 < N) (hN : arg8.view.ref.dmaCredit S1408x256 .i8 = N) (g1 : S1408x7936.Idx → BitVec 8)
    (kk : Unit → Prog (TpuEff nD τ sig (Elt Ideal) Λ₀ .tc) R) (Q : R → sProp 𝕄) :
    InI c arg1 arg8 arg13 N g1 0 ⊢ iprop((InI c arg1 arg8 arg13 N g1 31 -∗ wp frame (wpE defs 𝒱 (c : Thread nD τ) bd) Set.univ (kk ()) Q)
      -∗ wp frame (wpE defs 𝒱 (c : Thread nD τ) bd) Set.univ
      (Scf.Loop.for k0_t1_loop Gen.k0_t1_ok ⟨⟩ (Gen.k0_t1_body arg0 harg0 arg1 harg1 arg2 harg2 arg3 harg3 arg4 harg4 arg5 harg5 arg6 harg6 arg7 harg7 arg8 harg8 arg9 harg9 arg10 harg10 arg11 harg11 arg12 harg12 arg13 arg14) >>= kk) Q) := by
  iintro H Hk
  unfold Scf.Loop.for
  iapply (Scf.wp_for_bind frame (wpE defs 𝒱 (c : Thread nD τ) bd) Set.univ _ _ _ _ _ _
    (fun n _ => InI c arg1 arg8 arg13 N g1 n)
    (fun k x => t1_step arg0 harg0 arg1 harg1 arg2 harg2 arg3 harg3 arg4 harg4 arg5 harg5 arg6 harg6 arg7 harg7 arg8 harg8 arg9 harg9 arg10 harg10 arg11 harg11 arg12 harg12 arg13 arg14 c 𝒱 bd N h0 hN g1 k x)) $$ H
  iintro %acc H
  iapply Hk
  iexact H

/-- The loop, from its start to its end. -/
theorem t2_loop {R : Type} (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x2x128 .bf16) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2) (v61 : FVec Ideal S1x128 .f32) (c : Dev nD) {defs : Defs nD τ sig (Elt Ideal) Λ₀} (𝒱 : Variants) (bd : Option 𝒱.V) (N : ℕ) (h0 : 0 < N) (hN : arg8.view.ref.dmaCredit S1408x256 .i8 = N) (g1 : S1408x7936.Idx → BitVec 8) (q2 : PosShare TreeShare) (g2 : S7936.Idx → EReal)
    (kk : Unit → Prog (TpuEff nD τ sig (Elt Ideal) Λ₀ .tc) R) (Q : R → sProp 𝕄) :
    BuildI c arg1 arg2 arg6 arg7 arg8 arg9 arg13 N g1 q2 g2 0 ⊢ iprop((BuildI c arg1 arg2 arg6 arg7 arg8 arg9 arg13 N g1 q2 g2 31 -∗ wp frame (wpE defs 𝒱 (c : Thread nD τ) bd) Set.univ (kk ()) Q)
      -∗ wp frame (wpE defs 𝒱 (c : Thread nD τ) bd) Set.univ
      (Scf.Loop.for k0_t2_loop Gen.k0_t2_ok ⟨⟩ (Gen.k0_t2_body arg0 harg0 arg1 harg1 arg2 harg2 arg3 harg3 arg4 harg4 arg5 harg5 arg6 harg6 arg7 harg7 arg8 harg8 arg9 harg9 arg10 harg10 arg11 harg11 arg12 harg12 arg13 arg14 v61) >>= kk) Q) := by
  iintro H Hk
  unfold Scf.Loop.for
  iapply (Scf.wp_for_bind frame (wpE defs 𝒱 (c : Thread nD τ) bd) Set.univ _ _ _ _ _ _
    (fun n _ => BuildI c arg1 arg2 arg6 arg7 arg8 arg9 arg13 N g1 q2 g2 n)
    (fun k x => t2_step arg0 harg0 arg1 harg1 arg2 harg2 arg3 harg3 arg4 harg4 arg5 harg5 arg6 harg6 arg7 harg7 arg8 harg8 arg9 harg9 arg10 harg10 arg11 harg11 arg12 harg12 arg13 arg14 v61 c 𝒱 bd N h0 hN g1 q2 g2 k x)) $$ H
  iintro %acc H
  iapply Hk
  iexact H

/-- The loop, from its start to its end. -/
theorem t3_loop {R : Type} (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x2x128 .bf16) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2) (v61 : FVec Ideal S1x128 .f32) (v78 v80 : Vec Ideal S1x8x128 .f32) (c : Dev nD) {defs : Defs nD τ sig (Elt Ideal) Λ₀} (𝒱 : Variants) (bd : Option 𝒱.V) (N : ℕ) (h0 : 0 < N) (hN4 : arg4.view.ref.dmaCredit S256x128 .bf16 = N) (hN5 : arg5.view.ref.dmaCredit S256x128 .bf16 = N)
    (E : ℕ → ℕ → EReal) (I W : ℕ → EReal) (T : ℕ → ℕ) (q0 : PosShare TreeShare) (g0 : S1x8192.Idx → BitVec 32) (g6 : S63488x2x128.Idx → EReal) (g7 : S7936x128.Idx → EReal)
    (hg0 : IdsOk T g0) (hg6 : TableOk E 7936 g6) (hg7 : InvOk I 7936 g7) (hw0 : W0Ok W (Gen.k0_pay169 v78)) (hw1 : W1Ok W (Gen.k0_pay170 v80))
    (kk : Unit → Prog (TpuEff nD τ sig (Elt Ideal) Λ₀ .tc) R) (Q : R → sProp 𝕄) :
    OuterI c arg0 arg4 arg5 arg6 arg7 arg11 arg12 arg14 N E I W T q0 g0 g6 g7 0 ⊢ iprop((OuterI c arg0 arg4 arg5 arg6 arg7 arg11 arg12 arg14 N E I W T q0 g0 g6 g7 32 -∗ wp frame (wpE defs 𝒱 (c : Thread nD τ) bd) Set.univ (kk ()) Q)
      -∗ wp frame (wpE defs 𝒱 (c : Thread nD τ) bd) Set.univ
      (Scf.Loop.for k0_t3_loop Gen.k0_t3_ok ⟨⟩ (Gen.k0_t3_body arg0 harg0 arg1 harg1 arg2 harg2 arg3 harg3 arg4 harg4 arg5 harg5 arg6 harg6 arg7 harg7 arg8 harg8 arg9 harg9 arg10 harg10 arg11 harg11 arg12 harg12 arg13 arg14 v61 v78 v80) >>= kk) Q) := by
  iintro H Hk
  unfold Scf.Loop.for
  iapply (Scf.wp_for_bind frame (wpE defs 𝒱 (c : Thread nD τ) bd) Set.univ _ _ _ _ _ _
    (fun n _ => OuterI c arg0 arg4 arg5 arg6 arg7 arg11 arg12 arg14 N E I W T q0 g0 g6 g7 n)
    (fun k x => t3_step arg0 harg0 arg1 harg1 arg2 harg2 arg3 harg3 arg4 harg4 arg5 harg5 arg6 harg6 arg7 harg7 arg8 harg8 arg9 harg9 arg10 harg10 arg11 harg11 arg12 harg12 arg13 arg14 v61 v78 v80 c 𝒱 bd N h0 hN4 hN5 E I W T q0 g0 g6 g7 hg0 hg6 hg7 hw0 hw1 k x)) $$ H
  iintro %acc H
  iapply Hk
  iexact H

/-- The inputs. -/
def Ins (c : Dev nD) (arg0 : Memref sig .tc .smem S1x8192 .i32) (arg1 : Memref sig .tc .hbm S1408x7936 .i8) (arg2 : Memref sig .tc .vmem S7936 .f32) (arg3 : Memref sig .tc .vmem S1408 .bf16)
    (q0 q2 q3 : PosShare TreeShare) (g0 : S1x8192.Idx → BitVec 32) (g1 : S1408x7936.Idx → BitVec 8) (g2 : S7936.Idx → EReal) (g3 : S1408.Idx → EReal) : sProp 𝕄 :=
  iprop(own (Val := Elt Ideal) (c : Thread nD τ) arg0 Finset.univ q0 g0 ∗ own (Val := Elt Ideal) (c : Thread nD τ) arg1 Finset.univ fullShare g1
    ∗ own (Val := Elt Ideal) (c : Thread nD τ) arg2 Finset.univ q2 g2 ∗ own (Val := Elt Ideal) (c : Thread nD τ) arg3 Finset.univ q3 g3)

/-- The scratch buffers, at any contents, and the semaphores at rest. -/
def Scr (c : Dev nD) (arg6 : Memref sig .tc .vmem S63488x2x128 .bf16) (arg7 : Memref sig .tc .vmem S7936x128 .f32) (arg8 : Memref sig .tc .vmem S31x1408x256 .i8) (arg9 : Memref sig .tc .vmem S256x128 .f32) (arg10 : Memref sig .tc .vmem S2x8x128 .f32)
    (arg11 arg12 : Memref sig .tc .vmem S2x11x272x128 .bf16) (arg13 : DmaSems sig S31) (arg14 : DmaSems sig S2) : sProp 𝕄 :=
  iprop((∃ g, own (Val := Elt Ideal) (c : Thread nD τ) arg6 Finset.univ fullShare g) ∗ (∃ g, own (Val := Elt Ideal) (c : Thread nD τ) arg7 Finset.univ fullShare g) ∗ (∃ g, own (Val := Elt Ideal) (c : Thread nD τ) arg8 Finset.univ fullShare g) ∗ (∃ g, own (Val := Elt Ideal) (c : Thread nD τ) arg9 Finset.univ fullShare g) ∗ (∃ g, own (Val := Elt Ideal) (c : Thread nD τ) arg10 Finset.univ fullShare g) ∗ (∃ g, own (Val := Elt Ideal) (c : Thread nD τ) arg11 Finset.univ fullShare g) ∗ (∃ g, own (Val := Elt Ideal) (c : Thread nD τ) arg12 Finset.univ fullShare g)
    ∗ bigSep Finset.univ (Rest c arg13) ∗ semVal ((c : Thread nD τ), SemLoc.dma (cellO arg14 0)) 0 ∗ semVal ((c : Thread nD τ), SemLoc.dma (cellO arg14 1)) 0)

/-- The two slots of a staging buffer share no cell. -/
theorem slab_disj : Disjoint (slab 0) (slab 1) := by
  rw [Finset.disjoint_left]; intro i; simp only [slab, Finset.mem_filter, Finset.mem_univ, true_and]
  intro h h'; exact absurd (h.symm.trans h') (by decide)
/-- The two slots are the whole staging buffer. -/
theorem slab_union : slab 0 ∪ slab 1 = Finset.univ := by
  ext i
  have h1 : (i (0 : Fin 4) : ℕ) < 2 := (i (0 : Fin 4)).isLt
  simp only [slab, Finset.mem_union, Finset.mem_filter, Finset.mem_univ, true_and, iff_true]
  show (i (0 : Fin 4) : ℕ) = 0 ∨ (i (0 : Fin 4) : ℕ) = 1
  omega

/-- A staging buffer is its two slots. -/
theorem slab_split (c : Dev nD) (m : Memref sig .tc .vmem S2x11x272x128 .bf16) :
    ((∃ g, own (Val := Elt Ideal) (c : Thread nD τ) m Finset.univ fullShare g) : sProp 𝕄)
    ⊢ iprop((∃ g, own (Val := Elt Ideal) (c : Thread nD τ) m (slab 0) fullShare g) ∗ (∃ g, own (Val := Elt Ideal) (c : Thread nD τ) m (slab 1) fullShare g)) := by
  iintro ⟨%g, H⟩
  ihave H := (own_set_eq slab_union.symm) $$ H
  ihave H := (own_split slab_disj) $$ H
  icases H with ⟨H0, H1⟩
  isplitl [H0]; · iexists g; iexact H0
  iexists g; iexact H1

/-- The two slots are the staging buffer. -/
theorem slab_join (c : Dev nD) (m : Memref sig .tc .vmem S2x11x272x128 .bf16) :
    (iprop((∃ g, own (Val := Elt Ideal) (c : Thread nD τ) m (slab 0) fullShare g) ∗ (∃ g, own (Val := Elt Ideal) (c : Thread nD τ) m (slab 1) fullShare g)) : sProp 𝕄)
    ⊢ (∃ g, own (Val := Elt Ideal) (c : Thread nD τ) m Finset.univ fullShare g) := by
  iintro ⟨⟨%g, H0⟩, ⟨%g', H1⟩⟩
  iexists ((slab 1).piecewise g' g)
  ihave H0 := (own_congr (g' := (slab 1).piecewise g' g) (fun i hi => (Finset.piecewise_eq_of_notMem _ _ _ (Finset.disjoint_left.mp slab_disj hi)).symm)) $$ H0
  ihave H1 := (own_congr (g' := (slab 1).piecewise g' g) (fun i hi => (Finset.piecewise_eq_of_mem _ _ _ hi).symm)) $$ H1
  ihave H := (own_join slab_disj) $$ [H0 H1]
  · isplitl [H0]; · iexact H0
    iexact H1
  ihave H := (own_set_eq slab_union) $$ H
  iexact H

/-- A result at any contents, before the first block. -/
theorem out_start (c : Dev nD) (m : Memref sig .tc .hbm S8192x1408 .bf16) (f : S8192x1408.Idx → EReal) :
    ((∃ g, own (Val := Elt Ideal) (c : Thread nD τ) m Finset.univ fullShare g) : sProp 𝕄)
    ⊢ iprop(own (Val := Elt Ideal) (c : Thread nD τ) m (dstAcc 0 0) fullShare f ∗ (∃ g, own (Val := Elt Ideal) (c : Thread nD τ) m (dstRem 0 0) fullShare g)) := by
  rw [dstAcc_zero, dstRem_zero]
  iintro ⟨%g, H⟩
  ihave H := (own_set_eq (Finset.empty_union Finset.univ).symm) $$ H
  ihave H := (own_split (Finset.disjoint_empty_left _)) $$ H
  icases H with ⟨H0, H1⟩
  isplitl [H0]
  · ihave H0 := (own_congr (g' := f) (fun i hi => absurd hi (Finset.notMem_empty i))) $$ H0
    iexact H0
  · iexists g; iexact H1

set_option maxHeartbeats 16000000 in
/-- The body: both results are final, everything else is as it was. -/
theorem body_wp (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x2x128 .bf16) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2) (c : Dev nD) {defs : Defs nD τ sig (Elt Ideal) Λ₀} (𝒱 : Variants) (bd : Option 𝒱.V)
    (N₁ : ℕ) (h1 : 0 < N₁) (hN₁ : arg8.view.ref.dmaCredit S1408x256 .i8 = N₁)
    (N : ℕ) (h0 : 0 < N) (hN4 : arg4.view.ref.dmaCredit S256x128 .bf16 = N) (hN5 : arg5.view.ref.dmaCredit S256x128 .bf16 = N)
    (T : ℕ → ℕ) (q0 q2 q3 : PosShare TreeShare) (g0 : S1x8192.Idx → BitVec 32) (g1 : S1408x7936.Idx → BitVec 8) (g2 : S7936.Idx → EReal) (g3 : S1408.Idx → EReal) (hg0 : IdsOk T g0) :
    (iprop(Ins c arg0 arg1 arg2 arg3 q0 q2 q3 g0 g1 g2 g3 ∗ (∃ g, own (Val := Elt Ideal) (c : Thread nD τ) arg4 Finset.univ fullShare g) ∗ (∃ g, own (Val := Elt Ideal) (c : Thread nD τ) arg5 Finset.univ fullShare g) ∗ Scr c arg6 arg7 arg8 arg9 arg10 arg11 arg12 arg13 arg14
      ∗ ∃ W, owes (c : Thread nD τ) (0 : CellTallies nD τ sig Unit) W) : sProp 𝕄)
    ⊢ wp frame (wpE defs 𝒱 (c : Thread nD τ) bd) Set.univ (Gen.cc0__body_skel arg0 harg0 arg1 harg1 arg2 harg2 arg3 harg3 arg4 harg4 arg5 harg5 arg6 harg6 arg7 harg7 arg8 harg8 arg9 harg9 arg10 harg10 arg11 harg11 arg12 harg12 arg13 arg14)
      (fun _ => iprop(Ins c arg0 arg1 arg2 arg3 q0 q2 q3 g0 g1 g2 g3
        ∗ own (Val := Elt Ideal) (c : Thread nD τ) arg4 Finset.univ fullShare (fin (outv (Ev g1 g2) (Iv (Ev g1 g2)) (Wv g3)) T)
        ∗ own (Val := Elt Ideal) (c : Thread nD τ) arg5 Finset.univ fullShare (fin (Ev g1 g2) T)
        ∗ Scr c arg6 arg7 arg8 arg9 arg10 arg11 arg12 arg13 arg14 ∗ ∃ W, owes (c : Thread nD τ) (0 : CellTallies nD τ sig Unit) W)) := by
  rw [bo.eq_at]
  unfold bo Ins Scr
  iintro ⟨⟨H0, H1, H2, H3⟩, H4, H5, ⟨H6, H7, ⟨%g8, H8⟩, H9, ⟨%g10, H10⟩, H11, H12, HR, HS0, HS1⟩, HO⟩
  iapply (t1_loop arg0 harg0 arg1 harg1 arg2 harg2 arg3 harg3 arg4 harg4 arg5 harg5 arg6 harg6 arg7 harg7 arg8 harg8 arg9 harg9 arg10 harg10 arg11 harg11 arg12 harg12 arg13 arg14 c 𝒱 bd N₁ h1 hN₁ g1) $$ [H1 H8 HR]
  · unfold InI
    rw [colRem_zero, bRem_zero]
    isplitl [H1]; · iexact H1
    isplitl [H8]; · iexists g8; iexact H8
    iexact HR
  iintro HI
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  ihave H10 : (∃ g, ⌜WtI (Wv g3) 11 g⌝ ∗ own (Val := Elt Ideal) (c : Thread nD τ) arg10 Finset.univ fullShare g) $$ [H10]
  · iexists _
    isplitr
    swap; · iexact H10
    ipureintro
    exact (wt_step (Wv g3) 10 0 5 (by decide) (by decide) rfl _ _ _ (wt_step (Wv g3) 9 1 4 (by decide) (by decide) rfl _ _ _ (wt_step (Wv g3) 8 0 4 (by decide) (by decide) rfl _ _ _ (wt_step (Wv g3) 7 1 3 (by decide) (by decide) rfl _ _ _ (wt_step (Wv g3) 6 0 3 (by decide) (by decide) rfl _ _ _ (wt_step (Wv g3) 5 1 2 (by decide) (by decide) rfl _ _ _ (wt_step (Wv g3) 4 0 2 (by decide) (by decide) rfl _ _ _ (wt_step (Wv g3) 3 1 1 (by decide) (by decide) rfl _ _ _ (wt_step (Wv g3) 2 0 1 (by decide) (by decide) rfl _ _ _ (wt_step (Wv g3) 1 1 0 (by decide) (by decide) rfl _ _ _ (wt_step (Wv g3) 0 0 0 (by decide) (by decide) rfl _ _ _ (fun a h l hh => absurd hh (Nat.not_lt_zero _)) (fun l => (wpay0 _ l).trans (wt_load g3 0 (by decide) rfl _ l))) (fun l => (wpay1 _ l).trans (wt_load g3 1 (by decide) rfl _ l))) (fun l => (wpay2 _ l).trans (wt_load g3 2 (by decide) rfl _ l))) (fun l => (wpay3 _ l).trans (wt_load g3 3 (by decide) rfl _ l))) (fun l => (wpay4 _ l).trans (wt_load g3 4 (by decide) rfl _ l))) (fun l => (wpay5 _ l).trans (wt_load g3 5 (by decide) rfl _ l))) (fun l => (wpay6 _ l).trans (wt_load g3 6 (by decide) rfl _ l))) (fun l => (wpay7 _ l).trans (wt_load g3 7 (by decide) rfl _ l))) (fun l => (wpay8 _ l).trans (wt_load g3 8 (by decide) rfl _ l))) (fun l => (wpay9 _ l).trans (wt_load g3 9 (by decide) rfl _ l))) (fun l => (wpay10 _ l).trans (wt_load g3 10 (by decide) rfl _ l)))
  icases H10 with ⟨%gw, %hgw, H10⟩
  iapply (t2_loop arg0 harg0 arg1 harg1 arg2 harg2 arg3 harg3 arg4 harg4 arg5 harg5 arg6 harg6 arg7 harg7 arg8 harg8 arg9 harg9 arg10 harg10 arg11 harg11 arg12 harg12 arg13 arg14 _ c 𝒱 bd N₁ h1 hN₁ g1 q2 g2) $$ [HI H2 H6 H7 H9 HO]
  · unfold InI BuildI
    rw [colAcc_zero, bAcc_zero]
    icases HI with ⟨HI1, ⟨%gx, HI8⟩, HIF⟩
    rw [show colRem 31 = ∅ from Finset.eq_empty_of_forall_notMem fun i hi => by
        have h1 : (i (1 : Fin 2) : ℕ) < 7936 := (i (1 : Fin 2)).isLt
        simp only [colRem, Finset.mem_filter, Finset.mem_univ, true_and] at hi
        omega,
      show bRem 31 = ∅ from Finset.eq_empty_of_forall_notMem fun i hi => by
        have h1 : (i (0 : Fin 3) : ℕ) < 31 := (i (0 : Fin 3)).isLt
        simp only [bRem, Finset.mem_filter, Finset.mem_univ, true_and] at hi
        omega]
    isplitl [HI1]; · iexact HI1
    isplitl [HI8]; · iexists gx; iexact HI8
    isplitl [HIF]
    · iapply (Entails.of_eq (BI.bigSep_congr fun v _ => ?_)) $$ HIF
      rw [if_pos v.isLt, if_neg (Nat.not_lt_zero _)]
    isplitl [H2]; · iexact H2
    isplitl [H6]
    · icases H6 with ⟨%g, H6⟩
      iexists g; isplitr
      swap; · iexact H6
      ipureintro; exact fun r p l h => absurd h (Nat.not_lt_zero _)
    isplitl [H7]
    · icases H7 with ⟨%g, H7⟩
      iexists g; isplitr
      swap; · iexact H7
      ipureintro; exact fun v l h => absurd h (Nat.not_lt_zero _)
    isplitl [H9]; · iexact H9
    iexact HO
  unfold BuildI
  rw [colAcc_full, bAcc_full]
  iintro ⟨H1, H8, HR, H2, ⟨%g6, %hg6, H6⟩, ⟨%g7, %hg7, H7⟩, H9, HO⟩
  iapply (own_load 𝒱 (c : Thread nD τ) bd (m := arg10) (Finset.subset_univ _)) $$ H10
  iintro H10
  iapply (own_load 𝒱 (c : Thread nD τ) bd (m := arg10) (Finset.subset_univ _)) $$ H10
  iintro H10
  ihave H11 := (slab_split c arg11) $$ H11
  icases H11 with ⟨H110, H111⟩
  ihave H12 := (slab_split c arg12) $$ H12
  icases H12 with ⟨H120, H121⟩
  ihave H4 := (out_start c arg4 (fin (outv (Ev g1 g2) (Iv (Ev g1 g2)) (Wv g3)) T)) $$ H4
  icases H4 with ⟨H4, H4'⟩
  ihave H5 := (out_start c arg5 (fin (Ev g1 g2) T)) $$ H5
  icases H5 with ⟨H5, H5'⟩
  iapply (t3_loop arg0 harg0 arg1 harg1 arg2 harg2 arg3 harg3 arg4 harg4 arg5 harg5 arg6 harg6 arg7 harg7 arg8 harg8 arg9 harg9 arg10 harg10 arg11 harg11 arg12 harg12 arg13 arg14 _ _ _ c 𝒱 bd N h0 hN4 hN5 (Ev g1 g2) (Iv (Ev g1 g2)) (Wv g3) T q0 g0 g6 g7 hg0 hg6 hg7 (wt_even _ gw hgw _) (wt_odd _ gw hgw _)) $$ [H0 H6 H7 H4 H4' H5 H5' H110 H111 H120 H121 HS0 HS1 HO]
  · unfold OuterI Outs Cur
    rw [if_pos (by decide), if_pos (by decide)]
    unfold Idle
    isplitl [H0 H6 H7]
    · isplitl [H0]; · iexact H0
      isplitl [H6]; · iexact H6
      iexact H7
    isplitl [H4 H4' H5 H5']
    · isplitl [H4]; · iexact H4
      isplitl [H5]; · iexact H5
      isplitl [H4']; · iexact H4'
      iexact H5'
    isplitl [HS0 H110 H120]
    · isplitl [HS0]; · iexact HS0
      isplitl [H110]; · iexact H110
      iexact H120
    isplitl [HS1 H111 H121]
    · isplitl [HS1]; · iexact HS1
      isplitl [H111]; · iexact H111
      iexact H121
    iexact HO
  unfold OuterI Outs Cur
  rw [if_neg (by decide), if_neg (by decide)]
  unfold Busy
  iintro ⟨⟨H0, H6, H7⟩, ⟨H4, H5, -, -⟩, ⟨HB0, H110, H120⟩, ⟨HB1, H111, H121⟩, HO⟩
  iapply (wait_one c 𝒱 bd _ arg14 0 N _ 0 (by decide) h0 hN4 rfl) $$ [HB0 HO]
  · isplitl [HB0]; · rw [Nat.zero_mul]; iexact HB0
    iexact HO
  iintro ⟨HB0, HO⟩
  iapply (wait_one c 𝒱 bd _ arg14 0 N _ 1 (by decide) h0 hN5 rfl) $$ [HB0 HO]
  · isplitl [HB0]; · iexact HB0
    iexact HO
  iintro ⟨HB0, HO⟩
  iapply (wait_one c 𝒱 bd _ arg14 0 N _ 2 (by decide) h0 hN4 rfl) $$ [HB0 HO]
  · isplitl [HB0]; · iexact HB0
    iexact HO
  iintro ⟨HB0, HO⟩
  iapply (wait_one c 𝒱 bd _ arg14 0 N _ 3 (by decide) h0 hN5 rfl) $$ [HB0 HO]
  · isplitl [HB0]; · iexact HB0
    iexact HO
  iintro ⟨HB0, HO⟩
  iapply (wait_one c 𝒱 bd _ arg14 0 N _ 4 (by decide) h0 hN4 rfl) $$ [HB0 HO]
  · isplitl [HB0]; · iexact HB0
    iexact HO
  iintro ⟨HB0, HO⟩
  iapply (wait_one c 𝒱 bd _ arg14 0 N _ 5 (by decide) h0 hN5 rfl) $$ [HB0 HO]
  · isplitl [HB0]; · iexact HB0
    iexact HO
  iintro ⟨HB0, HO⟩
  iapply (wait_one c 𝒱 bd _ arg14 0 N _ 6 (by decide) h0 hN4 rfl) $$ [HB0 HO]
  · isplitl [HB0]; · iexact HB0
    iexact HO
  iintro ⟨HB0, HO⟩
  iapply (wait_one c 𝒱 bd _ arg14 0 N _ 7 (by decide) h0 hN5 rfl) $$ [HB0 HO]
  · isplitl [HB0]; · iexact HB0
    iexact HO
  iintro ⟨HB0, HO⟩
  iapply (wait_one c 𝒱 bd _ arg14 0 N _ 8 (by decide) h0 hN4 rfl) $$ [HB0 HO]
  · isplitl [HB0]; · iexact HB0
    iexact HO
  iintro ⟨HB0, HO⟩
  iapply (wait_one c 𝒱 bd _ arg14 0 N _ 9 (by decide) h0 hN5 rfl) $$ [HB0 HO]
  · isplitl [HB0]; · iexact HB0
    iexact HO
  iintro ⟨HB0, HO⟩
  iapply (wait_one c 𝒱 bd _ arg14 0 N _ 10 (by decide) h0 hN4 rfl) $$ [HB0 HO]
  · isplitl [HB0]; · iexact HB0
    iexact HO
  iintro ⟨HB0, HO⟩
  iapply (wait_one c 𝒱 bd _ arg14 0 N _ 11 (by decide) h0 hN5 rfl) $$ [HB0 HO]
  · isplitl [HB0]; · iexact HB0
    iexact HO
  iintro ⟨HB0, HO⟩
  iapply (wait_one c 𝒱 bd _ arg14 0 N _ 12 (by decide) h0 hN4 rfl) $$ [HB0 HO]
  · isplitl [HB0]; · iexact HB0
    iexact HO
  iintro ⟨HB0, HO⟩
  iapply (wait_one c 𝒱 bd _ arg14 0 N _ 13 (by decide) h0 hN5 rfl) $$ [HB0 HO]
  · isplitl [HB0]; · iexact HB0
    iexact HO
  iintro ⟨HB0, HO⟩
  iapply (wait_one c 𝒱 bd _ arg14 0 N _ 14 (by decide) h0 hN4 rfl) $$ [HB0 HO]
  · isplitl [HB0]; · iexact HB0
    iexact HO
  iintro ⟨HB0, HO⟩
  iapply (wait_one c 𝒱 bd _ arg14 0 N _ 15 (by decide) h0 hN5 rfl) $$ [HB0 HO]
  · isplitl [HB0]; · iexact HB0
    iexact HO
  iintro ⟨HB0, HO⟩
  iapply (wait_one c 𝒱 bd _ arg14 0 N _ 16 (by decide) h0 hN4 rfl) $$ [HB0 HO]
  · isplitl [HB0]; · iexact HB0
    iexact HO
  iintro ⟨HB0, HO⟩
  iapply (wait_one c 𝒱 bd _ arg14 0 N _ 17 (by decide) h0 hN5 rfl) $$ [HB0 HO]
  · isplitl [HB0]; · iexact HB0
    iexact HO
  iintro ⟨HB0, HO⟩
  iapply (wait_one c 𝒱 bd _ arg14 0 N _ 18 (by decide) h0 hN4 rfl) $$ [HB0 HO]
  · isplitl [HB0]; · iexact HB0
    iexact HO
  iintro ⟨HB0, HO⟩
  iapply (wait_one c 𝒱 bd _ arg14 0 N _ 19 (by decide) h0 hN5 rfl) $$ [HB0 HO]
  · isplitl [HB0]; · iexact HB0
    iexact HO
  iintro ⟨HB0, HO⟩
  iapply (wait_one c 𝒱 bd _ arg14 0 N _ 20 (by decide) h0 hN4 rfl) $$ [HB0 HO]
  · isplitl [HB0]; · iexact HB0
    iexact HO
  iintro ⟨HB0, HO⟩
  iapply (wait_last c 𝒱 bd _ arg14 0 N _ h0 hN5 rfl) $$ [HB0 HO]
  · isplitl [HB0]; · iexact HB0
    iexact HO
  iintro ⟨HB0, HS0, HO⟩
  ihave HT := (take_all c arg11 arg4 (outv (Ev g1 g2) (Iv (Ev g1 g2)) (Wv g3)) arg12 arg5 (Ev g1 g2) T 30 0) $$ [H4 H110 H5 H120 HB0]
  · isplitl [H4 H110]
    · isplitl [H4]; · iexact H4
      iexact H110
    isplitl [H5 H120]
    · isplitl [H5]; · iexact H5
      iexact H120
    iexact HB0
  icases HT with ⟨⟨H4, H110⟩, ⟨H5, H120⟩⟩
  iapply (wait_one c 𝒱 bd _ arg14 1 N _ 0 (by decide) h0 hN4 rfl) $$ [HB1 HO]
  · isplitl [HB1]; · rw [Nat.zero_mul]; iexact HB1
    iexact HO
  iintro ⟨HB1, HO⟩
  iapply (wait_one c 𝒱 bd _ arg14 1 N _ 1 (by decide) h0 hN5 rfl) $$ [HB1 HO]
  · isplitl [HB1]; · iexact HB1
    iexact HO
  iintro ⟨HB1, HO⟩
  iapply (wait_one c 𝒱 bd _ arg14 1 N _ 2 (by decide) h0 hN4 rfl) $$ [HB1 HO]
  · isplitl [HB1]; · iexact HB1
    iexact HO
  iintro ⟨HB1, HO⟩
  iapply (wait_one c 𝒱 bd _ arg14 1 N _ 3 (by decide) h0 hN5 rfl) $$ [HB1 HO]
  · isplitl [HB1]; · iexact HB1
    iexact HO
  iintro ⟨HB1, HO⟩
  iapply (wait_one c 𝒱 bd _ arg14 1 N _ 4 (by decide) h0 hN4 rfl) $$ [HB1 HO]
  · isplitl [HB1]; · iexact HB1
    iexact HO
  iintro ⟨HB1, HO⟩
  iapply (wait_one c 𝒱 bd _ arg14 1 N _ 5 (by decide) h0 hN5 rfl) $$ [HB1 HO]
  · isplitl [HB1]; · iexact HB1
    iexact HO
  iintro ⟨HB1, HO⟩
  iapply (wait_one c 𝒱 bd _ arg14 1 N _ 6 (by decide) h0 hN4 rfl) $$ [HB1 HO]
  · isplitl [HB1]; · iexact HB1
    iexact HO
  iintro ⟨HB1, HO⟩
  iapply (wait_one c 𝒱 bd _ arg14 1 N _ 7 (by decide) h0 hN5 rfl) $$ [HB1 HO]
  · isplitl [HB1]; · iexact HB1
    iexact HO
  iintro ⟨HB1, HO⟩
  iapply (wait_one c 𝒱 bd _ arg14 1 N _ 8 (by decide) h0 hN4 rfl) $$ [HB1 HO]
  · isplitl [HB1]; · iexact HB1
    iexact HO
  iintro ⟨HB1, HO⟩
  iapply (wait_one c 𝒱 bd _ arg14 1 N _ 9 (by decide) h0 hN5 rfl) $$ [HB1 HO]
  · isplitl [HB1]; · iexact HB1
    iexact HO
  iintro ⟨HB1, HO⟩
  iapply (wait_one c 𝒱 bd _ arg14 1 N _ 10 (by decide) h0 hN4 rfl) $$ [HB1 HO]
  · isplitl [HB1]; · iexact HB1
    iexact HO
  iintro ⟨HB1, HO⟩
  iapply (wait_one c 𝒱 bd _ arg14 1 N _ 11 (by decide) h0 hN5 rfl) $$ [HB1 HO]
  · isplitl [HB1]; · iexact HB1
    iexact HO
  iintro ⟨HB1, HO⟩
  iapply (wait_one c 𝒱 bd _ arg14 1 N _ 12 (by decide) h0 hN4 rfl) $$ [HB1 HO]
  · isplitl [HB1]; · iexact HB1
    iexact HO
  iintro ⟨HB1, HO⟩
  iapply (wait_one c 𝒱 bd _ arg14 1 N _ 13 (by decide) h0 hN5 rfl) $$ [HB1 HO]
  · isplitl [HB1]; · iexact HB1
    iexact HO
  iintro ⟨HB1, HO⟩
  iapply (wait_one c 𝒱 bd _ arg14 1 N _ 14 (by decide) h0 hN4 rfl) $$ [HB1 HO]
  · isplitl [HB1]; · iexact HB1
    iexact HO
  iintro ⟨HB1, HO⟩
  iapply (wait_one c 𝒱 bd _ arg14 1 N _ 15 (by decide) h0 hN5 rfl) $$ [HB1 HO]
  · isplitl [HB1]; · iexact HB1
    iexact HO
  iintro ⟨HB1, HO⟩
  iapply (wait_one c 𝒱 bd _ arg14 1 N _ 16 (by decide) h0 hN4 rfl) $$ [HB1 HO]
  · isplitl [HB1]; · iexact HB1
    iexact HO
  iintro ⟨HB1, HO⟩
  iapply (wait_one c 𝒱 bd _ arg14 1 N _ 17 (by decide) h0 hN5 rfl) $$ [HB1 HO]
  · isplitl [HB1]; · iexact HB1
    iexact HO
  iintro ⟨HB1, HO⟩
  iapply (wait_one c 𝒱 bd _ arg14 1 N _ 18 (by decide) h0 hN4 rfl) $$ [HB1 HO]
  · isplitl [HB1]; · iexact HB1
    iexact HO
  iintro ⟨HB1, HO⟩
  iapply (wait_one c 𝒱 bd _ arg14 1 N _ 19 (by decide) h0 hN5 rfl) $$ [HB1 HO]
  · isplitl [HB1]; · iexact HB1
    iexact HO
  iintro ⟨HB1, HO⟩
  iapply (wait_one c 𝒱 bd _ arg14 1 N _ 20 (by decide) h0 hN4 rfl) $$ [HB1 HO]
  · isplitl [HB1]; · iexact HB1
    iexact HO
  iintro ⟨HB1, HO⟩
  iapply (wait_last c 𝒱 bd _ arg14 1 N _ h0 hN5 rfl) $$ [HB1 HO]
  · isplitl [HB1]; · iexact HB1
    iexact HO
  iintro ⟨HB1, HS1, HO⟩
  ihave HT := (take_all c arg11 arg4 (outv (Ev g1 g2) (Iv (Ev g1 g2)) (Wv g3)) arg12 arg5 (Ev g1 g2) T 31 1) $$ [H4 H111 H5 H121 HB1]
  · isplitl [H4 H111]
    · isplitl [H4]; · iexact H4
      iexact H111
    isplitl [H5 H121]
    · isplitl [H5]; · iexact H5
      iexact H121
    iexact HB1
  icases HT with ⟨⟨H4, H111⟩, ⟨H5, H121⟩⟩
  ihave H4 := (own_set_eq dstAcc_full) $$ H4
  ihave H5 := (own_set_eq dstAcc_full) $$ H5
  ihave H11 := (slab_join c arg11) $$ [H110 H111]
  · isplitl [H110]; · iexact H110
    iexact H111
  ihave H12 := (slab_join c arg12) $$ [H120 H121]
  · isplitl [H120]; · iexact H120
    iexact H121
  rw [ret_bind', wp_pure]; imodintro
  isplitl [H0 H1 H2 H3]
  · isplitl [H0]; · iexact H0
    isplitl [H1]; · iexact H1
    isplitl [H2]; · iexact H2
    iexact H3
  isplitl [H4]; · iexact H4
  isplitl [H5]; · iexact H5
  isplitr [HO]
  swap; · iexact HO
  isplitl [H6]; · iexists _; iexact H6
  isplitl [H7]; · iexists _; iexact H7
  isplitl [H8]; · iexact H8
  isplitl [H9]; · iexact H9
  isplitl [H10]; · iexists _; iexact H10
  isplitl [H11]; · iexact H11
  isplitl [H12]; · iexact H12
  isplitl [HR]
  · iapply (Entails.of_eq (BI.bigSep_congr fun v _ => ?_)) $$ HR
    rw [if_pos v.isLt]
  isplitl [HS0]; · iexact HS0
  iexact HS1

end Cert.Proof.KernelIdeal
-- ==== Proof.Ideal.Launch.lean ====
/-
  The launch: what the region holds on entry and gives back, the body's obligation, and the run of the whole program with
  the results' contents named.
-/
module

public import proofs.«01_k».proof.Proof.Ideal.Body
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffixV

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-! ## The values -/

/-- The tokens' ids. -/
def ids (c : Dev nD) : S1x8192.Idx → BitVec 32 := m ((c : Thread nD τ).loc main_arg0)
/-- The table's codes. -/
def codes (c : Dev nD) : S1408x7936.Idx → BitVec 8 := m ((c : Thread nD τ).loc main_arg1)
/-- The table's scales. -/
def scales (c : Dev nD) : S7936.Idx → EReal := m ((c : Thread nD τ).loc main_arg2)
/-- The norm's weights. -/
def weights (c : Dev nD) : S1408.Idx → EReal := m ((c : Thread nD τ).loc main_arg3)
/-- The tokens' ids, by position. -/
def Tok (c : Dev nD) (t : ℕ) : ℕ := if h : t < 8192 then (ids m c (ix2 0 ⟨t, h⟩)).toNat else 0
/-- The embeddings the kernel produces. -/
def embV (c : Dev nD) : S8192x1408.Idx → EReal := fin (Ev (codes m c) (scales m c)) (Tok m c)
/-- The normalised embeddings the kernel produces. -/
def outV (c : Dev nD) : S8192x1408.Idx → EReal :=
  fin (outv (Ev (codes m c) (scales m c)) (Iv (Ev (codes m c) (scales m c))) (Wv (weights m c))) (Tok m c)
/-- Every token's id is a row of the table. -/
def IdsIn : Prop := ∀ (c : Dev nD) (t : Fin 8192), (ids m c (ix2 0 t)).toNat < 7936

/-- The launch's ids are as the body needs them. -/
theorem idsOk (h : IdsIn m) (c : Dev nD) : IdsOk (Tok m c) (ids m c) := fun t => by
  have e : Tok m c t = (ids m c (ix2 0 t)).toNat := by unfold Tok; rw [dif_pos t.isLt]
  rw [e]; exact ⟨rfl, h c t⟩

/-- The region's buffers after it: the two results hold what the kernel produces. -/
def G (c : Dev nD) (b : Ref sig .tc) : Buf (Elt Ideal) ((c.tc : Thread nD τ).loc b) :=
  Function.update (β := fun b : Ref sig .tc => Buf (Elt Ideal) ((c.tc : Thread nD τ).loc b))
    (Function.update (β := fun b : Ref sig .tc => Buf (Elt Ideal) ((c.tc : Thread nD τ).loc b)) (V m c) main_v0_0 (outV m c)) main_v0_1 (embV m c) b
/-- The first result's contents after the region. -/
theorem G_0 (c : Dev nD) : G m c main_v0_0 = outV m c := by
  unfold G
  rw [Function.update_of_ne (by decide : main_v0_0 ≠ main_v0_1), Function.update_self]
/-- The second result's contents after the region. -/
theorem G_1 (c : Dev nD) : G m c main_v0_1 = embV m c := by
  unfold G
  rw [Function.update_self]

/-! ## What the region holds -/

/-- The body's own semaphores: the 31 incoming transfers' and the two slots'. -/
def osem0 : Fin 31 ⊕ Fin 2 → SemLoc sig :=
  Sum.elim (fun v => SemLoc.dma ⟨3 + v.val, by have := v.isLt; show 3 + v.val < 36; omega⟩) (fun s => SemLoc.dma ⟨34 + s.val, by have := s.isLt; show 34 + s.val < 36; omega⟩)
/-- The body's own semaphores are distinct and none is the region's. -/
theorem ownSemFacts0 : Pipeline.OwnSemFacts spec0 osem0 := by decide
/-- An incoming transfer's semaphore is one of the body's own. -/
theorem cell7 (v : Fin 31) : SemLoc.dma (cellI cc0_scratch7 v) = osem0 (.inl v) := by
  revert v; decide
/-- A slot's semaphore is one of the body's own. -/
theorem cell8 (s : Fin 2) : SemLoc.dma (cellO cc0_scratch8 s) = osem0 (.inr s) := by
  revert s; decide

/-- The buffer the body reads by its own transfers. -/
def H0 : Finset (Ref sig .tc) := {main_arg1}
/-- The buffers it writes by its own transfers. -/
def R0 : Finset (Ref sig .tc) := {main_v0_0, main_v0_1}
/-- The codes' buffer is outside the region's windows. -/
theorem H0_sub : H0 ⊆ Pipeline.restRefs sig spec0 := by decide
/-- The results' buffers are outside the region's windows and are not read. -/
theorem R0_sub : R0 ⊆ Pipeline.restRefs sig spec0 \ H0 := by decide

/-- A whole buffer at given contents, as the body's description of it. -/
theorem own_in (c : Dev nD) (b : Ref sig .tc) (f : b.ty.Contents (Elt Ideal)) :
    (((c : Thread nD τ).loc b) ↦{fullShare} f : sProp 𝕄) ⊢ own (Val := Elt Ideal) (c : Thread nD τ) (Memref.whole b) Finset.univ fullShare f := by
  rw [← owns_whole]
  unfold owns
  iintro ⟨%g, %hg, H⟩
  ihave H := (own_of_pointsTo (Val := Elt Ideal) (U := Pipeline.UD sig nD τ) (c := (c : Thread nD τ)) (m := Memref.whole b) g) $$ H
  ihave H := (own_congr (g' := f) (fun i _ => congrFun hg i)) $$ H
  iexact H
/-- The body's description of a whole buffer, as the buffer at those contents. -/
theorem own_back (c : Dev nD) (b : Ref sig .tc) (f : b.ty.Contents (Elt Ideal)) :
    own (Val := Elt Ideal) (c : Thread nD τ) (Memref.whole b) Finset.univ fullShare f ⊢ (((c : Thread nD τ).loc b) ↦{fullShare} f : sProp 𝕄) := by
  rw [← owns_whole]
  exact pointsTo_of_own
/-- A whole buffer at some contents, as the body's description of it. -/
theorem own_in' (c : Dev nD) (b : Ref sig .tc) :
    ((∃ f : Buf (Elt Ideal) ((c : Thread nD τ).loc b), ((c : Thread nD τ).loc b) ↦{fullShare} f) : sProp 𝕄) ⊢ (∃ g, own (Val := Elt Ideal) (c : Thread nD τ) (Memref.whole b) Finset.univ fullShare g) := by
  iintro ⟨%f, H⟩
  iexists f
  iapply (own_in c b f) $$ H
/-- The body's description of a whole buffer at some contents, as the buffer. -/
theorem own_back' (c : Dev nD) (b : Ref sig .tc) :
    (∃ g, own (Val := Elt Ideal) (c : Thread nD τ) (Memref.whole b) Finset.univ fullShare g) ⊢ ((∃ f : Buf (Elt Ideal) ((c : Thread nD τ).loc b), ((c : Thread nD τ).loc b) ↦{fullShare} f) : sProp 𝕄) := by
  iintro ⟨%f, H⟩
  iexists f
  iapply (own_back c b f) $$ H
/-- A window's staging buffer, as the body's description of it. -/
theorem own_of_owns {sp : Space} {S : Shape} {e : EltTy} (c : Dev nD) (r : Memref sig .tc sp S e) (f : S.Idx → Elt Ideal e) :
    (owns (c : Thread nD τ) r fullShare f : sProp 𝕄) ⊢ own (Val := Elt Ideal) (c : Thread nD τ) r Finset.univ fullShare f := by
  unfold owns
  iintro ⟨%g, %hg, H⟩
  ihave H := (own_of_pointsTo (Val := Elt Ideal) (U := Pipeline.UD sig nD τ) (c := (c : Thread nD τ)) (m := r) g) $$ H
  ihave H := (own_congr (g' := f) (fun i _ => congrFun hg i)) $$ H
  iexact H
/-- The body's description of a window's staging buffer, as the buffer. -/
theorem owns_of_own {sp : Space} {S : Shape} {e : EltTy} (c : Dev nD) (r : Memref sig .tc sp S e) (f : S.Idx → Elt Ideal e) :
    own (Val := Elt Ideal) (c : Thread nD τ) r Finset.univ fullShare f ⊢ (owns (c : Thread nD τ) r fullShare f : sProp 𝕄) := pointsTo_of_own

/-- The body's own semaphores at zero are the 31 incoming ones and the two slots'. -/
theorem sems_eq (c : Dev nD) :
    (Pipeline.ownSems0 (Ix := Unit) (Name := ℕ) (U := Pipeline.UD sig nD τ) (Lvl := ℕ) (Val := Elt Ideal) (τ := τ) osem0 c : sProp 𝕄)
      = iprop(bigSep Finset.univ (Rest c cc0_scratch7) ∗ semVal ((c : Thread nD τ), SemLoc.dma (cellO cc0_scratch8 0)) 0 ∗ semVal ((c : Thread nD τ), SemLoc.dma (cellO cc0_scratch8 1)) 0) := by
  unfold Pipeline.ownSems0
  have hu : (Finset.univ : Finset (Fin 31 ⊕ Fin 2)) = Finset.univ.map Function.Embedding.inl ∪ Finset.univ.map Function.Embedding.inr := by decide
  rw [hu, BI.bigSep_union (Finset.disjoint_map_inl_map_inr _ _), BI.bigSep_map, BI.bigSep_map, BI.bigSep_eq_bigSepL_of_eq (S := (Finset.univ : Finset (Fin 2))) [0, 1] (by decide) (by decide)]
  simp only [bigSepL_cons_sep, BI.bigSepL_nil]
  rw [cell8, cell8, show (Rest c cc0_scratch7 : Fin 31 → sProp 𝕄) = fun v => semVal ((c : Thread nD τ), osem0 (.inl v)) 0 from funext fun v => by unfold Rest; rw [cell7]]
  refine congrArg (fun X => iprop(_ ∗ X)) ?_
  refine congrArg (fun X => iprop(_ ∗ X)) ?_
  exact equiv_iff.mp sep_emp

/-- The scratch buffers and semaphores of the launch. -/
abbrev ScrW (c : Dev nD) : sProp 𝕄 :=
  Scr c (Memref.whole cc0_scratch0) (Memref.whole cc0_scratch1) (Memref.whole cc0_scratch2) (Memref.whole cc0_scratch3) (Memref.whole cc0_scratch4) (Memref.whole cc0_scratch5) (Memref.whole cc0_scratch6) cc0_scratch7 cc0_scratch8

/-- What the region sets aside for the body is its scratch. -/
theorem scr_in (c : Dev nD) :
    (iprop(Pipeline.scopedRest (Ix := Unit) (Name := ℕ) (U := Pipeline.UD sig nD τ) (Lvl := ℕ) (Val := Elt Ideal) spec0 c
      ∗ Pipeline.ownSems0 (Ix := Unit) (Name := ℕ) (U := Pipeline.UD sig nD τ) (Lvl := ℕ) (Val := Elt Ideal) (τ := τ) osem0 c) : sProp 𝕄) ⊢ ScrW c := by
  rw [sems_eq, scopedRest0_eq]
  unfold ScrW Scr
  iintro ⟨⟨H0, H1, H2, H3, H4, H5, H6⟩, HR⟩
  isplitl [H0]; · iapply (own_in' c cc0_scratch0) $$ H0
  isplitl [H1]; · iapply (own_in' c cc0_scratch1) $$ H1
  isplitl [H2]; · iapply (own_in' c cc0_scratch2) $$ H2
  isplitl [H3]; · iapply (own_in' c cc0_scratch3) $$ H3
  isplitl [H4]; · iapply (own_in' c cc0_scratch4) $$ H4
  isplitl [H5]; · iapply (own_in' c cc0_scratch5) $$ H5
  isplitl [H6]; · iapply (own_in' c cc0_scratch6) $$ H6
  iexact HR
/-- The body's scratch is what the region set aside. -/
theorem scr_out (c : Dev nD) :
    ScrW c ⊢ (iprop(Pipeline.scopedRest (Ix := Unit) (Name := ℕ) (U := Pipeline.UD sig nD τ) (Lvl := ℕ) (Val := Elt Ideal) spec0 c
      ∗ Pipeline.ownSems0 (Ix := Unit) (Name := ℕ) (U := Pipeline.UD sig nD τ) (Lvl := ℕ) (Val := Elt Ideal) (τ := τ) osem0 c) : sProp 𝕄) := by
  rw [sems_eq, scopedRest0_eq]
  unfold ScrW Scr
  iintro ⟨H0, H1, H2, H3, H4, H5, H6, HR⟩
  isplitr [HR]
  swap; · iexact HR
  isplitl [H0]; · iapply (own_back' c cc0_scratch0) $$ H0
  isplitl [H1]; · iapply (own_back' c cc0_scratch1) $$ H1
  isplitl [H2]; · iapply (own_back' c cc0_scratch2) $$ H2
  isplitl [H3]; · iapply (own_back' c cc0_scratch3) $$ H3
  isplitl [H4]; · iapply (own_back' c cc0_scratch4) $$ H4
  isplitl [H5]; · iapply (own_back' c cc0_scratch5) $$ H5
  iapply (own_back' c cc0_scratch6) $$ H6

/-! ## The proof data -/

/-- Input window 0's staging buffer holds its block. -/
theorem before0 {c : Dev nD} (dat : Dat τ (Elt Ideal) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block. -/
theorem before1 {c : Dev nD} (dat : Dat τ (Elt Ideal) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block. -/
theorem before2 {c : Dev nD} (dat : Dat τ (Elt Ideal) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The ids' block is all ids. -/
theorem iblk0 (c : Dev nD) (t : Fin cfg0.N) : iblk m c 0 t = ids m c := by
  funext j; show V m c main_arg0 (((cfg0.win 0).blk t).view.emb j) = V m c main_arg0 j
  refine congrArg (V m c main_arg0) ?_
  funext a; apply Fin.ext
  match a with
  | ⟨0, _⟩ => show 0 * 1 + 1 * (j 0).val = (j 0).val; omega
  | ⟨1, _⟩ => show 0 * 8192 + 1 * (j 1).val = (j 1).val; omega
/-- The scales' block is all scales. -/
theorem iblk1 (c : Dev nD) (t : Fin cfg0.N) : iblk m c 1 t = scales m c := by
  funext j; show V m c main_arg2 (((cfg0.win 1).blk t).view.emb j) = V m c main_arg2 j
  refine congrArg (V m c main_arg2) ?_
  funext a; apply Fin.ext
  match a with
  | ⟨0, _⟩ => show 0 * 7936 + 1 * (j 0).val = (j 0).val; omega
/-- The weights' block is all weights. -/
theorem iblk2 (c : Dev nD) (t : Fin cfg0.N) : iblk m c 2 t = weights m c := by
  funext j; show V m c main_arg3 (((cfg0.win 2).blk t).view.emb j) = V m c main_arg3 j
  refine congrArg (V m c main_arg3) ?_
  funext a; apply Fin.ext
  match a with
  | ⟨0, _⟩ => show 0 * 1408 + 1 * (j 0).val = (j 0).val; omega
/-- The proof data: the inputs' blocks stay, the results go from what the region finds to what the kernel produces. -/
def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := Pipeline.ΦDRV osem0 spec0 H0 R0 (V m) (if t.val = 0 then V m else G m) c
  q _ := fullShare
  owed _ := 0

/-- A window's array is as the region finds it. -/
theorem A_eq (c : Dev nD) (w : Fin cfg0.W) : (dats m 0 c).A w = V m c (Pipeline.arrRef spec0 w) := by
  dsimp only [dats]
/-- The ids' block stays. -/
theorem after0_eq (c : Dev nD) (t : Fin cfg0.N) : (dats m 0 c).after 0 t = iblk m c 0 t := by dsimp only [dats]
/-- The scales' block stays. -/
theorem after1_eq (c : Dev nD) (t : Fin cfg0.N) : (dats m 0 c).after 1 t = iblk m c 1 t := by dsimp only [dats]
/-- The weights' block stays. -/
theorem after2_eq (c : Dev nD) (t : Fin cfg0.N) : (dats m 0 c).after 2 t = iblk m c 2 t := by dsimp only [dats]

/-- What the body finds. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d)))
/-- What the body leaves. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t))

/-- The buffers the body reads by its transfers: the codes. -/
theorem hPts (c : Dev nD) : (bigSep H0 (fun b => ((c.tc : Thread nD τ).loc b) ↦{fullShare} V m c b) : sProp 𝕄) = (((c : Thread nD τ).loc main_arg1) ↦{fullShare} V m c main_arg1) := by
  unfold H0; rw [BI.bigSep_singleton]
/-- The buffers the body writes by its transfers: the two results. -/
theorem rPts (c : Dev nD) (X : (c : Dev nD) → (b : Ref sig .tc) → Buf (Elt Ideal) ((c.tc : Thread nD τ).loc b)) :
    (bigSep R0 (fun b => ((c.tc : Thread nD τ).loc b) ↦{fullShare} X c b) : sProp 𝕄)
      = iprop((((c : Thread nD τ).loc main_v0_0) ↦{fullShare} X c main_v0_0) ∗ (((c : Thread nD τ).loc main_v0_1) ↦{fullShare} X c main_v0_1)) := by
  rw [BI.bigSep_eq_bigSepL_of_eq [main_v0_0, main_v0_1] (by decide) (by decide)]; rfl

set_option maxHeartbeats 4000000 in
/-- The body takes what the region holds to what it gives back. -/
theorem sound_body (hm : IdsIn m) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [after0_eq, after1_eq, after2_eq, before0 m (dats m 0 c) (A_eq m c 0) (after0_eq m c), before1 m (dats m 0 c) (A_eq m c 1) (after1_eq m c), before2 m (dats m 0 c) (A_eq m c 2) (after2_eq m c)]
  rw [iblk0, iblk1, iblk2]
  rw [show (dats m 0 c).Φ t.castSucc = Pipeline.ΦDRV osem0 spec0 H0 R0 (V m) (V m) c from by
      rw [fin_N0 t]; dsimp only [dats]; rfl,
    show (dats m 0 c).Φ t.succ = Pipeline.ΦDRV osem0 spec0 H0 R0 (V m) (G m) c from by
      rw [fin_N0 t]; dsimp only [dats]; rfl]
  unfold Pipeline.ΦDRV Dat.owesAt Pipeline.owesWithin
  rw [show (dats m 0 c).owed t.castSucc = 0 from rfl, show (dats m 0 c).owed t.succ = 0 from rfl]
  rw [hPts, rPts, rPts, G_0, G_1]
  rw [cc0__body_eq_skeleton]
  iintro ⟨⟨HS, HQ, H1, H4, H5⟩, ⟨%W, -, HO⟩, ⟨%d0, H0⟩, ⟨%d1, H2⟩, ⟨%d2, H3⟩⟩
  ihave HS := (scr_in c) $$ [HS HQ]
  · isplitl [HS]; · iexact HS
    iexact HQ
  ihave H0 := (own_of_owns c _ _) $$ H0
  ihave H2 := (own_of_owns c _ _) $$ H2
  ihave H3 := (own_of_owns c _ _) $$ H3
  ihave H1 := (own_in c main_arg1 _) $$ H1
  ihave H4 := (own_in c main_v0_0 _) $$ H4
  ihave H5 := (own_in c main_v0_1 _) $$ H5
  ihave HW := (body_wp (win0_0.stage (cfg0.slots t 0)) (hstage0_0 0) (Memref.whole main_arg1) (Memref.isWhole_whole _) (win0_1.stage (cfg0.slots t 1)) (hstage0_1 0) (win0_2.stage (cfg0.slots t 2)) (hstage0_2 0) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c Variants.none none _ (sig.dmaCredit_pos _ _ _ _ _ (by decide)) rfl _ (sig.dmaCredit_pos _ _ _ _ _ (by decide)) rfl rfl (Tok m c) fullShare fullShare fullShare (ids m c) (codes m c) (scales m c) (weights m c) (idsOk m hm c)) $$ [H0 H1 H2 H3 H4 H5 HS HO]
  · unfold Ins
    isplitl [H0 H1 H2 H3]
    · isplitl [H0]; · iexact H0
      isplitl [H1]; · iexact H1
      isplitl [H2]; · iexact H2
      iexact H3
    isplitl [H4]; · iexists _; iexact H4
    isplitl [H5]; · iexists _; iexact H5
    isplitl [HS]; · iexact HS
    iexists W; iexact HO
  · iapply (wp_mono _ ?_) $$ HW
    intro _
    unfold Ins
    iintro ⟨⟨H0, H1, H2, H3⟩, H4, H5, HS, ⟨%W', HO⟩⟩
    ihave HS := (scr_out c) $$ HS
    icases HS with ⟨HS, HQ⟩
    isplitl [HS HQ H1 H4 H5]
    · isplitl [HS]; · iexact HS
      isplitl [HQ]; · iexact HQ
      isplitl [H1]; · iapply (own_back c main_arg1 _) $$ H1
      isplitl [H4]; · iapply (own_back c main_v0_0 _) $$ H4
      iapply (own_back c main_v0_1 _) $$ H5
    isplitl [HO]
    · iexists W'; isplitr; · ipureintro; exact fun _ _ => Or.inl trivial
      iexact HO
    isplitl [H0]; · iapply (owns_of_own c _ _) $$ H0
    isplitl [H2]; · iapply (owns_of_own c _ _) $$ H2
    iapply (owns_of_own c _ _) $$ H3

end Cert.Proof.KernelIdeal
-- ==== Proof.Ideal.Run.lean ====
/-
  The run of the whole program: it ends with the arguments unchanged, the results what the kernel produces, and every
  semaphore at zero.
-/
module

public import proofs.«01_k».proof.Proof.Ideal.Launch
public import Idealize.ShloMosaic.Lib.Pointwise

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The region's body at a grid point is the kernel's body. -/
theorem defs₀_row (t : Fin cfg0.N) :
    defs₀ (F := Ideal) .tc cfg0.body (cfg0.bodyArgs t (cfg0.slots t)) = bodyAt0 t := by
  unfold defs₀; rw [Defs.onTc_tc]

/-- The body does what the region's proof data asks of it. -/
theorem body_obligation (hm : IdsIn m) (c : Dev nD) : BodyObligation (dats m 0 c) (defs₀ (F := Ideal)) Variants.none () Set.univ := fun t => by
  rw [bigSep_W0, bigSep_W0, defs₀_row]
  exact triple_restated (sound_body m hm c t) rfl .rfl fun _ => .rfl

/-- The program is the region followed by the two reshapes. -/
theorem hmainD : Pipeline.HMainK (Ix := Unit) (Name := ℕ) (U := Pipeline.UD sig nD τ) (Lvl := ℕ) cfgs 0 defs₀ Variants.none m (main (F := Ideal)) (V m)
      (fun _ => Pipeline.chain ([hostOps1].map StableHlo.seq)) :=
  Pipeline.hmain_around cfgs 0 defs₀ Variants.none m main [] [hostOps1] (by simp only [List.Forall])
    (by simp only [List.Forall]) main_chain

/-- The buffers after the region, as a valuation. -/
abbrev VG (c : Dev nD) : Valuation τ sig (Elt Ideal) :=
  Pipeline.withArrays spec0 c (Pipeline.withR (V0 m c) R0 c (G m c)) fun w => (dats m 0 c).arrAt w cfg0.N

/-- The first result after the region. -/
theorem VG_0 (c : Dev nD) : VG m c (Proc.devRef .tc main_v0_0) = outV m c := by
  unfold VG
  rw [Pipeline.withArrays_of_ne _ c _ _ main_v0_0 (by exact (by decide : ∀ w, Pipeline.arrRef spec0 w ≠ main_v0_0)), Pipeline.withR_of_mem _ _ _ _ _ (by decide)]
  exact G_0 m c
/-- The second result after the region. -/
theorem VG_1 (c : Dev nD) : VG m c (Proc.devRef .tc main_v0_1) = embV m c := by
  unfold VG
  rw [Pipeline.withArrays_of_ne _ c _ _ main_v0_1 (by exact (by decide : ∀ w, Pipeline.arrRef spec0 w ≠ main_v0_1)), Pipeline.withR_of_mem _ _ _ _ _ (by decide)]
  exact G_1 m c
/-- The codes after the region. -/
theorem VG_arg1 (c : Dev nD) : VG m c (Proc.devRef .tc main_arg1) = m ((c : Thread nD τ).loc main_arg1) := by
  unfold VG
  rw [Pipeline.withArrays_of_ne _ c _ _ main_arg1 (by exact (by decide : ∀ w, Pipeline.arrRef spec0 w ≠ main_arg1)), Pipeline.withR_of_not_mem _ _ _ _ _ (by decide)]
  rfl

set_option backward.isDefEq.respectTransparency.types false in
/-- The run, read at every buffer outside the region. -/
theorem run_main (hm : IdsIn m) : θ_run defs (onTc (τ := τ) (main (F := Ideal))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = StableHlo.after [hostOps1].flatten (VG m c) (Proc.devRef .tc b))
    ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m hm c).loose) (hshare := fun c => (dats m 0 c).share_full fun _ => rfl)
    (howed := fun _ _ => rfl) (V₀ := V0 m) (opss := [hostOps1]) (hsub := sfx_sub) (hfresh := sfx_fresh) (hkeep := sfx_keeps) (G := G m) (hmain := hmainD m) (hA := A_eq m)
    (hin := fun _ => .rfl) (hout := fun _ => .rfl) (hQ' := fun _ h => h)

/-- A result, as the reshape leaves it. -/
def lift3 (g : S8192x1408.Idx → EReal) : S1x8192x1408.Idx → EReal := fun i => g (ix2 (i 1) (i 2))

/-- The reshape puts one axis of length one in front. -/
theorem cast_lift (g : S8192x1408.Idx → EReal) (h : S8192x1408.ShapeCasts S1x8192x1408) : shapeCast (α := EReal) S1x8192x1408 g h = lift3 g := by
  funext i
  rw [eq_ix3 i]
  unfold lift3
  pointwise

/-- The first result after the reshapes. -/
theorem after_v1 (c : Dev nD) : StableHlo.after [hostOps1].flatten (VG m c) (Proc.devRef .tc main_v1) = lift3 (outV m c) := by
  show StableHlo.after hostOps1 (VG m c) (Proc.devRef .tc main_v1) = _
  rw [StableHlo.after_cons, StableHlo.after_cons, StableHlo.after_nil]
  refine (StableHlo.reshape_result_ne main_v0_1 main_v2 _ _ _ _ _ (r := main_v1) (by decide)).trans ?_
  refine (StableHlo.reshape_result main_v0_0 main_v1 _ _ _ _ _).trans ?_
  rw [VG_0]
  exact cast_lift _ _
/-- The second result after the reshapes. -/
theorem after_v2 (c : Dev nD) : StableHlo.after [hostOps1].flatten (VG m c) (Proc.devRef .tc main_v2) = lift3 (embV m c) := by
  show StableHlo.after hostOps1 (VG m c) (Proc.devRef .tc main_v2) = _
  rw [StableHlo.after_cons, StableHlo.after_cons, StableHlo.after_nil]
  refine (StableHlo.reshape_result main_v0_1 main_v2 _ _ _ _ _).trans ?_
  refine Eq.trans ?_ (cast_lift (embV m c) shapeCasts_S8192x1408_S1x8192x1408)
  refine congrArg (fun x => shapeCast S1x8192x1408 x shapeCasts_S8192x1408_S1x8192x1408) ?_
  exact (StableHlo.reshape_result_ne main_v0_0 main_v1 _ _ _ _ _ (r := main_v0_1) (by decide)).trans (VG_1 m c)
/-- The reshapes leave the codes unchanged. -/
theorem after_arg1 (c : Dev nD) : StableHlo.after [hostOps1].flatten (VG m c) (Proc.devRef .tc main_arg1) = m ((c : Thread nD τ).loc main_arg1) := by
  show StableHlo.after hostOps1 (VG m c) (Proc.devRef .tc main_arg1) = _
  rw [StableHlo.after_cons, StableHlo.after_cons, StableHlo.after_nil]
  exact (StableHlo.reshape_result_ne main_v0_1 main_v2 _ _ _ _ _ (r := main_arg1) (by decide)).trans ((StableHlo.reshape_result_ne main_v0_0 main_v1 _ _ _ _ _ (r := main_arg1) (by decide)).trans (VG_arg1 m c))

/-- The run, with the results' values. -/
theorem run_vals (hm : IdsIn m) : θ_run defs (onTc (τ := τ) (main (F := Ideal))) ⟨m, fun _ => 0, ρ⟩ (fun r =>
    (∀ c : Dev nD, r.2.mem ((c.tc : Thread nD τ).loc main_v1) = lift3 (outV m c)
      ∧ r.2.mem ((c.tc : Thread nD τ).loc main_v2) = lift3 (embV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c =>
    ⟨((h.1 c).2 main_v1 (Pipeline.mem_restRefs_of main_v1 (by decide) (by decide))).trans (after_v1 m c),
     ((h.1 c).2 main_v2 (Pipeline.mem_restRefs_of main_v2 (by decide) (by decide))).trans (after_v2 m c),
     ((h.1 c).1 0).trans (((dats m 0 c).arrAt_in 0 rfl _).trans ((A_eq m c 0).trans (V_main_arg0 m c))),
     ((h.1 c).2 main_arg1 (Pipeline.mem_restRefs_of main_arg1 (by decide) (by decide))).trans (after_arg1 m c),
     ((h.1 c).1 1).trans (((dats m 0 c).arrAt_in 1 rfl _).trans ((A_eq m c 1).trans (V_main_arg2 m c))),
     ((h.1 c).1 2).trans (((dats m 0 c).arrAt_in 2 rfl _).trans ((A_eq m c 2).trans (V_main_arg3 m c)))⟩, h.2⟩) (run_main m ρ hm)

end Cert.Proof.KernelIdeal
-- ==== Proof.Bits.Open.lean ====
/-
  The kernel's four loop bodies and its body, each opened into one chain of operations.
-/
module

public import proofs.«01_k».proof.Defs
public import proofs.«01_k».proof.Proof.Gen.Kernel
public import proofs.«01_k».proof.Proof.Gen.Kernel.Skeleton
public import Idealize.ShloMosaic.Lib.Tactic.OpenCalls
public meta import Idealize.ShloMosaic.Lib.Tactic.OpenCalls

@[expose] public section

noncomputable section

namespace Cert.Proof.Kernel

open Cert.Kernel
open Idealize.ShloMosaic Idealize.ShloMosaic.TcCoe Idealize.ShloMosaic.Tactic

set_option open_calls.check false in
set_option maxRecDepth 65536 in
set_option maxHeartbeats 400000000 in
open_calls t4o := Gen.k0_t4_body [k0_part9, k0_part10, k0_part11, k0_part12, k0_part13, k0_part14, k0_part15, k0_part16, k0_part17, k0_part18, k0_part19, k0_part20, k0_part21, k0_part22, k0_part23]

set_option open_calls.check false in
set_option maxRecDepth 65536 in
set_option maxHeartbeats 400000000 in
open_calls t2o := Gen.k0_t2_body [k0_part4, k0_part1, k0_part2, k0_part3]

set_option open_calls.check false in
set_option maxRecDepth 65536 in
set_option maxHeartbeats 400000000 in
open_calls t3o := Gen.k0_t3_body [k0_part24, k0_part25, k0_part26, k0_part27]

set_option open_calls.check false in
set_option maxRecDepth 65536 in
set_option maxHeartbeats 400000000 in
open_calls bo := Gen.cc0__body_skel [k0_part28, k0_part29, k0_part30, k0_part31, k0_part32, k0_part33, k0_part34, k0_part35, k0_part36, k0_part37, k0_part38, k0_part39]

end Cert.Proof.Kernel
-- ==== Proof.Bits.Pairs.lean ====
/-
  The inner loop's body, one trip of which copies eight pairs of tokens, cut into its eight pairs.
-/
module

public import proofs.«01_k».proof.Proof.Bits.Open
public import Idealize.ShloMosaic.Lib.Tactic.Stretches
public meta import Idealize.ShloMosaic.Lib.Tactic.Stretches

@[expose] public section

noncomputable section

namespace Cert.Proof.Kernel

open Cert.Kernel
open Idealize.ShloMosaic Idealize.ShloMosaic.TcCoe Idealize.ShloMosaic.Tactic

set_option open_calls.check false in
set_option maxRecDepth 65536 in
set_option maxHeartbeats 400000000 in
cut_chain pr := t4o at 17, 33, 49, 65, 81, 97, 113

end Cert.Proof.Kernel
-- ==== Proof.Bits.Pair.lean ====
/-
  One pair of tokens of the kernel on bits: what its eight programs have in common — the checks every id of the table
  passes, and the rectangles that lie in a staging slot.
-/
module

public import proofs.«01_k».proof.Proof.Bits.Pairs
public import proofs.«01_k».proof.Proof.Own

@[expose] public section

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The ids in scalar memory name columns of the table. -/
def IdsOk (g : S1x8192.Idx → BitVec 32) : Prop := ∀ i, (g i).toNat < 7936

/-- Slot `s` of a staging buffer. -/
def slab (s : Fin 2) : Finset S2x11x272x128.Idx := Finset.univ.filter fun i => (i (0 : Fin 4) : ℕ) = s.val

/-- Eight times an id of the table, as a word. -/
theorem mul8 (v : BitVec 32) (h : v.toNat < 7936) : (v * 8#32).toNat = 8 * v.toNat := by
  rw [BitVec.toNat_mul]; show v.toNat * 8 % 4294967296 = _; omega

/-- The first row of an id's block of the table. -/
theorem off40_eq (v : BitVec 32) (h : v.toNat < 7936) : k0_off40 v = ![8 * v.toNat, 0] := by
  show ![(v * 8#32).toNat, 0] = _
  rw [mul8 v h]

/-- The row of an id in the inverse norms. -/
theorem off41_eq (v : BitVec 32) : k0_off41 v = ![v.toNat, 0] := rfl

/-- What the body assumes of an id holds of every id of the table. -/
theorem chk_of_lt (v : BitVec 32) (h : v.toNat < 7936) : k0_chk1 v := by
  refine ⟨?_, ?_, ?_⟩
  · show 8 ∣ (v * 8#32).toNat
    rw [mul8 v h]; exact ⟨_, rfl⟩
  · rw [off40_eq v h]
    intro a
    match a with
    | 0 => show 8 * v.toNat + 8 ≤ 63488; omega
    | 1 => show 0 + 128 ≤ 128; omega
  · rw [off41_eq]
    intro a
    match a with
    | 0 => right; show v.toNat + 0 * 7 < 7936; omega
    | 1 => right; show 0 + 1 * 127 < 128; omega

/-- A rectangle one slot deep lies in its slot. -/
theorem unit_subset_slab (s : Fin 2) (o : Fin 4 → ℕ) (size : Fin 4 → ℕ) (ho : o 0 = s.val) (h0 : size 0 = 1) (h) :
    (Rect.unit (s := S2x11x272x128) o size h).set ⊆ slab s := by
  intro i hi
  obtain ⟨j, hj, e⟩ := (LoadRect.mem_set _).mp hi (0 : Fin 4)
  have hj' : j < size 0 := hj
  have e' : (i (0 : Fin 4) : ℕ) = o 0 + 1 * j := e
  simp only [slab, Finset.mem_filter, Finset.mem_univ, true_and]
  omega

end Cert.Proof.Kernel
-- ==== Proof.Bits.Out.lean ====
/-
  The transfers of a block's rows from a slot of the two staging buffers to the two results: one transfer of 256 rows by
  128 columns for each chunk and each result, all on the slot's semaphore, issued together and awaited together.
-/
module

public import proofs.«01_k».proof.Proof.Bits.Pair
public import Idealize.ShloMosaic.Lib.Pointwise

@[expose] public section

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Bits) ℕ (Pipeline.UD sig nD τ) ℕ

/-- The algebra's counters, which the batches of transfers use. -/
abbrev EC : UEmb Counters 𝕄 := countersEmb (U := Pipeline.UD sig nD τ)

/-- The chunk of the model dimension held by row `r` of a staging slot: the even chunks first, then the odd ones. -/
def ch (r : ℕ) : ℕ := if r < 6 then 2 * r else 2 * (r - 6) + 1

/-- The rows of slot `s` the transfers of chunks below `c` leave: the slack rows and the later chunks. -/
def srcRem (s : Fin 2) (c : ℕ) : Finset S2x11x272x128.Idx := Finset.univ.filter fun i => (i (0 : Fin 4) : ℕ) = s.val ∧ (256 ≤ (i (2 : Fin 4) : ℕ) ∨ c ≤ ch (i (1 : Fin 4)))
/-- Those already back: the slack rows and the chunks below `c`. -/
def srcAcc (s : Fin 2) (c : ℕ) : Finset S2x11x272x128.Idx := Finset.univ.filter fun i => (i (0 : Fin 4) : ℕ) = s.val ∧ (256 ≤ (i (2 : Fin 4) : ℕ) ∨ ch (i (1 : Fin 4)) < c)
/-- The rows of chunk `c` in slot `s`. -/
def piece (s : Fin 2) (c : ℕ) : Finset S2x11x272x128.Idx := Finset.univ.filter fun i => (i (0 : Fin 4) : ℕ) = s.val ∧ (i (2 : Fin 4) : ℕ) < 256 ∧ ch (i (1 : Fin 4)) = c
/-- Block `b`'s rows and the later ones, without the chunks below `c` of the block. -/
def dstRem (b c : ℕ) : Finset S8192x1408.Idx := Finset.univ.filter fun i => 256 * b ≤ (i (0 : Fin 2) : ℕ) ∧ (256 * (b + 1) ≤ (i (0 : Fin 2) : ℕ) ∨ c ≤ (i (1 : Fin 2) : ℕ) / 128)
/-- The rows of the blocks before `b`, and the chunks below `c` of block `b`. -/
def dstAcc (b c : ℕ) : Finset S8192x1408.Idx := Finset.univ.filter fun i => (i (0 : Fin 2) : ℕ) < 256 * b ∨ ((i (0 : Fin 2) : ℕ) < 256 * (b + 1) ∧ (i (1 : Fin 2) : ℕ) / 128 < c)
/-- Chunk `c` of block `b`'s rows of a result. -/
def dst (b c : ℕ) : Finset S8192x1408.Idx := Finset.univ.filter fun i => 256 * b ≤ (i (0 : Fin 2) : ℕ) ∧ (i (0 : Fin 2) : ℕ) < 256 * (b + 1) ∧ (i (1 : Fin 2) : ℕ) / 128 = c

/-- What one transfer delivers: the chunk of the result, and the staging rows back. -/
def Dw (c : Dev nD) (ms : Memref sig .tc .vmem S2x11x272x128 .bf16) (md : Memref sig .tc .hbm S8192x1408 .bf16) (b : ℕ) (s : Fin 2) (k : ℕ) : sProp 𝕄 :=
  iprop((∃ g, own (Val := Elt Bits) (c : Thread nD τ) md (dst b k) fullShare g) ∗ ∃ g, own (Val := Elt Bits) (c : Thread nD τ) ms (piece s k) fullShare g)

/-- The block's 22 transfers: chunk by chunk, the result's before the embedding's. -/
def Dt (c : Dev nD) (ms₁ : Memref sig .tc .vmem S2x11x272x128 .bf16) (md₁ : Memref sig .tc .hbm S8192x1408 .bf16)
    (ms₂ : Memref sig .tc .vmem S2x11x272x128 .bf16) (md₂ : Memref sig .tc .hbm S8192x1408 .bf16)  (b : ℕ) (s : Fin 2) (t : Fin 22) : sProp 𝕄 :=
  if t.val % 2 = 0 then Dw c ms₁ md₁ b s (t.val / 2) else Dw c ms₂ md₂ b s (t.val / 2)

instance Dw_storable (c : Dev nD) (ms : Memref sig .tc .vmem S2x11x272x128 .bf16) (md : Memref sig .tc .hbm S8192x1408 .bf16) (b : ℕ) (s : Fin 2) (k : ℕ) :
    Storable (upEmb : UEmb _ 𝕄) (Dw c ms md b s k) := by unfold Dw; infer_instance

instance Dt_storable (c : Dev nD) (ms₁ : Memref sig .tc .vmem S2x11x272x128 .bf16) (md₁ : Memref sig .tc .hbm S8192x1408 .bf16)
    (ms₂ : Memref sig .tc .vmem S2x11x272x128 .bf16) (md₂ : Memref sig .tc .hbm S8192x1408 .bf16)  (b : ℕ) (s : Fin 2) (t : Fin 22) :
    Storable (upEmb : UEmb _ 𝕄) (Dt c ms₁ md₁ ms₂ md₂ b s t) := by unfold Dt; split <;> infer_instance

section Pick
variable (c : Dev nD) (ms₁ : Memref sig .tc .vmem S2x11x272x128 .bf16) (md₁ : Memref sig .tc .hbm S8192x1408 .bf16)
    (ms₂ : Memref sig .tc .vmem S2x11x272x128 .bf16) (md₂ : Memref sig .tc .hbm S8192x1408 .bf16)  (b : ℕ) (s : Fin 2)
/-- An even transfer is the result's. -/
theorem Dt_even (t : Fin 22) (k : ℕ) (h : t.val = 2 * k) : Dt c ms₁ md₁ ms₂ md₂ b s t = Dw c ms₁ md₁ b s k := by
  unfold Dt; rw [if_pos (by omega), show t.val / 2 = k by omega]
/-- An odd transfer is the embedding's. -/
theorem Dt_odd (t : Fin 22) (k : ℕ) (h : t.val = 2 * k + 1) : Dt c ms₁ md₁ ms₂ md₂ b s t = Dw c ms₂ md₂ b s k := by
  unfold Dt; rw [if_neg (by omega), show t.val / 2 = k by omega]
end Pick

/-- The slot's semaphore. -/
def cellO (a : DmaSems sig S2) (s : Fin 2) : DmaSem sig := a.ix (ix1 s)

/-- A slot's semaphore, as the program names it. -/
theorem cellO_eq (a : DmaSems sig S2) (s : Fin 2) (off : Fin 1 → ℕ) (ho : off = ![s.val]) (h : ∀ x, off x + S1.size x ≤ S2.size x) (hq : S1.Squeezes S_) :
    ((a.slice (Rect.unit (s := S2) off S1.size h)).squeeze S_ hq).sem = cellO a s := by
  subst ho
  show a.ix _ = a.ix _
  congr 1
  funext x
  match x with
  | 0 => exact Fin.ext (by
      show s.val + 1 * _ = s.val
      have : ∀ j : Fin 1, s.val + 1 * j.val = s.val := fun j => by omega
      exact this _)

/-- The row of a staging slot holding chunk `c`. -/
def rowOf (c : ℕ) : ℕ := (c % 2) * 6 + c / 2

/-- The chunk of a row, and back. -/
theorem ch_rowOf {c : ℕ} (hc : c < 11) : ch (rowOf c) = c := by
  unfold ch rowOf; split_ifs <;> omega
/-- The chunk in row `r` of a slot is in row `r`. -/
theorem rowOf_ch {r : ℕ} (hr : r < 11) : rowOf (ch r) = r := by
  unfold ch rowOf; split_ifs <;> omega

/-- The rectangle of a transfer's source. -/
theorem src_set (s : Fin 2) (k : ℕ) (hk : k < 11) (off : Fin 4 → ℕ) (ho : off = ![s.val, rowOf k, 0, 0]) (h) :
    (Rect.unit (s := S2x11x272x128) off S1x1x256x128.size h).set = piece s k := by
  subst ho
  ext i
  simp only [piece, Finset.mem_filter, Finset.mem_univ, true_and]
  have h1 : (i (1 : Fin 4) : ℕ) < 11 := (i (1 : Fin 4)).isLt
  have h3 : (i (3 : Fin 4) : ℕ) < 128 := (i (3 : Fin 4)).isLt
  have hr := ch_rowOf hk
  constructor
  · intro hi
    have q := (Rect.mem_set_unit).mp hi
    have q0 : s.val ≤ (i (0 : Fin 4) : ℕ) ∧ (i (0 : Fin 4) : ℕ) < s.val + 1 := q 0
    have q1 : rowOf k ≤ (i (1 : Fin 4) : ℕ) ∧ (i (1 : Fin 4) : ℕ) < rowOf k + 1 := q 1
    have q2 : 0 ≤ (i (2 : Fin 4) : ℕ) ∧ (i (2 : Fin 4) : ℕ) < 0 + 256 := q 2
    have e1 : (i (1 : Fin 4) : ℕ) = rowOf k := by omega
    refine ⟨by omega, by omega, ?_⟩
    rw [e1, hr]
  · rintro ⟨e0, e2, e1⟩
    have e1' : (i (1 : Fin 4) : ℕ) = rowOf k := by rw [← e1, rowOf_ch h1]
    refine (Rect.mem_set_unit).mpr fun a => ?_
    match a with
    | 0 => show s.val ≤ (i (0 : Fin 4) : ℕ) ∧ (i (0 : Fin 4) : ℕ) < s.val + 1; omega
    | 1 => show rowOf k ≤ (i (1 : Fin 4) : ℕ) ∧ (i (1 : Fin 4) : ℕ) < rowOf k + 1; omega
    | 2 => show 0 ≤ (i (2 : Fin 4) : ℕ) ∧ (i (2 : Fin 4) : ℕ) < 0 + 256; omega
    | 3 => show 0 ≤ (i (3 : Fin 4) : ℕ) ∧ (i (3 : Fin 4) : ℕ) < 0 + 128; omega

/-- The rectangle of a transfer's destination. -/
theorem dst_set (b k : ℕ) (off : Fin 2 → ℕ) (ho : off = ![256 * b, 128 * k]) (h) :
    (Rect.unit (s := S8192x1408) off S256x128.size h).set = dst b k := by
  subst ho
  ext i
  simp only [dst, Finset.mem_filter, Finset.mem_univ, true_and]
  constructor
  · intro hi
    have q := (Rect.mem_set_unit).mp hi
    have q0 : 256 * b ≤ (i (0 : Fin 2) : ℕ) ∧ (i (0 : Fin 2) : ℕ) < 256 * b + 256 := q 0
    have q1 : 128 * k ≤ (i (1 : Fin 2) : ℕ) ∧ (i (1 : Fin 2) : ℕ) < 128 * k + 128 := q 1
    omega
  · rintro ⟨e0, e2, e1⟩
    refine (Rect.mem_set_unit).mpr fun a => ?_
    match a with
    | 0 => show 256 * b ≤ (i (0 : Fin 2) : ℕ) ∧ (i (0 : Fin 2) : ℕ) < 256 * b + 256; omega
    | 1 => show 128 * k ≤ (i (1 : Fin 2) : ℕ) ∧ (i (1 : Fin 2) : ℕ) < 128 * k + 128; omega

/-- Row `k` of a slot is among its rows from `k` on. -/
theorem piece_sub (s : Fin 2) (k : ℕ) : piece s k ⊆ srcRem s k := by
  intro i; simp only [piece, srcRem, Finset.mem_filter, Finset.mem_univ, true_and]; omega
/-- Without row `k`, a slot's rows from `k` on are those from `k + 1` on. -/
theorem srcRem_sdiff (s : Fin 2) (k : ℕ) : srcRem s k \ piece s k = srcRem s (k + 1) := by
  ext i; simp only [piece, srcRem, Finset.mem_sdiff, Finset.mem_filter, Finset.mem_univ, true_and]; omega
/-- The place row `k` goes to is among those not yet sent to. -/
theorem dst_sub (b k : ℕ) : dst b k ⊆ dstRem b k := by
  intro i; simp only [dst, dstRem, Finset.mem_filter, Finset.mem_univ, true_and]; omega
/-- Without row `k`'s place, those not yet sent to are the next row's. -/
theorem dstRem_sdiff (b k : ℕ) : dstRem b k \ dst b k = dstRem b (k + 1) := by
  ext i; simp only [dst, dstRem, Finset.mem_sdiff, Finset.mem_filter, Finset.mem_univ, true_and]; omega
/-- Row `k` of a slot is not among its earlier rows. -/
theorem srcAcc_disj (s : Fin 2) (k : ℕ) : Disjoint (srcAcc s k) (piece s k) := by
  rw [Finset.disjoint_left]; intro i; simp only [piece, srcAcc, Finset.mem_filter, Finset.mem_univ, true_and]; omega
/-- A slot's rows before `k` and row `k` are those before `k + 1`. -/
theorem srcAcc_union (s : Fin 2) (k : ℕ) : srcAcc s k ∪ piece s k = srcAcc s (k + 1) := by
  ext i; simp only [piece, srcAcc, Finset.mem_union, Finset.mem_filter, Finset.mem_univ, true_and]; omega
/-- Row `k`'s place is not among the earlier ones. -/
theorem dstAcc_disj (b k : ℕ) : Disjoint (dstAcc b k) (dst b k) := by
  rw [Finset.disjoint_left]; intro i; simp only [dst, dstAcc, Finset.mem_filter, Finset.mem_univ, true_and]; omega
/-- The places before row `k`'s and row `k`'s are those before row `k + 1`'s. -/
theorem dstAcc_union (b k : ℕ) : dstAcc b k ∪ dst b k = dstAcc b (k + 1) := by
  ext i; simp only [dst, dstAcc, Finset.mem_union, Finset.mem_filter, Finset.mem_univ, true_and]; omega
/-- A slot is its rows from 0 on. -/
theorem slab_eq_srcRem (s : Fin 2) : slab s = srcRem s 0 := by
  ext i; simp only [slab, srcRem, Finset.mem_filter, Finset.mem_univ, true_and]; omega
/-- After its last row a slot has none left, and before its first none behind. -/
theorem srcRem_eq_srcAcc (s : Fin 2) : srcRem s 11 = srcAcc s 0 := by
  ext i
  have h1 : (i (1 : Fin 4) : ℕ) < 11 := (i (1 : Fin 4)).isLt
  have : ch (i (1 : Fin 4)) < 11 := by unfold ch; split_ifs <;> omega
  simp only [srcAcc, srcRem, Finset.mem_filter, Finset.mem_univ, true_and]; omega
/-- A slot's rows before 11 are the slot. -/
theorem srcAcc_eq_slab (s : Fin 2) : srcAcc s 11 = slab s := by
  ext i
  have h1 : (i (1 : Fin 4) : ℕ) < 11 := (i (1 : Fin 4)).isLt
  have : ch (i (1 : Fin 4)) < 11 := by unfold ch; split_ifs <;> omega
  simp only [srcAcc, slab, Finset.mem_filter, Finset.mem_univ, true_and]; omega
/-- What is left after a block's last row is what the next block starts with. -/
theorem dstRem_next (b : ℕ) : dstRem b 11 = dstRem (b + 1) 0 := by
  ext i
  have h1 : (i (1 : Fin 2) : ℕ) < 1408 := (i (1 : Fin 2)).isLt
  simp only [dstRem, Finset.mem_filter, Finset.mem_univ, true_and]; omega
/-- What is done after a block's last row is what the next block starts from. -/
theorem dstAcc_next (b : ℕ) : dstAcc b 11 = dstAcc (b + 1) 0 := by
  ext i
  have h1 : (i (1 : Fin 2) : ℕ) < 1408 := (i (1 : Fin 2)).isLt
  simp only [dstAcc, Finset.mem_filter, Finset.mem_univ, true_and]; omega
/-- Before the first block a result is all to come. -/
theorem dstRem_zero : dstRem 0 0 = Finset.univ := by
  ext i; simp only [dstRem, Finset.mem_filter, Finset.mem_univ, true_and, iff_true]; exact ⟨Nat.zero_le _, Or.inr (Nat.zero_le _)⟩
/-- Before the first block nothing of a result is done. -/
theorem dstAcc_zero : dstAcc 0 0 = ∅ := by
  ext i; simp only [dstAcc, Finset.mem_filter, Finset.mem_univ, true_and, Finset.notMem_empty, iff_false]
  rintro (h | ⟨-, h⟩) <;> exact absurd h (Nat.not_lt_zero _)
/-- After the last block a result is all done. -/
theorem dstAcc_full : dstAcc 32 0 = Finset.univ := by
  ext i
  have h1 : (i (0 : Fin 2) : ℕ) < 8192 := (i (0 : Fin 2)).isLt
  simp only [dstAcc, Finset.mem_filter, Finset.mem_univ, true_and, iff_true]; exact Or.inl h1

/-- One transfer is issued. -/
theorem issue {R : Type} (c : Dev nD) {defs : Defs nD τ sig (Elt Bits) Λ₀} (𝒱 : Variants) (bd : Option 𝒱.V) (Q : R → sProp 𝕄)
    (ms : Memref sig .tc .vmem S2x11x272x128 .bf16) (md : Memref sig .tc .hbm S8192x1408 .bf16) (a : DmaSems sig S2) (b : ℕ) (s : Fin 2) (k : ℕ) (hk : k < 11)
    (N : ℕ) (hN : md.view.ref.dmaCredit S256x128 .bf16 = N) (D : Fin 22 → sProp 𝕄) (j : ℕ) (hj : j < 22) (hD : Dw c ms md b s k ⊢ D ⟨j, hj⟩)
    (gs : S2x11x272x128.Idx → Elt Bits .bf16) (gd : S8192x1408.Idx → Elt Bits .bf16)
    {offs : Fin 4 → ℕ} (hos : offs = ![s.val, rowOf k, 0, 0]) {hs} {offd : Fin 2 → ℕ} (hod : offd = ![256 * b, 128 * k]) {hd} {hq : S1x1x256x128.Squeezes S256x128}
    {os : Fin 1 → ℕ} (ho : os = ![s.val]) {ho'} {hq'} {u1 u2 h1 h2 h3} {κ : PUnit → Prog (TpuEff nD τ sig (Elt Bits) Λ₀ .tc) R} :
    (iprop(own (Val := Elt Bits) (c : Thread nD τ) ms (srcRem s k) fullShare gs ∗ own (Val := Elt Bits) (c : Thread nD τ) md (dstRem b k) fullShare gd
        ∗ Transfers.Batch EC (c : Thread nD τ) (.dma (cellO a s)) () N D j 0) : sProp 𝕄)
    ⊢ iprop((iprop(own (Val := Elt Bits) (c : Thread nD τ) ms (srcRem s (k + 1)) fullShare gs ∗ own (Val := Elt Bits) (c : Thread nD τ) md (dstRem b (k + 1)) fullShare gd
        ∗ Transfers.Batch EC (c : Thread nD τ) (.dma (cellO a s)) () N D (j + 1) 0) -∗ wp frame (wpE defs 𝒱 (c : Thread nD τ) bd) Set.univ (κ ⟨⟩) Q)
      -∗ wp frame (wpE defs 𝒱 (c : Thread nD τ) bd) Set.univ
        (.op (.enqueueDmaAs ((ms.slice (Rect.unit (s := S2x11x272x128) offs S1x1x256x128.size hs) u1).squeeze S256x128 hq)
          (.here (md.slice (Rect.unit (s := S8192x1408) offd S256x128.size hd) u2)) .same (.dma ((a.slice (Rect.unit (s := S2) os S1.size ho')).squeeze S_ hq').sem) h1 h2 h3) κ) Q) := by
  have hsem := cellO_eq a s os ho ho' hq'
  iintro ⟨Hs, Hd, HB⟩ Hk
  ihave H := (own_sub (piece_sub s k)) $$ Hs
  icases H with ⟨Hs, Hs'⟩
  ihave H := (own_sub (dst_sub b k)) $$ Hd
  icases H with ⟨Hd, Hd'⟩
  rw [srcRem_sdiff, dstRem_sdiff, ← hsem]
  iapply (own_dma_out (c := (c : Thread nD τ)) 𝒱 bd EC
    (upd (Rect.unit (s := S8192x1408) offd S256x128.size hd) (fun x => gs ((Rect.unit (s := S2x11x272x128) offs S1x1x256x128.size hs).emb (Shape.reshapeEquiv hq.numel_eq x))) gd)
    (src_set s k hk offs hos hs) (dst_set b k offd hod hd) (fun x => upd_emb _ _ _ x) (by exact hN) hj (Nat.zero_le _) ?_) $$ [Hs Hd HB]
  · refine BIBase.Entails.trans ?_ hD
    unfold Dw
    iintro ⟨Hd, Hs⟩
    isplitl [Hd]; · iexists _; iexact Hd
    iexists gs; iexact Hs
  · isplitl [Hs]; · iexact Hs
    isplitl [Hd]; · iexact Hd
    iexact HB
  iintro HB
  iapply Hk
  isplitl [Hs']; · iexact Hs'
  isplitl [Hd']; · iexact Hd'
  iexact HB

/-- A wait that does not drain the slot's batch. -/
theorem wait_one {R : Type} (c : Dev nD) {defs : Defs nD τ sig (Elt Bits) Λ₀} (𝒱 : Variants) (bd : Option 𝒱.V) (Q : R → sProp 𝕄) (a : DmaSems sig S2) (s : Fin 2)
    (N : ℕ) (D : Fin 22 → sProp 𝕄) (j : ℕ) (hj : j + 1 < 22) (h0 : 0 < N) {sp sp' : Space} {s' : Shape}
    {srcw : Memref sig .tc sp' s' .bf16} {md : Memref sig .tc sp S8192x1408 .bf16} (hN : md.view.ref.dmaCredit S256x128 .bf16 = N) {offd : Fin 2 → ℕ} {hd} {u2}
    {os : Fin 1 → ℕ} (ho : os = ![s.val]) {ho'} {hq'} {h1 h2} {κ : PUnit → Prog (TpuEff nD τ sig (Elt Bits) Λ₀ .tc) R} :
    (iprop(Transfers.Batch EC (c : Thread nD τ) (.dma (cellO a s)) () N D 22 (j * N) ∗ ∃ W, owes (c : Thread nD τ) (0 : CellTallies nD τ sig Unit) W) : sProp 𝕄)
    ⊢ iprop((iprop(Transfers.Batch EC (c : Thread nD τ) (.dma (cellO a s)) () N D 22 ((j + 1) * N) ∗ ∃ W, owes (c : Thread nD τ) (0 : CellTallies nD τ sig Unit) W) -∗ wp frame (wpE defs 𝒱 (c : Thread nD τ) bd) Set.univ (κ ⟨⟩) Q)
      -∗ wp frame (wpE defs 𝒱 (c : Thread nD τ) bd) Set.univ
        (.op (.waitDma2 ((a.slice (Rect.unit (s := S2) os S1.size ho')).squeeze S_ hq').sem srcw (md.slice (Rect.unit (s := S8192x1408) offd S256x128.size hd) u2) h1 h2) κ) Q) := by
  have hsem := cellO_eq a s os ho ho' hq'
  have hu : j * N + N < N * 22 := by
    rw [← Nat.succ_mul, Nat.mul_comm]; exact Nat.mul_lt_mul_of_pos_left hj h0
  iintro ⟨HB, ⟨%W, HO⟩⟩ Hk
  rw [← hsem]
  iapply (Transfers.wp_waitBatch EC 𝒱 (c : Thread nD τ) bd () (N := N) hN (u := j * N) (n := 22) hu) $$ [HB HO]
  · isplitl [HB]; · iexact HB
    iexact HO
  iintro ⟨HB, HO⟩
  iapply Hk
  isplitl [HB]
  · rw [Nat.succ_mul]; iexact HB
  iexists _; iexact HO

/-- The wait that drains the slot's batch. -/
theorem wait_last {R : Type} (c : Dev nD) {defs : Defs nD τ sig (Elt Bits) Λ₀} (𝒱 : Variants) (bd : Option 𝒱.V) (Q : R → sProp 𝕄) (a : DmaSems sig S2) (s : Fin 2)
    (N : ℕ) (D : Fin 22 → sProp 𝕄) (h0 : 0 < N) {sp sp' : Space} {s' : Shape}
    {srcw : Memref sig .tc sp' s' .bf16} {md : Memref sig .tc sp S8192x1408 .bf16} (hN : md.view.ref.dmaCredit S256x128 .bf16 = N) {offd : Fin 2 → ℕ} {hd} {u2}
    {os : Fin 1 → ℕ} (ho : os = ![s.val]) {ho'} {hq'} {h1 h2} {κ : PUnit → Prog (TpuEff nD τ sig (Elt Bits) Λ₀ .tc) R} :
    (iprop(Transfers.Batch EC (c : Thread nD τ) (.dma (cellO a s)) () N D 22 (21 * N) ∗ ∃ W, owes (c : Thread nD τ) (0 : CellTallies nD τ sig Unit) W) : sProp 𝕄)
    ⊢ iprop((iprop(bigSep Finset.univ D ∗ semVal ((c : Thread nD τ), SemLoc.dma (cellO a s)) 0 ∗ ∃ W, owes (c : Thread nD τ) (0 : CellTallies nD τ sig Unit) W) -∗ wp frame (wpE defs 𝒱 (c : Thread nD τ) bd) Set.univ (κ ⟨⟩) Q)
      -∗ wp frame (wpE defs 𝒱 (c : Thread nD τ) bd) Set.univ
        (.op (.waitDma2 ((a.slice (Rect.unit (s := S2) os S1.size ho')).squeeze S_ hq').sem srcw (md.slice (Rect.unit (s := S8192x1408) offd S256x128.size hd) u2) h1 h2) κ) Q) := by
  have hsem := cellO_eq a s os ho ho' hq'
  iintro ⟨HB, ⟨%W, HO⟩⟩ Hk
  rw [← hsem]
  iapply (Transfers.wp_waitBatchLast EC 𝒱 (c : Thread nD τ) bd () (N := N) hN h0 (u := 21 * N) (n := 22) (by omega)) $$ [HB HO]
  · isplitl [HB]; · iexact HB
    iexact HO
  iintro ⟨HD, Hv, HO⟩
  iapply Hk
  isplitl [HD]; · iexact HD
  isplitl [Hv]; · iexact Hv
  iexists _; iexact HO

/-- One delivery joins what is already back. -/
theorem take_one (c : Dev nD) (ms : Memref sig .tc .vmem S2x11x272x128 .bf16) (md : Memref sig .tc .hbm S8192x1408 .bf16) (b : ℕ) (s : Fin 2) (k : ℕ) :
    (iprop(((∃ g, own (Val := Elt Bits) (c : Thread nD τ) md (dstAcc b k) fullShare g) ∗ ∃ g, own (Val := Elt Bits) (c : Thread nD τ) ms (srcAcc s k) fullShare g) ∗ Dw c ms md b s k) : sProp 𝕄)
    ⊢ iprop((∃ g, own (Val := Elt Bits) (c : Thread nD τ) md (dstAcc b (k + 1)) fullShare g) ∗ ∃ g, own (Val := Elt Bits) (c : Thread nD τ) ms (srcAcc s (k + 1)) fullShare g) := by
  unfold Dw
  iintro ⟨⟨⟨%f, Hd⟩, ⟨%g, Hs⟩⟩, ⟨⟨%f', Hd'⟩, ⟨%g', Hs'⟩⟩⟩
  isplitl [Hd Hd']
  · have hd := dstAcc_disj b k
    iexists ((dst b k).piecewise f' f)
    ihave H1 := (own_congr (g' := (dst b k).piecewise f' f) (fun i hi => (Finset.piecewise_eq_of_notMem _ _ _ (Finset.disjoint_left.mp hd hi)).symm)) $$ Hd
    ihave H2 := (own_congr (g' := (dst b k).piecewise f' f) (fun i hi => (Finset.piecewise_eq_of_mem _ _ _ hi).symm)) $$ Hd'
    ihave H := (own_join hd) $$ [H1 H2]
    · isplitl [H1]; · iexact H1
      iexact H2
    rw [dstAcc_union]
    iexact H
  · have hd := srcAcc_disj s k
    iexists ((piece s k).piecewise g' g)
    ihave H1 := (own_congr (g' := (piece s k).piecewise g' g) (fun i hi => (Finset.piecewise_eq_of_notMem _ _ _ (Finset.disjoint_left.mp hd hi)).symm)) $$ Hs
    ihave H2 := (own_congr (g' := (piece s k).piecewise g' g) (fun i hi => (Finset.piecewise_eq_of_mem _ _ _ hi).symm)) $$ Hs'
    ihave H := (own_join hd) $$ [H1 H2]
    · isplitl [H1]; · iexact H1
      iexact H2
    rw [srcAcc_union]
    iexact H

/-- A list's separating conjunction, one element off. -/
theorem bigSepL_cons_sep {J : Type} (i : J) (l : List J) (Φ : J → sProp 𝕄) : BI.bigSepL (i :: l) Φ = iprop(Φ i ∗ BI.bigSepL l Φ) := BI.bigSepL_cons i l Φ

/-- All of a block's deliveries: the block's rows of both results and the two staging slots are back. -/
theorem take_all (c : Dev nD) (ms₁ : Memref sig .tc .vmem S2x11x272x128 .bf16) (md₁ : Memref sig .tc .hbm S8192x1408 .bf16)
    (ms₂ : Memref sig .tc .vmem S2x11x272x128 .bf16) (md₂ : Memref sig .tc .hbm S8192x1408 .bf16)  (b : ℕ) (s : Fin 2) :
    (iprop(((∃ g, own (Val := Elt Bits) (c : Thread nD τ) md₁ (dstAcc b 0) fullShare g) ∗ ∃ g, own (Val := Elt Bits) (c : Thread nD τ) ms₁ (srcRem s 11) fullShare g) ∗ ((∃ g, own (Val := Elt Bits) (c : Thread nD τ) md₂ (dstAcc b 0) fullShare g) ∗ ∃ g, own (Val := Elt Bits) (c : Thread nD τ) ms₂ (srcRem s 11) fullShare g)
      ∗ bigSep Finset.univ (Dt c ms₁ md₁ ms₂ md₂ b s)) : sProp 𝕄)
    ⊢ iprop(((∃ g, own (Val := Elt Bits) (c : Thread nD τ) md₁ (dstAcc (b + 1) 0) fullShare g) ∗ ∃ g, own (Val := Elt Bits) (c : Thread nD τ) ms₁ (slab s) fullShare g) ∗ ((∃ g, own (Val := Elt Bits) (c : Thread nD τ) md₂ (dstAcc (b + 1) 0) fullShare g) ∗ ∃ g, own (Val := Elt Bits) (c : Thread nD τ) ms₂ (slab s) fullShare g)) := by
  rw [srcRem_eq_srcAcc, BI.bigSep_eq_bigSepL_of_eq [(0 : Fin 22), (1 : Fin 22), (2 : Fin 22), (3 : Fin 22), (4 : Fin 22), (5 : Fin 22), (6 : Fin 22), (7 : Fin 22), (8 : Fin 22), (9 : Fin 22), (10 : Fin 22), (11 : Fin 22), (12 : Fin 22), (13 : Fin 22), (14 : Fin 22), (15 : Fin 22), (16 : Fin 22), (17 : Fin 22), (18 : Fin 22), (19 : Fin 22), (20 : Fin 22), (21 : Fin 22)] (by decide) (by decide)]
  simp only [bigSepL_cons_sep, BI.bigSepL_nil]
  iintro ⟨A, B, D0, D1, D2, D3, D4, D5, D6, D7, D8, D9, D10, D11, D12, D13, D14, D15, D16, D17, D18, D19, D20, D21, -⟩
  ihave D0 := (Entails.of_eq (Dt_even c ms₁ md₁ ms₂ md₂ b s 0 0 rfl)) $$ D0
  ihave A := (take_one c ms₁ md₁ b s 0) $$ [A D0]
  · isplitl [A]; · iexact A
    iexact D0
  ihave D1 := (Entails.of_eq (Dt_odd c ms₁ md₁ ms₂ md₂ b s 1 0 rfl)) $$ D1
  ihave B := (take_one c ms₂ md₂ b s 0) $$ [B D1]
  · isplitl [B]; · iexact B
    iexact D1
  ihave D2 := (Entails.of_eq (Dt_even c ms₁ md₁ ms₂ md₂ b s 2 1 rfl)) $$ D2
  ihave A := (take_one c ms₁ md₁ b s 1) $$ [A D2]
  · isplitl [A]; · iexact A
    iexact D2
  ihave D3 := (Entails.of_eq (Dt_odd c ms₁ md₁ ms₂ md₂ b s 3 1 rfl)) $$ D3
  ihave B := (take_one c ms₂ md₂ b s 1) $$ [B D3]
  · isplitl [B]; · iexact B
    iexact D3
  ihave D4 := (Entails.of_eq (Dt_even c ms₁ md₁ ms₂ md₂ b s 4 2 rfl)) $$ D4
  ihave A := (take_one c ms₁ md₁ b s 2) $$ [A D4]
  · isplitl [A]; · iexact A
    iexact D4
  ihave D5 := (Entails.of_eq (Dt_odd c ms₁ md₁ ms₂ md₂ b s 5 2 rfl)) $$ D5
  ihave B := (take_one c ms₂ md₂ b s 2) $$ [B D5]
  · isplitl [B]; · iexact B
    iexact D5
  ihave D6 := (Entails.of_eq (Dt_even c ms₁ md₁ ms₂ md₂ b s 6 3 rfl)) $$ D6
  ihave A := (take_one c ms₁ md₁ b s 3) $$ [A D6]
  · isplitl [A]; · iexact A
    iexact D6
  ihave D7 := (Entails.of_eq (Dt_odd c ms₁ md₁ ms₂ md₂ b s 7 3 rfl)) $$ D7
  ihave B := (take_one c ms₂ md₂ b s 3) $$ [B D7]
  · isplitl [B]; · iexact B
    iexact D7
  ihave D8 := (Entails.of_eq (Dt_even c ms₁ md₁ ms₂ md₂ b s 8 4 rfl)) $$ D8
  ihave A := (take_one c ms₁ md₁ b s 4) $$ [A D8]
  · isplitl [A]; · iexact A
    iexact D8
  ihave D9 := (Entails.of_eq (Dt_odd c ms₁ md₁ ms₂ md₂ b s 9 4 rfl)) $$ D9
  ihave B := (take_one c ms₂ md₂ b s 4) $$ [B D9]
  · isplitl [B]; · iexact B
    iexact D9
  ihave D10 := (Entails.of_eq (Dt_even c ms₁ md₁ ms₂ md₂ b s 10 5 rfl)) $$ D10
  ihave A := (take_one c ms₁ md₁ b s 5) $$ [A D10]
  · isplitl [A]; · iexact A
    iexact D10
  ihave D11 := (Entails.of_eq (Dt_odd c ms₁ md₁ ms₂ md₂ b s 11 5 rfl)) $$ D11
  ihave B := (take_one c ms₂ md₂ b s 5) $$ [B D11]
  · isplitl [B]; · iexact B
    iexact D11
  ihave D12 := (Entails.of_eq (Dt_even c ms₁ md₁ ms₂ md₂ b s 12 6 rfl)) $$ D12
  ihave A := (take_one c ms₁ md₁ b s 6) $$ [A D12]
  · isplitl [A]; · iexact A
    iexact D12
  ihave D13 := (Entails.of_eq (Dt_odd c ms₁ md₁ ms₂ md₂ b s 13 6 rfl)) $$ D13
  ihave B := (take_one c ms₂ md₂ b s 6) $$ [B D13]
  · isplitl [B]; · iexact B
    iexact D13
  ihave D14 := (Entails.of_eq (Dt_even c ms₁ md₁ ms₂ md₂ b s 14 7 rfl)) $$ D14
  ihave A := (take_one c ms₁ md₁ b s 7) $$ [A D14]
  · isplitl [A]; · iexact A
    iexact D14
  ihave D15 := (Entails.of_eq (Dt_odd c ms₁ md₁ ms₂ md₂ b s 15 7 rfl)) $$ D15
  ihave B := (take_one c ms₂ md₂ b s 7) $$ [B D15]
  · isplitl [B]; · iexact B
    iexact D15
  ihave D16 := (Entails.of_eq (Dt_even c ms₁ md₁ ms₂ md₂ b s 16 8 rfl)) $$ D16
  ihave A := (take_one c ms₁ md₁ b s 8) $$ [A D16]
  · isplitl [A]; · iexact A
    iexact D16
  ihave D17 := (Entails.of_eq (Dt_odd c ms₁ md₁ ms₂ md₂ b s 17 8 rfl)) $$ D17
  ihave B := (take_one c ms₂ md₂ b s 8) $$ [B D17]
  · isplitl [B]; · iexact B
    iexact D17
  ihave D18 := (Entails.of_eq (Dt_even c ms₁ md₁ ms₂ md₂ b s 18 9 rfl)) $$ D18
  ihave A := (take_one c ms₁ md₁ b s 9) $$ [A D18]
  · isplitl [A]; · iexact A
    iexact D18
  ihave D19 := (Entails.of_eq (Dt_odd c ms₁ md₁ ms₂ md₂ b s 19 9 rfl)) $$ D19
  ihave B := (take_one c ms₂ md₂ b s 9) $$ [B D19]
  · isplitl [B]; · iexact B
    iexact D19
  ihave D20 := (Entails.of_eq (Dt_even c ms₁ md₁ ms₂ md₂ b s 20 10 rfl)) $$ D20
  ihave A := (take_one c ms₁ md₁ b s 10) $$ [A D20]
  · isplitl [A]; · iexact A
    iexact D20
  ihave D21 := (Entails.of_eq (Dt_odd c ms₁ md₁ ms₂ md₂ b s 21 10 rfl)) $$ D21
  ihave B := (take_one c ms₂ md₂ b s 10) $$ [B D21]
  · isplitl [B]; · iexact B
    iexact D21
  rw [← dstAcc_next, ← srcAcc_eq_slab]
  isplitl [A]; · iexact A
  iexact B

end Cert.Proof.Kernel
-- ==== Proof.Bits.In.lean ====
/-
  The transfers of the codes: one transfer of 256 columns of the table for each of the 31 blocks, each on a semaphore of
  its own, all issued first and each awaited when its block is worked on.
-/
module

public import proofs.«01_k».proof.Proof.Bits.Out

@[expose] public section

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Bits) ℕ (Pipeline.UD sig nD τ) ℕ

/-- The columns of block `v`, of the blocks from `k` on, and of the blocks before `k`. -/
def colBox (v : ℕ) : Finset S1408x7936.Idx := Finset.univ.filter fun i => (i (1 : Fin 2) : ℕ) / 256 = v
/-- The columns of the codes from block `k` on. -/
def colRem (k : ℕ) : Finset S1408x7936.Idx := Finset.univ.filter fun i => k ≤ (i (1 : Fin 2) : ℕ) / 256
/-- The columns of the codes before block `k`. -/
def colAcc (k : ℕ) : Finset S1408x7936.Idx := Finset.univ.filter fun i => (i (1 : Fin 2) : ℕ) / 256 < k
/-- The copy of block `v`, of the blocks from `k` on, and of the blocks before `k`. -/
def bBox (v : ℕ) : Finset S31x1408x256.Idx := Finset.univ.filter fun i => (i (0 : Fin 3) : ℕ) = v
/-- The blocks of the codes' copy from `k` on. -/
def bRem (k : ℕ) : Finset S31x1408x256.Idx := Finset.univ.filter fun i => k ≤ (i (0 : Fin 3) : ℕ)
/-- The blocks of the codes' copy before `k`. -/
def bAcc (k : ℕ) : Finset S31x1408x256.Idx := Finset.univ.filter fun i => (i (0 : Fin 3) : ℕ) < k

/-- Block `k`'s columns are among those from block `k` on. -/
theorem colBox_sub (k : ℕ) : colBox k ⊆ colRem k := by
  intro i; simp only [colBox, colRem, Finset.mem_filter, Finset.mem_univ, true_and]; omega
/-- Without block `k`'s columns, those from `k` on are those from `k + 1` on. -/
theorem colRem_sdiff (k : ℕ) : colRem k \ colBox k = colRem (k + 1) := by
  ext i; simp only [colBox, colRem, Finset.mem_sdiff, Finset.mem_filter, Finset.mem_univ, true_and]; omega
/-- Block `k`'s columns are not among the earlier ones. -/
theorem colAcc_disj (k : ℕ) : Disjoint (colAcc k) (colBox k) := by
  rw [Finset.disjoint_left]; intro i; simp only [colBox, colAcc, Finset.mem_filter, Finset.mem_univ, true_and]; omega
/-- The columns before block `k` and block `k`'s are those before `k + 1`. -/
theorem colAcc_union (k : ℕ) : colAcc k ∪ colBox k = colAcc (k + 1) := by
  ext i; simp only [colBox, colAcc, Finset.mem_union, Finset.mem_filter, Finset.mem_univ, true_and]; omega
/-- The columns from block 0 on are all columns. -/
theorem colRem_zero : colRem 0 = Finset.univ := by
  ext i; simp only [colRem, Finset.mem_filter, Finset.mem_univ, true_and, iff_true]; exact Nat.zero_le _
/-- There are no columns before block 0. -/
theorem colAcc_zero : colAcc 0 = ∅ := by
  ext i; simp only [colAcc, Finset.mem_filter, Finset.mem_univ, true_and, Finset.notMem_empty, iff_false]; exact Nat.not_lt_zero _
/-- The columns before block 31 are all columns. -/
theorem colAcc_full : colAcc 31 = Finset.univ := by
  ext i
  have h1 : (i (1 : Fin 2) : ℕ) < 7936 := (i (1 : Fin 2)).isLt
  simp only [colAcc, Finset.mem_filter, Finset.mem_univ, true_and, iff_true]; exact Nat.div_lt_of_lt_mul (by omega)
/-- Block `k` of the copy is among those from `k` on. -/
theorem bBox_sub (k : ℕ) : bBox k ⊆ bRem k := by
  intro i; simp only [bBox, bRem, Finset.mem_filter, Finset.mem_univ, true_and]; omega
/-- Without block `k`, the copy's blocks from `k` on are those from `k + 1` on. -/
theorem bRem_sdiff (k : ℕ) : bRem k \ bBox k = bRem (k + 1) := by
  ext i; simp only [bBox, bRem, Finset.mem_sdiff, Finset.mem_filter, Finset.mem_univ, true_and]; omega
/-- Block `k` of the copy is not among the earlier ones. -/
theorem bAcc_disj (k : ℕ) : Disjoint (bAcc k) (bBox k) := by
  rw [Finset.disjoint_left]; intro i; simp only [bBox, bAcc, Finset.mem_filter, Finset.mem_univ, true_and]; omega
/-- The copy's blocks before `k` and block `k` are those before `k + 1`. -/
theorem bAcc_union (k : ℕ) : bAcc k ∪ bBox k = bAcc (k + 1) := by
  ext i; simp only [bBox, bAcc, Finset.mem_union, Finset.mem_filter, Finset.mem_univ, true_and]; omega
/-- The copy's blocks from 0 on are the whole copy. -/
theorem bRem_zero : bRem 0 = Finset.univ := by
  ext i; simp only [bRem, Finset.mem_filter, Finset.mem_univ, true_and, iff_true]; exact Nat.zero_le _
/-- The copy has no blocks before 0. -/
theorem bAcc_zero : bAcc 0 = ∅ := by
  ext i; simp only [bAcc, Finset.mem_filter, Finset.mem_univ, true_and, Finset.notMem_empty, iff_false]; exact Nat.not_lt_zero _
/-- The copy's blocks before 31 are the whole copy. -/
theorem bAcc_full : bAcc 31 = Finset.univ := by
  ext i
  have h1 : (i (0 : Fin 3) : ℕ) < 31 := (i (0 : Fin 3)).isLt
  simp only [bAcc, Finset.mem_filter, Finset.mem_univ, true_and, iff_true]; exact h1

/-- The rectangle of a block's columns. -/
theorem col_set (v : ℕ) (off : Fin 2 → ℕ) (ho : off = ![0, 256 * v]) (h) :
    (Rect.unit (s := S1408x7936) off S1408x256.size h).set = colBox v := by
  subst ho
  ext i
  simp only [colBox, Finset.mem_filter, Finset.mem_univ, true_and]
  have h0 : (i (0 : Fin 2) : ℕ) < 1408 := (i (0 : Fin 2)).isLt
  constructor
  · intro hi
    have q := (Rect.mem_set_unit).mp hi
    have q1 : 256 * v ≤ (i (1 : Fin 2) : ℕ) ∧ (i (1 : Fin 2) : ℕ) < 256 * v + 256 := q 1
    omega
  · intro e
    refine (Rect.mem_set_unit).mpr fun a => ?_
    match a with
    | 0 => show 0 ≤ (i (0 : Fin 2) : ℕ) ∧ (i (0 : Fin 2) : ℕ) < 0 + 1408; omega
    | 1 => show 256 * v ≤ (i (1 : Fin 2) : ℕ) ∧ (i (1 : Fin 2) : ℕ) < 256 * v + 256; omega

/-- The rectangle of a block's copy. -/
theorem b_set (v : ℕ) (off : Fin 3 → ℕ) (ho : off = ![v, 0, 0]) (h) :
    (Rect.unit (s := S31x1408x256) off S1x1408x256.size h).set = bBox v := by
  subst ho
  ext i
  simp only [bBox, Finset.mem_filter, Finset.mem_univ, true_and]
  have h1 : (i (1 : Fin 3) : ℕ) < 1408 := (i (1 : Fin 3)).isLt
  have h2 : (i (2 : Fin 3) : ℕ) < 256 := (i (2 : Fin 3)).isLt
  constructor
  · intro hi
    have q := (Rect.mem_set_unit).mp hi
    have q0 : v ≤ (i (0 : Fin 3) : ℕ) ∧ (i (0 : Fin 3) : ℕ) < v + 1 := q 0
    omega
  · intro e
    refine (Rect.mem_set_unit).mpr fun a => ?_
    match a with
    | 0 => show v ≤ (i (0 : Fin 3) : ℕ) ∧ (i (0 : Fin 3) : ℕ) < v + 1; omega
    | 1 => show 0 ≤ (i (1 : Fin 3) : ℕ) ∧ (i (1 : Fin 3) : ℕ) < 0 + 1408; omega
    | 2 => show 0 ≤ (i (2 : Fin 3) : ℕ) ∧ (i (2 : Fin 3) : ℕ) < 0 + 256; omega

/-- A block's semaphore. -/
def cellI (a : DmaSems sig S31) (v : Fin 31) : DmaSem sig := a.ix (ix1 v)

/-- A block's semaphore, as the program names it. -/
theorem cellI_eq (a : DmaSems sig S31) (s : Fin 31) (off : Fin 1 → ℕ) (ho : off = ![s.val]) (h : ∀ x, off x + S1.size x ≤ S31.size x) (hq : S1.Squeezes S_) :
    ((a.slice (Rect.unit (s := S31) off S1.size h)).squeeze S_ hq).sem = cellI a s := by
  subst ho
  show a.ix _ = a.ix _
  congr 1
  funext x
  match x with
  | 0 => exact Fin.ext (by
      show s.val + 1 * _ = s.val
      have : ∀ j : Fin 1, s.val + 1 * j.val = s.val := fun j => by omega
      exact this _)

/-- The copy of the codes: block `v`, column `r` of the model dimension, row `j` of the block. -/
def gC (g1 : S1408x7936.Idx → BitVec 8) (i : S31x1408x256.Idx) : BitVec 8 :=
  g1 (ix2 (i (1 : Fin 3)) ⟨256 * (i (0 : Fin 3) : ℕ) + (i (2 : Fin 3) : ℕ), by
    have h0 : (i (0 : Fin 3) : ℕ) < 31 := (i (0 : Fin 3)).isLt
    have h2 : (i (2 : Fin 3) : ℕ) < 256 := (i (2 : Fin 3)).isLt
    omega⟩)

/-- What a block's transfer delivers: the block's copy, and the columns back. -/
def Din (c : Dev nD) (arg1 : Memref sig .tc .hbm S1408x7936 .i8) (arg8 : Memref sig .tc .vmem S31x1408x256 .i8) (g1 : S1408x7936.Idx → BitVec 8) (v : ℕ) (_ : Fin 1) : sProp 𝕄 :=
  iprop(own (Val := Elt Bits) (c : Thread nD τ) arg8 (bBox v) fullShare (gC g1) ∗ own (Val := Elt Bits) (c : Thread nD τ) arg1 (colBox v) fullShare g1)

instance Din_storable (c : Dev nD) (arg1 : Memref sig .tc .hbm S1408x7936 .i8) (arg8 : Memref sig .tc .vmem S31x1408x256 .i8) (g1 : S1408x7936.Idx → BitVec 8) (v : ℕ) (t : Fin 1) :
    Storable (upEmb : UEmb _ 𝕄) (Din c arg1 arg8 g1 v t) := by unfold Din; infer_instance

/-- The one delivery of a block's batch. -/
theorem Din_all (c : Dev nD) (arg1 : Memref sig .tc .hbm S1408x7936 .i8) (arg8 : Memref sig .tc .vmem S31x1408x256 .i8) (g1 : S1408x7936.Idx → BitVec 8) (v : ℕ) :
    (bigSep Finset.univ (Din c arg1 arg8 g1 v) : sProp 𝕄)
    ⊢ iprop(own (Val := Elt Bits) (c : Thread nD τ) arg8 (bBox v) fullShare (gC g1) ∗ own (Val := Elt Bits) (c : Thread nD τ) arg1 (colBox v) fullShare g1) := by
  rw [BI.bigSep_eq_bigSepL_of_eq [(0 : Fin 1)] (by decide) (by decide)]
  simp only [bigSepL_cons_sep, BI.bigSepL_nil]
  unfold Din
  iintro ⟨⟨H8, H1⟩, -⟩
  isplitl [H8]; · iexact H8
  iexact H1

/-- A block's transfer, not yet awaited. -/
def Flight (c : Dev nD) (arg1 : Memref sig .tc .hbm S1408x7936 .i8) (arg8 : Memref sig .tc .vmem S31x1408x256 .i8) (arg13 : DmaSems sig S31) (N : ℕ) (g1 : S1408x7936.Idx → BitVec 8) (v : Fin 31) : sProp 𝕄 :=
  Transfers.Batch EC (c : Thread nD τ) (.dma (cellI arg13 v)) () N (Din c arg1 arg8 g1 v.val) 1 0

/-- A block's semaphore at rest. -/
def Rest (c : Dev nD) (arg13 : DmaSems sig S31) (v : Fin 31) : sProp 𝕄 := semVal ((c : Thread nD τ), SemLoc.dma (cellI arg13 v)) 0

/-- A family of which the first `k` members have changed: the next one changes. -/
theorem fam_step (A B : Fin 31 → sProp 𝕄) (k : Fin 31) :
    (bigSep Finset.univ (fun v : Fin 31 => if v.val < k.val then B v else A v) : sProp 𝕄)
    ⊢ iprop(A k ∗ (B k -∗ bigSep Finset.univ (fun v : Fin 31 => if v.val < k.val + 1 then B v else A v))) := by
  have hs : ∀ Φ : Fin 31 → sProp 𝕄, bigSep Finset.univ Φ = iprop(Φ k ∗ bigSep (Finset.univ.erase k) Φ) := fun Φ => BI.bigSep_univ_split k
  rw [hs (fun v : Fin 31 => if v.val < k.val then B v else A v),
    hs (fun v : Fin 31 => if v.val < k.val + 1 then B v else A v), if_neg (lt_irrefl _), if_pos (Nat.lt_succ_self _)]
  rw [BI.bigSep_congr (s := Finset.univ.erase k) (Φ := fun v : Fin 31 => if v.val < k.val then B v else A v)
    (Ψ := fun v : Fin 31 => if v.val < k.val + 1 then B v else A v) (fun v hv => by
      have hne : v.val ≠ k.val := fun h => (Finset.mem_erase.mp hv).1 (Fin.ext h)
      show (if v.val < k.val then B v else A v) = if v.val < k.val + 1 then B v else A v
      by_cases h : v.val < k.val
      · rw [if_pos h, if_pos (by omega)]
      · rw [if_neg h, if_neg (by omega)])]
  iintro ⟨HA, HR⟩
  isplitl [HA]; · iexact HA
  iintro HB
  isplitl [HB]; · iexact HB
  iexact HR

/-- Before block `k`'s transfer is issued. -/
def InI (c : Dev nD) (arg1 : Memref sig .tc .hbm S1408x7936 .i8) (arg8 : Memref sig .tc .vmem S31x1408x256 .i8) (arg13 : DmaSems sig S31) (N : ℕ) (g1 : S1408x7936.Idx → BitVec 8) (k : ℕ) : sProp 𝕄 :=
  iprop(own (Val := Elt Bits) (c : Thread nD τ) arg1 (colRem k) fullShare g1 ∗ (∃ g, own (Val := Elt Bits) (c : Thread nD τ) arg8 (bRem k) fullShare g)
    ∗ bigSep Finset.univ (fun v : Fin 31 => if v.val < k then Flight c arg1 arg8 arg13 N g1 v else Rest c arg13 v))

/-- A transfer moves the codes it should. -/
theorem moves_in (g1 : S1408x7936.Idx → BitVec 8) (v : ℕ) (offs : Fin 2 → ℕ) (hos : offs = ![0, 256 * v]) (hs) (offd : Fin 3 → ℕ) (hod : offd = ![v, 0, 0]) (hd)
    (hq : S1x1408x256.Squeezes S1408x256) (x : S1408x256.Idx) :
    gC g1 ((Rect.unit (s := S31x1408x256) offd S1x1408x256.size hd).emb (Shape.reshapeEquiv hq.numel_eq x)) = g1 ((Rect.unit (s := S1408x7936) offs S1408x256.size hs).emb x) := by
  subst hos hod
  obtain ⟨r, j, rfl⟩ : ∃ (r : Fin 1408) (j : Fin 256), x = ix2 r j := ⟨x 0, x 1, eq_ix2 x⟩
  have e : (Shape.reshapeEquiv hq.numel_eq (ix2 r j) : S1x1408x256.Idx) = ix3 0 r j := by
    pointwise
  rw [e]
  unfold gC
  congr 1
  funext a; apply Fin.ext
  match a with
  | 0 => show 0 + 1 * r.val = 0 + 1 * r.val; rfl
  | 1 => show 256 * (v + 1 * 0) + (0 + 1 * j.val) = 256 * v + 1 * j.val; omega

/-- One trip of the first loop. -/
theorem t1_step (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x128 .i32) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2)
    (c : Dev nD) {defs : Defs nD τ sig (Elt Bits) Λ₀} (𝒱 : Variants) (bd : Option 𝒱.V) (N : ℕ) (h0 : 0 < N) (hN : arg8.view.ref.dmaCredit S1408x256 .i8 = N) (g1 : S1408x7936.Idx → BitVec 8)
    (k : Fin k0_t1_loop.trips) (x : Unit) :
    InI c arg1 arg8 arg13 N g1 k.val ⊢ wp frame (wpE defs 𝒱 (c : Thread nD τ) bd) Set.univ
      (Gen.k0_t1_body arg0 harg0 arg1 harg1 arg2 harg2 arg3 harg3 arg4 harg4 arg5 harg5 arg6 harg6 arg7 harg7 arg8 harg8 arg9 harg9 arg10 harg10 arg11 harg11 arg12 harg12 arg13 arg14 k x) (fun _ => InI c arg1 arg8 arg13 N g1 (k.val + 1)) := by
  have hk : k.val < 31 := k.isLt
  have hsem := cellI_eq arg13 ⟨k.val, hk⟩ (k0_off1 k) (Gen.k0_off1_eq k) (Gen.k0_off1_inb k) Gen.squeezes_S1_S_
  unfold InI Gen.k0_t1_body
  iintro ⟨H1, ⟨%g, H8⟩, HF⟩
  ihave H := (own_sub (colBox_sub k.val)) $$ H1
  icases H with ⟨H1, H1'⟩
  ihave H := (own_sub (bBox_sub k.val)) $$ H8
  icases H with ⟨H8, H8'⟩
  rw [colRem_sdiff, bRem_sdiff]
  ihave HF := (fam_step (Rest c arg13) (Flight c arg1 arg8 arg13 N g1) ⟨k.val, hk⟩) $$ HF
  icases HF with ⟨HR, HF⟩
  have hR : Rest c arg13 ⟨k.val, hk⟩ = semVal ((c : Thread nD τ), SemLoc.dma ((arg13.slice (Rect.unit (s := S31) (k0_off1 k) S1.size (Gen.k0_off1_inb k))).squeeze S_ Gen.squeezes_S1_S_).sem) 0 := by
    unfold Rest; rw [hsem]
  ihave HR := (Entails.of_eq hR) $$ HR
  imod (Transfers.batch_alloc' EC (c : Thread nD τ) () N (Din c arg1 arg8 g1 k.val) (sm := .dma ((arg13.slice (Rect.unit (s := S31) (k0_off1 k) S1.size (Gen.k0_off1_inb k))).squeeze S_ Gen.squeezes_S1_S_).sem) (E := Set.univ)) $$ HR with HB
  iapply (own_dma_in (c := (c : Thread nD τ)) 𝒱 bd EC (gC g1) (q := fullShare) (D := Din c arg1 arg8 g1 k.val) (col_set k.val _ (Gen.k0_off3_eq k) (Gen.k0_off3_inb k)) (b_set k.val _ (Gen.k0_off2_eq k) (Gen.k0_off2_inb k))
    (fun x => moves_in g1 k.val _ (Gen.k0_off3_eq k) (Gen.k0_off3_inb k) _ (Gen.k0_off2_eq k) (Gen.k0_off2_inb k) Gen.squeezes_S1x1408x256_S1408x256 x) (by exact hN) Nat.one_pos (Nat.zero_le _) ?_) $$ [H1 H8 HB]
  · unfold Din; exact .rfl
  · isplitl [H1]; · iexact H1
    isplitl [H8]; · iexact H8
    iexact HB
  iintro HB
  rw [ret_bind', wp_pure]; imodintro
  isplitl [H1']; · iexact H1'
  isplitl [H8']; · iexists _; iexact H8'
  iapply HF
  unfold Flight
  rw [← hsem]
  iexact HB

/-- A block's wait: its copy is there and its columns are back. -/
theorem wait_in {R : Type} (c : Dev nD) {defs : Defs nD τ sig (Elt Bits) Λ₀} (𝒱 : Variants) (bd : Option 𝒱.V) (Q : R → sProp 𝕄)
    (arg1 : Memref sig .tc .hbm S1408x7936 .i8) (arg8 : Memref sig .tc .vmem S31x1408x256 .i8) (arg13 : DmaSems sig S31) (N : ℕ) (h0 : 0 < N) (hN : arg8.view.ref.dmaCredit S1408x256 .i8 = N) (g1 : S1408x7936.Idx → BitVec 8) (v : Fin 31)
    {offd : Fin 3 → ℕ} {hd} {u2} {hq2 : S1x1408x256.Squeezes S1408x256} {sp' : Space} {s' : Shape} {srcw : Memref sig .tc sp' s' .i8}
    {os : Fin 1 → ℕ} (ho : os = ![v.val]) {ho'} {hq'} {h1 h2} {κ : PUnit → Prog (TpuEff nD τ sig (Elt Bits) Λ₀ .tc) R} :
    (iprop(Flight c arg1 arg8 arg13 N g1 v ∗ ∃ W, owes (c : Thread nD τ) (0 : CellTallies nD τ sig Unit) W) : sProp 𝕄)
    ⊢ iprop((iprop(own (Val := Elt Bits) (c : Thread nD τ) arg8 (bBox v.val) fullShare (gC g1) ∗ own (Val := Elt Bits) (c : Thread nD τ) arg1 (colBox v.val) fullShare g1
          ∗ Rest c arg13 v ∗ ∃ W, owes (c : Thread nD τ) (0 : CellTallies nD τ sig Unit) W) -∗ wp frame (wpE defs 𝒱 (c : Thread nD τ) bd) Set.univ (κ ⟨⟩) Q)
      -∗ wp frame (wpE defs 𝒱 (c : Thread nD τ) bd) Set.univ
        (.op (.waitDma2 ((arg13.slice (Rect.unit (s := S31) os S1.size ho')).squeeze S_ hq').sem srcw ((arg8.slice (Rect.unit (s := S31x1408x256) offd S1x1408x256.size hd) u2).squeeze S1408x256 hq2) h1 h2) κ) Q) := by
  have hsem := cellI_eq arg13 v os ho ho' hq'
  unfold Flight Rest
  iintro ⟨HB, ⟨%W, HO⟩⟩ Hk
  rw [← hsem]
  iapply (Transfers.wp_waitBatchLast EC 𝒱 (c : Thread nD τ) bd () (N := N) (by exact hN) h0 (u := 0) (n := 1) (by omega)) $$ [HB HO]
  · isplitl [HB]; · iexact HB
    iexact HO
  iintro ⟨HD, Hv, HO⟩
  iapply Hk
  ihave HD := (Din_all c arg1 arg8 g1 v.val) $$ HD
  icases HD with ⟨H8, H1⟩
  isplitl [H8]; · iexact H8
  isplitl [H1]; · iexact H1
  isplitl [Hv]; · iexact Hv
  iexists _; iexact HO

end Cert.Proof.Kernel
-- ==== Proof.Bits.Build.lean ====
/-
  Building the table: one trip of the loop over the blocks awaits a block's codes, stores its rows in the table and its
  inverse norms, and keeps hold of the buffers it goes through.
-/
module

public import proofs.«01_k».proof.Proof.Bits.In

@[expose] public section

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Bits) ℕ (Pipeline.UD sig nD τ) ℕ

/-- A load of a block's copy lies in it. -/
theorem unit_sub_b (v a : ℕ) {off : Fin 3 → ℕ} (ho : off = ![v, a, 0]) (size : Fin 3 → ℕ) (h0 : size 0 = 1) (h) :
    (Rect.unit (s := S31x1408x256) off size h).set ⊆ bBox v := by
  subst ho
  intro i hi
  obtain ⟨j, hj, e⟩ := (LoadRect.mem_set _).mp hi (0 : Fin 3)
  have hj' : j < size 0 := hj
  have e' : (i (0 : Fin 3) : ℕ) = v + 1 * j := e
  simp only [bBox, Finset.mem_filter, Finset.mem_univ, true_and]
  omega

/-- Before block `k` is worked on. -/
def BuildI (c : Dev nD) (arg1 : Memref sig .tc .hbm S1408x7936 .i8) (arg2 : Memref sig .tc .vmem S7936 .f32) (arg6 : Memref sig .tc .vmem S63488x128 .i32) (arg7 : Memref sig .tc .vmem S7936x128 .f32)
    (arg8 : Memref sig .tc .vmem S31x1408x256 .i8) (arg9 : Memref sig .tc .vmem S256x128 .f32) (arg13 : DmaSems sig S31) (N : ℕ)
    (g1 : S1408x7936.Idx → BitVec 8) (q2 : PosShare TreeShare) (g2 : S7936.Idx → Elt Bits .f32) (k : ℕ) : sProp 𝕄 :=
  iprop(own (Val := Elt Bits) (c : Thread nD τ) arg1 (colAcc k) fullShare g1 ∗ (∃ g, own (Val := Elt Bits) (c : Thread nD τ) arg8 (bAcc k) fullShare g)
    ∗ bigSep Finset.univ (fun v : Fin 31 => if v.val < k then Rest c arg13 v else Flight c arg1 arg8 arg13 N g1 v)
    ∗ own (Val := Elt Bits) (c : Thread nD τ) arg2 Finset.univ q2 g2
    ∗ (∃ g, own (Val := Elt Bits) (c : Thread nD τ) arg6 Finset.univ fullShare g)
    ∗ (∃ g, own (Val := Elt Bits) (c : Thread nD τ) arg7 Finset.univ fullShare g)
    ∗ (∃ g, own (Val := Elt Bits) (c : Thread nD τ) arg9 Finset.univ fullShare g)
    ∗ ∃ W, owes (c : Thread nD τ) (0 : CellTallies nD τ sig Unit) W)

set_option maxHeartbeats 4000000 in
/-- One trip of the second loop. -/
theorem t2_step (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x128 .i32) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2)
    (v61 : FVec Bits S1x128 .f32)
    (c : Dev nD) {defs : Defs nD τ sig (Elt Bits) Λ₀} (𝒱 : Variants) (bd : Option 𝒱.V) (N : ℕ) (h0 : 0 < N) (hN : arg8.view.ref.dmaCredit S1408x256 .i8 = N)
    (g1 : S1408x7936.Idx → BitVec 8) (q2 : PosShare TreeShare) (g2 : S7936.Idx → Elt Bits .f32) (k : Fin k0_t2_loop.trips) (x : Unit) :
    BuildI c arg1 arg2 arg6 arg7 arg8 arg9 arg13 N g1 q2 g2 k.val ⊢ wp frame (wpE defs 𝒱 (c : Thread nD τ) bd) Set.univ
      (Gen.k0_t2_body arg0 harg0 arg1 harg1 arg2 harg2 arg3 harg3 arg4 harg4 arg5 harg5 arg6 harg6 arg7 harg7 arg8 harg8 arg9 harg9 arg10 harg10 arg11 harg11 arg12 harg12 arg13 arg14 v61 k x) (fun _ => BuildI c arg1 arg2 arg6 arg7 arg8 arg9 arg13 N g1 q2 g2 (k.val + 1)) := by
  have hk : k.val < 31 := k.isLt
  rw [t2o.eq_at]
  unfold t2o BuildI
  iintro ⟨H1, ⟨%gb, H8'⟩, HF, H2, ⟨%g6, H6⟩, ⟨%g7, H7⟩, ⟨%g9, H9⟩, HO⟩
  ihave HF := (fam_step (Flight c arg1 arg8 arg13 N g1) (Rest c arg13) ⟨k.val, hk⟩) $$ HF
  icases HF with ⟨HB, HF⟩
  iapply (wait_in c 𝒱 bd _ arg1 arg8 arg13 N h0 hN g1 ⟨k.val, hk⟩ (Gen.k0_off4_eq k)) $$ [HB HO]
  · isplitl [HB]; · iexact HB
    iexact HO
  iintro ⟨H8, H1', HR, HO⟩
  iapply (own_load 𝒱 (c : Thread nD τ) bd (m := arg2) (Finset.subset_univ _)) $$ H2
  iintro H2
  iapply (own_load 𝒱 (c : Thread nD τ) bd (m := arg8) (S := bBox k.val) (unit_sub_b k.val 0 (Gen.k0_off8_eq k) S1x256x256.size rfl (Gen.k0_off8_inb k))) $$ H8
  iintro H8
  iapply (own_load 𝒱 (c : Thread nD τ) bd (m := arg6) (Finset.subset_univ _)) $$ H6
  iintro H6
  iapply (own_store_upd 𝒱 (c : Thread nD τ) bd (m := arg6) (Finset.subset_univ _)) $$ H6
  iintro H6
  iapply (own_load 𝒱 (c : Thread nD τ) bd (m := arg9) (Finset.subset_univ _)) $$ H9
  iintro H9
  iapply (own_store_upd 𝒱 (c : Thread nD τ) bd (m := arg9) (Finset.subset_univ _)) $$ H9
  iintro H9
  iapply (own_load 𝒱 (c : Thread nD τ) bd (m := arg8) (S := bBox k.val) (unit_sub_b k.val 256 (Gen.k0_off10_eq k) S1x256x256.size rfl (Gen.k0_off10_inb k))) $$ H8
  iintro H8
  iapply (own_load 𝒱 (c : Thread nD τ) bd (m := arg6) (Finset.subset_univ _)) $$ H6
  iintro H6
  iapply (own_store_upd 𝒱 (c : Thread nD τ) bd (m := arg6) (Finset.subset_univ _)) $$ H6
  iintro H6
  iapply (own_load 𝒱 (c : Thread nD τ) bd (m := arg9) (Finset.subset_univ _)) $$ H9
  iintro H9
  iapply (own_load 𝒱 (c : Thread nD τ) bd (m := arg9) (Finset.subset_univ _)) $$ H9
  iintro H9
  iapply (own_store_upd 𝒱 (c : Thread nD τ) bd (m := arg9) (Finset.subset_univ _)) $$ H9
  iintro H9
  iapply (own_load 𝒱 (c : Thread nD τ) bd (m := arg8) (S := bBox k.val) (unit_sub_b k.val 512 (Gen.k0_off11_eq k) S1x256x256.size rfl (Gen.k0_off11_inb k))) $$ H8
  iintro H8
  iapply (own_load 𝒱 (c : Thread nD τ) bd (m := arg6) (Finset.subset_univ _)) $$ H6
  iintro H6
  iapply (own_store_upd 𝒱 (c : Thread nD τ) bd (m := arg6) (Finset.subset_univ _)) $$ H6
  iintro H6
  iapply (own_load 𝒱 (c : Thread nD τ) bd (m := arg9) (Finset.subset_univ _)) $$ H9
  iintro H9
  iapply (own_load 𝒱 (c : Thread nD τ) bd (m := arg9) (Finset.subset_univ _)) $$ H9
  iintro H9
  iapply (own_store_upd 𝒱 (c : Thread nD τ) bd (m := arg9) (Finset.subset_univ _)) $$ H9
  iintro H9
  iapply (own_load 𝒱 (c : Thread nD τ) bd (m := arg8) (S := bBox k.val) (unit_sub_b k.val 768 (Gen.k0_off12_eq k) S1x256x256.size rfl (Gen.k0_off12_inb k))) $$ H8
  iintro H8
  iapply (own_load 𝒱 (c : Thread nD τ) bd (m := arg6) (Finset.subset_univ _)) $$ H6
  iintro H6
  iapply (own_store_upd 𝒱 (c : Thread nD τ) bd (m := arg6) (Finset.subset_univ _)) $$ H6
  iintro H6
  iapply (own_load 𝒱 (c : Thread nD τ) bd (m := arg9) (Finset.subset_univ _)) $$ H9
  iintro H9
  iapply (own_load 𝒱 (c : Thread nD τ) bd (m := arg9) (Finset.subset_univ _)) $$ H9
  iintro H9
  iapply (own_store_upd 𝒱 (c : Thread nD τ) bd (m := arg9) (Finset.subset_univ _)) $$ H9
  iintro H9
  iapply (own_load 𝒱 (c : Thread nD τ) bd (m := arg8) (S := bBox k.val) (unit_sub_b k.val 1024 (Gen.k0_off13_eq k) S1x256x256.size rfl (Gen.k0_off13_inb k))) $$ H8
  iintro H8
  iapply (own_load 𝒱 (c : Thread nD τ) bd (m := arg6) (Finset.subset_univ _)) $$ H6
  iintro H6
  iapply (own_store_upd 𝒱 (c : Thread nD τ) bd (m := arg6) (Finset.subset_univ _)) $$ H6
  iintro H6
  iapply (own_load 𝒱 (c : Thread nD τ) bd (m := arg9) (Finset.subset_univ _)) $$ H9
  iintro H9
  iapply (own_load 𝒱 (c : Thread nD τ) bd (m := arg9) (Finset.subset_univ _)) $$ H9
  iintro H9
  iapply (own_store_upd 𝒱 (c : Thread nD τ) bd (m := arg9) (Finset.subset_univ _)) $$ H9
  iintro H9
  iapply (own_load 𝒱 (c : Thread nD τ) bd (m := arg8) (S := bBox k.val) (unit_sub_b k.val 1280 (Gen.k0_off14_eq k) S1x128x256.size rfl (Gen.k0_off14_inb k))) $$ H8
  iintro H8
  iapply (own_load 𝒱 (c : Thread nD τ) bd (m := arg6) (Finset.subset_univ _)) $$ H6
  iintro H6
  iapply (own_store_upd 𝒱 (c : Thread nD τ) bd (m := arg6) (Finset.subset_univ _)) $$ H6
  iintro H6
  iapply (own_load 𝒱 (c : Thread nD τ) bd (m := arg9) (Finset.subset_univ _)) $$ H9
  iintro H9
  iapply (own_load 𝒱 (c : Thread nD τ) bd (m := arg7) (Finset.subset_univ _)) $$ H7
  iintro H7
  iapply (own_store_upd 𝒱 (c : Thread nD τ) bd (m := arg7) (Finset.subset_univ _)) $$ H7
  iintro H7
  rw [ret_bind', wp_pure]; imodintro
  isplitl [H1 H1']
  · ihave H := (own_join (colAcc_disj k.val)) $$ [H1 H1']
    · isplitl [H1]; · iexact H1
      iexact H1'
    rw [colAcc_union]
    iexact H
  isplitl [H8 H8']
  · have hd := bAcc_disj k.val
    iexists ((bBox k.val).piecewise (gC g1) gb)
    ihave H8' := (own_congr (g' := (bBox k.val).piecewise (gC g1) gb) (fun i hi => (Finset.piecewise_eq_of_notMem _ _ _ (Finset.disjoint_left.mp hd hi)).symm)) $$ H8'
    ihave H8 := (own_congr (g' := (bBox k.val).piecewise (gC g1) gb) (fun i hi => (Finset.piecewise_eq_of_mem _ _ _ hi).symm)) $$ H8
    ihave H := (own_join hd) $$ [H8' H8]
    · isplitl [H8']; · iexact H8'
      iexact H8
    rw [bAcc_union]
    iexact H
  isplitl [HR HF]
  · iapply HF; iexact HR
  isplitl [H2]; · iexact H2
  isplitl [H6]; · iexists _; iexact H6
  isplitl [H7]; · iexists _; iexact H7
  isplitl [H9]; · iexists _; iexact H9
  iexact HO

end Cert.Proof.Kernel
-- ==== Proof.Bits.Inner.lean ====
/-
  The loop over a block's tokens: sixteen trips of eight pairs, each a run of loads and stores
  that keeps hold of the buffers it goes through.
-/
module

public import proofs.«01_k».proof.Proof.Bits.Pair

@[expose] public section

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Bits) ℕ (Pipeline.UD sig nD τ) ℕ

/-- What the loop over a block's tokens keeps: the ids, the table, the inverse norms, and a slot of each staging buffer. -/
def InnerI (c : Dev nD) (arg0 : Memref sig .tc .smem S1x8192 .i32) (arg6 : Memref sig .tc .vmem S63488x128 .i32) (arg7 : Memref sig .tc .vmem S7936x128 .f32)
    (arg11 arg12 : Memref sig .tc .vmem S2x11x272x128 .bf16)
    (q0 : PosShare TreeShare) (g0 : S1x8192.Idx → BitVec 32) (s : Fin 2) : sProp 𝕄 :=
  iprop(own (Val := Elt Bits) (c : Thread nD τ) arg0 Finset.univ q0 g0 ∗ (∃ g, own (Val := Elt Bits) (c : Thread nD τ) arg6 Finset.univ fullShare g)
        ∗ (∃ g, own (Val := Elt Bits) (c : Thread nD τ) arg7 Finset.univ fullShare g)
        ∗ (∃ g, own (Val := Elt Bits) (c : Thread nD τ) arg11 (slab s) fullShare g)
        ∗ (∃ g, own (Val := Elt Bits) (c : Thread nD τ) arg12 (slab s) fullShare g))

/-- A load of an id. -/
theorem ids_load {R : Type} (c : Dev nD) {defs : Defs nD τ sig (Elt Bits) Λ₀} (𝒱 : Variants) (bd : Option 𝒱.V) {Q : R → sProp 𝕄}
    {arg0 : Memref sig .tc .smem S1x8192 .i32} {r : Rect S1x8192} {h1 : r.shape.numel = 1} {h2} {κ : Elt Bits .i32 → Prog (TpuEff nD τ sig (Elt Bits) Λ₀ .tc) R}
    {q0 : PosShare TreeShare} {g0 : S1x8192.Idx → BitVec 32} :
    (own (Val := Elt Bits) (c : Thread nD τ) arg0 Finset.univ q0 g0 : sProp 𝕄)
    ⊢ iprop((own (Val := Elt Bits) (c : Thread nD τ) arg0 Finset.univ q0 g0 -∗ wp frame (wpE defs 𝒱 (c : Thread nD τ) bd) Set.univ (κ (g0 (r.emb (Shape.Idx.first (h1.symm ▸ Nat.one_pos))))) Q)
      -∗ wp frame (wpE defs 𝒱 (c : Thread nD τ) bd) Set.univ (smemLoad arg0 r h1 h2 >>= κ) Q) :=
  own_smem 𝒱 (c : Thread nD τ) bd (m := arg0) (hw := View.loads_smem_one h2 h1) (Finset.subset_univ _)

/-- Pair 1 keeps what the loop keeps. -/
theorem pr1_wp {R : Type} (arg0 : Memref sig .tc .smem S1x8192 .i32) (arg6 : Memref sig .tc .vmem S63488x128 .i32) (arg7 : Memref sig .tc .vmem S7936x128 .f32)
    (arg11 : Memref sig .tc .vmem S2x11x272x128 .bf16) (harg11 : arg11.IsWhole) (arg12 : Memref sig .tc .vmem S2x11x272x128 .bf16) (harg12 : arg12.IsWhole)
    (v79 v81 : FVec Bits S8x128 .f32) (t3 : Fin k0_t3_loop.trips) (t4 : Fin k0_t4_loop.trips) (κ : Prog (TpuEff nD τ sig (Elt Bits) Λ₀ .tc) R)
    (c : Dev nD) {defs : Defs nD τ sig (Elt Bits) Λ₀} (𝒱 : Variants) (bd : Option 𝒱.V) (Q : R → sProp 𝕄)
    (q0 : PosShare TreeShare) (g0 : S1x8192.Idx → BitVec 32) (hg0 : IdsOk g0) (s : Fin 2) (hs : s.val = t3.val % 2) :
    InnerI c arg0 arg6 arg7 arg11 arg12 q0 g0 s ⊢ iprop((InnerI c arg0 arg6 arg7 arg11 arg12 q0 g0 s -∗ wp frame (wpE defs 𝒱 (c : Thread nD τ) bd) Set.univ κ Q)
      -∗ wp frame (wpE defs 𝒱 (c : Thread nD τ) bd) Set.univ (pr1 arg0 arg6 arg7 arg11 harg11 arg12 harg12 v79 v81 t3 t4 κ) Q) := by
  have oW : k0_off45 t3 t4 0 = s.val := (congrFun (Gen.k0_off45_eq t3 t4) 0).trans hs.symm
  have oV : k0_off46 t3 t4 0 = s.val := (congrFun (Gen.k0_off46_eq t3 t4) 0).trans hs.symm
  unfold InnerI pr1
  iintro ⟨H0, ⟨%g6, H6⟩, ⟨%g7, H7⟩, ⟨%ga, H11⟩, ⟨%gb, H12⟩⟩ Hk
  iapply (ids_load c 𝒱 bd (r := Rect.unit (s := S1x8192) (k0_off39 t3 t4) S1x1.size (Gen.k0_off39_inb t3 t4))) $$ H0
  iintro H0
  iapply (wp_assume 𝒱 (c : Thread nD τ) bd Set.univ (chk_of_lt _ (hg0 _)))
  iapply (own_load 𝒱 (c : Thread nD τ) bd (m := arg6) (Finset.subset_univ _)) $$ H6
  iintro H6
  iapply (own_load 𝒱 (c : Thread nD τ) bd (m := arg7) (Finset.subset_univ _)) $$ H7
  iintro H7
  rw [ret_bind']
  iapply (ids_load c 𝒱 bd (r := Rect.unit (s := S1x8192) (k0_off42 t3 t4) S1x1.size (Gen.k0_off42_inb t3 t4))) $$ H0
  iintro H0
  iapply (wp_assume 𝒱 (c : Thread nD τ) bd Set.univ (chk_of_lt _ (hg0 _)))
  iapply (own_load 𝒱 (c : Thread nD τ) bd (m := arg6) (Finset.subset_univ _)) $$ H6
  iintro H6
  iapply (own_load 𝒱 (c : Thread nD τ) bd (m := arg7) (Finset.subset_univ _)) $$ H7
  iintro H7
  iapply (own_load 𝒱 (c : Thread nD τ) bd (m := arg12) (S := slab s) (unit_subset_slab s _ _ oW rfl _)) $$ H12
  iintro H12
  iapply (own_store_upd 𝒱 (c : Thread nD τ) bd (m := arg12) (S := slab s) (unit_subset_slab s _ _ oW rfl _)) $$ H12
  iintro H12
  iapply (own_load 𝒱 (c : Thread nD τ) bd (m := arg12) (S := slab s) (unit_subset_slab s _ _ oV rfl _)) $$ H12
  iintro H12
  iapply (own_store_upd 𝒱 (c : Thread nD τ) bd (m := arg12) (S := slab s) (unit_subset_slab s _ _ oV rfl _)) $$ H12
  iintro H12
  iapply (own_load 𝒱 (c : Thread nD τ) bd (m := arg11) (S := slab s) (unit_subset_slab s _ _ oW rfl _)) $$ H11
  iintro H11
  iapply (own_store_upd 𝒱 (c : Thread nD τ) bd (m := arg11) (S := slab s) (unit_subset_slab s _ _ oW rfl _)) $$ H11
  iintro H11
  iapply (own_load 𝒱 (c : Thread nD τ) bd (m := arg11) (S := slab s) (unit_subset_slab s _ _ oV rfl _)) $$ H11
  iintro H11
  iapply (own_store_upd 𝒱 (c : Thread nD τ) bd (m := arg11) (S := slab s) (unit_subset_slab s _ _ oV rfl _)) $$ H11
  iintro H11
  iapply Hk
  isplitl [H0]; · iexact H0
  isplitl [H6]; · iexists _; iexact H6
  isplitl [H7]; · iexists _; iexact H7
  isplitl [H11]
  · iexists _; iexact H11
  · iexists _; iexact H12

/-- Pair 2 keeps what the loop keeps. -/
theorem pr2_wp {R : Type} (arg0 : Memref sig .tc .smem S1x8192 .i32) (arg6 : Memref sig .tc .vmem S63488x128 .i32) (arg7 : Memref sig .tc .vmem S7936x128 .f32)
    (arg11 : Memref sig .tc .vmem S2x11x272x128 .bf16) (harg11 : arg11.IsWhole) (arg12 : Memref sig .tc .vmem S2x11x272x128 .bf16) (harg12 : arg12.IsWhole)
    (v79 v81 : FVec Bits S8x128 .f32) (t3 : Fin k0_t3_loop.trips) (t4 : Fin k0_t4_loop.trips) (κ : Prog (TpuEff nD τ sig (Elt Bits) Λ₀ .tc) R)
    (c : Dev nD) {defs : Defs nD τ sig (Elt Bits) Λ₀} (𝒱 : Variants) (bd : Option 𝒱.V) (Q : R → sProp 𝕄)
    (q0 : PosShare TreeShare) (g0 : S1x8192.Idx → BitVec 32) (hg0 : IdsOk g0) (s : Fin 2) (hs : s.val = t3.val % 2) :
    InnerI c arg0 arg6 arg7 arg11 arg12 q0 g0 s ⊢ iprop((InnerI c arg0 arg6 arg7 arg11 arg12 q0 g0 s -∗ wp frame (wpE defs 𝒱 (c : Thread nD τ) bd) Set.univ κ Q)
      -∗ wp frame (wpE defs 𝒱 (c : Thread nD τ) bd) Set.univ (pr2 arg0 arg6 arg7 arg11 harg11 arg12 harg12 v79 v81 t3 t4 κ) Q) := by
  have oW : k0_off53 t3 t4 0 = s.val := (congrFun (Gen.k0_off53_eq t3 t4) 0).trans hs.symm
  have oV : k0_off54 t3 t4 0 = s.val := (congrFun (Gen.k0_off54_eq t3 t4) 0).trans hs.symm
  unfold InnerI pr2
  iintro ⟨H0, ⟨%g6, H6⟩, ⟨%g7, H7⟩, ⟨%ga, H11⟩, ⟨%gb, H12⟩⟩ Hk
  iapply (ids_load c 𝒱 bd (r := Rect.unit (s := S1x8192) (k0_off47 t3 t4) S1x1.size (Gen.k0_off47_inb t3 t4))) $$ H0
  iintro H0
  iapply (wp_assume 𝒱 (c : Thread nD τ) bd Set.univ (chk_of_lt _ (hg0 _)))
  iapply (own_load 𝒱 (c : Thread nD τ) bd (m := arg6) (Finset.subset_univ _)) $$ H6
  iintro H6
  iapply (own_load 𝒱 (c : Thread nD τ) bd (m := arg7) (Finset.subset_univ _)) $$ H7
  iintro H7
  rw [ret_bind']
  iapply (ids_load c 𝒱 bd (r := Rect.unit (s := S1x8192) (k0_off50 t3 t4) S1x1.size (Gen.k0_off50_inb t3 t4))) $$ H0
  iintro H0
  iapply (wp_assume 𝒱 (c : Thread nD τ) bd Set.univ (chk_of_lt _ (hg0 _)))
  iapply (own_load 𝒱 (c : Thread nD τ) bd (m := arg6) (Finset.subset_univ _)) $$ H6
  iintro H6
  iapply (own_load 𝒱 (c : Thread nD τ) bd (m := arg7) (Finset.subset_univ _)) $$ H7
  iintro H7
  iapply (own_load 𝒱 (c : Thread nD τ) bd (m := arg12) (S := slab s) (unit_subset_slab s _ _ oW rfl _)) $$ H12
  iintro H12
  iapply (own_store_upd 𝒱 (c : Thread nD τ) bd (m := arg12) (S := slab s) (unit_subset_slab s _ _ oW rfl _)) $$ H12
  iintro H12
  iapply (own_load 𝒱 (c : Thread nD τ) bd (m := arg12) (S := slab s) (unit_subset_slab s _ _ oV rfl _)) $$ H12
  iintro H12
  iapply (own_store_upd 𝒱 (c : Thread nD τ) bd (m := arg12) (S := slab s) (unit_subset_slab s _ _ oV rfl _)) $$ H12
  iintro H12
  iapply (own_load 𝒱 (c : Thread nD τ) bd (m := arg11) (S := slab s) (unit_subset_slab s _ _ oW rfl _)) $$ H11
  iintro H11
  iapply (own_store_upd 𝒱 (c : Thread nD τ) bd (m := arg11) (S := slab s) (unit_subset_slab s _ _ oW rfl _)) $$ H11
  iintro H11
  iapply (own_load 𝒱 (c : Thread nD τ) bd (m := arg11) (S := slab s) (unit_subset_slab s _ _ oV rfl _)) $$ H11
  iintro H11
  iapply (own_store_upd 𝒱 (c : Thread nD τ) bd (m := arg11) (S := slab s) (unit_subset_slab s _ _ oV rfl _)) $$ H11
  iintro H11
  iapply Hk
  isplitl [H0]; · iexact H0
  isplitl [H6]; · iexists _; iexact H6
  isplitl [H7]; · iexists _; iexact H7
  isplitl [H11]
  · iexists _; iexact H11
  · iexists _; iexact H12

/-- Pair 3 keeps what the loop keeps. -/
theorem pr3_wp {R : Type} (arg0 : Memref sig .tc .smem S1x8192 .i32) (arg6 : Memref sig .tc .vmem S63488x128 .i32) (arg7 : Memref sig .tc .vmem S7936x128 .f32)
    (arg11 : Memref sig .tc .vmem S2x11x272x128 .bf16) (harg11 : arg11.IsWhole) (arg12 : Memref sig .tc .vmem S2x11x272x128 .bf16) (harg12 : arg12.IsWhole)
    (v79 v81 : FVec Bits S8x128 .f32) (t3 : Fin k0_t3_loop.trips) (t4 : Fin k0_t4_loop.trips) (κ : Prog (TpuEff nD τ sig (Elt Bits) Λ₀ .tc) R)
    (c : Dev nD) {defs : Defs nD τ sig (Elt Bits) Λ₀} (𝒱 : Variants) (bd : Option 𝒱.V) (Q : R → sProp 𝕄)
    (q0 : PosShare TreeShare) (g0 : S1x8192.Idx → BitVec 32) (hg0 : IdsOk g0) (s : Fin 2) (hs : s.val = t3.val % 2) :
    InnerI c arg0 arg6 arg7 arg11 arg12 q0 g0 s ⊢ iprop((InnerI c arg0 arg6 arg7 arg11 arg12 q0 g0 s -∗ wp frame (wpE defs 𝒱 (c : Thread nD τ) bd) Set.univ κ Q)
      -∗ wp frame (wpE defs 𝒱 (c : Thread nD τ) bd) Set.univ (pr3 arg0 arg6 arg7 arg11 harg11 arg12 harg12 v79 v81 t3 t4 κ) Q) := by
  have oW : k0_off61 t3 t4 0 = s.val := (congrFun (Gen.k0_off61_eq t3 t4) 0).trans hs.symm
  have oV : k0_off62 t3 t4 0 = s.val := (congrFun (Gen.k0_off62_eq t3 t4) 0).trans hs.symm
  unfold InnerI pr3
  iintro ⟨H0, ⟨%g6, H6⟩, ⟨%g7, H7⟩, ⟨%ga, H11⟩, ⟨%gb, H12⟩⟩ Hk
  iapply (ids_load c 𝒱 bd (r := Rect.unit (s := S1x8192) (k0_off55 t3 t4) S1x1.size (Gen.k0_off55_inb t3 t4))) $$ H0
  iintro H0
  iapply (wp_assume 𝒱 (c : Thread nD τ) bd Set.univ (chk_of_lt _ (hg0 _)))
  iapply (own_load 𝒱 (c : Thread nD τ) bd (m := arg6) (Finset.subset_univ _)) $$ H6
  iintro H6
  iapply (own_load 𝒱 (c : Thread nD τ) bd (m := arg7) (Finset.subset_univ _)) $$ H7
  iintro H7
  rw [ret_bind']
  iapply (ids_load c 𝒱 bd (r := Rect.unit (s := S1x8192) (k0_off58 t3 t4) S1x1.size (Gen.k0_off58_inb t3 t4))) $$ H0
  iintro H0
  iapply (wp_assume 𝒱 (c : Thread nD τ) bd Set.univ (chk_of_lt _ (hg0 _)))
  iapply (own_load 𝒱 (c : Thread nD τ) bd (m := arg6) (Finset.subset_univ _)) $$ H6
  iintro H6
  iapply (own_load 𝒱 (c : Thread nD τ) bd (m := arg7) (Finset.subset_univ _)) $$ H7
  iintro H7
  iapply (own_load 𝒱 (c : Thread nD τ) bd (m := arg12) (S := slab s) (unit_subset_slab s _ _ oW rfl _)) $$ H12
  iintro H12
  iapply (own_store_upd 𝒱 (c : Thread nD τ) bd (m := arg12) (S := slab s) (unit_subset_slab s _ _ oW rfl _)) $$ H12
  iintro H12
  iapply (own_load 𝒱 (c : Thread nD τ) bd (m := arg12) (S := slab s) (unit_subset_slab s _ _ oV rfl _)) $$ H12
  iintro H12
  iapply (own_store_upd 𝒱 (c : Thread nD τ) bd (m := arg12) (S := slab s) (unit_subset_slab s _ _ oV rfl _)) $$ H12
  iintro H12
  iapply (own_load 𝒱 (c : Thread nD τ) bd (m := arg11) (S := slab s) (unit_subset_slab s _ _ oW rfl _)) $$ H11
  iintro H11
  iapply (own_store_upd 𝒱 (c : Thread nD τ) bd (m := arg11) (S := slab s) (unit_subset_slab s _ _ oW rfl _)) $$ H11
  iintro H11
  iapply (own_load 𝒱 (c : Thread nD τ) bd (m := arg11) (S := slab s) (unit_subset_slab s _ _ oV rfl _)) $$ H11
  iintro H11
  iapply (own_store_upd 𝒱 (c : Thread nD τ) bd (m := arg11) (S := slab s) (unit_subset_slab s _ _ oV rfl _)) $$ H11
  iintro H11
  iapply Hk
  isplitl [H0]; · iexact H0
  isplitl [H6]; · iexists _; iexact H6
  isplitl [H7]; · iexists _; iexact H7
  isplitl [H11]
  · iexists _; iexact H11
  · iexists _; iexact H12

/-- Pair 4 keeps what the loop keeps. -/
theorem pr4_wp {R : Type} (arg0 : Memref sig .tc .smem S1x8192 .i32) (arg6 : Memref sig .tc .vmem S63488x128 .i32) (arg7 : Memref sig .tc .vmem S7936x128 .f32)
    (arg11 : Memref sig .tc .vmem S2x11x272x128 .bf16) (harg11 : arg11.IsWhole) (arg12 : Memref sig .tc .vmem S2x11x272x128 .bf16) (harg12 : arg12.IsWhole)
    (v79 v81 : FVec Bits S8x128 .f32) (t3 : Fin k0_t3_loop.trips) (t4 : Fin k0_t4_loop.trips) (κ : Prog (TpuEff nD τ sig (Elt Bits) Λ₀ .tc) R)
    (c : Dev nD) {defs : Defs nD τ sig (Elt Bits) Λ₀} (𝒱 : Variants) (bd : Option 𝒱.V) (Q : R → sProp 𝕄)
    (q0 : PosShare TreeShare) (g0 : S1x8192.Idx → BitVec 32) (hg0 : IdsOk g0) (s : Fin 2) (hs : s.val = t3.val % 2) :
    InnerI c arg0 arg6 arg7 arg11 arg12 q0 g0 s ⊢ iprop((InnerI c arg0 arg6 arg7 arg11 arg12 q0 g0 s -∗ wp frame (wpE defs 𝒱 (c : Thread nD τ) bd) Set.univ κ Q)
      -∗ wp frame (wpE defs 𝒱 (c : Thread nD τ) bd) Set.univ (pr4 arg0 arg6 arg7 arg11 harg11 arg12 harg12 v79 v81 t3 t4 κ) Q) := by
  have oW : k0_off69 t3 t4 0 = s.val := (congrFun (Gen.k0_off69_eq t3 t4) 0).trans hs.symm
  have oV : k0_off70 t3 t4 0 = s.val := (congrFun (Gen.k0_off70_eq t3 t4) 0).trans hs.symm
  unfold InnerI pr4
  iintro ⟨H0, ⟨%g6, H6⟩, ⟨%g7, H7⟩, ⟨%ga, H11⟩, ⟨%gb, H12⟩⟩ Hk
  iapply (ids_load c 𝒱 bd (r := Rect.unit (s := S1x8192) (k0_off63 t3 t4) S1x1.size (Gen.k0_off63_inb t3 t4))) $$ H0
  iintro H0
  iapply (wp_assume 𝒱 (c : Thread nD τ) bd Set.univ (chk_of_lt _ (hg0 _)))
  iapply (own_load 𝒱 (c : Thread nD τ) bd (m := arg6) (Finset.subset_univ _)) $$ H6
  iintro H6
  iapply (own_load 𝒱 (c : Thread nD τ) bd (m := arg7) (Finset.subset_univ _)) $$ H7
  iintro H7
  rw [ret_bind']
  iapply (ids_load c 𝒱 bd (r := Rect.unit (s := S1x8192) (k0_off66 t3 t4) S1x1.size (Gen.k0_off66_inb t3 t4))) $$ H0
  iintro H0
  iapply (wp_assume 𝒱 (c : Thread nD τ) bd Set.univ (chk_of_lt _ (hg0 _)))
  iapply (own_load 𝒱 (c : Thread nD τ) bd (m := arg6) (Finset.subset_univ _)) $$ H6
  iintro H6
  iapply (own_load 𝒱 (c : Thread nD τ) bd (m := arg7) (Finset.subset_univ _)) $$ H7
  iintro H7
  iapply (own_load 𝒱 (c : Thread nD τ) bd (m := arg12) (S := slab s) (unit_subset_slab s _ _ oW rfl _)) $$ H12
  iintro H12
  iapply (own_store_upd 𝒱 (c : Thread nD τ) bd (m := arg12) (S := slab s) (unit_subset_slab s _ _ oW rfl _)) $$ H12
  iintro H12
  iapply (own_load 𝒱 (c : Thread nD τ) bd (m := arg12) (S := slab s) (unit_subset_slab s _ _ oV rfl _)) $$ H12
  iintro H12
  iapply (own_store_upd 𝒱 (c : Thread nD τ) bd (m := arg12) (S := slab s) (unit_subset_slab s _ _ oV rfl _)) $$ H12
  iintro H12
  iapply (own_load 𝒱 (c : Thread nD τ) bd (m := arg11) (S := slab s) (unit_subset_slab s _ _ oW rfl _)) $$ H11
  iintro H11
  iapply (own_store_upd 𝒱 (c : Thread nD τ) bd (m := arg11) (S := slab s) (unit_subset_slab s _ _ oW rfl _)) $$ H11
  iintro H11
  iapply (own_load 𝒱 (c : Thread nD τ) bd (m := arg11) (S := slab s) (unit_subset_slab s _ _ oV rfl _)) $$ H11
  iintro H11
  iapply (own_store_upd 𝒱 (c : Thread nD τ) bd (m := arg11) (S := slab s) (unit_subset_slab s _ _ oV rfl _)) $$ H11
  iintro H11
  iapply Hk
  isplitl [H0]; · iexact H0
  isplitl [H6]; · iexists _; iexact H6
  isplitl [H7]; · iexists _; iexact H7
  isplitl [H11]
  · iexists _; iexact H11
  · iexists _; iexact H12

/-- Pair 5 keeps what the loop keeps. -/
theorem pr5_wp {R : Type} (arg0 : Memref sig .tc .smem S1x8192 .i32) (arg6 : Memref sig .tc .vmem S63488x128 .i32) (arg7 : Memref sig .tc .vmem S7936x128 .f32)
    (arg11 : Memref sig .tc .vmem S2x11x272x128 .bf16) (harg11 : arg11.IsWhole) (arg12 : Memref sig .tc .vmem S2x11x272x128 .bf16) (harg12 : arg12.IsWhole)
    (v79 v81 : FVec Bits S8x128 .f32) (t3 : Fin k0_t3_loop.trips) (t4 : Fin k0_t4_loop.trips) (κ : Prog (TpuEff nD τ sig (Elt Bits) Λ₀ .tc) R)
    (c : Dev nD) {defs : Defs nD τ sig (Elt Bits) Λ₀} (𝒱 : Variants) (bd : Option 𝒱.V) (Q : R → sProp 𝕄)
    (q0 : PosShare TreeShare) (g0 : S1x8192.Idx → BitVec 32) (hg0 : IdsOk g0) (s : Fin 2) (hs : s.val = t3.val % 2) :
    InnerI c arg0 arg6 arg7 arg11 arg12 q0 g0 s ⊢ iprop((InnerI c arg0 arg6 arg7 arg11 arg12 q0 g0 s -∗ wp frame (wpE defs 𝒱 (c : Thread nD τ) bd) Set.univ κ Q)
      -∗ wp frame (wpE defs 𝒱 (c : Thread nD τ) bd) Set.univ (pr5 arg0 arg6 arg7 arg11 harg11 arg12 harg12 v79 v81 t3 t4 κ) Q) := by
  have oW : k0_off77 t3 t4 0 = s.val := (congrFun (Gen.k0_off77_eq t3 t4) 0).trans hs.symm
  have oV : k0_off78 t3 t4 0 = s.val := (congrFun (Gen.k0_off78_eq t3 t4) 0).trans hs.symm
  unfold InnerI pr5
  iintro ⟨H0, ⟨%g6, H6⟩, ⟨%g7, H7⟩, ⟨%ga, H11⟩, ⟨%gb, H12⟩⟩ Hk
  iapply (ids_load c 𝒱 bd (r := Rect.unit (s := S1x8192) (k0_off71 t3 t4) S1x1.size (Gen.k0_off71_inb t3 t4))) $$ H0
  iintro H0
  iapply (wp_assume 𝒱 (c : Thread nD τ) bd Set.univ (chk_of_lt _ (hg0 _)))
  iapply (own_load 𝒱 (c : Thread nD τ) bd (m := arg6) (Finset.subset_univ _)) $$ H6
  iintro H6
  iapply (own_load 𝒱 (c : Thread nD τ) bd (m := arg7) (Finset.subset_univ _)) $$ H7
  iintro H7
  rw [ret_bind']
  iapply (ids_load c 𝒱 bd (r := Rect.unit (s := S1x8192) (k0_off74 t3 t4) S1x1.size (Gen.k0_off74_inb t3 t4))) $$ H0
  iintro H0
  iapply (wp_assume 𝒱 (c : Thread nD τ) bd Set.univ (chk_of_lt _ (hg0 _)))
  iapply (own_load 𝒱 (c : Thread nD τ) bd (m := arg6) (Finset.subset_univ _)) $$ H6
  iintro H6
  iapply (own_load 𝒱 (c : Thread nD τ) bd (m := arg7) (Finset.subset_univ _)) $$ H7
  iintro H7
  iapply (own_load 𝒱 (c : Thread nD τ) bd (m := arg12) (S := slab s) (unit_subset_slab s _ _ oW rfl _)) $$ H12
  iintro H12
  iapply (own_store_upd 𝒱 (c : Thread nD τ) bd (m := arg12) (S := slab s) (unit_subset_slab s _ _ oW rfl _)) $$ H12
  iintro H12
  iapply (own_load 𝒱 (c : Thread nD τ) bd (m := arg12) (S := slab s) (unit_subset_slab s _ _ oV rfl _)) $$ H12
  iintro H12
  iapply (own_store_upd 𝒱 (c : Thread nD τ) bd (m := arg12) (S := slab s) (unit_subset_slab s _ _ oV rfl _)) $$ H12
  iintro H12
  iapply (own_load 𝒱 (c : Thread nD τ) bd (m := arg11) (S := slab s) (unit_subset_slab s _ _ oW rfl _)) $$ H11
  iintro H11
  iapply (own_store_upd 𝒱 (c : Thread nD τ) bd (m := arg11) (S := slab s) (unit_subset_slab s _ _ oW rfl _)) $$ H11
  iintro H11
  iapply (own_load 𝒱 (c : Thread nD τ) bd (m := arg11) (S := slab s) (unit_subset_slab s _ _ oV rfl _)) $$ H11
  iintro H11
  iapply (own_store_upd 𝒱 (c : Thread nD τ) bd (m := arg11) (S := slab s) (unit_subset_slab s _ _ oV rfl _)) $$ H11
  iintro H11
  iapply Hk
  isplitl [H0]; · iexact H0
  isplitl [H6]; · iexists _; iexact H6
  isplitl [H7]; · iexists _; iexact H7
  isplitl [H11]
  · iexists _; iexact H11
  · iexists _; iexact H12

/-- Pair 6 keeps what the loop keeps. -/
theorem pr6_wp {R : Type} (arg0 : Memref sig .tc .smem S1x8192 .i32) (arg6 : Memref sig .tc .vmem S63488x128 .i32) (arg7 : Memref sig .tc .vmem S7936x128 .f32)
    (arg11 : Memref sig .tc .vmem S2x11x272x128 .bf16) (harg11 : arg11.IsWhole) (arg12 : Memref sig .tc .vmem S2x11x272x128 .bf16) (harg12 : arg12.IsWhole)
    (v79 v81 : FVec Bits S8x128 .f32) (t3 : Fin k0_t3_loop.trips) (t4 : Fin k0_t4_loop.trips) (κ : Prog (TpuEff nD τ sig (Elt Bits) Λ₀ .tc) R)
    (c : Dev nD) {defs : Defs nD τ sig (Elt Bits) Λ₀} (𝒱 : Variants) (bd : Option 𝒱.V) (Q : R → sProp 𝕄)
    (q0 : PosShare TreeShare) (g0 : S1x8192.Idx → BitVec 32) (hg0 : IdsOk g0) (s : Fin 2) (hs : s.val = t3.val % 2) :
    InnerI c arg0 arg6 arg7 arg11 arg12 q0 g0 s ⊢ iprop((InnerI c arg0 arg6 arg7 arg11 arg12 q0 g0 s -∗ wp frame (wpE defs 𝒱 (c : Thread nD τ) bd) Set.univ κ Q)
      -∗ wp frame (wpE defs 𝒱 (c : Thread nD τ) bd) Set.univ (pr6 arg0 arg6 arg7 arg11 harg11 arg12 harg12 v79 v81 t3 t4 κ) Q) := by
  have oW : k0_off85 t3 t4 0 = s.val := (congrFun (Gen.k0_off85_eq t3 t4) 0).trans hs.symm
  have oV : k0_off86 t3 t4 0 = s.val := (congrFun (Gen.k0_off86_eq t3 t4) 0).trans hs.symm
  unfold InnerI pr6
  iintro ⟨H0, ⟨%g6, H6⟩, ⟨%g7, H7⟩, ⟨%ga, H11⟩, ⟨%gb, H12⟩⟩ Hk
  iapply (ids_load c 𝒱 bd (r := Rect.unit (s := S1x8192) (k0_off79 t3 t4) S1x1.size (Gen.k0_off79_inb t3 t4))) $$ H0
  iintro H0
  iapply (wp_assume 𝒱 (c : Thread nD τ) bd Set.univ (chk_of_lt _ (hg0 _)))
  iapply (own_load 𝒱 (c : Thread nD τ) bd (m := arg6) (Finset.subset_univ _)) $$ H6
  iintro H6
  iapply (own_load 𝒱 (c : Thread nD τ) bd (m := arg7) (Finset.subset_univ _)) $$ H7
  iintro H7
  rw [ret_bind']
  iapply (ids_load c 𝒱 bd (r := Rect.unit (s := S1x8192) (k0_off82 t3 t4) S1x1.size (Gen.k0_off82_inb t3 t4))) $$ H0
  iintro H0
  iapply (wp_assume 𝒱 (c : Thread nD τ) bd Set.univ (chk_of_lt _ (hg0 _)))
  iapply (own_load 𝒱 (c : Thread nD τ) bd (m := arg6) (Finset.subset_univ _)) $$ H6
  iintro H6
  iapply (own_load 𝒱 (c : Thread nD τ) bd (m := arg7) (Finset.subset_univ _)) $$ H7
  iintro H7
  iapply (own_load 𝒱 (c : Thread nD τ) bd (m := arg12) (S := slab s) (unit_subset_slab s _ _ oW rfl _)) $$ H12
  iintro H12
  iapply (own_store_upd 𝒱 (c : Thread nD τ) bd (m := arg12) (S := slab s) (unit_subset_slab s _ _ oW rfl _)) $$ H12
  iintro H12
  iapply (own_load 𝒱 (c : Thread nD τ) bd (m := arg12) (S := slab s) (unit_subset_slab s _ _ oV rfl _)) $$ H12
  iintro H12
  iapply (own_store_upd 𝒱 (c : Thread nD τ) bd (m := arg12) (S := slab s) (unit_subset_slab s _ _ oV rfl _)) $$ H12
  iintro H12
  iapply (own_load 𝒱 (c : Thread nD τ) bd (m := arg11) (S := slab s) (unit_subset_slab s _ _ oW rfl _)) $$ H11
  iintro H11
  iapply (own_store_upd 𝒱 (c : Thread nD τ) bd (m := arg11) (S := slab s) (unit_subset_slab s _ _ oW rfl _)) $$ H11
  iintro H11
  iapply (own_load 𝒱 (c : Thread nD τ) bd (m := arg11) (S := slab s) (unit_subset_slab s _ _ oV rfl _)) $$ H11
  iintro H11
  iapply (own_store_upd 𝒱 (c : Thread nD τ) bd (m := arg11) (S := slab s) (unit_subset_slab s _ _ oV rfl _)) $$ H11
  iintro H11
  iapply Hk
  isplitl [H0]; · iexact H0
  isplitl [H6]; · iexists _; iexact H6
  isplitl [H7]; · iexists _; iexact H7
  isplitl [H11]
  · iexists _; iexact H11
  · iexists _; iexact H12

/-- Pair 7 keeps what the loop keeps. -/
theorem pr7_wp {R : Type} (arg0 : Memref sig .tc .smem S1x8192 .i32) (arg6 : Memref sig .tc .vmem S63488x128 .i32) (arg7 : Memref sig .tc .vmem S7936x128 .f32)
    (arg11 : Memref sig .tc .vmem S2x11x272x128 .bf16) (harg11 : arg11.IsWhole) (arg12 : Memref sig .tc .vmem S2x11x272x128 .bf16) (harg12 : arg12.IsWhole)
    (v79 v81 : FVec Bits S8x128 .f32) (t3 : Fin k0_t3_loop.trips) (t4 : Fin k0_t4_loop.trips) (κ : Prog (TpuEff nD τ sig (Elt Bits) Λ₀ .tc) R)
    (c : Dev nD) {defs : Defs nD τ sig (Elt Bits) Λ₀} (𝒱 : Variants) (bd : Option 𝒱.V) (Q : R → sProp 𝕄)
    (q0 : PosShare TreeShare) (g0 : S1x8192.Idx → BitVec 32) (hg0 : IdsOk g0) (s : Fin 2) (hs : s.val = t3.val % 2) :
    InnerI c arg0 arg6 arg7 arg11 arg12 q0 g0 s ⊢ iprop((InnerI c arg0 arg6 arg7 arg11 arg12 q0 g0 s -∗ wp frame (wpE defs 𝒱 (c : Thread nD τ) bd) Set.univ κ Q)
      -∗ wp frame (wpE defs 𝒱 (c : Thread nD τ) bd) Set.univ (pr7 arg0 arg6 arg7 arg11 harg11 arg12 harg12 v79 v81 t3 t4 κ) Q) := by
  have oW : k0_off93 t3 t4 0 = s.val := (congrFun (Gen.k0_off93_eq t3 t4) 0).trans hs.symm
  have oV : k0_off94 t3 t4 0 = s.val := (congrFun (Gen.k0_off94_eq t3 t4) 0).trans hs.symm
  unfold InnerI pr7
  iintro ⟨H0, ⟨%g6, H6⟩, ⟨%g7, H7⟩, ⟨%ga, H11⟩, ⟨%gb, H12⟩⟩ Hk
  iapply (ids_load c 𝒱 bd (r := Rect.unit (s := S1x8192) (k0_off87 t3 t4) S1x1.size (Gen.k0_off87_inb t3 t4))) $$ H0
  iintro H0
  iapply (wp_assume 𝒱 (c : Thread nD τ) bd Set.univ (chk_of_lt _ (hg0 _)))
  iapply (own_load 𝒱 (c : Thread nD τ) bd (m := arg6) (Finset.subset_univ _)) $$ H6
  iintro H6
  iapply (own_load 𝒱 (c : Thread nD τ) bd (m := arg7) (Finset.subset_univ _)) $$ H7
  iintro H7
  rw [ret_bind']
  iapply (ids_load c 𝒱 bd (r := Rect.unit (s := S1x8192) (k0_off90 t3 t4) S1x1.size (Gen.k0_off90_inb t3 t4))) $$ H0
  iintro H0
  iapply (wp_assume 𝒱 (c : Thread nD τ) bd Set.univ (chk_of_lt _ (hg0 _)))
  iapply (own_load 𝒱 (c : Thread nD τ) bd (m := arg6) (Finset.subset_univ _)) $$ H6
  iintro H6
  iapply (own_load 𝒱 (c : Thread nD τ) bd (m := arg7) (Finset.subset_univ _)) $$ H7
  iintro H7
  iapply (own_load 𝒱 (c : Thread nD τ) bd (m := arg12) (S := slab s) (unit_subset_slab s _ _ oW rfl _)) $$ H12
  iintro H12
  iapply (own_store_upd 𝒱 (c : Thread nD τ) bd (m := arg12) (S := slab s) (unit_subset_slab s _ _ oW rfl _)) $$ H12
  iintro H12
  iapply (own_load 𝒱 (c : Thread nD τ) bd (m := arg12) (S := slab s) (unit_subset_slab s _ _ oV rfl _)) $$ H12
  iintro H12
  iapply (own_store_upd 𝒱 (c : Thread nD τ) bd (m := arg12) (S := slab s) (unit_subset_slab s _ _ oV rfl _)) $$ H12
  iintro H12
  iapply (own_load 𝒱 (c : Thread nD τ) bd (m := arg11) (S := slab s) (unit_subset_slab s _ _ oW rfl _)) $$ H11
  iintro H11
  iapply (own_store_upd 𝒱 (c : Thread nD τ) bd (m := arg11) (S := slab s) (unit_subset_slab s _ _ oW rfl _)) $$ H11
  iintro H11
  iapply (own_load 𝒱 (c : Thread nD τ) bd (m := arg11) (S := slab s) (unit_subset_slab s _ _ oV rfl _)) $$ H11
  iintro H11
  iapply (own_store_upd 𝒱 (c : Thread nD τ) bd (m := arg11) (S := slab s) (unit_subset_slab s _ _ oV rfl _)) $$ H11
  iintro H11
  iapply Hk
  isplitl [H0]; · iexact H0
  isplitl [H6]; · iexists _; iexact H6
  isplitl [H7]; · iexists _; iexact H7
  isplitl [H11]
  · iexists _; iexact H11
  · iexists _; iexact H12

/-- Pair 8 keeps what the loop keeps. -/
theorem pr8_wp {R : Type} (arg0 : Memref sig .tc .smem S1x8192 .i32) (arg6 : Memref sig .tc .vmem S63488x128 .i32) (arg7 : Memref sig .tc .vmem S7936x128 .f32)
    (arg11 : Memref sig .tc .vmem S2x11x272x128 .bf16) (harg11 : arg11.IsWhole) (arg12 : Memref sig .tc .vmem S2x11x272x128 .bf16) (harg12 : arg12.IsWhole)
    (v79 v81 : FVec Bits S8x128 .f32) (t3 : Fin k0_t3_loop.trips) (t4 : Fin k0_t4_loop.trips) (κ : Prog (TpuEff nD τ sig (Elt Bits) Λ₀ .tc) R)
    (c : Dev nD) {defs : Defs nD τ sig (Elt Bits) Λ₀} (𝒱 : Variants) (bd : Option 𝒱.V) (Q : R → sProp 𝕄)
    (q0 : PosShare TreeShare) (g0 : S1x8192.Idx → BitVec 32) (hg0 : IdsOk g0) (s : Fin 2) (hs : s.val = t3.val % 2) :
    InnerI c arg0 arg6 arg7 arg11 arg12 q0 g0 s ⊢ iprop((InnerI c arg0 arg6 arg7 arg11 arg12 q0 g0 s -∗ wp frame (wpE defs 𝒱 (c : Thread nD τ) bd) Set.univ κ Q)
      -∗ wp frame (wpE defs 𝒱 (c : Thread nD τ) bd) Set.univ (pr8 arg0 arg6 arg7 arg11 harg11 arg12 harg12 v79 v81 t3 t4 κ) Q) := by
  have oW : k0_off101 t3 t4 0 = s.val := (congrFun (Gen.k0_off101_eq t3 t4) 0).trans hs.symm
  have oV : k0_off102 t3 t4 0 = s.val := (congrFun (Gen.k0_off102_eq t3 t4) 0).trans hs.symm
  unfold InnerI pr8
  iintro ⟨H0, ⟨%g6, H6⟩, ⟨%g7, H7⟩, ⟨%ga, H11⟩, ⟨%gb, H12⟩⟩ Hk
  iapply (ids_load c 𝒱 bd (r := Rect.unit (s := S1x8192) (k0_off95 t3 t4) S1x1.size (Gen.k0_off95_inb t3 t4))) $$ H0
  iintro H0
  iapply (wp_assume 𝒱 (c : Thread nD τ) bd Set.univ (chk_of_lt _ (hg0 _)))
  iapply (own_load 𝒱 (c : Thread nD τ) bd (m := arg6) (Finset.subset_univ _)) $$ H6
  iintro H6
  iapply (own_load 𝒱 (c : Thread nD τ) bd (m := arg7) (Finset.subset_univ _)) $$ H7
  iintro H7
  rw [ret_bind']
  iapply (ids_load c 𝒱 bd (r := Rect.unit (s := S1x8192) (k0_off98 t3 t4) S1x1.size (Gen.k0_off98_inb t3 t4))) $$ H0
  iintro H0
  iapply (wp_assume 𝒱 (c : Thread nD τ) bd Set.univ (chk_of_lt _ (hg0 _)))
  iapply (own_load 𝒱 (c : Thread nD τ) bd (m := arg6) (Finset.subset_univ _)) $$ H6
  iintro H6
  iapply (own_load 𝒱 (c : Thread nD τ) bd (m := arg7) (Finset.subset_univ _)) $$ H7
  iintro H7
  iapply (own_load 𝒱 (c : Thread nD τ) bd (m := arg12) (S := slab s) (unit_subset_slab s _ _ oW rfl _)) $$ H12
  iintro H12
  iapply (own_store_upd 𝒱 (c : Thread nD τ) bd (m := arg12) (S := slab s) (unit_subset_slab s _ _ oW rfl _)) $$ H12
  iintro H12
  iapply (own_load 𝒱 (c : Thread nD τ) bd (m := arg12) (S := slab s) (unit_subset_slab s _ _ oV rfl _)) $$ H12
  iintro H12
  iapply (own_store_upd 𝒱 (c : Thread nD τ) bd (m := arg12) (S := slab s) (unit_subset_slab s _ _ oV rfl _)) $$ H12
  iintro H12
  iapply (own_load 𝒱 (c : Thread nD τ) bd (m := arg11) (S := slab s) (unit_subset_slab s _ _ oW rfl _)) $$ H11
  iintro H11
  iapply (own_store_upd 𝒱 (c : Thread nD τ) bd (m := arg11) (S := slab s) (unit_subset_slab s _ _ oW rfl _)) $$ H11
  iintro H11
  iapply (own_load 𝒱 (c : Thread nD τ) bd (m := arg11) (S := slab s) (unit_subset_slab s _ _ oV rfl _)) $$ H11
  iintro H11
  iapply (own_store_upd 𝒱 (c : Thread nD τ) bd (m := arg11) (S := slab s) (unit_subset_slab s _ _ oV rfl _)) $$ H11
  iintro H11
  iapply Hk
  isplitl [H0]; · iexact H0
  isplitl [H6]; · iexists _; iexact H6
  isplitl [H7]; · iexists _; iexact H7
  isplitl [H11]
  · iexists _; iexact H11
  · iexists _; iexact H12

/-- One trip keeps what the loop keeps. -/
theorem t4_step (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x128 .i32) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2) (v79 : FVec Bits S8x128 .f32) (v81 : FVec Bits S8x128 .f32) (c0_i32_42 : BitVec 32) (c1_i32_43 : BitVec 32) (k0_t3 : Fin k0_t3_loop.trips) (v304 : BitVec 32) (v305 : BitVec 32)
    (c : Dev nD) {defs : Defs nD τ sig (Elt Bits) Λ₀} (𝒱 : Variants) (bd : Option 𝒱.V)
    (q0 : PosShare TreeShare) (g0 : S1x8192.Idx → BitVec 32)
    (hg0 : IdsOk g0) (s : Fin 2) (hs : s.val = k0_t3.val % 2) (k : Fin k0_t4_loop.trips) (x : Unit) :
    InnerI c arg0 arg6 arg7 arg11 arg12 q0 g0 s ⊢ wp frame (wpE defs 𝒱 (c : Thread nD τ) bd) Set.univ
      (Gen.k0_t4_body arg0 harg0 arg1 harg1 arg2 harg2 arg3 harg3 arg4 harg4 arg5 harg5 arg6 harg6 arg7 harg7 arg8 harg8 arg9 harg9 arg10 harg10 arg11 harg11 arg12 harg12 arg13 arg14 v79 v81 c0_i32_42 c1_i32_43 k0_t3 v304 v305 k x)
      (fun _ => InnerI c arg0 arg6 arg7 arg11 arg12 q0 g0 s) := by
  have h3 : k0_t3.val < 32 := k0_t3.isLt
  have h4 : k.val < 16 := k.isLt
  rw [t4o.eq_at, pr1.eq]
  iintro H
  iapply (pr1_wp arg0 arg6 arg7 arg11 harg11 arg12 harg12 v79 v81 k0_t3 k _ c 𝒱 bd _ q0 g0 hg0 s hs) $$ H
  iintro H
  rw [pr2.eq]
  iapply (pr2_wp arg0 arg6 arg7 arg11 harg11 arg12 harg12 v79 v81 k0_t3 k _ c 𝒱 bd _ q0 g0 hg0 s hs) $$ H
  iintro H
  rw [pr3.eq]
  iapply (pr3_wp arg0 arg6 arg7 arg11 harg11 arg12 harg12 v79 v81 k0_t3 k _ c 𝒱 bd _ q0 g0 hg0 s hs) $$ H
  iintro H
  rw [pr4.eq]
  iapply (pr4_wp arg0 arg6 arg7 arg11 harg11 arg12 harg12 v79 v81 k0_t3 k _ c 𝒱 bd _ q0 g0 hg0 s hs) $$ H
  iintro H
  rw [pr5.eq]
  iapply (pr5_wp arg0 arg6 arg7 arg11 harg11 arg12 harg12 v79 v81 k0_t3 k _ c 𝒱 bd _ q0 g0 hg0 s hs) $$ H
  iintro H
  rw [pr6.eq]
  iapply (pr6_wp arg0 arg6 arg7 arg11 harg11 arg12 harg12 v79 v81 k0_t3 k _ c 𝒱 bd _ q0 g0 hg0 s hs) $$ H
  iintro H
  rw [pr7.eq]
  iapply (pr7_wp arg0 arg6 arg7 arg11 harg11 arg12 harg12 v79 v81 k0_t3 k _ c 𝒱 bd _ q0 g0 hg0 s hs) $$ H
  iintro H
  rw [pr8.eq]
  iapply (pr8_wp arg0 arg6 arg7 arg11 harg11 arg12 harg12 v79 v81 k0_t3 k _ c 𝒱 bd _ q0 g0 hg0 s hs) $$ H
  iintro H
  rw [show (pr8.tail : Prog (TpuEff nD τ sig (Elt Bits) Λ₀ .tc) Unit) = Prog.ret () from rfl]
  rw [wp_ret]
  imodintro
  iexact H

/-- The loop over a block's tokens keeps its buffers. -/
theorem t4_loop {R : Type} (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x128 .i32) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2) (v79 : FVec Bits S8x128 .f32) (v81 : FVec Bits S8x128 .f32) (c0_i32_42 : BitVec 32) (c1_i32_43 : BitVec 32) (k0_t3 : Fin k0_t3_loop.trips) (v304 : BitVec 32) (v305 : BitVec 32)
    (c : Dev nD) {defs : Defs nD τ sig (Elt Bits) Λ₀} (𝒱 : Variants) (bd : Option 𝒱.V)
    (q0 : PosShare TreeShare) (g0 : S1x8192.Idx → BitVec 32)
    (hg0 : IdsOk g0) (s : Fin 2) (hs : s.val = k0_t3.val % 2) (kk : Unit → Prog (TpuEff nD τ sig (Elt Bits) Λ₀ .tc) R) (Q : R → sProp 𝕄) :
    InnerI c arg0 arg6 arg7 arg11 arg12 q0 g0 s ⊢ iprop((iprop(InnerI c arg0 arg6 arg7 arg11 arg12 q0 g0 s) -∗ wp frame (wpE defs 𝒱 (c : Thread nD τ) bd) Set.univ (kk ⟨⟩) Q)
      -∗ wp frame (wpE defs 𝒱 (c : Thread nD τ) bd) Set.univ
      (Scf.Loop.for k0_t4_loop Gen.k0_t4_ok ⟨⟩ (Gen.k0_t4_body arg0 harg0 arg1 harg1 arg2 harg2 arg3 harg3 arg4 harg4 arg5 harg5 arg6 harg6 arg7 harg7 arg8 harg8 arg9 harg9 arg10 harg10 arg11 harg11 arg12 harg12 arg13 arg14 v79 v81 c0_i32_42 c1_i32_43 k0_t3 v304 v305) >>= kk) Q) := by
  iintro H Hk
  unfold Scf.Loop.for
  iapply (Scf.wp_for_bind frame (wpE defs 𝒱 (c : Thread nD τ) bd) Set.univ _ _ _ _ _ _
    (fun n _ => InnerI c arg0 arg6 arg7 arg11 arg12 q0 g0 s)
    (fun k x => t4_step arg0 harg0 arg1 harg1 arg2 harg2 arg3 harg3 arg4 harg4 arg5 harg5 arg6 harg6 arg7 harg7 arg8 harg8 arg9 harg9 arg10 harg10 arg11 harg11 arg12 harg12 arg13 arg14 v79 v81 c0_i32_42 c1_i32_43 k0_t3 v304 v305 c 𝒱 bd q0 g0 hg0 s hs k x)) $$ H
  iintro %acc H
  iapply Hk
  iexact H

end Cert.Proof.Kernel
-- ==== Proof.Bits.Arm.lean ====
/-
  The branch of the outer loop that waits for the block two before this one, opened into its waits.
-/
module

public import proofs.«01_k».proof.Proof.Bits.Open

@[expose] public section

noncomputable section

namespace Cert.Proof.Kernel

open Cert.Kernel Cert.Kernel.Gen
open Idealize.ShloMosaic Idealize.ShloMosaic.TcCoe Idealize.ShloMosaic.Tactic Idealize.SL.Sem

/-- The branch. -/
def t3arm (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x128 .i32) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2) (k0_t3 : Fin k0_t3_loop.trips) (v304 : BitVec 32) (k0_h1 : k0_cond1 k0_t3 = 1#1) : Prog (TpuEff nD τ sig (Elt Bits) Λ₀ .tc) PUnit := do
  let v442 : BitVec 32 ← k0_part5 (F := Bits) arg0 harg0 arg1 harg1 arg2 harg2 arg3 harg3 arg4 harg4 arg5 harg5 arg6 harg6 arg7 harg7 arg8 harg8 arg9 harg9 arg10 harg10 arg11 harg11 arg12 harg12 arg13 arg14 k0_t3 v304 k0_h1
  k0_part6 (F := Bits) arg0 harg0 arg1 harg1 arg2 harg2 arg3 harg3 arg4 harg4 arg5 harg5 arg6 harg6 arg7 harg7 arg8 harg8 arg9 harg9 arg10 harg10 arg11 harg11 arg12 harg12 arg13 arg14 k0_t3 k0_h1 v442
  k0_part7 (F := Bits) arg0 harg0 arg1 harg1 arg2 harg2 arg3 harg3 arg4 harg4 arg5 harg5 arg6 harg6 arg7 harg7 arg8 harg8 arg9 harg9 arg10 harg10 arg11 harg11 arg12 harg12 arg13 arg14 k0_t3 k0_h1 v442
  k0_part8 (F := Bits) arg0 harg0 arg1 harg1 arg2 harg2 arg3 harg3 arg4 harg4 arg5 harg5 arg6 harg6 arg7 harg7 arg8 harg8 arg9 harg9 arg10 harg10 arg11 harg11 arg12 harg12 arg13 arg14 k0_t3 k0_h1 v442
  let v561 : Memref sig .tc .vmem S1x1x256x128 .bf16 := arg12.slice (Rect.unit (s := S2x11x272x128) (k0_off36 k0_t3) S1x1x256x128.size (k0_off36_inb k0_t3 k0_h1)) (fun _ => rfl)
  let v562 : Memref sig .tc .vmem S256x128 .bf16 := v561.squeeze S256x128 squeezes_S1x1x256x128_S256x128
  let v558 : DmaSems sig S1 := arg14.slice (Rect.unit (s := S2) (k0_off16 k0_t3) S1.size (k0_off16_inb k0_t3 k0_h1))
  let v559 : DmaSems sig S_ := v558.squeeze S_ squeezes_S1_S_
  let v560 : Memref sig .tc .hbm S256x128 .bf16 := arg5.slice (Rect.unit (s := S8192x1408) (k0_off35 k0_t3) S256x128.size (k0_off35_inb k0_t3 k0_h1)) (fun _ => rfl)
  Prog.lift (.waitDma2 v559.sem v562 v560 ((harg12.wordExact_slice rfl _ (k0_off36_wordsbf16 k0_t3 k0_h1)).reshape _ _) (harg5.wordExact_slice rfl _ (k0_off35_wordsbf16 k0_t3 k0_h1)))
  let v564 : DmaSems sig S1 := arg14.slice (Rect.unit (s := S2) (k0_off16 k0_t3) S1.size (k0_off16_inb k0_t3 k0_h1))
  let v565 : DmaSems sig S_ := v564.squeeze S_ squeezes_S1_S_
  let v566 : Memref sig .tc .hbm S256x128 .bf16 := arg4.slice (Rect.unit (s := S8192x1408) (k0_off37 k0_t3) S256x128.size (k0_off37_inb k0_t3 k0_h1)) (fun _ => rfl)
  let v567 : Memref sig .tc .vmem S1x1x256x128 .bf16 := arg11.slice (Rect.unit (s := S2x11x272x128) (k0_off38 k0_t3) S1x1x256x128.size (k0_off38_inb k0_t3 k0_h1)) (fun _ => rfl)
  let v568 : Memref sig .tc .vmem S256x128 .bf16 := v567.squeeze S256x128 squeezes_S1x1x256x128_S256x128
  Prog.lift (.waitDma2 v565.sem v568 v566 ((harg11.wordExact_slice rfl _ (k0_off38_wordsbf16 k0_t3 k0_h1)).reshape _ _) (harg4.wordExact_slice rfl _ (k0_off37_wordsbf16 k0_t3 k0_h1)))
  let v570 : DmaSems sig S1 := arg14.slice (Rect.unit (s := S2) (k0_off16 k0_t3) S1.size (k0_off16_inb k0_t3 k0_h1))
  let v571 : DmaSems sig S_ := v570.squeeze S_ squeezes_S1_S_
  let v572 : Memref sig .tc .hbm S256x128 .bf16 := arg5.slice (Rect.unit (s := S8192x1408) (k0_off37 k0_t3) S256x128.size (k0_off37_inb k0_t3 k0_h1)) (fun _ => rfl)
  let v573 : Memref sig .tc .vmem S1x1x256x128 .bf16 := arg12.slice (Rect.unit (s := S2x11x272x128) (k0_off38 k0_t3) S1x1x256x128.size (k0_off38_inb k0_t3 k0_h1)) (fun _ => rfl)
  let v574 : Memref sig .tc .vmem S256x128 .bf16 := v573.squeeze S256x128 squeezes_S1x1x256x128_S256x128
  Prog.lift (.waitDma2 v571.sem v574 v572 ((harg12.wordExact_slice rfl _ (k0_off38_wordsbf16 k0_t3 k0_h1)).reshape _ _) (harg5.wordExact_slice rfl _ (k0_off37_wordsbf16 k0_t3 k0_h1)))
  pure ⟨⟩

set_option open_calls.check false in
set_option maxRecDepth 65536 in
set_option maxHeartbeats 400000000 in
open_calls t3a := t3arm [k0_part5, k0_part6, k0_part7, k0_part8]

end Cert.Proof.Kernel
-- ==== Proof.Bits.Outer.lean ====
/-
  The outer loop: a trip waits for the block two before it, fills its slot and issues the block's transfers; after the
  last trip the two slots' batches are still out.
-/
module

public import proofs.«01_k».proof.Proof.Bits.Inner
public import proofs.«01_k».proof.Proof.Bits.Out
public import proofs.«01_k».proof.Proof.Bits.Arm

@[expose] public section

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Bits) ℕ (Pipeline.UD sig nD τ) ℕ

/-- The parity of a block, which is its slot. -/
def par (k : ℕ) : Fin 2 := ⟨k % 2, by omega⟩

/-- A slot with nothing in flight. -/
def Idle (c : Dev nD) (arg11 arg12 : Memref sig .tc .vmem S2x11x272x128 .bf16) (a : DmaSems sig S2) (s : Fin 2) : sProp 𝕄 :=
  iprop(semVal ((c : Thread nD τ), SemLoc.dma (cellO a s)) 0 ∗ (∃ g, own (Val := Elt Bits) (c : Thread nD τ) arg11 (slab s) fullShare g)
    ∗ (∃ g, own (Val := Elt Bits) (c : Thread nD τ) arg12 (slab s) fullShare g))

/-- A slot whose block `b` is in flight. -/
def Busy (c : Dev nD) (arg4 arg5 : Memref sig .tc .hbm S8192x1408 .bf16) (arg11 arg12 : Memref sig .tc .vmem S2x11x272x128 .bf16) (a : DmaSems sig S2) (N : ℕ)
    (s : Fin 2) (b : ℕ) : sProp 𝕄 :=
  iprop(Transfers.Batch EC (c : Thread nD τ) (.dma (cellO a s)) () N (Dt c arg11 arg4 arg12 arg5 b s) 22 0
    ∗ (∃ g, own (Val := Elt Bits) (c : Thread nD τ) arg11 (srcRem s 11) fullShare g)
    ∗ (∃ g, own (Val := Elt Bits) (c : Thread nD τ) arg12 (srcRem s 11) fullShare g))

/-- The results so far: the blocks before `d`, and those from `k` on. -/
def Outs (c : Dev nD) (arg4 arg5 : Memref sig .tc .hbm S8192x1408 .bf16) (d k : ℕ) : sProp 𝕄 :=
  iprop((∃ g, own (Val := Elt Bits) (c : Thread nD τ) arg4 (dstAcc d 0) fullShare g)
    ∗ (∃ g, own (Val := Elt Bits) (c : Thread nD τ) arg5 (dstAcc d 0) fullShare g)
    ∗ (∃ g, own (Val := Elt Bits) (c : Thread nD τ) arg4 (dstRem k 0) fullShare g)
    ∗ (∃ g, own (Val := Elt Bits) (c : Thread nD τ) arg5 (dstRem k 0) fullShare g))

/-- The slot trip `k` uses, before the trip. -/
def Cur (c : Dev nD) (arg4 arg5 : Memref sig .tc .hbm S8192x1408 .bf16) (arg11 arg12 : Memref sig .tc .vmem S2x11x272x128 .bf16) (a : DmaSems sig S2) (N : ℕ)
    (k : ℕ) : sProp 𝕄 :=
  if k < 2 then Idle c arg11 arg12 a (par k) else Busy c arg4 arg5 arg11 arg12 a N  (par k) (k - 2)

/-- What the outer loop keeps. -/
def OuterI (c : Dev nD) (arg0 : Memref sig .tc .smem S1x8192 .i32) (arg4 arg5 : Memref sig .tc .hbm S8192x1408 .bf16) (arg6 : Memref sig .tc .vmem S63488x128 .i32) (arg7 : Memref sig .tc .vmem S7936x128 .f32)
    (arg11 arg12 : Memref sig .tc .vmem S2x11x272x128 .bf16) (a : DmaSems sig S2) (N : ℕ)
    (q0 : PosShare TreeShare) (g0 : S1x8192.Idx → BitVec 32) (k : ℕ) : sProp 𝕄 :=
  iprop((own (Val := Elt Bits) (c : Thread nD τ) arg0 Finset.univ q0 g0 ∗ (∃ g, own (Val := Elt Bits) (c : Thread nD τ) arg6 Finset.univ fullShare g)
      ∗ (∃ g, own (Val := Elt Bits) (c : Thread nD τ) arg7 Finset.univ fullShare g))
    ∗ Outs c arg4 arg5  (k - 2) k ∗ Cur c arg4 arg5 arg11 arg12 a N  k ∗ Cur c arg4 arg5 arg11 arg12 a N  (k + 1)
    ∗ ∃ W, owes (c : Thread nD τ) (0 : CellTallies nD τ sig Unit) W)

/-- The branch that waits: the slot's block is back and the slot is free. -/
theorem arm_wp {R : Type} (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x128 .i32) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2) (t3 : Fin k0_t3_loop.trips) (v304 : BitVec 32) (h1 : k0_cond1 t3 = 1#1)
    (c : Dev nD) {defs : Defs nD τ sig (Elt Bits) Λ₀} (𝒱 : Variants) (bd : Option 𝒱.V)
    (N : ℕ) (h0 : 0 < N) (hN4 : arg4.view.ref.dmaCredit S256x128 .bf16 = N) (hN5 : arg5.view.ref.dmaCredit S256x128 .bf16 = N)
    (b : ℕ) (κ : PUnit → Prog (TpuEff nD τ sig (Elt Bits) Λ₀ .tc) R) (Q : R → sProp 𝕄) :
    (iprop(Busy c arg4 arg5 arg11 arg12 arg14 N  (par t3.val) b
      ∗ (∃ g, own (Val := Elt Bits) (c : Thread nD τ) arg4 (dstAcc b 0) fullShare g)
      ∗ (∃ g, own (Val := Elt Bits) (c : Thread nD τ) arg5 (dstAcc b 0) fullShare g)
      ∗ ∃ W, owes (c : Thread nD τ) (0 : CellTallies nD τ sig Unit) W) : sProp 𝕄)
    ⊢ iprop((iprop(Idle c arg11 arg12 arg14 (par t3.val)
      ∗ (∃ g, own (Val := Elt Bits) (c : Thread nD τ) arg4 (dstAcc (b + 1) 0) fullShare g)
      ∗ (∃ g, own (Val := Elt Bits) (c : Thread nD τ) arg5 (dstAcc (b + 1) 0) fullShare g)
      ∗ ∃ W, owes (c : Thread nD τ) (0 : CellTallies nD τ sig Unit) W) -∗ wp frame (wpE defs 𝒱 (c : Thread nD τ) bd) Set.univ (κ ⟨⟩) Q)
      -∗ wp frame (wpE defs 𝒱 (c : Thread nD τ) bd) Set.univ (t3arm arg0 harg0 arg1 harg1 arg2 harg2 arg3 harg3 arg4 harg4 arg5 harg5 arg6 harg6 arg7 harg7 arg8 harg8 arg9 harg9 arg10 harg10 arg11 harg11 arg12 harg12 arg13 arg14 t3 v304 h1 >>= κ) Q) := by
  have hs : k0_off16 t3 = ![(par t3.val).val] := Gen.k0_off16_eq t3
  rw [t3a.eq_at]
  unfold Busy
  iintro ⟨⟨HB, ⟨%g1, H11⟩, ⟨%g2, H12⟩⟩, H4, H5, HO⟩ Hk
  ihave HB := (Entails.of_eq (by rw [Nat.zero_mul]) : Transfers.Batch EC (c : Thread nD τ) (.dma (cellO arg14 (par t3.val))) () N (Dt c arg11 arg4 arg12 arg5 b (par t3.val)) 22 0 ⊢ Transfers.Batch EC (c : Thread nD τ) (.dma (cellO arg14 (par t3.val))) () N (Dt c arg11 arg4 arg12 arg5 b (par t3.val)) 22 (0 * N)) $$ HB
  iapply (wait_one c 𝒱 bd _ arg14 (par t3.val) N _ 0 (by omega) h0 hN4 hs) $$ [HB HO]
  · isplitl [HB]; · iexact HB
    iexact HO
  iintro ⟨HB, HO⟩
  iapply (wait_one c 𝒱 bd _ arg14 (par t3.val) N _ 1 (by omega) h0 hN5 hs) $$ [HB HO]
  · isplitl [HB]; · iexact HB
    iexact HO
  iintro ⟨HB, HO⟩
  iapply (wait_one c 𝒱 bd _ arg14 (par t3.val) N _ 2 (by omega) h0 hN4 hs) $$ [HB HO]
  · isplitl [HB]; · iexact HB
    iexact HO
  iintro ⟨HB, HO⟩
  iapply (wait_one c 𝒱 bd _ arg14 (par t3.val) N _ 3 (by omega) h0 hN5 hs) $$ [HB HO]
  · isplitl [HB]; · iexact HB
    iexact HO
  iintro ⟨HB, HO⟩
  iapply (wait_one c 𝒱 bd _ arg14 (par t3.val) N _ 4 (by omega) h0 hN4 hs) $$ [HB HO]
  · isplitl [HB]; · iexact HB
    iexact HO
  iintro ⟨HB, HO⟩
  iapply (wait_one c 𝒱 bd _ arg14 (par t3.val) N _ 5 (by omega) h0 hN5 hs) $$ [HB HO]
  · isplitl [HB]; · iexact HB
    iexact HO
  iintro ⟨HB, HO⟩
  iapply (wait_one c 𝒱 bd _ arg14 (par t3.val) N _ 6 (by omega) h0 hN4 hs) $$ [HB HO]
  · isplitl [HB]; · iexact HB
    iexact HO
  iintro ⟨HB, HO⟩
  iapply (wait_one c 𝒱 bd _ arg14 (par t3.val) N _ 7 (by omega) h0 hN5 hs) $$ [HB HO]
  · isplitl [HB]; · iexact HB
    iexact HO
  iintro ⟨HB, HO⟩
  iapply (wait_one c 𝒱 bd _ arg14 (par t3.val) N _ 8 (by omega) h0 hN4 hs) $$ [HB HO]
  · isplitl [HB]; · iexact HB
    iexact HO
  iintro ⟨HB, HO⟩
  iapply (wait_one c 𝒱 bd _ arg14 (par t3.val) N _ 9 (by omega) h0 hN5 hs) $$ [HB HO]
  · isplitl [HB]; · iexact HB
    iexact HO
  iintro ⟨HB, HO⟩
  iapply (wait_one c 𝒱 bd _ arg14 (par t3.val) N _ 10 (by omega) h0 hN4 hs) $$ [HB HO]
  · isplitl [HB]; · iexact HB
    iexact HO
  iintro ⟨HB, HO⟩
  iapply (wait_one c 𝒱 bd _ arg14 (par t3.val) N _ 11 (by omega) h0 hN5 hs) $$ [HB HO]
  · isplitl [HB]; · iexact HB
    iexact HO
  iintro ⟨HB, HO⟩
  iapply (wait_one c 𝒱 bd _ arg14 (par t3.val) N _ 12 (by omega) h0 hN4 hs) $$ [HB HO]
  · isplitl [HB]; · iexact HB
    iexact HO
  iintro ⟨HB, HO⟩
  iapply (wait_one c 𝒱 bd _ arg14 (par t3.val) N _ 13 (by omega) h0 hN5 hs) $$ [HB HO]
  · isplitl [HB]; · iexact HB
    iexact HO
  iintro ⟨HB, HO⟩
  iapply (wait_one c 𝒱 bd _ arg14 (par t3.val) N _ 14 (by omega) h0 hN4 hs) $$ [HB HO]
  · isplitl [HB]; · iexact HB
    iexact HO
  iintro ⟨HB, HO⟩
  iapply (wait_one c 𝒱 bd _ arg14 (par t3.val) N _ 15 (by omega) h0 hN5 hs) $$ [HB HO]
  · isplitl [HB]; · iexact HB
    iexact HO
  iintro ⟨HB, HO⟩
  iapply (wait_one c 𝒱 bd _ arg14 (par t3.val) N _ 16 (by omega) h0 hN4 hs) $$ [HB HO]
  · isplitl [HB]; · iexact HB
    iexact HO
  iintro ⟨HB, HO⟩
  iapply (wait_one c 𝒱 bd _ arg14 (par t3.val) N _ 17 (by omega) h0 hN5 hs) $$ [HB HO]
  · isplitl [HB]; · iexact HB
    iexact HO
  iintro ⟨HB, HO⟩
  iapply (wait_one c 𝒱 bd _ arg14 (par t3.val) N _ 18 (by omega) h0 hN4 hs) $$ [HB HO]
  · isplitl [HB]; · iexact HB
    iexact HO
  iintro ⟨HB, HO⟩
  iapply (wait_one c 𝒱 bd _ arg14 (par t3.val) N _ 19 (by omega) h0 hN5 hs) $$ [HB HO]
  · isplitl [HB]; · iexact HB
    iexact HO
  iintro ⟨HB, HO⟩
  iapply (wait_one c 𝒱 bd _ arg14 (par t3.val) N _ 20 (by omega) h0 hN4 hs) $$ [HB HO]
  · isplitl [HB]; · iexact HB
    iexact HO
  iintro ⟨HB, HO⟩
  iapply (wait_last c 𝒱 bd _ arg14 (par t3.val) N _ h0 hN5 hs) $$ [HB HO]
  · isplitl [HB]; · iexact HB
    iexact HO
  iintro ⟨HD, Hv, HO⟩
  ihave H := (take_all c arg11 arg4 arg12 arg5 b (par t3.val)) $$ [H4 H5 H11 H12 HD]
  · isplitl [H4 H11]
    · isplitl [H4]; · iexact H4
      iexists g1; iexact H11
    isplitl [H5 H12]
    · isplitl [H5]; · iexact H5
      iexists g2; iexact H12
    iexact HD
  icases H with ⟨⟨H4, H11⟩, H5, H12⟩
  iapply Hk
  unfold Idle
  isplitl [Hv H11 H12]
  · isplitl [Hv]; · iexact Hv
    isplitl [H11]; · iexact H11
    iexact H12
  isplitl [H4]; · iexact H4
  isplitl [H5]; · iexact H5
  iexact HO

/-- What the branch decides: whether a block is two before this one. -/
theorem cond1_iff : ∀ t3 : Fin k0_t3_loop.trips, (k0_cond1 t3 = 1#1 ↔ 2 ≤ t3.val) := by decide +kernel

/-- Two blocks on, the slot is the same. -/
theorem par_two (k : ℕ) : par (k + 2) = par k := Fin.ext (by simp [par])

/-- Before the trip's own work: the slot is free, and the block two before is back. -/
theorem enter_wp {R : Type} (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x128 .i32) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2) (t3 : Fin k0_t3_loop.trips) (v304 : BitVec 32)
    (c : Dev nD) {defs : Defs nD τ sig (Elt Bits) Λ₀} (𝒱 : Variants) (bd : Option 𝒱.V)
    (N : ℕ) (h0 : 0 < N) (hN4 : arg4.view.ref.dmaCredit S256x128 .bf16 = N) (hN5 : arg5.view.ref.dmaCredit S256x128 .bf16 = N)
    (A : k0_cond1 t3 = 1#1 → Prog (TpuEff nD τ sig (Elt Bits) Λ₀ .tc) R) (κ : Prog (TpuEff nD τ sig (Elt Bits) Λ₀ .tc) R)
    (hA : ∀ h, A h = t3arm arg0 harg0 arg1 harg1 arg2 harg2 arg3 harg3 arg4 harg4 arg5 harg5 arg6 harg6 arg7 harg7 arg8 harg8 arg9 harg9 arg10 harg10 arg11 harg11 arg12 harg12 arg13 arg14 t3 v304 h >>= fun _ => κ) (Q : R → sProp 𝕄) :
    (iprop(Cur c arg4 arg5 arg11 arg12 arg14 N  t3.val ∗ Outs c arg4 arg5  (t3.val - 2) t3.val
      ∗ ∃ W, owes (c : Thread nD τ) (0 : CellTallies nD τ sig Unit) W) : sProp 𝕄)
    ⊢ iprop((iprop(Idle c arg11 arg12 arg14 (par t3.val) ∗ Outs c arg4 arg5  (t3.val + 1 - 2) t3.val
      ∗ ∃ W, owes (c : Thread nD τ) (0 : CellTallies nD τ sig Unit) W) -∗ wp frame (wpE defs 𝒱 (c : Thread nD τ) bd) Set.univ κ Q)
      -∗ wp frame (wpE defs 𝒱 (c : Thread nD τ) bd) Set.univ (if h : k0_cond1 t3 = 1#1 then A h else κ) Q) := by
  by_cases h : 2 ≤ t3.val
  · rw [dif_pos ((cond1_iff t3).mpr h), hA]
    unfold Cur Outs
    rw [if_neg (by omega), show t3.val + 1 - 2 = t3.val - 2 + 1 by omega]
    iintro ⟨HC, ⟨H4, H5, HR⟩, HO⟩ Hk
    iapply (arm_wp arg0 harg0 arg1 harg1 arg2 harg2 arg3 harg3 arg4 harg4 arg5 harg5 arg6 harg6 arg7 harg7 arg8 harg8 arg9 harg9 arg10 harg10 arg11 harg11 arg12 harg12 arg13 arg14 t3 v304 _ c 𝒱 bd N h0 hN4 hN5  (t3.val - 2) (fun _ => κ) Q) $$ [HC H4 H5 HO]
    · isplitl [HC]; · iexact HC
      isplitl [H4]; · iexact H4
      isplitl [H5]; · iexact H5
      iexact HO
    iintro ⟨HC, H4, H5, HO⟩
    iapply Hk
    isplitl [HC]; · iexact HC
    isplitl [H4 H5 HR]
    · isplitl [H4]; · iexact H4
      isplitl [H5]; · iexact H5
      iexact HR
    iexact HO
  · rw [dif_neg (fun e => h ((cond1_iff t3).mp e))]
    unfold Cur
    rw [if_pos (by omega), show t3.val + 1 - 2 = t3.val - 2 by omega]
    iintro ⟨HC, H4, HO⟩ Hk
    iapply Hk
    isplitl [HC]; · iexact HC
    isplitl [H4]; · iexact H4
    iexact HO

set_option maxHeartbeats 4000000 in
/-- One trip of the outer loop. -/
theorem t3_step (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x128 .i32) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2) (v61 : FVec Bits S1x128 .f32) (v78 v80 : Vec Bits S1x8x128 .f32)
    (c : Dev nD) {defs : Defs nD τ sig (Elt Bits) Λ₀} (𝒱 : Variants) (bd : Option 𝒱.V)
    (N : ℕ) (h0 : 0 < N) (hN4 : arg4.view.ref.dmaCredit S256x128 .bf16 = N) (hN5 : arg5.view.ref.dmaCredit S256x128 .bf16 = N)
    (q0 : PosShare TreeShare) (g0 : S1x8192.Idx → BitVec 32)
    (hg0 : IdsOk g0) (k : Fin k0_t3_loop.trips) (x : Unit) :
    OuterI c arg0 arg4 arg5 arg6 arg7 arg11 arg12 arg14 N  q0 g0 k.val ⊢ wp frame (wpE defs 𝒱 (c : Thread nD τ) bd) Set.univ
      (Gen.k0_t3_body arg0 harg0 arg1 harg1 arg2 harg2 arg3 harg3 arg4 harg4 arg5 harg5 arg6 harg6 arg7 harg7 arg8 harg8 arg9 harg9 arg10 harg10 arg11 harg11 arg12 harg12 arg13 arg14 v61 v78 v80 k x)
      (fun _ => OuterI c arg0 arg4 arg5 arg6 arg7 arg11 arg12 arg14 N  q0 g0 (k.val + 1)) := by
  have hk : k.val < 32 := k.isLt
  rw [t3o.eq_at]
  unfold t3o OuterI
  iintro ⟨⟨H0, H6, H7⟩, HOut, HC, HC', HO⟩
  iapply (enter_wp arg0 harg0 arg1 harg1 arg2 harg2 arg3 harg3 arg4 harg4 arg5 harg5 arg6 harg6 arg7 harg7 arg8 harg8 arg9 harg9 arg10 harg10 arg11 harg11 arg12 harg12 arg13 arg14 k 0#32 c 𝒱 bd N h0 hN4 hN5  _ _ ?_) $$ [HC HOut HO]
  · exact fun _ => rfl
  · isplitl [HC]; · iexact HC
    isplitl [HOut]; · iexact HOut
    iexact HO
  unfold Idle
  iintro ⟨⟨Hv, ⟨%ga, H11⟩, ⟨%gb, H12⟩⟩, HOut, HO⟩
  iapply (t4_loop arg0 harg0 arg1 harg1 arg2 harg2 arg3 harg3 arg4 harg4 arg5 harg5 arg6 harg6 arg7 harg7 arg8 harg8 arg9 harg9 arg10 harg10 arg11 harg11 arg12 harg12 arg13 arg14 _ _ _ _ k _ _ c 𝒱 bd  q0 g0 hg0 (par k.val) rfl) $$ [H0 H6 H7 H11 H12]
  · unfold InnerI
    isplitl [H0]; · iexact H0
    isplitl [H6]; · iexact H6
    isplitl [H7]; · iexact H7
    isplitl [H11]
    · iexists ga; iexact H11
    · iexists gb; iexact H12
  unfold InnerI Outs
  iintro ⟨H0, H6, H7, ⟨%ga, H11⟩, ⟨%gb, H12⟩⟩
  icases HOut with ⟨H4, H5, ⟨%gd4, H4'⟩, ⟨%gd5, H5'⟩⟩
  imod (Transfers.batch_alloc' EC (c : Thread nD τ) () N (Dt c arg11 arg4 arg12 arg5 k.val (par k.val)) (sm := .dma (cellO arg14 (par k.val))) (E := Set.univ)) $$ Hv with HB
  ihave H11 := (own_set_eq (slab_eq_srcRem (par k.val))) $$ H11
  ihave H12 := (own_set_eq (slab_eq_srcRem (par k.val))) $$ H12
  iapply (issue c 𝒱 bd _ arg11 arg4 arg14 k.val (par k.val) 0 (by omega) N hN4 _ 0 (by omega) (Entails.of_eq (Dt_even c arg11 arg4 arg12 arg5 k.val (par k.val) 0 0 rfl).symm)
      ga gd4 (Gen.k0_off105_eq k) (Gen.k0_off104_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 k.val (par k.val) 0 (by omega) N hN5 _ 1 (by omega) (Entails.of_eq (Dt_odd c arg11 arg4 arg12 arg5 k.val (par k.val) 1 0 rfl).symm)
      gb gd5 (Gen.k0_off105_eq k) (Gen.k0_off104_eq k) (Gen.k0_off103_eq k)) $$ [H12 H5' HB]
  · isplitl [H12]; · iexact H12
    isplitl [H5']; · iexact H5'
    iexact HB
  iintro ⟨H12, H5', HB⟩
  iapply (issue c 𝒱 bd _ arg11 arg4 arg14 k.val (par k.val) 1 (by omega) N hN4 _ 2 (by omega) (Entails.of_eq (Dt_even c arg11 arg4 arg12 arg5 k.val (par k.val) 2 1 rfl).symm)
      ga gd4 (Gen.k0_off107_eq k) (Gen.k0_off106_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 k.val (par k.val) 1 (by omega) N hN5 _ 3 (by omega) (Entails.of_eq (Dt_odd c arg11 arg4 arg12 arg5 k.val (par k.val) 3 1 rfl).symm)
      gb gd5 (Gen.k0_off107_eq k) (Gen.k0_off106_eq k) (Gen.k0_off103_eq k)) $$ [H12 H5' HB]
  · isplitl [H12]; · iexact H12
    isplitl [H5']; · iexact H5'
    iexact HB
  iintro ⟨H12, H5', HB⟩
  iapply (issue c 𝒱 bd _ arg11 arg4 arg14 k.val (par k.val) 2 (by omega) N hN4 _ 4 (by omega) (Entails.of_eq (Dt_even c arg11 arg4 arg12 arg5 k.val (par k.val) 4 2 rfl).symm)
      ga gd4 (Gen.k0_off109_eq k) (Gen.k0_off108_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 k.val (par k.val) 2 (by omega) N hN5 _ 5 (by omega) (Entails.of_eq (Dt_odd c arg11 arg4 arg12 arg5 k.val (par k.val) 5 2 rfl).symm)
      gb gd5 (Gen.k0_off109_eq k) (Gen.k0_off108_eq k) (Gen.k0_off103_eq k)) $$ [H12 H5' HB]
  · isplitl [H12]; · iexact H12
    isplitl [H5']; · iexact H5'
    iexact HB
  iintro ⟨H12, H5', HB⟩
  iapply (issue c 𝒱 bd _ arg11 arg4 arg14 k.val (par k.val) 3 (by omega) N hN4 _ 6 (by omega) (Entails.of_eq (Dt_even c arg11 arg4 arg12 arg5 k.val (par k.val) 6 3 rfl).symm)
      ga gd4 (Gen.k0_off111_eq k) (Gen.k0_off110_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 k.val (par k.val) 3 (by omega) N hN5 _ 7 (by omega) (Entails.of_eq (Dt_odd c arg11 arg4 arg12 arg5 k.val (par k.val) 7 3 rfl).symm)
      gb gd5 (Gen.k0_off111_eq k) (Gen.k0_off110_eq k) (Gen.k0_off103_eq k)) $$ [H12 H5' HB]
  · isplitl [H12]; · iexact H12
    isplitl [H5']; · iexact H5'
    iexact HB
  iintro ⟨H12, H5', HB⟩
  iapply (issue c 𝒱 bd _ arg11 arg4 arg14 k.val (par k.val) 4 (by omega) N hN4 _ 8 (by omega) (Entails.of_eq (Dt_even c arg11 arg4 arg12 arg5 k.val (par k.val) 8 4 rfl).symm)
      ga gd4 (Gen.k0_off113_eq k) (Gen.k0_off112_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 k.val (par k.val) 4 (by omega) N hN5 _ 9 (by omega) (Entails.of_eq (Dt_odd c arg11 arg4 arg12 arg5 k.val (par k.val) 9 4 rfl).symm)
      gb gd5 (Gen.k0_off113_eq k) (Gen.k0_off112_eq k) (Gen.k0_off103_eq k)) $$ [H12 H5' HB]
  · isplitl [H12]; · iexact H12
    isplitl [H5']; · iexact H5'
    iexact HB
  iintro ⟨H12, H5', HB⟩
  iapply (issue c 𝒱 bd _ arg11 arg4 arg14 k.val (par k.val) 5 (by omega) N hN4 _ 10 (by omega) (Entails.of_eq (Dt_even c arg11 arg4 arg12 arg5 k.val (par k.val) 10 5 rfl).symm)
      ga gd4 (Gen.k0_off115_eq k) (Gen.k0_off114_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 k.val (par k.val) 5 (by omega) N hN5 _ 11 (by omega) (Entails.of_eq (Dt_odd c arg11 arg4 arg12 arg5 k.val (par k.val) 11 5 rfl).symm)
      gb gd5 (Gen.k0_off115_eq k) (Gen.k0_off114_eq k) (Gen.k0_off103_eq k)) $$ [H12 H5' HB]
  · isplitl [H12]; · iexact H12
    isplitl [H5']; · iexact H5'
    iexact HB
  iintro ⟨H12, H5', HB⟩
  iapply (issue c 𝒱 bd _ arg11 arg4 arg14 k.val (par k.val) 6 (by omega) N hN4 _ 12 (by omega) (Entails.of_eq (Dt_even c arg11 arg4 arg12 arg5 k.val (par k.val) 12 6 rfl).symm)
      ga gd4 (Gen.k0_off117_eq k) (Gen.k0_off116_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 k.val (par k.val) 6 (by omega) N hN5 _ 13 (by omega) (Entails.of_eq (Dt_odd c arg11 arg4 arg12 arg5 k.val (par k.val) 13 6 rfl).symm)
      gb gd5 (Gen.k0_off117_eq k) (Gen.k0_off116_eq k) (Gen.k0_off103_eq k)) $$ [H12 H5' HB]
  · isplitl [H12]; · iexact H12
    isplitl [H5']; · iexact H5'
    iexact HB
  iintro ⟨H12, H5', HB⟩
  iapply (issue c 𝒱 bd _ arg11 arg4 arg14 k.val (par k.val) 7 (by omega) N hN4 _ 14 (by omega) (Entails.of_eq (Dt_even c arg11 arg4 arg12 arg5 k.val (par k.val) 14 7 rfl).symm)
      ga gd4 (Gen.k0_off119_eq k) (Gen.k0_off118_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 k.val (par k.val) 7 (by omega) N hN5 _ 15 (by omega) (Entails.of_eq (Dt_odd c arg11 arg4 arg12 arg5 k.val (par k.val) 15 7 rfl).symm)
      gb gd5 (Gen.k0_off119_eq k) (Gen.k0_off118_eq k) (Gen.k0_off103_eq k)) $$ [H12 H5' HB]
  · isplitl [H12]; · iexact H12
    isplitl [H5']; · iexact H5'
    iexact HB
  iintro ⟨H12, H5', HB⟩
  iapply (issue c 𝒱 bd _ arg11 arg4 arg14 k.val (par k.val) 8 (by omega) N hN4 _ 16 (by omega) (Entails.of_eq (Dt_even c arg11 arg4 arg12 arg5 k.val (par k.val) 16 8 rfl).symm)
      ga gd4 (Gen.k0_off121_eq k) (Gen.k0_off120_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 k.val (par k.val) 8 (by omega) N hN5 _ 17 (by omega) (Entails.of_eq (Dt_odd c arg11 arg4 arg12 arg5 k.val (par k.val) 17 8 rfl).symm)
      gb gd5 (Gen.k0_off121_eq k) (Gen.k0_off120_eq k) (Gen.k0_off103_eq k)) $$ [H12 H5' HB]
  · isplitl [H12]; · iexact H12
    isplitl [H5']; · iexact H5'
    iexact HB
  iintro ⟨H12, H5', HB⟩
  iapply (issue c 𝒱 bd _ arg11 arg4 arg14 k.val (par k.val) 9 (by omega) N hN4 _ 18 (by omega) (Entails.of_eq (Dt_even c arg11 arg4 arg12 arg5 k.val (par k.val) 18 9 rfl).symm)
      ga gd4 (Gen.k0_off123_eq k) (Gen.k0_off122_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 k.val (par k.val) 9 (by omega) N hN5 _ 19 (by omega) (Entails.of_eq (Dt_odd c arg11 arg4 arg12 arg5 k.val (par k.val) 19 9 rfl).symm)
      gb gd5 (Gen.k0_off123_eq k) (Gen.k0_off122_eq k) (Gen.k0_off103_eq k)) $$ [H12 H5' HB]
  · isplitl [H12]; · iexact H12
    isplitl [H5']; · iexact H5'
    iexact HB
  iintro ⟨H12, H5', HB⟩
  iapply (issue c 𝒱 bd _ arg11 arg4 arg14 k.val (par k.val) 10 (by omega) N hN4 _ 20 (by omega) (Entails.of_eq (Dt_even c arg11 arg4 arg12 arg5 k.val (par k.val) 20 10 rfl).symm)
      ga gd4 (Gen.k0_off125_eq k) (Gen.k0_off124_eq k) (Gen.k0_off103_eq k)) $$ [H11 H4' HB]
  · isplitl [H11]; · iexact H11
    isplitl [H4']; · iexact H4'
    iexact HB
  iintro ⟨H11, H4', HB⟩
  iapply (issue c 𝒱 bd _ arg12 arg5 arg14 k.val (par k.val) 10 (by omega) N hN5 _ 21 (by omega) (Entails.of_eq (Dt_odd c arg11 arg4 arg12 arg5 k.val (par k.val) 21 10 rfl).symm)
      gb gd5 (Gen.k0_off125_eq k) (Gen.k0_off124_eq k) (Gen.k0_off103_eq k)) $$ [H12 H5' HB]
  · isplitl [H12]; · iexact H12
    isplitl [H5']; · iexact H5'
    iexact HB
  iintro ⟨H12, H5', HB⟩
  rw [ret_bind', wp_pure]
  imodintro
  isplitl [H0 H6 H7]
  · isplitl [H0]; · iexact H0
    isplitl [H6]; · iexact H6
    iexact H7
  isplitl [H4 H5 H4' H5']
  · isplitl [H4]; · iexact H4
    isplitl [H5]; · iexact H5
    isplitl [H4']
    · iexists gd4; rw [← dstRem_next]; iexact H4'
    · iexists gd5; rw [← dstRem_next]; iexact H5'
  isplitl [HC']; · iexact HC'
  isplitr [HO]
  swap; · iexact HO
  rw [show k.val + 1 + 1 = k.val + 2 from rfl]
  unfold Cur
  rw [if_neg (by omega), show k.val + 2 - 2 = k.val by omega, par_two]
  unfold Busy
  isplitl [HB]; · iexact HB
  isplitl [H11]
  · iexists ga; iexact H11
  · iexists gb; iexact H12

end Cert.Proof.Kernel
-- ==== Proof.Bits.Body.lean ====
/-
  The kernel's body: the codes' transfers are issued, the weights are laid out, the table is built block by block, the
  tokens' blocks are produced and sent out, and the last two blocks' transfers are awaited.
-/
module

public import proofs.«01_k».proof.Proof.Bits.Build
public import proofs.«01_k».proof.Proof.Bits.Outer

@[expose] public section

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Bits) ℕ (Pipeline.UD sig nD τ) ℕ

/-- The loop, from its start to its end. -/
theorem t1_loop {R : Type} (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x128 .i32) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2) (c : Dev nD) {defs : Defs nD τ sig (Elt Bits) Λ₀} (𝒱 : Variants) (bd : Option 𝒱.V) (N : ℕ) (h0 : 0 < N) (hN : arg8.view.ref.dmaCredit S1408x256 .i8 = N) (g1 : S1408x7936.Idx → BitVec 8)
    (kk : Unit → Prog (TpuEff nD τ sig (Elt Bits) Λ₀ .tc) R) (Q : R → sProp 𝕄) :
    InI c arg1 arg8 arg13 N g1 0 ⊢ iprop((InI c arg1 arg8 arg13 N g1 31 -∗ wp frame (wpE defs 𝒱 (c : Thread nD τ) bd) Set.univ (kk ()) Q)
      -∗ wp frame (wpE defs 𝒱 (c : Thread nD τ) bd) Set.univ
      (Scf.Loop.for k0_t1_loop Gen.k0_t1_ok ⟨⟩ (Gen.k0_t1_body arg0 harg0 arg1 harg1 arg2 harg2 arg3 harg3 arg4 harg4 arg5 harg5 arg6 harg6 arg7 harg7 arg8 harg8 arg9 harg9 arg10 harg10 arg11 harg11 arg12 harg12 arg13 arg14) >>= kk) Q) := by
  iintro H Hk
  unfold Scf.Loop.for
  iapply (Scf.wp_for_bind frame (wpE defs 𝒱 (c : Thread nD τ) bd) Set.univ _ _ _ _ _ _
    (fun n _ => InI c arg1 arg8 arg13 N g1 n)
    (fun k x => t1_step arg0 harg0 arg1 harg1 arg2 harg2 arg3 harg3 arg4 harg4 arg5 harg5 arg6 harg6 arg7 harg7 arg8 harg8 arg9 harg9 arg10 harg10 arg11 harg11 arg12 harg12 arg13 arg14 c 𝒱 bd N h0 hN g1 k x)) $$ H
  iintro %acc H
  iapply Hk
  iexact H

/-- The loop, from its start to its end. -/
theorem t2_loop {R : Type} (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x128 .i32) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2) (v61 : FVec Bits S1x128 .f32) (c : Dev nD) {defs : Defs nD τ sig (Elt Bits) Λ₀} (𝒱 : Variants) (bd : Option 𝒱.V) (N : ℕ) (h0 : 0 < N) (hN : arg8.view.ref.dmaCredit S1408x256 .i8 = N) (g1 : S1408x7936.Idx → BitVec 8) (q2 : PosShare TreeShare) (g2 : S7936.Idx → Elt Bits .f32)
    (kk : Unit → Prog (TpuEff nD τ sig (Elt Bits) Λ₀ .tc) R) (Q : R → sProp 𝕄) :
    BuildI c arg1 arg2 arg6 arg7 arg8 arg9 arg13 N g1 q2 g2 0 ⊢ iprop((BuildI c arg1 arg2 arg6 arg7 arg8 arg9 arg13 N g1 q2 g2 31 -∗ wp frame (wpE defs 𝒱 (c : Thread nD τ) bd) Set.univ (kk ()) Q)
      -∗ wp frame (wpE defs 𝒱 (c : Thread nD τ) bd) Set.univ
      (Scf.Loop.for k0_t2_loop Gen.k0_t2_ok ⟨⟩ (Gen.k0_t2_body arg0 harg0 arg1 harg1 arg2 harg2 arg3 harg3 arg4 harg4 arg5 harg5 arg6 harg6 arg7 harg7 arg8 harg8 arg9 harg9 arg10 harg10 arg11 harg11 arg12 harg12 arg13 arg14 v61) >>= kk) Q) := by
  iintro H Hk
  unfold Scf.Loop.for
  iapply (Scf.wp_for_bind frame (wpE defs 𝒱 (c : Thread nD τ) bd) Set.univ _ _ _ _ _ _
    (fun n _ => BuildI c arg1 arg2 arg6 arg7 arg8 arg9 arg13 N g1 q2 g2 n)
    (fun k x => t2_step arg0 harg0 arg1 harg1 arg2 harg2 arg3 harg3 arg4 harg4 arg5 harg5 arg6 harg6 arg7 harg7 arg8 harg8 arg9 harg9 arg10 harg10 arg11 harg11 arg12 harg12 arg13 arg14 v61 c 𝒱 bd N h0 hN g1 q2 g2 k x)) $$ H
  iintro %acc H
  iapply Hk
  iexact H

/-- The loop, from its start to its end. -/
theorem t3_loop {R : Type} (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x128 .i32) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2) (v61 : FVec Bits S1x128 .f32) (v78 v80 : Vec Bits S1x8x128 .f32) (c : Dev nD) {defs : Defs nD τ sig (Elt Bits) Λ₀} (𝒱 : Variants) (bd : Option 𝒱.V) (N : ℕ) (h0 : 0 < N) (hN4 : arg4.view.ref.dmaCredit S256x128 .bf16 = N) (hN5 : arg5.view.ref.dmaCredit S256x128 .bf16 = N)
    (q0 : PosShare TreeShare) (g0 : S1x8192.Idx → BitVec 32)
    (hg0 : IdsOk g0)
    (kk : Unit → Prog (TpuEff nD τ sig (Elt Bits) Λ₀ .tc) R) (Q : R → sProp 𝕄) :
    OuterI c arg0 arg4 arg5 arg6 arg7 arg11 arg12 arg14 N  q0 g0 0 ⊢ iprop((OuterI c arg0 arg4 arg5 arg6 arg7 arg11 arg12 arg14 N  q0 g0 32 -∗ wp frame (wpE defs 𝒱 (c : Thread nD τ) bd) Set.univ (kk ()) Q)
      -∗ wp frame (wpE defs 𝒱 (c : Thread nD τ) bd) Set.univ
      (Scf.Loop.for k0_t3_loop Gen.k0_t3_ok ⟨⟩ (Gen.k0_t3_body arg0 harg0 arg1 harg1 arg2 harg2 arg3 harg3 arg4 harg4 arg5 harg5 arg6 harg6 arg7 harg7 arg8 harg8 arg9 harg9 arg10 harg10 arg11 harg11 arg12 harg12 arg13 arg14 v61 v78 v80) >>= kk) Q) := by
  iintro H Hk
  unfold Scf.Loop.for
  iapply (Scf.wp_for_bind frame (wpE defs 𝒱 (c : Thread nD τ) bd) Set.univ _ _ _ _ _ _
    (fun n _ => OuterI c arg0 arg4 arg5 arg6 arg7 arg11 arg12 arg14 N  q0 g0 n)
    (fun k x => t3_step arg0 harg0 arg1 harg1 arg2 harg2 arg3 harg3 arg4 harg4 arg5 harg5 arg6 harg6 arg7 harg7 arg8 harg8 arg9 harg9 arg10 harg10 arg11 harg11 arg12 harg12 arg13 arg14 v61 v78 v80 c 𝒱 bd N h0 hN4 hN5  q0 g0 hg0 k x)) $$ H
  iintro %acc H
  iapply Hk
  iexact H

/-- The inputs. -/
def Ins (c : Dev nD) (arg0 : Memref sig .tc .smem S1x8192 .i32) (arg1 : Memref sig .tc .hbm S1408x7936 .i8) (arg2 : Memref sig .tc .vmem S7936 .f32) (arg3 : Memref sig .tc .vmem S1408 .bf16)
    (q0 q2 q3 : PosShare TreeShare) (g0 : S1x8192.Idx → BitVec 32) (g1 : S1408x7936.Idx → BitVec 8) (g2 : S7936.Idx → Elt Bits .f32) (g3 : S1408.Idx → Elt Bits .bf16) : sProp 𝕄 :=
  iprop(own (Val := Elt Bits) (c : Thread nD τ) arg0 Finset.univ q0 g0 ∗ own (Val := Elt Bits) (c : Thread nD τ) arg1 Finset.univ fullShare g1
    ∗ own (Val := Elt Bits) (c : Thread nD τ) arg2 Finset.univ q2 g2 ∗ own (Val := Elt Bits) (c : Thread nD τ) arg3 Finset.univ q3 g3)

/-- The scratch buffers, at any contents, and the semaphores at rest. -/
def Scr (c : Dev nD) (arg6 : Memref sig .tc .vmem S63488x128 .i32) (arg7 : Memref sig .tc .vmem S7936x128 .f32) (arg8 : Memref sig .tc .vmem S31x1408x256 .i8) (arg9 : Memref sig .tc .vmem S256x128 .f32) (arg10 : Memref sig .tc .vmem S2x8x128 .f32)
    (arg11 arg12 : Memref sig .tc .vmem S2x11x272x128 .bf16) (arg13 : DmaSems sig S31) (arg14 : DmaSems sig S2) : sProp 𝕄 :=
  iprop((∃ g, own (Val := Elt Bits) (c : Thread nD τ) arg6 Finset.univ fullShare g) ∗ (∃ g, own (Val := Elt Bits) (c : Thread nD τ) arg7 Finset.univ fullShare g) ∗ (∃ g, own (Val := Elt Bits) (c : Thread nD τ) arg8 Finset.univ fullShare g) ∗ (∃ g, own (Val := Elt Bits) (c : Thread nD τ) arg9 Finset.univ fullShare g) ∗ (∃ g, own (Val := Elt Bits) (c : Thread nD τ) arg10 Finset.univ fullShare g) ∗ (∃ g, own (Val := Elt Bits) (c : Thread nD τ) arg11 Finset.univ fullShare g) ∗ (∃ g, own (Val := Elt Bits) (c : Thread nD τ) arg12 Finset.univ fullShare g)
    ∗ bigSep Finset.univ (Rest c arg13) ∗ semVal ((c : Thread nD τ), SemLoc.dma (cellO arg14 0)) 0 ∗ semVal ((c : Thread nD τ), SemLoc.dma (cellO arg14 1)) 0)

/-- The two slots of a staging buffer share no cell. -/
theorem slab_disj : Disjoint (slab 0) (slab 1) := by
  rw [Finset.disjoint_left]; intro i; simp only [slab, Finset.mem_filter, Finset.mem_univ, true_and]
  intro h h'; exact absurd (h.symm.trans h') (by decide)
/-- The two slots are the whole staging buffer. -/
theorem slab_union : slab 0 ∪ slab 1 = Finset.univ := by
  ext i
  have h1 : (i (0 : Fin 4) : ℕ) < 2 := (i (0 : Fin 4)).isLt
  simp only [slab, Finset.mem_union, Finset.mem_filter, Finset.mem_univ, true_and, iff_true]
  show (i (0 : Fin 4) : ℕ) = 0 ∨ (i (0 : Fin 4) : ℕ) = 1
  omega

/-- A staging buffer is its two slots. -/
theorem slab_split (c : Dev nD) (m : Memref sig .tc .vmem S2x11x272x128 .bf16) :
    ((∃ g, own (Val := Elt Bits) (c : Thread nD τ) m Finset.univ fullShare g) : sProp 𝕄)
    ⊢ iprop((∃ g, own (Val := Elt Bits) (c : Thread nD τ) m (slab 0) fullShare g) ∗ (∃ g, own (Val := Elt Bits) (c : Thread nD τ) m (slab 1) fullShare g)) := by
  iintro ⟨%g, H⟩
  ihave H := (own_set_eq slab_union.symm) $$ H
  ihave H := (own_split slab_disj) $$ H
  icases H with ⟨H0, H1⟩
  isplitl [H0]; · iexists g; iexact H0
  iexists g; iexact H1

/-- The two slots are the staging buffer. -/
theorem slab_join (c : Dev nD) (m : Memref sig .tc .vmem S2x11x272x128 .bf16) :
    (iprop((∃ g, own (Val := Elt Bits) (c : Thread nD τ) m (slab 0) fullShare g) ∗ (∃ g, own (Val := Elt Bits) (c : Thread nD τ) m (slab 1) fullShare g)) : sProp 𝕄)
    ⊢ (∃ g, own (Val := Elt Bits) (c : Thread nD τ) m Finset.univ fullShare g) := by
  iintro ⟨⟨%g, H0⟩, ⟨%g', H1⟩⟩
  iexists ((slab 1).piecewise g' g)
  ihave H0 := (own_congr (g' := (slab 1).piecewise g' g) (fun i hi => (Finset.piecewise_eq_of_notMem _ _ _ (Finset.disjoint_left.mp slab_disj hi)).symm)) $$ H0
  ihave H1 := (own_congr (g' := (slab 1).piecewise g' g) (fun i hi => (Finset.piecewise_eq_of_mem _ _ _ hi).symm)) $$ H1
  ihave H := (own_join slab_disj) $$ [H0 H1]
  · isplitl [H0]; · iexact H0
    iexact H1
  ihave H := (own_set_eq slab_union) $$ H
  iexact H

/-- A result at any contents, before the first block. -/
theorem out_start (c : Dev nD) (m : Memref sig .tc .hbm S8192x1408 .bf16) :
    ((∃ g, own (Val := Elt Bits) (c : Thread nD τ) m Finset.univ fullShare g) : sProp 𝕄)
    ⊢ iprop((∃ g, own (Val := Elt Bits) (c : Thread nD τ) m (dstAcc 0 0) fullShare g) ∗ (∃ g, own (Val := Elt Bits) (c : Thread nD τ) m (dstRem 0 0) fullShare g)) := by
  rw [dstAcc_zero, dstRem_zero]
  iintro ⟨%g, H⟩
  ihave H := (own_set_eq (Finset.empty_union Finset.univ).symm) $$ H
  ihave H := (own_split (Finset.disjoint_empty_left _)) $$ H
  icases H with ⟨H0, H1⟩
  isplitl [H0]
  · iexists g; iexact H0
  · iexists g; iexact H1

set_option maxHeartbeats 16000000 in
/-- The body: the inputs are as they were, everything else is held at some contents. -/
theorem body_wp (arg0 : Memref sig .tc .smem S1x8192 .i32) (harg0 : arg0.IsWhole) (arg1 : Memref sig .tc .hbm S1408x7936 .i8) (harg1 : arg1.IsWhole) (arg2 : Memref sig .tc .vmem S7936 .f32) (harg2 : arg2.IsWhole) (arg3 : Memref sig .tc .vmem S1408 .bf16) (harg3 : arg3.IsWhole) (arg4 : Memref sig .tc .hbm S8192x1408 .bf16) (harg4 : arg4.IsWhole) (arg5 : Memref sig .tc .hbm S8192x1408 .bf16) (harg5 : arg5.IsWhole) (arg6 : Memref sig .tc .vmem S63488x128 .i32) (harg6 : arg6.IsWhole) (arg7 : Memref sig .tc .vmem S7936x128 .f32) (harg7 : arg7.IsWhole) (arg8 : Memref sig .tc .vmem S31x1408x256 .i8) (harg8 : arg8.IsWhole) (arg9 : Memref sig .tc .vmem S256x128 .f32) (harg9 : arg9.IsWhole) (arg10 : Memref sig .tc .vmem S2x8x128 .f32) (harg10 : arg10.IsWhole) (arg11 : Memref sig .tc .vmem S2x11x272x128 .bf16) (harg11 : arg11.IsWhole) (arg12 : Memref sig .tc .vmem S2x11x272x128 .bf16) (harg12 : arg12.IsWhole) (arg13 : DmaSems sig S31) (arg14 : DmaSems sig S2) (c : Dev nD) {defs : Defs nD τ sig (Elt Bits) Λ₀} (𝒱 : Variants) (bd : Option 𝒱.V)
    (N₁ : ℕ) (h1 : 0 < N₁) (hN₁ : arg8.view.ref.dmaCredit S1408x256 .i8 = N₁)
    (N : ℕ) (h0 : 0 < N) (hN4 : arg4.view.ref.dmaCredit S256x128 .bf16 = N) (hN5 : arg5.view.ref.dmaCredit S256x128 .bf16 = N)
    (q0 q2 q3 : PosShare TreeShare) (g0 : S1x8192.Idx → BitVec 32) (g1 : S1408x7936.Idx → BitVec 8) (g2 : S7936.Idx → Elt Bits .f32) (g3 : S1408.Idx → Elt Bits .bf16) (hg0 : IdsOk g0) :
    (iprop(Ins c arg0 arg1 arg2 arg3 q0 q2 q3 g0 g1 g2 g3 ∗ (∃ g, own (Val := Elt Bits) (c : Thread nD τ) arg4 Finset.univ fullShare g) ∗ (∃ g, own (Val := Elt Bits) (c : Thread nD τ) arg5 Finset.univ fullShare g) ∗ Scr c arg6 arg7 arg8 arg9 arg10 arg11 arg12 arg13 arg14
      ∗ ∃ W, owes (c : Thread nD τ) (0 : CellTallies nD τ sig Unit) W) : sProp 𝕄)
    ⊢ wp frame (wpE defs 𝒱 (c : Thread nD τ) bd) Set.univ (Gen.cc0__body_skel arg0 harg0 arg1 harg1 arg2 harg2 arg3 harg3 arg4 harg4 arg5 harg5 arg6 harg6 arg7 harg7 arg8 harg8 arg9 harg9 arg10 harg10 arg11 harg11 arg12 harg12 arg13 arg14)
      (fun _ => iprop(Ins c arg0 arg1 arg2 arg3 q0 q2 q3 g0 g1 g2 g3
        ∗ (∃ g, own (Val := Elt Bits) (c : Thread nD τ) arg4 Finset.univ fullShare g)
        ∗ (∃ g, own (Val := Elt Bits) (c : Thread nD τ) arg5 Finset.univ fullShare g)
        ∗ Scr c arg6 arg7 arg8 arg9 arg10 arg11 arg12 arg13 arg14 ∗ ∃ W, owes (c : Thread nD τ) (0 : CellTallies nD τ sig Unit) W)) := by
  rw [bo.eq_at]
  unfold bo Ins Scr
  iintro ⟨⟨H0, H1, H2, H3⟩, H4, H5, ⟨H6, H7, ⟨%g8, H8⟩, H9, ⟨%g10, H10⟩, H11, H12, HR, HS0, HS1⟩, HO⟩
  iapply (t1_loop arg0 harg0 arg1 harg1 arg2 harg2 arg3 harg3 arg4 harg4 arg5 harg5 arg6 harg6 arg7 harg7 arg8 harg8 arg9 harg9 arg10 harg10 arg11 harg11 arg12 harg12 arg13 arg14 c 𝒱 bd N₁ h1 hN₁ g1) $$ [H1 H8 HR]
  · unfold InI
    rw [colRem_zero, bRem_zero]
    isplitl [H1]; · iexact H1
    isplitl [H8]; · iexists g8; iexact H8
    iexact HR
  iintro HI
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (own_load 𝒱 (c : Thread nD τ) bd (m := arg3) (Finset.subset_univ _)) $$ H3
  iintro H3
  iapply (own_load 𝒱 (c : Thread nD τ) bd (m := arg10) (Finset.subset_univ _)) $$ H10
  iintro H10
  iapply (own_store_upd 𝒱 (c : Thread nD τ) bd (m := arg10) (Finset.subset_univ _)) $$ H10
  iintro H10
  iapply (t2_loop arg0 harg0 arg1 harg1 arg2 harg2 arg3 harg3 arg4 harg4 arg5 harg5 arg6 harg6 arg7 harg7 arg8 harg8 arg9 harg9 arg10 harg10 arg11 harg11 arg12 harg12 arg13 arg14 _ c 𝒱 bd N₁ h1 hN₁ g1 q2 g2) $$ [HI H2 H6 H7 H9 HO]
  · unfold InI BuildI
    rw [colAcc_zero, bAcc_zero]
    icases HI with ⟨HI1, ⟨%gx, HI8⟩, HIF⟩
    rw [show colRem 31 = ∅ from Finset.eq_empty_of_forall_notMem fun i hi => by
        have h1 : (i (1 : Fin 2) : ℕ) < 7936 := (i (1 : Fin 2)).isLt
        simp only [colRem, Finset.mem_filter, Finset.mem_univ, true_and] at hi
        omega,
      show bRem 31 = ∅ from Finset.eq_empty_of_forall_notMem fun i hi => by
        have h1 : (i (0 : Fin 3) : ℕ) < 31 := (i (0 : Fin 3)).isLt
        simp only [bRem, Finset.mem_filter, Finset.mem_univ, true_and] at hi
        omega]
    isplitl [HI1]; · iexact HI1
    isplitl [HI8]; · iexists gx; iexact HI8
    isplitl [HIF]
    · iapply (Entails.of_eq (BI.bigSep_congr fun v _ => ?_)) $$ HIF
      rw [if_pos v.isLt, if_neg (Nat.not_lt_zero _)]
    isplitl [H2]; · iexact H2
    isplitl [H6]
    · icases H6 with ⟨%g, H6⟩
      iexists g; iexact H6
    isplitl [H7]
    · icases H7 with ⟨%g, H7⟩
      iexists g; iexact H7
    isplitl [H9]; · iexact H9
    iexact HO
  unfold BuildI
  rw [colAcc_full, bAcc_full]
  iintro ⟨H1, H8, HR, H2, H6, H7, H9, HO⟩
  iapply (own_load 𝒱 (c : Thread nD τ) bd (m := arg10) (Finset.subset_univ _)) $$ H10
  iintro H10
  iapply (own_load 𝒱 (c : Thread nD τ) bd (m := arg10) (Finset.subset_univ _)) $$ H10
  iintro H10
  ihave H11 := (slab_split c arg11) $$ H11
  icases H11 with ⟨H110, H111⟩
  ihave H12 := (slab_split c arg12) $$ H12
  icases H12 with ⟨H120, H121⟩
  ihave H4 := (out_start c arg4) $$ H4
  icases H4 with ⟨H4, H4'⟩
  ihave H5 := (out_start c arg5) $$ H5
  icases H5 with ⟨H5, H5'⟩
  iapply (t3_loop arg0 harg0 arg1 harg1 arg2 harg2 arg3 harg3 arg4 harg4 arg5 harg5 arg6 harg6 arg7 harg7 arg8 harg8 arg9 harg9 arg10 harg10 arg11 harg11 arg12 harg12 arg13 arg14 _ _ _ c 𝒱 bd N h0 hN4 hN5 q0 g0 hg0) $$ [H0 H6 H7 H4 H4' H5 H5' H110 H111 H120 H121 HS0 HS1 HO]
  · unfold OuterI Outs Cur
    rw [if_pos (by decide), if_pos (by decide)]
    unfold Idle
    isplitl [H0 H6 H7]
    · isplitl [H0]; · iexact H0
      isplitl [H6]; · iexact H6
      iexact H7
    isplitl [H4 H4' H5 H5']
    · isplitl [H4]; · iexact H4
      isplitl [H5]; · iexact H5
      isplitl [H4']; · iexact H4'
      iexact H5'
    isplitl [HS0 H110 H120]
    · isplitl [HS0]; · iexact HS0
      isplitl [H110]; · iexact H110
      iexact H120
    isplitl [HS1 H111 H121]
    · isplitl [HS1]; · iexact HS1
      isplitl [H111]; · iexact H111
      iexact H121
    iexact HO
  unfold OuterI Outs Cur
  rw [if_neg (by decide), if_neg (by decide)]
  unfold Busy
  iintro ⟨⟨H0, H6, H7⟩, ⟨H4, H5, -, -⟩, ⟨HB0, H110, H120⟩, ⟨HB1, H111, H121⟩, HO⟩
  iapply (wait_one c 𝒱 bd _ arg14 0 N _ 0 (by decide) h0 hN4 rfl) $$ [HB0 HO]
  · isplitl [HB0]; · rw [Nat.zero_mul]; iexact HB0
    iexact HO
  iintro ⟨HB0, HO⟩
  iapply (wait_one c 𝒱 bd _ arg14 0 N _ 1 (by decide) h0 hN5 rfl) $$ [HB0 HO]
  · isplitl [HB0]; · iexact HB0
    iexact HO
  iintro ⟨HB0, HO⟩
  iapply (wait_one c 𝒱 bd _ arg14 0 N _ 2 (by decide) h0 hN4 rfl) $$ [HB0 HO]
  · isplitl [HB0]; · iexact HB0
    iexact HO
  iintro ⟨HB0, HO⟩
  iapply (wait_one c 𝒱 bd _ arg14 0 N _ 3 (by decide) h0 hN5 rfl) $$ [HB0 HO]
  · isplitl [HB0]; · iexact HB0
    iexact HO
  iintro ⟨HB0, HO⟩
  iapply (wait_one c 𝒱 bd _ arg14 0 N _ 4 (by decide) h0 hN4 rfl) $$ [HB0 HO]
  · isplitl [HB0]; · iexact HB0
    iexact HO
  iintro ⟨HB0, HO⟩
  iapply (wait_one c 𝒱 bd _ arg14 0 N _ 5 (by decide) h0 hN5 rfl) $$ [HB0 HO]
  · isplitl [HB0]; · iexact HB0
    iexact HO
  iintro ⟨HB0, HO⟩
  iapply (wait_one c 𝒱 bd _ arg14 0 N _ 6 (by decide) h0 hN4 rfl) $$ [HB0 HO]
  · isplitl [HB0]; · iexact HB0
    iexact HO
  iintro ⟨HB0, HO⟩
  iapply (wait_one c 𝒱 bd _ arg14 0 N _ 7 (by decide) h0 hN5 rfl) $$ [HB0 HO]
  · isplitl [HB0]; · iexact HB0
    iexact HO
  iintro ⟨HB0, HO⟩
  iapply (wait_one c 𝒱 bd _ arg14 0 N _ 8 (by decide) h0 hN4 rfl) $$ [HB0 HO]
  · isplitl [HB0]; · iexact HB0
    iexact HO
  iintro ⟨HB0, HO⟩
  iapply (wait_one c 𝒱 bd _ arg14 0 N _ 9 (by decide) h0 hN5 rfl) $$ [HB0 HO]
  · isplitl [HB0]; · iexact HB0
    iexact HO
  iintro ⟨HB0, HO⟩
  iapply (wait_one c 𝒱 bd _ arg14 0 N _ 10 (by decide) h0 hN4 rfl) $$ [HB0 HO]
  · isplitl [HB0]; · iexact HB0
    iexact HO
  iintro ⟨HB0, HO⟩
  iapply (wait_one c 𝒱 bd _ arg14 0 N _ 11 (by decide) h0 hN5 rfl) $$ [HB0 HO]
  · isplitl [HB0]; · iexact HB0
    iexact HO
  iintro ⟨HB0, HO⟩
  iapply (wait_one c 𝒱 bd _ arg14 0 N _ 12 (by decide) h0 hN4 rfl) $$ [HB0 HO]
  · isplitl [HB0]; · iexact HB0
    iexact HO
  iintro ⟨HB0, HO⟩
  iapply (wait_one c 𝒱 bd _ arg14 0 N _ 13 (by decide) h0 hN5 rfl) $$ [HB0 HO]
  · isplitl [HB0]; · iexact HB0
    iexact HO
  iintro ⟨HB0, HO⟩
  iapply (wait_one c 𝒱 bd _ arg14 0 N _ 14 (by decide) h0 hN4 rfl) $$ [HB0 HO]
  · isplitl [HB0]; · iexact HB0
    iexact HO
  iintro ⟨HB0, HO⟩
  iapply (wait_one c 𝒱 bd _ arg14 0 N _ 15 (by decide) h0 hN5 rfl) $$ [HB0 HO]
  · isplitl [HB0]; · iexact HB0
    iexact HO
  iintro ⟨HB0, HO⟩
  iapply (wait_one c 𝒱 bd _ arg14 0 N _ 16 (by decide) h0 hN4 rfl) $$ [HB0 HO]
  · isplitl [HB0]; · iexact HB0
    iexact HO
  iintro ⟨HB0, HO⟩
  iapply (wait_one c 𝒱 bd _ arg14 0 N _ 17 (by decide) h0 hN5 rfl) $$ [HB0 HO]
  · isplitl [HB0]; · iexact HB0
    iexact HO
  iintro ⟨HB0, HO⟩
  iapply (wait_one c 𝒱 bd _ arg14 0 N _ 18 (by decide) h0 hN4 rfl) $$ [HB0 HO]
  · isplitl [HB0]; · iexact HB0
    iexact HO
  iintro ⟨HB0, HO⟩
  iapply (wait_one c 𝒱 bd _ arg14 0 N _ 19 (by decide) h0 hN5 rfl) $$ [HB0 HO]
  · isplitl [HB0]; · iexact HB0
    iexact HO
  iintro ⟨HB0, HO⟩
  iapply (wait_one c 𝒱 bd _ arg14 0 N _ 20 (by decide) h0 hN4 rfl) $$ [HB0 HO]
  · isplitl [HB0]; · iexact HB0
    iexact HO
  iintro ⟨HB0, HO⟩
  iapply (wait_last c 𝒱 bd _ arg14 0 N _ h0 hN5 rfl) $$ [HB0 HO]
  · isplitl [HB0]; · iexact HB0
    iexact HO
  iintro ⟨HB0, HS0, HO⟩
  ihave HT := (take_all c arg11 arg4 arg12 arg5 30 0) $$ [H4 H110 H5 H120 HB0]
  · isplitl [H4 H110]
    · isplitl [H4]; · iexact H4
      iexact H110
    isplitl [H5 H120]
    · isplitl [H5]; · iexact H5
      iexact H120
    iexact HB0
  icases HT with ⟨⟨H4, H110⟩, ⟨H5, H120⟩⟩
  iapply (wait_one c 𝒱 bd _ arg14 1 N _ 0 (by decide) h0 hN4 rfl) $$ [HB1 HO]
  · isplitl [HB1]; · rw [Nat.zero_mul]; iexact HB1
    iexact HO
  iintro ⟨HB1, HO⟩
  iapply (wait_one c 𝒱 bd _ arg14 1 N _ 1 (by decide) h0 hN5 rfl) $$ [HB1 HO]
  · isplitl [HB1]; · iexact HB1
    iexact HO
  iintro ⟨HB1, HO⟩
  iapply (wait_one c 𝒱 bd _ arg14 1 N _ 2 (by decide) h0 hN4 rfl) $$ [HB1 HO]
  · isplitl [HB1]; · iexact HB1
    iexact HO
  iintro ⟨HB1, HO⟩
  iapply (wait_one c 𝒱 bd _ arg14 1 N _ 3 (by decide) h0 hN5 rfl) $$ [HB1 HO]
  · isplitl [HB1]; · iexact HB1
    iexact HO
  iintro ⟨HB1, HO⟩
  iapply (wait_one c 𝒱 bd _ arg14 1 N _ 4 (by decide) h0 hN4 rfl) $$ [HB1 HO]
  · isplitl [HB1]; · iexact HB1
    iexact HO
  iintro ⟨HB1, HO⟩
  iapply (wait_one c 𝒱 bd _ arg14 1 N _ 5 (by decide) h0 hN5 rfl) $$ [HB1 HO]
  · isplitl [HB1]; · iexact HB1
    iexact HO
  iintro ⟨HB1, HO⟩
  iapply (wait_one c 𝒱 bd _ arg14 1 N _ 6 (by decide) h0 hN4 rfl) $$ [HB1 HO]
  · isplitl [HB1]; · iexact HB1
    iexact HO
  iintro ⟨HB1, HO⟩
  iapply (wait_one c 𝒱 bd _ arg14 1 N _ 7 (by decide) h0 hN5 rfl) $$ [HB1 HO]
  · isplitl [HB1]; · iexact HB1
    iexact HO
  iintro ⟨HB1, HO⟩
  iapply (wait_one c 𝒱 bd _ arg14 1 N _ 8 (by decide) h0 hN4 rfl) $$ [HB1 HO]
  · isplitl [HB1]; · iexact HB1
    iexact HO
  iintro ⟨HB1, HO⟩
  iapply (wait_one c 𝒱 bd _ arg14 1 N _ 9 (by decide) h0 hN5 rfl) $$ [HB1 HO]
  · isplitl [HB1]; · iexact HB1
    iexact HO
  iintro ⟨HB1, HO⟩
  iapply (wait_one c 𝒱 bd _ arg14 1 N _ 10 (by decide) h0 hN4 rfl) $$ [HB1 HO]
  · isplitl [HB1]; · iexact HB1
    iexact HO
  iintro ⟨HB1, HO⟩
  iapply (wait_one c 𝒱 bd _ arg14 1 N _ 11 (by decide) h0 hN5 rfl) $$ [HB1 HO]
  · isplitl [HB1]; · iexact HB1
    iexact HO
  iintro ⟨HB1, HO⟩
  iapply (wait_one c 𝒱 bd _ arg14 1 N _ 12 (by decide) h0 hN4 rfl) $$ [HB1 HO]
  · isplitl [HB1]; · iexact HB1
    iexact HO
  iintro ⟨HB1, HO⟩
  iapply (wait_one c 𝒱 bd _ arg14 1 N _ 13 (by decide) h0 hN5 rfl) $$ [HB1 HO]
  · isplitl [HB1]; · iexact HB1
    iexact HO
  iintro ⟨HB1, HO⟩
  iapply (wait_one c 𝒱 bd _ arg14 1 N _ 14 (by decide) h0 hN4 rfl) $$ [HB1 HO]
  · isplitl [HB1]; · iexact HB1
    iexact HO
  iintro ⟨HB1, HO⟩
  iapply (wait_one c 𝒱 bd _ arg14 1 N _ 15 (by decide) h0 hN5 rfl) $$ [HB1 HO]
  · isplitl [HB1]; · iexact HB1
    iexact HO
  iintro ⟨HB1, HO⟩
  iapply (wait_one c 𝒱 bd _ arg14 1 N _ 16 (by decide) h0 hN4 rfl) $$ [HB1 HO]
  · isplitl [HB1]; · iexact HB1
    iexact HO
  iintro ⟨HB1, HO⟩
  iapply (wait_one c 𝒱 bd _ arg14 1 N _ 17 (by decide) h0 hN5 rfl) $$ [HB1 HO]
  · isplitl [HB1]; · iexact HB1
    iexact HO
  iintro ⟨HB1, HO⟩
  iapply (wait_one c 𝒱 bd _ arg14 1 N _ 18 (by decide) h0 hN4 rfl) $$ [HB1 HO]
  · isplitl [HB1]; · iexact HB1
    iexact HO
  iintro ⟨HB1, HO⟩
  iapply (wait_one c 𝒱 bd _ arg14 1 N _ 19 (by decide) h0 hN5 rfl) $$ [HB1 HO]
  · isplitl [HB1]; · iexact HB1
    iexact HO
  iintro ⟨HB1, HO⟩
  iapply (wait_one c 𝒱 bd _ arg14 1 N _ 20 (by decide) h0 hN4 rfl) $$ [HB1 HO]
  · isplitl [HB1]; · iexact HB1
    iexact HO
  iintro ⟨HB1, HO⟩
  iapply (wait_last c 𝒱 bd _ arg14 1 N _ h0 hN5 rfl) $$ [HB1 HO]
  · isplitl [HB1]; · iexact HB1
    iexact HO
  iintro ⟨HB1, HS1, HO⟩
  ihave HT := (take_all c arg11 arg4 arg12 arg5 31 1) $$ [H4 H111 H5 H121 HB1]
  · isplitl [H4 H111]
    · isplitl [H4]; · iexact H4
      iexact H111
    isplitl [H5 H121]
    · isplitl [H5]; · iexact H5
      iexact H121
    iexact HB1
  icases HT with ⟨⟨⟨%g4, H4⟩, H111⟩, ⟨⟨%g5, H5⟩, H121⟩⟩
  ihave H4 := (own_set_eq dstAcc_full) $$ H4
  ihave H5 := (own_set_eq dstAcc_full) $$ H5
  ihave H11 := (slab_join c arg11) $$ [H110 H111]
  · isplitl [H110]; · iexact H110
    iexact H111
  ihave H12 := (slab_join c arg12) $$ [H120 H121]
  · isplitl [H120]; · iexact H120
    iexact H121
  rw [ret_bind', wp_pure]; imodintro
  isplitl [H0 H1 H2 H3]
  · isplitl [H0]; · iexact H0
    isplitl [H1]; · iexact H1
    isplitl [H2]; · iexact H2
    iexact H3
  isplitl [H4]; · iexists g4; iexact H4
  isplitl [H5]; · iexists g5; iexact H5
  isplitr [HO]
  swap; · iexact HO
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [HR]
  · iapply (Entails.of_eq (BI.bigSep_congr fun v _ => ?_)) $$ HR
    rw [if_pos v.isLt]
  isplitl [HS0]; · iexact HS0
  iexact HS1

end Cert.Proof.Kernel
-- ==== Proof.Bits.Launch.lean ====
/-
  The launch: what the region holds on entry and gives back, the body's obligation, and what a run of it leaves unchanged.
-/
module

public import proofs.«01_k».proof.Proof.Bits.Body
public import proofs.«01_k».proof.Proof.Gen.Kernel.Points
public import proofs.«01_k».proof.Proof.Gen.Kernel.Frame
public import Idealize.ShloMosaic.Lib.Pipeline.FrameBody
public import Idealize.ShloMosaic.Lib.Pipeline.FrameSuffix

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (Pipeline.UD sig nD τ) ℕ

variable (m : (ℓ : Loc nD τ sig) → Buf (Elt Bits) ℓ) (ρ : Dev nD → PrngReg)

/-! ## The values -/

/-- The tokens' ids. -/
def ids (c : Dev nD) : S1x8192.Idx → BitVec 32 := m ((c : Thread nD τ).loc main_arg0)
/-- The table's codes. -/
def codes (c : Dev nD) : S1408x7936.Idx → BitVec 8 := m ((c : Thread nD τ).loc main_arg1)
/-- The table's scales. -/
def scales (c : Dev nD) : S7936.Idx → Elt Bits .f32 := m ((c : Thread nD τ).loc main_arg2)
/-- The norm's weights. -/
def weights (c : Dev nD) : S1408.Idx → Elt Bits .bf16 := m ((c : Thread nD τ).loc main_arg3)
/-- Every token's id is a row of the table. -/
def IdsIn : Prop := ∀ (c : Dev nD) (t : Fin 8192), (ids m c (ix2 0 t)).toNat < 7936

/-- The launch's ids are as the body needs them. -/
theorem idsOk (h : IdsIn m) (c : Dev nD) : IdsOk (ids m c) := fun i => by
  rw [show i = ix2 0 (i 1) from by
    funext a
    match a with
    | ⟨0, _⟩ => exact Fin.ext (by have : (i (0 : Fin 2) : ℕ) < 1 := (i (0 : Fin 2)).isLt; show (i (0 : Fin 2) : ℕ) = 0; omega)
    | ⟨1, _⟩ => rfl]
  exact h c (i 1)

/-! ## What the region holds -/

/-- The body's own semaphores: the 31 incoming transfers' and the two slots'. -/
def osem0 : Fin 31 ⊕ Fin 2 → SemLoc sig :=
  Sum.elim (fun v => SemLoc.dma ⟨3 + v.val, by have := v.isLt; show 3 + v.val < 36; omega⟩) (fun s => SemLoc.dma ⟨34 + s.val, by have := s.isLt; show 34 + s.val < 36; omega⟩)
/-- The body's own semaphores are distinct and none is the region's. -/
theorem ownSemFacts0 : Pipeline.OwnSemFacts spec0 osem0 := by decide
/-- An incoming transfer's semaphore is one of the body's own. -/
theorem cell7 (v : Fin 31) : SemLoc.dma (cellI cc0_scratch7 v) = osem0 (.inl v) := by
  revert v; decide
/-- A slot's semaphore is one of the body's own. -/
theorem cell8 (s : Fin 2) : SemLoc.dma (cellO cc0_scratch8 s) = osem0 (.inr s) := by
  revert s; decide

/-- The buffer the body reads by its own transfers. -/
def H0 : Finset (Ref sig .tc) := {main_arg1}
/-- The buffers it writes by its own transfers. -/
def R0 : Finset (Ref sig .tc) := {main_v0_0, main_v0_1}
/-- The codes' buffer is outside the region's windows. -/
theorem H0_sub : H0 ⊆ Pipeline.restRefs sig spec0 := by decide
/-- The results' buffers are outside the region's windows and are not read. -/
theorem R0_sub : R0 ⊆ Pipeline.restRefs sig spec0 \ H0 := by decide

/-- A whole buffer at given contents, as the body's description of it. -/
theorem own_in (c : Dev nD) (b : Ref sig .tc) (f : b.ty.Contents (Elt Bits)) :
    (((c : Thread nD τ).loc b) ↦{fullShare} f : sProp 𝕄) ⊢ own (Val := Elt Bits) (c : Thread nD τ) (Memref.whole b) Finset.univ fullShare f := by
  rw [← owns_whole]
  unfold owns
  iintro ⟨%g, %hg, H⟩
  ihave H := (own_of_pointsTo (Val := Elt Bits) (U := Pipeline.UD sig nD τ) (c := (c : Thread nD τ)) (m := Memref.whole b) g) $$ H
  ihave H := (own_congr (g' := f) (fun i _ => congrFun hg i)) $$ H
  iexact H
/-- The body's description of a whole buffer, as the buffer at those contents. -/
theorem own_back (c : Dev nD) (b : Ref sig .tc) (f : b.ty.Contents (Elt Bits)) :
    own (Val := Elt Bits) (c : Thread nD τ) (Memref.whole b) Finset.univ fullShare f ⊢ (((c : Thread nD τ).loc b) ↦{fullShare} f : sProp 𝕄) := by
  rw [← owns_whole]
  exact pointsTo_of_own
/-- A whole buffer at some contents, as the body's description of it. -/
theorem own_in' (c : Dev nD) (b : Ref sig .tc) :
    ((∃ f : Buf (Elt Bits) ((c : Thread nD τ).loc b), ((c : Thread nD τ).loc b) ↦{fullShare} f) : sProp 𝕄) ⊢ (∃ g, own (Val := Elt Bits) (c : Thread nD τ) (Memref.whole b) Finset.univ fullShare g) := by
  iintro ⟨%f, H⟩
  iexists f
  iapply (own_in c b f) $$ H
/-- The body's description of a whole buffer at some contents, as the buffer. -/
theorem own_back' (c : Dev nD) (b : Ref sig .tc) :
    (∃ g, own (Val := Elt Bits) (c : Thread nD τ) (Memref.whole b) Finset.univ fullShare g) ⊢ ((∃ f : Buf (Elt Bits) ((c : Thread nD τ).loc b), ((c : Thread nD τ).loc b) ↦{fullShare} f) : sProp 𝕄) := by
  iintro ⟨%f, H⟩
  iexists f
  iapply (own_back c b f) $$ H
/-- A window's staging buffer, as the body's description of it. -/
theorem own_of_owns {sp : Space} {S : Shape} {e : EltTy} (c : Dev nD) (r : Memref sig .tc sp S e) (f : S.Idx → Elt Bits e) :
    (owns (c : Thread nD τ) r fullShare f : sProp 𝕄) ⊢ own (Val := Elt Bits) (c : Thread nD τ) r Finset.univ fullShare f := by
  unfold owns
  iintro ⟨%g, %hg, H⟩
  ihave H := (own_of_pointsTo (Val := Elt Bits) (U := Pipeline.UD sig nD τ) (c := (c : Thread nD τ)) (m := r) g) $$ H
  ihave H := (own_congr (g' := f) (fun i _ => congrFun hg i)) $$ H
  iexact H
/-- The body's description of a window's staging buffer, as the buffer. -/
theorem owns_of_own {sp : Space} {S : Shape} {e : EltTy} (c : Dev nD) (r : Memref sig .tc sp S e) (f : S.Idx → Elt Bits e) :
    own (Val := Elt Bits) (c : Thread nD τ) r Finset.univ fullShare f ⊢ (owns (c : Thread nD τ) r fullShare f : sProp 𝕄) := pointsTo_of_own

/-- The body's own semaphores at zero are the 31 incoming ones and the two slots'. -/
theorem sems_eq (c : Dev nD) :
    (Pipeline.ownSems0 (Ix := Unit) (Name := ℕ) (U := Pipeline.UD sig nD τ) (Lvl := ℕ) (Val := Elt Bits) (τ := τ) osem0 c : sProp 𝕄)
      = iprop(bigSep Finset.univ (Rest c cc0_scratch7) ∗ semVal ((c : Thread nD τ), SemLoc.dma (cellO cc0_scratch8 0)) 0 ∗ semVal ((c : Thread nD τ), SemLoc.dma (cellO cc0_scratch8 1)) 0) := by
  unfold Pipeline.ownSems0
  have hu : (Finset.univ : Finset (Fin 31 ⊕ Fin 2)) = Finset.univ.map Function.Embedding.inl ∪ Finset.univ.map Function.Embedding.inr := by decide
  rw [hu, BI.bigSep_union (Finset.disjoint_map_inl_map_inr _ _), BI.bigSep_map, BI.bigSep_map, BI.bigSep_eq_bigSepL_of_eq (S := (Finset.univ : Finset (Fin 2))) [0, 1] (by decide) (by decide)]
  simp only [bigSepL_cons_sep, BI.bigSepL_nil]
  rw [cell8, cell8, show (Rest c cc0_scratch7 : Fin 31 → sProp 𝕄) = fun v => semVal ((c : Thread nD τ), osem0 (.inl v)) 0 from funext fun v => by unfold Rest; rw [cell7]]
  refine congrArg (fun X => iprop(_ ∗ X)) ?_
  refine congrArg (fun X => iprop(_ ∗ X)) ?_
  exact equiv_iff.mp sep_emp

/-- The scratch buffers and semaphores of the launch. -/
abbrev ScrW (c : Dev nD) : sProp 𝕄 :=
  Scr c (Memref.whole cc0_scratch0) (Memref.whole cc0_scratch1) (Memref.whole cc0_scratch2) (Memref.whole cc0_scratch3) (Memref.whole cc0_scratch4) (Memref.whole cc0_scratch5) (Memref.whole cc0_scratch6) cc0_scratch7 cc0_scratch8

/-- What the region sets aside for the body is its scratch. -/
theorem scr_in (c : Dev nD) :
    (iprop(Pipeline.scopedRest (Ix := Unit) (Name := ℕ) (U := Pipeline.UD sig nD τ) (Lvl := ℕ) (Val := Elt Bits) spec0 c
      ∗ Pipeline.ownSems0 (Ix := Unit) (Name := ℕ) (U := Pipeline.UD sig nD τ) (Lvl := ℕ) (Val := Elt Bits) (τ := τ) osem0 c) : sProp 𝕄) ⊢ ScrW c := by
  rw [sems_eq, scopedRest0_eq]
  unfold ScrW Scr
  iintro ⟨⟨H0, H1, H2, H3, H4, H5, H6⟩, HR⟩
  isplitl [H0]; · iapply (own_in' c cc0_scratch0) $$ H0
  isplitl [H1]; · iapply (own_in' c cc0_scratch1) $$ H1
  isplitl [H2]; · iapply (own_in' c cc0_scratch2) $$ H2
  isplitl [H3]; · iapply (own_in' c cc0_scratch3) $$ H3
  isplitl [H4]; · iapply (own_in' c cc0_scratch4) $$ H4
  isplitl [H5]; · iapply (own_in' c cc0_scratch5) $$ H5
  isplitl [H6]; · iapply (own_in' c cc0_scratch6) $$ H6
  iexact HR
/-- The body's scratch is what the region set aside. -/
theorem scr_out (c : Dev nD) :
    ScrW c ⊢ (iprop(Pipeline.scopedRest (Ix := Unit) (Name := ℕ) (U := Pipeline.UD sig nD τ) (Lvl := ℕ) (Val := Elt Bits) spec0 c
      ∗ Pipeline.ownSems0 (Ix := Unit) (Name := ℕ) (U := Pipeline.UD sig nD τ) (Lvl := ℕ) (Val := Elt Bits) (τ := τ) osem0 c) : sProp 𝕄) := by
  rw [sems_eq, scopedRest0_eq]
  unfold ScrW Scr
  iintro ⟨H0, H1, H2, H3, H4, H5, H6, HR⟩
  isplitr [HR]
  swap; · iexact HR
  isplitl [H0]; · iapply (own_back' c cc0_scratch0) $$ H0
  isplitl [H1]; · iapply (own_back' c cc0_scratch1) $$ H1
  isplitl [H2]; · iapply (own_back' c cc0_scratch2) $$ H2
  isplitl [H3]; · iapply (own_back' c cc0_scratch3) $$ H3
  isplitl [H4]; · iapply (own_back' c cc0_scratch4) $$ H4
  isplitl [H5]; · iapply (own_back' c cc0_scratch5) $$ H5
  iapply (own_back' c cc0_scratch6) $$ H6

/-! ## The proof data -/

/-- Input window 0's staging buffer holds its block. -/
theorem before0 {c : Dev nD} (dat : Dat τ (Elt Bits) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block. -/
theorem before1 {c : Dev nD} (dat : Dat τ (Elt Bits) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block. -/
theorem before2 {c : Dev nD} (dat : Dat τ (Elt Bits) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The ids' block is all ids. -/
theorem iblk0 (c : Dev nD) (t : Fin cfg0.N) : iblk m c 0 t = ids m c := by
  funext j; show V m c main_arg0 (((cfg0.win 0).blk t).view.emb j) = V m c main_arg0 j
  refine congrArg (V m c main_arg0) ?_
  funext a; apply Fin.ext
  match a with
  | ⟨0, _⟩ => show 0 * 1 + 1 * (j 0).val = (j 0).val; omega
  | ⟨1, _⟩ => show 0 * 8192 + 1 * (j 1).val = (j 1).val; omega
/-- The scales' block is all scales. -/
theorem iblk1 (c : Dev nD) (t : Fin cfg0.N) : iblk m c 1 t = scales m c := by
  funext j; show V m c main_arg2 (((cfg0.win 1).blk t).view.emb j) = V m c main_arg2 j
  refine congrArg (V m c main_arg2) ?_
  funext a; apply Fin.ext
  match a with
  | ⟨0, _⟩ => show 0 * 7936 + 1 * (j 0).val = (j 0).val; omega
/-- The weights' block is all weights. -/
theorem iblk2 (c : Dev nD) (t : Fin cfg0.N) : iblk m c 2 t = weights m c := by
  funext j; show V m c main_arg3 (((cfg0.win 2).blk t).view.emb j) = V m c main_arg3 j
  refine congrArg (V m c main_arg3) ?_
  funext a; apply Fin.ext
  match a with
  | ⟨0, _⟩ => show 0 * 1408 + 1 * (j 0).val = (j 0).val; omega
/-- The proof data: the inputs' blocks stay, the results are held at some contents. -/
def dats (_ : Fin 1) (c : Dev nD) : Dat τ (Elt Bits) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := Pipeline.ΦDR osem0 spec0 H0 R0 (V m) c
  q _ := fullShare
  owed _ := 0

/-- A window's array is as the region finds it. -/
theorem A_eq (c : Dev nD) (w : Fin cfg0.W) : (dats m 0 c).A w = V m c (Pipeline.arrRef spec0 w) := by
  dsimp only [dats]
/-- The ids' block stays. -/
theorem after0_eq (c : Dev nD) (t : Fin cfg0.N) : (dats m 0 c).after 0 t = iblk m c 0 t := by dsimp only [dats]
/-- The scales' block stays. -/
theorem after1_eq (c : Dev nD) (t : Fin cfg0.N) : (dats m 0 c).after 1 t = iblk m c 1 t := by dsimp only [dats]
/-- The weights' block stays. -/
theorem after2_eq (c : Dev nD) (t : Fin cfg0.N) : (dats m 0 c).after 2 t = iblk m c 2 t := by dsimp only [dats]

/-- What the body finds. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d)))
/-- What the body leaves. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t))

/-- The buffers the body reads by its transfers: the codes. -/
theorem hPts (c : Dev nD) : (bigSep H0 (fun b => ((c.tc : Thread nD τ).loc b) ↦{fullShare} V m c b) : sProp 𝕄) = (((c : Thread nD τ).loc main_arg1) ↦{fullShare} V m c main_arg1) := by
  unfold H0; rw [BI.bigSep_singleton]
/-- The buffers the body writes by its transfers: the two results. -/
theorem rPts (c : Dev nD) :
    (Pipeline.owned R0 c : sProp 𝕄)
      = iprop((∃ f : Buf (Elt Bits) ((c : Thread nD τ).loc main_v0_0), ((c : Thread nD τ).loc main_v0_0) ↦{fullShare} f) ∗ (∃ f : Buf (Elt Bits) ((c : Thread nD τ).loc main_v0_1), ((c : Thread nD τ).loc main_v0_1) ↦{fullShare} f)) := by
  unfold Pipeline.owned
  rw [BI.bigSep_eq_bigSepL_of_eq [main_v0_0, main_v0_1] (by decide) (by decide)]; rfl

set_option maxHeartbeats 4000000 in
/-- The body takes what the region holds to what it gives back. -/
theorem sound_body (hm : IdsIn m) (c : Dev nD) (t : Fin cfg0.N) :
    bodyPre m c t ⊢ wp frame (wpE (defs₀ (F := Bits)) Variants.none c none) Set.univ (bodyAt0 t) (fun _ => bodyPost m c t) := by
  unfold bodyPre bodyPost bodyAt0
  simp only [after0_eq, after1_eq, after2_eq, before0 m (dats m 0 c) (A_eq m c 0) (after0_eq m c), before1 m (dats m 0 c) (A_eq m c 1) (after1_eq m c), before2 m (dats m 0 c) (A_eq m c 2) (after2_eq m c)]
  rw [iblk0, iblk1, iblk2]
  rw [show (dats m 0 c).Φ t.castSucc = Pipeline.ΦDR osem0 spec0 H0 R0 (V m) c from rfl,
    show (dats m 0 c).Φ t.succ = Pipeline.ΦDR osem0 spec0 H0 R0 (V m) c from rfl, Pipeline.ΦDR_eq]
  unfold Dat.owesAt Pipeline.owesWithin
  rw [show (dats m 0 c).owed t.castSucc = 0 from rfl, show (dats m 0 c).owed t.succ = 0 from rfl]
  rw [hPts, rPts]
  rw [cc0__body_eq_skeleton]
  iintro ⟨⟨HS, HP, HQ, H1, H4, H5⟩, ⟨%W, -, HO⟩, ⟨%d0, H0⟩, ⟨%d1, H2⟩, ⟨%d2, H3⟩⟩
  ihave HS := (scr_in c) $$ [HS HQ]
  · isplitl [HS]; · iexact HS
    iexact HQ
  ihave H0 := (own_of_owns c _ _) $$ H0
  ihave H2 := (own_of_owns c _ _) $$ H2
  ihave H3 := (own_of_owns c _ _) $$ H3
  ihave H1 := (own_in c main_arg1 _) $$ H1
  ihave H4 := (own_in' c main_v0_0) $$ H4
  ihave H5 := (own_in' c main_v0_1) $$ H5
  ihave HW := (body_wp (win0_0.stage (cfg0.slots t 0)) (hstage0_0 0) (Memref.whole main_arg1) (Memref.isWhole_whole _) (win0_1.stage (cfg0.slots t 1)) (hstage0_1 0) (win0_2.stage (cfg0.slots t 2)) (hstage0_2 0) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c Variants.none none _ (sig.dmaCredit_pos _ _ _ _ _ (by decide)) rfl _ (sig.dmaCredit_pos _ _ _ _ _ (by decide)) rfl rfl fullShare fullShare fullShare (ids m c) (codes m c) (scales m c) (weights m c) (idsOk m hm c)) $$ [H0 H1 H2 H3 H4 H5 HS HO]
  · unfold Ins
    isplitl [H0 H1 H2 H3]
    · isplitl [H0]; · iexact H0
      isplitl [H1]; · iexact H1
      isplitl [H2]; · iexact H2
      iexact H3
    isplitl [H4]; · iexact H4
    isplitl [H5]; · iexact H5
    isplitl [HS]; · iexact HS
    iexists W; iexact HO
  ihave HW := (wp_frame_r frame (wpE (defs₀ (F := Bits)) Variants.none c none) Set.univ) $$ [HW HP]
  · isplitl [HW]; · iexact HW
    iexact HP
  · iapply (wp_mono _ ?_) $$ HW
    intro _
    unfold Ins
    iintro ⟨⟨⟨H0, H1, H2, H3⟩, H4, H5, HS, ⟨%W', HO⟩⟩, HP⟩
    ihave HS := (scr_out c) $$ HS
    icases HS with ⟨HS, HQ⟩
    isplitl [HS HP HQ H1 H4 H5]
    · isplitl [HS]; · iexact HS
      isplitl [HP]; · iexact HP
      isplitl [HQ]; · iexact HQ
      isplitl [H1]; · iapply (own_back c main_arg1 _) $$ H1
      isplitl [H4]; · iapply (own_back' c main_v0_0) $$ H4
      iapply (own_back' c main_v0_1) $$ H5
    isplitl [HO]
    · iexists W'; isplitr; · ipureintro; exact fun _ _ => Or.inl trivial
      iexact HO
    isplitl [H0]; · iapply (owns_of_own c _ _) $$ H0
    isplitl [H2]; · iapply (owns_of_own c _ _) $$ H2
    iapply (owns_of_own c _ _) $$ H3

end Cert.Proof.Kernel
-- ==== Proof.Bits.Run.lean ====
/-
  The run of the whole program: it ends with the arguments unchanged and every semaphore at zero.
-/
module

public import proofs.«01_k».proof.Proof.Bits.Launch

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Bits) ℓ) (ρ : Dev nD → PrngReg)

/-- The region's body at a grid point is the kernel's body. -/
theorem defs₀_row (t : Fin cfg0.N) :
    defs₀ (F := Bits) .tc cfg0.body (cfg0.bodyArgs t (cfg0.slots t)) = bodyAt0 t := by
  unfold defs₀; rw [Defs.onTc_tc]

/-- The body does what the region's proof data asks of it. -/
theorem body_obligation (hm : IdsIn m) (c : Dev nD) : BodyObligation (dats m 0 c) (defs₀ (F := Bits)) Variants.none () Set.univ := fun t => by
  rw [bigSep_W0, bigSep_W0, defs₀_row]
  exact triple_restated (sound_body m hm c t) rfl .rfl fun _ => .rfl

/-- The program is the region followed by the two reshapes. -/
theorem hmainD : Pipeline.HMainK (Ix := Unit) (Name := ℕ) (U := Pipeline.UD sig nD τ) (Lvl := ℕ) cfgs 0 defs₀ Variants.none m (main (F := Bits)) (V m)
      (fun _ => Pipeline.chain ([hostOps1].map StableHlo.seq)) :=
  Pipeline.hmain_around cfgs 0 defs₀ Variants.none m main [] [hostOps1] (by simp only [List.Forall])
    (by simp only [List.Forall]) main_chain

/-- The buffers the reshapes write. -/
def T0 : Finset (Ref sig .tc) := {main_v1, main_v2}

/-- The reshapes write their own buffers only. -/
theorem sfx_writes : ∀ ops ∈ [hostOps1 (F := Bits)], ∀ op ∈ ops, ∀ b : Ref sig .tc, Proc.devRef .tc b ∈ op.writes → b ∈ T0 := by
  intro ops hops op hop b hb
  obtain rfl := List.mem_singleton.mp hops
  unfold hostOps1 at hop
  simp only [List.mem_cons, List.mem_nil_iff, or_false] at hop
  rcases hop with rfl | rfl
  · have e := Finset.mem_singleton.mp hb
    exact Proc.devRef_injective .tc e ▸ (by decide : main_v1 ∈ T0)
  · have e := Finset.mem_singleton.mp hb
    exact Proc.devRef_injective .tc e ▸ (by decide : main_v2 ∈ T0)

set_option backward.isDefEq.respectTransparency.types false in
/-- The run, read at every buffer outside the region the program does not write. -/
theorem run_main (hm : IdsIn m) : θ_run defs (onTc (τ := τ) (main (F := Bits))) (s₀ m ρ) (fun r =>
    Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m hm c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes) (hmain := hmainD m) (hA := A_eq m)
    (hin := fun _ => .rfl) (hout := fun _ => .rfl) (hQ' := fun _ h => h)

/-- The run leaves the arguments unchanged and every semaphore at zero. -/
theorem run_frame (hm : IdsIn m) : θ_run defs (onTc (τ := τ) (main (F := Bits))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c =>
    ⟨((h.1 c).1 0).trans (((dats m 0 c).arrAt_in 0 rfl _).trans ((A_eq m c 0).trans (V_main_arg0 m c))),
     ((h.1 c).2 main_arg1 (Finset.mem_sdiff.mpr ⟨Pipeline.mem_restRefs_of main_arg1 (by decide) (by decide), by decide⟩)).trans (V_main_arg1 m c),
     ((h.1 c).1 1).trans (((dats m 0 c).arrAt_in 1 rfl _).trans ((A_eq m c 1).trans (V_main_arg2 m c))),
     ((h.1 c).1 2).trans (((dats m 0 c).arrAt_in 2 rfl _).trans ((A_eq m c 2).trans (V_main_arg3 m c)))⟩, h.2⟩) (run_main m ρ hm)

end Cert.Proof.Kernel
-- ==== Proof.Claims.lean ====
/-
  The claims about the idealized kernel and the reference: their frames, the idealization's rules, and the equality of
  the two programs' results.
-/
module

public import proofs.«01_k».proof.Defs
public import proofs.«01_k».proof.Proof.Ref
public import proofs.«01_k».proof.Proof.Ideal.Run
public import proofs.«01_k».proof.Proof.Bits.Run
public import proofs.«01_k».proof.Proof.Gen.Pre_ids_in_table
public import Idealize.ShloMosaic.Lib.Bf16PairInverse
public import Idealize.ShloMosaic.Lib.Quiescent

@[expose] public section

noncomputable section

open Idealize.ShloMosaic Idealize.ShloMosaic.TcCoe Idealize.SL.Sem

namespace Cert.Proof.Claims

/-- The precondition says of every token id that it is a row of the table. -/
theorem ids_of_pre {F : FTy → Type} [FloatOps F] (a0 : IVec Cert.Pre_ids_in_table.S1x8192 32) (a1 : IVec Cert.Pre_ids_in_table.S1408x7936 8)
    (a2 : FVec F Cert.Pre_ids_in_table.S7936 .f32) (a3 : FVec F Cert.Pre_ids_in_table.S1408 .bf16)
    (h : @Cert.Pre_ids_in_table.fn Cert.Pre_ids_in_table.Gen.facts F _ a0 a1 a2 a3 = fun _ => 1#1) (t : Fin 8192) :
    (a0 (ix2 0 t)).toNat < 7936 := by
  have e := congrFun h (ix2 0 t)
  unfold Cert.Pre_ids_in_table.fn at e
  replace e : IntOp.andi (IntOp.cmpi .sge (a0 (ix2 0 t)) 0#32) (IntOp.cmpi .slt (a0 (ix2 0 t)) 7936#32) = 1#1 := e
  generalize a0 (ix2 0 t) = x at e
  have h0 : (0#32).sle x = true := by
    by_contra hc
    simp [IntOp.cmpi, IntOp.andi, Bool.eq_false_iff.mpr hc] at e
  have h1 : x.slt 7936#32 = true := by
    by_contra hc
    simp [IntOp.cmpi, IntOp.andi, Bool.eq_false_iff.mpr hc] at e
  simp only [BitVec.sle, BitVec.slt, decide_eq_true_eq, BitVec.toInt_eq_toNat_cond, BitVec.toNat_ofNat] at h0 h1
  have := x.isLt
  omega

/-- A sum over the 1408 columns, lane by lane. -/
theorem sum_lanes (f : ℕ → EReal) : ∑ j : Fin 1408, f j.val = ∑ l : Fin 128,
    (((f (256 * 0 + l.val) + f (256 * 0 + (128 + l.val))) + (f (256 * 1 + l.val) + f (256 * 1 + (128 + l.val))) + (f (256 * 2 + l.val) + f (256 * 2 + (128 + l.val)))
      + (f (256 * 3 + l.val) + f (256 * 3 + (128 + l.val))) + (f (256 * 4 + l.val) + f (256 * 4 + (128 + l.val)))) + f (256 * 5 + l.val)) := by
  rw [Fin.sum_univ_eq_sum_range f 1408]
  have hs : ∀ n, ∑ l ∈ Finset.range (n + 128), f l = ∑ l ∈ Finset.range n, f l + ∑ l : Fin 128, f (n + l.val) := fun n => by
    rw [Finset.sum_range_add, Fin.sum_univ_eq_sum_range (fun l => f (n + l)) 128]
  rw [show (1408 : ℕ) = 0 + 128 + 128 + 128 + 128 + 128 + 128 + 128 + 128 + 128 + 128 + 128 from rfl]
  simp only [hs, Finset.sum_range_zero, zero_add]
  simp only [← Finset.sum_add_distrib]
  refine Finset.sum_congr rfl fun l _ => ?_
  simp only [Nat.add_assoc, ← add_assoc, Nat.reduceAdd, Nat.reduceMul, Nat.zero_add]

/-! ## Frames and the rules -/

theorem frame_ri : @Cert.quiescent_ReferenceIdeal Cert.ReferenceIdeal.Gen.facts := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The reference's frame holds of the token ids the precondition allows. -/
theorem frame_ri_pre : @Cert.quiescent_ReferenceIdeal_pre_ids_in_table Cert.ReferenceIdeal.Gen.facts Cert.Pre_ids_in_table.Gen.facts :=
  fun m ρ _ => frame_ri m ρ trivial

/-- The rewrites, each an instance of its rule. -/
theorem preserves : Cert.preserves_Kernel_KernelIdeal :=
  open Cert.KernelIdeal IdealRules.bf16_pair in
  ⟨bufferStatement S63488x2x128 S63488x1x128, packStatement S256x128, statement S256x2x128 S256x1x128, statement S8x2x128 S8x1x128,
    statement S16x128 S8x128, packStatement S8x128, statement S1x6x2x128 S1x6x1x128, statement S1x5x2x128 S1x5x1x128⟩

/-- The idealized kernel's token ids are rows of the table. -/
theorem ids_in (m : (ℓ : Loc Cert.KernelIdeal.nD Cert.KernelIdeal.τ Cert.KernelIdeal.sig) → Buf (Elt Ideal) ℓ)
    (h : @Cert.Pre_KernelIdeal Cert.Pre_ids_in_table.Gen.facts m) : Cert.Proof.KernelIdeal.IdsIn m :=
  fun c t => ids_of_pre (F := Ideal) _ _ _ _ (h c) t

/-- The idealized kernel ends with its arguments unchanged and every semaphore at zero. -/
theorem frame_pi : @Cert.quiescent_KernelIdeal Cert.KernelIdeal.Gen.facts Cert.Pre_ids_in_table.Gen.facts := fun m ρ hp =>
  (θ_run Cert.KernelIdeal.defs _ _).mono (fun r h => ⟨fun c => (h.1 c).2.2, h.2⟩) (Cert.Proof.KernelIdeal.run_vals m ρ (ids_in m hp))

/-- The kernel on bits ends with its arguments unchanged and every semaphore at zero. -/
theorem frame_p : @Cert.quiescent_Kernel Cert.Kernel.Gen.facts Cert.Pre_ids_in_table.Gen.facts := fun m ρ hp =>
  Cert.Proof.Kernel.run_frame m ρ fun c t => ids_of_pre (F := Bits) _ _ _ _ (hp c) t

/-! ## The results are equal -/

section
open Cert.Proof.KernelIdeal Cert.Proof.Ref

variable (m : (ℓ : Loc Cert.KernelIdeal.nD Cert.KernelIdeal.τ Cert.KernelIdeal.sig) → Buf (Elt Ideal) ℓ) (hm : IdsIn m) (c : Dev Cert.KernelIdeal.nD)

include hm

/-- The reference's embedding rows are the kernel's. -/
theorem emb_eq : emb (ids m c) (codes m c) (scales m c) = lift3 (embV m c) := by
  funext i
  obtain ⟨t, k, rfl⟩ : ∃ t k, i = ix3 0 t k := ⟨i 1, i 2, by
    rw [eq_ix3 i]; congr 1; exact Subsingleton.elim _ _⟩
  rw [emb_apply (codes m c) (scales m c) (hm c) t k]
  unfold lift3 embV fin
  show _ = Ev (codes m c) (scales m c) (Tok m c t.val) k.val
  have e : Tok m c t.val = (ids m c (ix2 0 t)).toNat := by unfold Tok; rw [dif_pos t.isLt]
  rw [e]
  unfold Ev
  rw [dif_pos ⟨hm c t, k.isLt⟩]

/-- The reference's normalised rows are the kernel's. -/
theorem out_eq : out (weights m c) (emb (ids m c) (codes m c) (scales m c)) = lift3 (outV m c) := by
  rw [emb_eq m hm c]
  funext i
  obtain ⟨t, k, rfl⟩ : ∃ t k, i = ix3 0 t k := ⟨i 1, i 2, by
    rw [eq_ix3 i]; congr 1; exact Subsingleton.elim _ _⟩
  rw [out_apply]
  show Ev (codes m c) (scales m c) (Tok m c t.val) k.val * Ideal.rsqrt (Ideal.div (∑ j : Fin 1408, Ev (codes m c) (scales m c) (Tok m c t.val) j.val * Ev (codes m c) (scales m c) (Tok m c t.val) j.val) _ + _) * _
    = outv (Ev (codes m c) (scales m c)) (Iv (Ev (codes m c) (scales m c))) (Wv (weights m c)) (Tok m c t.val) k.val
  rw [sum_lanes (fun j => Ev (codes m c) (scales m c) (Tok m c t.val) j * Ev (codes m c) (scales m c) (Tok m c t.val) j)]
  unfold outv Iv invn sq10 Wv
  rw [dif_pos k.isLt]

end

/-- From arguments that agree, the idealized kernel and the reference end with the same results. -/
theorem algebraic : @Cert.algebraic_KernelIdeal_ReferenceIdeal Cert.KernelIdeal.Gen.facts Cert.ReferenceIdeal.Gen.facts Cert.Pre_ids_in_table.Gen.facts := by
  intro m g m' g' hp ha
  have hm := ids_in m hp
  refine ⟨fun c => Cert.Proof.KernelIdeal.lift3 (Cert.Proof.KernelIdeal.outV m c), fun c => Cert.Proof.KernelIdeal.lift3 (Cert.Proof.KernelIdeal.embV m c),
    (θ_run Cert.KernelIdeal.defs _ _).mono (fun r h => h.1) (Cert.Proof.KernelIdeal.run_vals m g hm),
    (θ_run Cert.ReferenceIdeal.defs _ _).mono (fun r h c => ?_) (Cert.ReferenceIdeal.Value.run (F := Ideal) m' g')⟩
  obtain ⟨h24, h8, hargs⟩ := h c
  obtain ⟨a0, a1, a2, a3⟩ := ha c
  refine ⟨h24.trans ?_, h8.trans ?_, hargs⟩
  · refine (Cert.Proof.Ref.res_eq m' c).trans ?_
    exact (congrArg₂ Cert.Proof.Ref.out a3 (congr (congrArg₂ Cert.Proof.Ref.emb a0 a1) a2)).trans (out_eq m hm c)
  · show Cert.Proof.Ref.emb (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = _
    exact (congr (congrArg₂ Cert.Proof.Ref.emb a0 a1) a2).trans (emb_eq m hm c)

end Cert.Proof.Claims

end
-- ==== Proof.lean ====
/-
  The proof of `Cert.Claim`: the frames of the kernel, the idealized kernel and the reference, the idealization's rules, and the equality of
  the two programs' results, from the modules under Proof/.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_ids_in_table
public import proofs.«01_k».proof.Proof.Claims

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_ids_in_table.Gen.facts,
    Claims.frame_p, Claims.frame_pi, Claims.frame_ri, Claims.frame_ri_pre, Claims.preserves, Claims.algebraic⟩

end Cert.Proof

end
